-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x128x128 : Shape := ⟨4, ![1, 2048, 128, 128]⟩
abbrev S_ : Shape := ⟨0, ![]⟩
abbrev S2048x128x128 : Shape := ⟨3, ![2048, 128, 128]⟩
abbrev S2048x8x128 : Shape := ⟨3, ![2048, 8, 128]⟩
abbrev S8x2048x128 : Shape := ⟨3, ![8, 2048, 128]⟩
abbrev S512x1024 : Shape := ⟨2, ![512, 1024]⟩
abbrev S16x32x1024 : Shape := ⟨3, ![16, 32, 1024]⟩
abbrev S15x32x1024 : Shape := ⟨3, ![15, 32, 1024]⟩
abbrev S30 : Shape := ⟨1, ![30]⟩
abbrev S128x128 : Shape := ⟨2, ![128, 128]⟩
abbrev S1x2048x128 : Shape := ⟨3, ![1, 2048, 128]⟩
abbrev S2048x128 : Shape := ⟨2, ![2048, 128]⟩
abbrev S128x2048 : Shape := ⟨2, ![128, 2048]⟩
abbrev S128 : Shape := ⟨1, ![128]⟩
abbrev S128x1 : Shape := ⟨2, ![128, 1]⟩
abbrev S128x1024 : Shape := ⟨2, ![128, 1024]⟩
abbrev S4x32x1024 : Shape := ⟨3, ![4, 32, 1024]⟩
abbrev S1x32x1024 : Shape := ⟨3, ![1, 32, 1024]⟩
abbrev S32x1024 : Shape := ⟨2, ![32, 1024]⟩
abbrev S1 : Shape := ⟨1, ![1]⟩

abbrev nBuf : Space → Nat
  | .hbm => 38
  | .vmem => 12
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x128x128, .f32⟩
  | .hbm, ⟨3, _⟩ => ⟨S1x2048x128x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x128x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048x8x128, .f32⟩
  | .hbm, ⟨22, _⟩ => ⟨S8x2048x128, .f32⟩
  | .hbm, ⟨23, _⟩ => ⟨S2048x128x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x8x128, .f32⟩
  | .hbm, ⟨34, _⟩ => ⟨S8x2048x128, .f32⟩
  | .hbm, ⟨35, _⟩ => ⟨S512x1024, .f32⟩
  | .hbm, ⟨36, _⟩ => ⟨S512x1024, .f32⟩
  | .hbm, ⟨37, _⟩ => ⟨S1x512x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S8x2048x128, .f32⟩
  | .local _ .vmem, ⟨4, _⟩ => ⟨S8x2048x128, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S16x32x1024, .f32⟩
  | .local _ .vmem, ⟨9, _⟩ => ⟨S15x32x1024, .f32⟩
  | .local _ .vmem, ⟨10, _⟩ => ⟨S15x32x1024, .f32⟩
  | .local _ .vmem, ⟨11, _⟩ => ⟨S16x32x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => true
  | ⟨1, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_210 : BitVec 32 := 1#32
  let v278 : BitVec 32 := Scalar.addi v2 c1_i32_210
  let c16_i32_211 : BitVec 32 := 16#32
  let v279 : BitVec 32 := Scalar.remsi v278 c16_i32_211
  let c0_i32_213 : BitVec 32 := 0#32
  let v281 : BitVec 1 := Scalar.cmpi .sgt v279 c0_i32_213
  let v282 : BitVec 32 := Scalar.extui v281
  let c0_i32_214 : BitVec 32 := 0#32
  let v283 : BitVec 1 := Scalar.cmpi .slt v279 c0_i32_214
  let v284 : BitVec 32 := Scalar.extui v283
  let v285 : BitVec 32 := Scalar.subi v282 v284
  let c4_i32_212 : BitVec 32 := 4#32
  let c0_i32_215 : BitVec 32 := 0#32
  let v286 : BitVec 1 := Scalar.cmpi .sgt c4_i32_212 c0_i32_215
  let v287 : BitVec 32 := Scalar.extui v286
  let c0_i32_216 : BitVec 32 := 0#32
  let v288 : BitVec 1 := Scalar.cmpi .slt c4_i32_212 c0_i32_216
  let v289 : BitVec 32 := Scalar.extui v288
  let v290 : BitVec 32 := Scalar.subi v287 v289
  let v291 : BitVec 1 := Scalar.cmpi .ne v285 v290
  let v292 : BitVec 32 := Scalar.remsi v279 c4_i32_212
  let c0_i32_217 : BitVec 32 := 0#32
  let v293 : BitVec 1 := Scalar.cmpi .ne v292 c0_i32_217
  let v294 : BitVec 1 := Scalar.andi v291 v293
  let v280 : BitVec 32 := Scalar.divsi v279 c4_i32_212
  let c1_i32_218 : BitVec 32 := 1#32
  let v295 : BitVec 32 := Scalar.subi v280 c1_i32_218
  let v296 : BitVec 32 := Scalar.select v294 v295 v280
  let c0_i32_219 : BitVec 32 := 0#32
  let v297 : BitVec 1 := Scalar.cmpi .eq v296 c0_i32_219
  let v298 : BitVec 32 := Scalar.extui v297
  let c0_i32_224 : BitVec 32 := 0#32
  let v299 : BitVec 1 := Scalar.cmpi .ne v298 c0_i32_224
  v299

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_210 : BitVec 32 := 1#32
  let v278 : BitVec 32 := Scalar.addi v2 c1_i32_210
  let c16_i32_211 : BitVec 32 := 16#32
  let v279 : BitVec 32 := Scalar.remsi v278 c16_i32_211
  let v2934 : Index := Scalar.indexCast v279
  let c0_2432 : Index := 0#32
  let c0_2433 : Index := 0#32
  ![v2934.toNat, 0, 0]
def k0_dev16 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v72 : BitVec 32 := Scalar.addi v2 c1_i32_66
  let c16_i32_67 : BitVec 32 := 16#32
  let v73 : BitVec 32 := Scalar.remsi v72 c16_i32_67
  let c1_i32_2437 : BitVec 32 := 1#32
  let v2940 : BitVec 32 := Scalar.muli v73 c1_i32_2437
  let v2941 : BitVec 32 := Scalar.addi c0_i32_2438 v2940
  v2941.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_225 : BitVec 32 := 2#32
  let v300 : BitVec 32 := Scalar.addi v2 c2_i32_225
  let c16_i32_226 : BitVec 32 := 16#32
  let v301 : BitVec 32 := Scalar.remsi v300 c16_i32_226
  let c0_i32_228 : BitVec 32 := 0#32
  let v303 : BitVec 1 := Scalar.cmpi .sgt v301 c0_i32_228
  let v304 : BitVec 32 := Scalar.extui v303
  let c0_i32_229 : BitVec 32 := 0#32
  let v305 : BitVec 1 := Scalar.cmpi .slt v301 c0_i32_229
  let v306 : BitVec 32 := Scalar.extui v305
  let v307 : BitVec 32 := Scalar.subi v304 v306
  let c4_i32_227 : BitVec 32 := 4#32
  let c0_i32_230 : BitVec 32 := 0#32
  let v308 : BitVec 1 := Scalar.cmpi .sgt c4_i32_227 c0_i32_230
  let v309 : BitVec 32 := Scalar.extui v308
  let c0_i32_231 : BitVec 32 := 0#32
  let v310 : BitVec 1 := Scalar.cmpi .slt c4_i32_227 c0_i32_231
  let v311 : BitVec 32 := Scalar.extui v310
  let v312 : BitVec 32 := Scalar.subi v309 v311
  let v313 : BitVec 1 := Scalar.cmpi .ne v307 v312
  let v314 : BitVec 32 := Scalar.remsi v301 c4_i32_227
  let c0_i32_232 : BitVec 32 := 0#32
  let v315 : BitVec 1 := Scalar.cmpi .ne v314 c0_i32_232
  let v316 : BitVec 1 := Scalar.andi v313 v315
  let v302 : BitVec 32 := Scalar.divsi v301 c4_i32_227
  let c1_i32_233 : BitVec 32 := 1#32
  let v317 : BitVec 32 := Scalar.subi v302 c1_i32_233
  let v318 : BitVec 32 := Scalar.select v316 v317 v302
  let c0_i32_234 : BitVec 32 := 0#32
  let v319 : BitVec 1 := Scalar.cmpi .eq v318 c0_i32_234
  let v320 : BitVec 32 := Scalar.extui v319
  let c0_i32_239 : BitVec 32 := 0#32
  let v321 : BitVec 1 := Scalar.cmpi .ne v320 c0_i32_239
  v321

def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_225 : BitVec 32 := 2#32
  let v300 : BitVec 32 := Scalar.addi v2 c2_i32_225
  let c16_i32_226 : BitVec 32 := 16#32
  let v301 : BitVec 32 := Scalar.remsi v300 c16_i32_226
  let v2934 : Index := Scalar.indexCast v301
  let c0_2432 : Index := 0#32
  let c0_2433 : Index := 0#32
  ![v2934.toNat, 0, 0]
def k0_dev17 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_68 : BitVec 32 := 2#32
  let v74 : BitVec 32 := Scalar.addi v2 c2_i32_68
  let c16_i32_69 : BitVec 32 := 16#32
  let v75 : BitVec 32 := Scalar.remsi v74 c16_i32_69
  let c1_i32_2437 : BitVec 32 := 1#32
  let v2940 : BitVec 32 := Scalar.muli v75 c1_i32_2437
  let v2941 : BitVec 32 := Scalar.addi c0_i32_2438 v2940
  v2941.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_240 : BitVec 32 := 3#32
  let v322 : BitVec 32 := Scalar.addi v2 c3_i32_240
  let c16_i32_241 : BitVec 32 := 16#32
  let v323 : BitVec 32 := Scalar.remsi v322 c16_i32_241
  let c0_i32_243 : BitVec 32 := 0#32
  let v325 : BitVec 1 := Scalar.cmpi .sgt v323 c0_i32_243
  let v326 : BitVec 32 := Scalar.extui v325
  let c0_i32_244 : BitVec 32 := 0#32
  let v327 : BitVec 1 := Scalar.cmpi .slt v323 c0_i32_244
  let v328 : BitVec 32 := Scalar.extui v327
  let v329 : BitVec 32 := Scalar.subi v326 v328
  let c4_i32_242 : BitVec 32 := 4#32
  let c0_i32_245 : BitVec 32 := 0#32
  let v330 : BitVec 1 := Scalar.cmpi .sgt c4_i32_242 c0_i32_245
  let v331 : BitVec 32 := Scalar.extui v330
  let c0_i32_246 : BitVec 32 := 0#32
  let v332 : BitVec 1 := Scalar.cmpi .slt c4_i32_242 c0_i32_246
  let v333 : BitVec 32 := Scalar.extui v332
  let v334 : BitVec 32 := Scalar.subi v331 v333
  let v335 : BitVec 1 := Scalar.cmpi .ne v329 v334
  let v336 : BitVec 32 := Scalar.remsi v323 c4_i32_242
  let c0_i32_247 : BitVec 32 := 0#32
  let v337 : BitVec 1 := Scalar.cmpi .ne v336 c0_i32_247
  let v338 : BitVec 1 := Scalar.andi v335 v337
  let v324 : BitVec 32 := Scalar.divsi v323 c4_i32_242
  let c1_i32_248 : BitVec 32 := 1#32
  let v339 : BitVec 32 := Scalar.subi v324 c1_i32_248
  let v340 : BitVec 32 := Scalar.select v338 v339 v324
  let c0_i32_249 : BitVec 32 := 0#32
  let v341 : BitVec 1 := Scalar.cmpi .eq v340 c0_i32_249
  let v342 : BitVec 32 := Scalar.extui v341
  let c0_i32_254 : BitVec 32 := 0#32
  let v343 : BitVec 1 := Scalar.cmpi .ne v342 c0_i32_254
  v343

def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_240 : BitVec 32 := 3#32
  let v322 : BitVec 32 := Scalar.addi v2 c3_i32_240
  let c16_i32_241 : BitVec 32 := 16#32
  let v323 : BitVec 32 := Scalar.remsi v322 c16_i32_241
  let v2934 : Index := Scalar.indexCast v323
  let c0_2432 : Index := 0#32
  let c0_2433 : Index := 0#32
  ![v2934.toNat, 0, 0]
def k0_dev18 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_70 : BitVec 32 := 3#32
  let v76 : BitVec 32 := Scalar.addi v2 c3_i32_70
  let c16_i32_71 : BitVec 32 := 16#32
  let v77 : BitVec 32 := Scalar.remsi v76 c16_i32_71
  let c1_i32_2437 : BitVec 32 := 1#32
  let v2940 : BitVec 32 := Scalar.muli v77 c1_i32_2437
  let v2941 : BitVec 32 := Scalar.addi c0_i32_2438 v2940
  v2941.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_255 : BitVec 32 := 4#32
  let v344 : BitVec 32 := Scalar.addi v2 c4_i32_255
  let c16_i32_256 : BitVec 32 := 16#32
  let v345 : BitVec 32 := Scalar.remsi v344 c16_i32_256
  let c0_i32_258 : BitVec 32 := 0#32
  let v347 : BitVec 1 := Scalar.cmpi .sgt v345 c0_i32_258
  let v348 : BitVec 32 := Scalar.extui v347
  let c0_i32_259 : BitVec 32 := 0#32
  let v349 : BitVec 1 := Scalar.cmpi .slt v345 c0_i32_259
  let v350 : BitVec 32 := Scalar.extui v349
  let v351 : BitVec 32 := Scalar.subi v348 v350
  let c4_i32_257 : BitVec 32 := 4#32
  let c0_i32_260 : BitVec 32 := 0#32
  let v352 : BitVec 1 := Scalar.cmpi .sgt c4_i32_257 c0_i32_260
  let v353 : BitVec 32 := Scalar.extui v352
  let c0_i32_261 : BitVec 32 := 0#32
  let v354 : BitVec 1 := Scalar.cmpi .slt c4_i32_257 c0_i32_261
  let v355 : BitVec 32 := Scalar.extui v354
  let v356 : BitVec 32 := Scalar.subi v353 v355
  let v357 : BitVec 1 := Scalar.cmpi .ne v351 v356
  let v358 : BitVec 32 := Scalar.remsi v345 c4_i32_257
  let c0_i32_262 : BitVec 32 := 0#32
  let v359 : BitVec 1 := Scalar.cmpi .ne v358 c0_i32_262
  let v360 : BitVec 1 := Scalar.andi v357 v359
  let v346 : BitVec 32 := Scalar.divsi v345 c4_i32_257
  let c1_i32_263 : BitVec 32 := 1#32
  let v361 : BitVec 32 := Scalar.subi v346 c1_i32_263
  let v362 : BitVec 32 := Scalar.select v360 v361 v346
  let c0_i32_264 : BitVec 32 := 0#32
  let v363 : BitVec 1 := Scalar.cmpi .eq v362 c0_i32_264
  let v364 : BitVec 32 := Scalar.extui v363
  let c0_i32_269 : BitVec 32 := 0#32
  let v365 : BitVec 1 := Scalar.cmpi .ne v364 c0_i32_269
  v365

def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_255 : BitVec 32 := 4#32
  let v344 : BitVec 32 := Scalar.addi v2 c4_i32_255
  let c16_i32_256 : BitVec 32 := 16#32
  let v345 : BitVec 32 := Scalar.remsi v344 c16_i32_256
  let v2934 : Index := Scalar.indexCast v345
  let c0_2432 : Index := 0#32
  let c0_2433 : Index := 0#32
  ![v2934.toNat, 0, 0]
def k0_dev19 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_72 : BitVec 32 := 4#32
  let v78 : BitVec 32 := Scalar.addi v2 c4_i32_72
  let c16_i32_73 : BitVec 32 := 16#32
  let v79 : BitVec 32 := Scalar.remsi v78 c16_i32_73
  let c1_i32_2437 : BitVec 32 := 1#32
  let v2940 : BitVec 32 := Scalar.muli v79 c1_i32_2437
  let v2941 : BitVec 32 := Scalar.addi c0_i32_2438 v2940
  v2941.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_270 : BitVec 32 := 5#32
  let v366 : BitVec 32 := Scalar.addi v2 c5_i32_270
  let c16_i32_271 : BitVec 32 := 16#32
  let v367 : BitVec 32 := Scalar.remsi v366 c16_i32_271
  let c0_i32_273 : BitVec 32 := 0#32
  let v369 : BitVec 1 := Scalar.cmpi .sgt v367 c0_i32_273
  let v370 : BitVec 32 := Scalar.extui v369
  let c0_i32_274 : BitVec 32 := 0#32
  let v371 : BitVec 1 := Scalar.cmpi .slt v367 c0_i32_274
  let v372 : BitVec 32 := Scalar.extui v371
  let v373 : BitVec 32 := Scalar.subi v370 v372
  let c4_i32_272 : BitVec 32 := 4#32
  let c0_i32_275 : BitVec 32 := 0#32
  let v374 : BitVec 1 := Scalar.cmpi .sgt c4_i32_272 c0_i32_275
  let v375 : BitVec 32 := Scalar.extui v374
  let c0_i32_276 : BitVec 32 := 0#32
  let v376 : BitVec 1 := Scalar.cmpi .slt c4_i32_272 c0_i32_276
  let v377 : BitVec 32 := Scalar.extui v376
  let v378 : BitVec 32 := Scalar.subi v375 v377
  let v379 : BitVec 1 := Scalar.cmpi .ne v373 v378
  let v380 : BitVec 32 := Scalar.remsi v367 c4_i32_272
  let c0_i32_277 : BitVec 32 := 0#32
  let v381 : BitVec 1 := Scalar.cmpi .ne v380 c0_i32_277
  let v382 : BitVec 1 := Scalar.andi v379 v381
  let v368 : BitVec 32 := Scalar.divsi v367 c4_i32_272
  let c1_i32_278 : BitVec 32 := 1#32
  let v383 : BitVec 32 := Scalar.subi v368 c1_i32_278
  let v384 : BitVec 32 := Scalar.select v382 v383 v368
  let c0_i32_279 : BitVec 32 := 0#32
  let v385 : BitVec 1 := Scalar.cmpi .eq v384 c0_i32_279
  let v386 : BitVec 32 := Scalar.extui v385
  let c0_i32_284 : BitVec 32 := 0#32
  let v387 : BitVec 1 := Scalar.cmpi .ne v386 c0_i32_284
  v387

def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_270 : BitVec 32 := 5#32
  let v366 : BitVec 32 := Scalar.addi v2 c5_i32_270
  let c16_i32_271 : BitVec 32 := 16#32
  let v367 : BitVec 32 := Scalar.remsi v366 c16_i32_271
  let v2934 : Index := Scalar.indexCast v367
  let c0_2432 : Index := 0#32
  let c0_2433 : Index := 0#32
  ![v2934.toNat, 0, 0]
def k0_dev20 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_74 : BitVec 32 := 5#32
  let v80 : BitVec 32 := Scalar.addi v2 c5_i32_74
  let c16_i32_75 : BitVec 32 := 16#32
  let v81 : BitVec 32 := Scalar.remsi v80 c16_i32_75
  let c1_i32_2437 : BitVec 32 := 1#32
  let v2940 : BitVec 32 := Scalar.muli v81 c1_i32_2437
  let v2941 : BitVec 32 := Scalar.addi c0_i32_2438 v2940
  v2941.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_285 : BitVec 32 := 6#32
  let v388 : BitVec 32 := Scalar.addi v2 c6_i32_285
  let c16_i32_286 : BitVec 32 := 16#32
  let v389 : BitVec 32 := Scalar.remsi v388 c16_i32_286
  let c0_i32_288 : BitVec 32 := 0#32
  let v391 : BitVec 1 := Scalar.cmpi .sgt v389 c0_i32_288
  let v392 : BitVec 32 := Scalar.extui v391
  let c0_i32_289 : BitVec 32 := 0#32
  let v393 : BitVec 1 := Scalar.cmpi .slt v389 c0_i32_289
  let v394 : BitVec 32 := Scalar.extui v393
  let v395 : BitVec 32 := Scalar.subi v392 v394
  let c4_i32_287 : BitVec 32 := 4#32
  let c0_i32_290 : BitVec 32 := 0#32
  let v396 : BitVec 1 := Scalar.cmpi .sgt c4_i32_287 c0_i32_290
  let v397 : BitVec 32 := Scalar.extui v396
  let c0_i32_291 : BitVec 32 := 0#32
  let v398 : BitVec 1 := Scalar.cmpi .slt c4_i32_287 c0_i32_291
  let v399 : BitVec 32 := Scalar.extui v398
  let v400 : BitVec 32 := Scalar.subi v397 v399
  let v401 : BitVec 1 := Scalar.cmpi .ne v395 v400
  let v402 : BitVec 32 := Scalar.remsi v389 c4_i32_287
  let c0_i32_292 : BitVec 32 := 0#32
  let v403 : BitVec 1 := Scalar.cmpi .ne v402 c0_i32_292
  let v404 : BitVec 1 := Scalar.andi v401 v403
  let v390 : BitVec 32 := Scalar.divsi v389 c4_i32_287
  let c1_i32_293 : BitVec 32 := 1#32
  let v405 : BitVec 32 := Scalar.subi v390 c1_i32_293
  let v406 : BitVec 32 := Scalar.select v404 v405 v390
  let c0_i32_294 : BitVec 32 := 0#32
  let v407 : BitVec 1 := Scalar.cmpi .eq v406 c0_i32_294
  let v408 : BitVec 32 := Scalar.extui v407
  let c0_i32_299 : BitVec 32 := 0#32
  let v409 : BitVec 1 := Scalar.cmpi .ne v408 c0_i32_299
  v409

def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_285 : BitVec 32 := 6#32
  let v388 : BitVec 32 := Scalar.addi v2 c6_i32_285
  let c16_i32_286 : BitVec 32 := 16#32
  let v389 : BitVec 32 := Scalar.remsi v388 c16_i32_286
  let v2934 : Index := Scalar.indexCast v389
  let c0_2432 : Index := 0#32
  let c0_2433 : Index := 0#32
  ![v2934.toNat, 0, 0]
def k0_dev21 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_76 : BitVec 32 := 6#32
  let v82 : BitVec 32 := Scalar.addi v2 c6_i32_76
  let c16_i32_77 : BitVec 32 := 16#32
  let v83 : BitVec 32 := Scalar.remsi v82 c16_i32_77
  let c1_i32_2437 : BitVec 32 := 1#32
  let v2940 : BitVec 32 := Scalar.muli v83 c1_i32_2437
  let v2941 : BitVec 32 := Scalar.addi c0_i32_2438 v2940
  v2941.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_300 : BitVec 32 := 7#32
  let v410 : BitVec 32 := Scalar.addi v2 c7_i32_300
  let c16_i32_301 : BitVec 32 := 16#32
  let v411 : BitVec 32 := Scalar.remsi v410 c16_i32_301
  let c0_i32_303 : BitVec 32 := 0#32
  let v413 : BitVec 1 := Scalar.cmpi .sgt v411 c0_i32_303
  let v414 : BitVec 32 := Scalar.extui v413
  let c0_i32_304 : BitVec 32 := 0#32
  let v415 : BitVec 1 := Scalar.cmpi .slt v411 c0_i32_304
  let v416 : BitVec 32 := Scalar.extui v415
  let v417 : BitVec 32 := Scalar.subi v414 v416
  let c4_i32_302 : BitVec 32 := 4#32
  let c0_i32_305 : BitVec 32 := 0#32
  let v418 : BitVec 1 := Scalar.cmpi .sgt c4_i32_302 c0_i32_305
  let v419 : BitVec 32 := Scalar.extui v418
  let c0_i32_306 : BitVec 32 := 0#32
  let v420 : BitVec 1 := Scalar.cmpi .slt c4_i32_302 c0_i32_306
  let v421 : BitVec 32 := Scalar.extui v420
  let v422 : BitVec 32 := Scalar.subi v419 v421
  let v423 : BitVec 1 := Scalar.cmpi .ne v417 v422
  let v424 : BitVec 32 := Scalar.remsi v411 c4_i32_302
  let c0_i32_307 : BitVec 32 := 0#32
  let v425 : BitVec 1 := Scalar.cmpi .ne v424 c0_i32_307
  let v426 : BitVec 1 := Scalar.andi v423 v425
  let v412 : BitVec 32 := Scalar.divsi v411 c4_i32_302
  let c1_i32_308 : BitVec 32 := 1#32
  let v427 : BitVec 32 := Scalar.subi v412 c1_i32_308
  let v428 : BitVec 32 := Scalar.select v426 v427 v412
  let c0_i32_309 : BitVec 32 := 0#32
  let v429 : BitVec 1 := Scalar.cmpi .eq v428 c0_i32_309
  let v430 : BitVec 32 := Scalar.extui v429
  let c0_i32_314 : BitVec 32 := 0#32
  let v431 : BitVec 1 := Scalar.cmpi .ne v430 c0_i32_314
  v431

def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_300 : BitVec 32 := 7#32
  let v410 : BitVec 32 := Scalar.addi v2 c7_i32_300
  let c16_i32_301 : BitVec 32 := 16#32
  let v411 : BitVec 32 := Scalar.remsi v410 c16_i32_301
  let v2934 : Index := Scalar.indexCast v411
  let c0_2432 : Index := 0#32
  let c0_2433 : Index := 0#32
  ![v2934.toNat, 0, 0]
def k0_dev22 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v84 : BitVec 32 := Scalar.addi v2 c7_i32_78
  let c16_i32_79 : BitVec 32 := 16#32
  let v85 : BitVec 32 := Scalar.remsi v84 c16_i32_79
  let c1_i32_2437 : BitVec 32 := 1#32
  let v2940 : BitVec 32 := Scalar.muli v85 c1_i32_2437
  let v2941 : BitVec 32 := Scalar.addi c0_i32_2438 v2940
  v2941.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_315 : BitVec 32 := 8#32
  let v432 : BitVec 32 := Scalar.addi v2 c8_i32_315
  let c16_i32_316 : BitVec 32 := 16#32
  let v433 : BitVec 32 := Scalar.remsi v432 c16_i32_316
  let c0_i32_318 : BitVec 32 := 0#32
  let v435 : BitVec 1 := Scalar.cmpi .sgt v433 c0_i32_318
  let v436 : BitVec 32 := Scalar.extui v435
  let c0_i32_319 : BitVec 32 := 0#32
  let v437 : BitVec 1 := Scalar.cmpi .slt v433 c0_i32_319
  let v438 : BitVec 32 := Scalar.extui v437
  let v439 : BitVec 32 := Scalar.subi v436 v438
  let c4_i32_317 : BitVec 32 := 4#32
  let c0_i32_320 : BitVec 32 := 0#32
  let v440 : BitVec 1 := Scalar.cmpi .sgt c4_i32_317 c0_i32_320
  let v441 : BitVec 32 := Scalar.extui v440
  let c0_i32_321 : BitVec 32 := 0#32
  let v442 : BitVec 1 := Scalar.cmpi .slt c4_i32_317 c0_i32_321
  let v443 : BitVec 32 := Scalar.extui v442
  let v444 : BitVec 32 := Scalar.subi v441 v443
  let v445 : BitVec 1 := Scalar.cmpi .ne v439 v444
  let v446 : BitVec 32 := Scalar.remsi v433 c4_i32_317
  let c0_i32_322 : BitVec 32 := 0#32
  let v447 : BitVec 1 := Scalar.cmpi .ne v446 c0_i32_322
  let v448 : BitVec 1 := Scalar.andi v445 v447
  let v434 : BitVec 32 := Scalar.divsi v433 c4_i32_317
  let c1_i32_323 : BitVec 32 := 1#32
  let v449 : BitVec 32 := Scalar.subi v434 c1_i32_323
  let v450 : BitVec 32 := Scalar.select v448 v449 v434
  let c0_i32_324 : BitVec 32 := 0#32
  let v451 : BitVec 1 := Scalar.cmpi .eq v450 c0_i32_324
  let v452 : BitVec 32 := Scalar.extui v451
  let c0_i32_329 : BitVec 32 := 0#32
  let v453 : BitVec 1 := Scalar.cmpi .ne v452 c0_i32_329
  v453

def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_315 : BitVec 32 := 8#32
  let v432 : BitVec 32 := Scalar.addi v2 c8_i32_315
  let c16_i32_316 : BitVec 32 := 16#32
  let v433 : BitVec 32 := Scalar.remsi v432 c16_i32_316
  let v2934 : Index := Scalar.indexCast v433
  let c0_2432 : Index := 0#32
  let c0_2433 : Index := 0#32
  ![v2934.toNat, 0, 0]
def k0_dev23 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_80 : BitVec 32 := 8#32
  let v86 : BitVec 32 := Scalar.addi v2 c8_i32_80
  let c16_i32_81 : BitVec 32 := 16#32
  let v87 : BitVec 32 := Scalar.remsi v86 c16_i32_81
  let c1_i32_2437 : BitVec 32 := 1#32
  let v2940 : BitVec 32 := Scalar.muli v87 c1_i32_2437
  let v2941 : BitVec 32 := Scalar.addi c0_i32_2438 v2940
  v2941.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_330 : BitVec 32 := 9#32
  let v454 : BitVec 32 := Scalar.addi v2 c9_i32_330
  let c16_i32_331 : BitVec 32 := 16#32
  let v455 : BitVec 32 := Scalar.remsi v454 c16_i32_331
  let c0_i32_333 : BitVec 32 := 0#32
  let v457 : BitVec 1 := Scalar.cmpi .sgt v455 c0_i32_333
  let v458 : BitVec 32 := Scalar.extui v457
  let c0_i32_334 : BitVec 32 := 0#32
  let v459 : BitVec 1 := Scalar.cmpi .slt v455 c0_i32_334
  let v460 : BitVec 32 := Scalar.extui v459
  let v461 : BitVec 32 := Scalar.subi v458 v460
  let c4_i32_332 : BitVec 32 := 4#32
  let c0_i32_335 : BitVec 32 := 0#32
  let v462 : BitVec 1 := Scalar.cmpi .sgt c4_i32_332 c0_i32_335
  let v463 : BitVec 32 := Scalar.extui v462
  let c0_i32_336 : BitVec 32 := 0#32
  let v464 : BitVec 1 := Scalar.cmpi .slt c4_i32_332 c0_i32_336
  let v465 : BitVec 32 := Scalar.extui v464
  let v466 : BitVec 32 := Scalar.subi v463 v465
  let v467 : BitVec 1 := Scalar.cmpi .ne v461 v466
  let v468 : BitVec 32 := Scalar.remsi v455 c4_i32_332
  let c0_i32_337 : BitVec 32 := 0#32
  let v469 : BitVec 1 := Scalar.cmpi .ne v468 c0_i32_337
  let v470 : BitVec 1 := Scalar.andi v467 v469
  let v456 : BitVec 32 := Scalar.divsi v455 c4_i32_332
  let c1_i32_338 : BitVec 32 := 1#32
  let v471 : BitVec 32 := Scalar.subi v456 c1_i32_338
  let v472 : BitVec 32 := Scalar.select v470 v471 v456
  let c0_i32_339 : BitVec 32 := 0#32
  let v473 : BitVec 1 := Scalar.cmpi .eq v472 c0_i32_339
  let v474 : BitVec 32 := Scalar.extui v473
  let c0_i32_344 : BitVec 32 := 0#32
  let v475 : BitVec 1 := Scalar.cmpi .ne v474 c0_i32_344
  v475

def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_330 : BitVec 32 := 9#32
  let v454 : BitVec 32 := Scalar.addi v2 c9_i32_330
  let c16_i32_331 : BitVec 32 := 16#32
  let v455 : BitVec 32 := Scalar.remsi v454 c16_i32_331
  let v2934 : Index := Scalar.indexCast v455
  let c0_2432 : Index := 0#32
  let c0_2433 : Index := 0#32
  ![v2934.toNat, 0, 0]
def k0_dev24 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_82 : BitVec 32 := 9#32
  let v88 : BitVec 32 := Scalar.addi v2 c9_i32_82
  let c16_i32_83 : BitVec 32 := 16#32
  let v89 : BitVec 32 := Scalar.remsi v88 c16_i32_83
  let c1_i32_2437 : BitVec 32 := 1#32
  let v2940 : BitVec 32 := Scalar.muli v89 c1_i32_2437
  let v2941 : BitVec 32 := Scalar.addi c0_i32_2438 v2940
  v2941.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_345 : BitVec 32 := 10#32
  let v476 : BitVec 32 := Scalar.addi v2 c10_i32_345
  let c16_i32_346 : BitVec 32 := 16#32
  let v477 : BitVec 32 := Scalar.remsi v476 c16_i32_346
  let c0_i32_348 : BitVec 32 := 0#32
  let v479 : BitVec 1 := Scalar.cmpi .sgt v477 c0_i32_348
  let v480 : BitVec 32 := Scalar.extui v479
  let c0_i32_349 : BitVec 32 := 0#32
  let v481 : BitVec 1 := Scalar.cmpi .slt v477 c0_i32_349
  let v482 : BitVec 32 := Scalar.extui v481
  let v483 : BitVec 32 := Scalar.subi v480 v482
  let c4_i32_347 : BitVec 32 := 4#32
  let c0_i32_350 : BitVec 32 := 0#32
  let v484 : BitVec 1 := Scalar.cmpi .sgt c4_i32_347 c0_i32_350
  let v485 : BitVec 32 := Scalar.extui v484
  let c0_i32_351 : BitVec 32 := 0#32
  let v486 : BitVec 1 := Scalar.cmpi .slt c4_i32_347 c0_i32_351
  let v487 : BitVec 32 := Scalar.extui v486
  let v488 : BitVec 32 := Scalar.subi v485 v487
  let v489 : BitVec 1 := Scalar.cmpi .ne v483 v488
  let v490 : BitVec 32 := Scalar.remsi v477 c4_i32_347
  let c0_i32_352 : BitVec 32 := 0#32
  let v491 : BitVec 1 := Scalar.cmpi .ne v490 c0_i32_352
  let v492 : BitVec 1 := Scalar.andi v489 v491
  let v478 : BitVec 32 := Scalar.divsi v477 c4_i32_347
  let c1_i32_353 : BitVec 32 := 1#32
  let v493 : BitVec 32 := Scalar.subi v478 c1_i32_353
  let v494 : BitVec 32 := Scalar.select v492 v493 v478
  let c0_i32_354 : BitVec 32 := 0#32
  let v495 : BitVec 1 := Scalar.cmpi .eq v494 c0_i32_354
  let v496 : BitVec 32 := Scalar.extui v495
  let c0_i32_359 : BitVec 32 := 0#32
  let v497 : BitVec 1 := Scalar.cmpi .ne v496 c0_i32_359
  v497

def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_345 : BitVec 32 := 10#32
  let v476 : BitVec 32 := Scalar.addi v2 c10_i32_345
  let c16_i32_346 : BitVec 32 := 16#32
  let v477 : BitVec 32 := Scalar.remsi v476 c16_i32_346
  let v2934 : Index := Scalar.indexCast v477
  let c0_2432 : Index := 0#32
  let c0_2433 : Index := 0#32
  ![v2934.toNat, 0, 0]
def k0_dev25 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_84 : BitVec 32 := 10#32
  let v90 : BitVec 32 := Scalar.addi v2 c10_i32_84
  let c16_i32_85 : BitVec 32 := 16#32
  let v91 : BitVec 32 := Scalar.remsi v90 c16_i32_85
  let c1_i32_2437 : BitVec 32 := 1#32
  let v2940 : BitVec 32 := Scalar.muli v91 c1_i32_2437
  let v2941 : BitVec 32 := Scalar.addi c0_i32_2438 v2940
  v2941.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_360 : BitVec 32 := 11#32
  let v498 : BitVec 32 := Scalar.addi v2 c11_i32_360
  let c16_i32_361 : BitVec 32 := 16#32
  let v499 : BitVec 32 := Scalar.remsi v498 c16_i32_361
  let c0_i32_363 : BitVec 32 := 0#32
  let v501 : BitVec 1 := Scalar.cmpi .sgt v499 c0_i32_363
  let v502 : BitVec 32 := Scalar.extui v501
  let c0_i32_364 : BitVec 32 := 0#32
  let v503 : BitVec 1 := Scalar.cmpi .slt v499 c0_i32_364
  let v504 : BitVec 32 := Scalar.extui v503
  let v505 : BitVec 32 := Scalar.subi v502 v504
  let c4_i32_362 : BitVec 32 := 4#32
  let c0_i32_365 : BitVec 32 := 0#32
  let v506 : BitVec 1 := Scalar.cmpi .sgt c4_i32_362 c0_i32_365
  let v507 : BitVec 32 := Scalar.extui v506
  let c0_i32_366 : BitVec 32 := 0#32
  let v508 : BitVec 1 := Scalar.cmpi .slt c4_i32_362 c0_i32_366
  let v509 : BitVec 32 := Scalar.extui v508
  let v510 : BitVec 32 := Scalar.subi v507 v509
  let v511 : BitVec 1 := Scalar.cmpi .ne v505 v510
  let v512 : BitVec 32 := Scalar.remsi v499 c4_i32_362
  let c0_i32_367 : BitVec 32 := 0#32
  let v513 : BitVec 1 := Scalar.cmpi .ne v512 c0_i32_367
  let v514 : BitVec 1 := Scalar.andi v511 v513
  let v500 : BitVec 32 := Scalar.divsi v499 c4_i32_362
  let c1_i32_368 : BitVec 32 := 1#32
  let v515 : BitVec 32 := Scalar.subi v500 c1_i32_368
  let v516 : BitVec 32 := Scalar.select v514 v515 v500
  let c0_i32_369 : BitVec 32 := 0#32
  let v517 : BitVec 1 := Scalar.cmpi .eq v516 c0_i32_369
  let v518 : BitVec 32 := Scalar.extui v517
  let c0_i32_374 : BitVec 32 := 0#32
  let v519 : BitVec 1 := Scalar.cmpi .ne v518 c0_i32_374
  v519

def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_360 : BitVec 32 := 11#32
  let v498 : BitVec 32 := Scalar.addi v2 c11_i32_360
  let c16_i32_361 : BitVec 32 := 16#32
  let v499 : BitVec 32 := Scalar.remsi v498 c16_i32_361
  let v2934 : Index := Scalar.indexCast v499
  let c0_2432 : Index := 0#32
  let c0_2433 : Index := 0#32
  ![v2934.toNat, 0, 0]
def k0_dev26 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_86 : BitVec 32 := 11#32
  let v92 : BitVec 32 := Scalar.addi v2 c11_i32_86
  let c16_i32_87 : BitVec 32 := 16#32
  let v93 : BitVec 32 := Scalar.remsi v92 c16_i32_87
  let c1_i32_2437 : BitVec 32 := 1#32
  let v2940 : BitVec 32 := Scalar.muli v93 c1_i32_2437
  let v2941 : BitVec 32 := Scalar.addi c0_i32_2438 v2940
  v2941.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_375 : BitVec 32 := 12#32
  let v520 : BitVec 32 := Scalar.addi v2 c12_i32_375
  let c16_i32_376 : BitVec 32 := 16#32
  let v521 : BitVec 32 := Scalar.remsi v520 c16_i32_376
  let c0_i32_378 : BitVec 32 := 0#32
  let v523 : BitVec 1 := Scalar.cmpi .sgt v521 c0_i32_378
  let v524 : BitVec 32 := Scalar.extui v523
  let c0_i32_379 : BitVec 32 := 0#32
  let v525 : BitVec 1 := Scalar.cmpi .slt v521 c0_i32_379
  let v526 : BitVec 32 := Scalar.extui v525
  let v527 : BitVec 32 := Scalar.subi v524 v526
  let c4_i32_377 : BitVec 32 := 4#32
  let c0_i32_380 : BitVec 32 := 0#32
  let v528 : BitVec 1 := Scalar.cmpi .sgt c4_i32_377 c0_i32_380
  let v529 : BitVec 32 := Scalar.extui v528
  let c0_i32_381 : BitVec 32 := 0#32
  let v530 : BitVec 1 := Scalar.cmpi .slt c4_i32_377 c0_i32_381
  let v531 : BitVec 32 := Scalar.extui v530
  let v532 : BitVec 32 := Scalar.subi v529 v531
  let v533 : BitVec 1 := Scalar.cmpi .ne v527 v532
  let v534 : BitVec 32 := Scalar.remsi v521 c4_i32_377
  let c0_i32_382 : BitVec 32 := 0#32
  let v535 : BitVec 1 := Scalar.cmpi .ne v534 c0_i32_382
  let v536 : BitVec 1 := Scalar.andi v533 v535
  let v522 : BitVec 32 := Scalar.divsi v521 c4_i32_377
  let c1_i32_383 : BitVec 32 := 1#32
  let v537 : BitVec 32 := Scalar.subi v522 c1_i32_383
  let v538 : BitVec 32 := Scalar.select v536 v537 v522
  let c0_i32_384 : BitVec 32 := 0#32
  let v539 : BitVec 1 := Scalar.cmpi .eq v538 c0_i32_384
  let v540 : BitVec 32 := Scalar.extui v539
  let c0_i32_389 : BitVec 32 := 0#32
  let v541 : BitVec 1 := Scalar.cmpi .ne v540 c0_i32_389
  v541

def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_375 : BitVec 32 := 12#32
  let v520 : BitVec 32 := Scalar.addi v2 c12_i32_375
  let c16_i32_376 : BitVec 32 := 16#32
  let v521 : BitVec 32 := Scalar.remsi v520 c16_i32_376
  let v2934 : Index := Scalar.indexCast v521
  let c0_2432 : Index := 0#32
  let c0_2433 : Index := 0#32
  ![v2934.toNat, 0, 0]
def k0_dev27 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_88 : BitVec 32 := 12#32
  let v94 : BitVec 32 := Scalar.addi v2 c12_i32_88
  let c16_i32_89 : BitVec 32 := 16#32
  let v95 : BitVec 32 := Scalar.remsi v94 c16_i32_89
  let c1_i32_2437 : BitVec 32 := 1#32
  let v2940 : BitVec 32 := Scalar.muli v95 c1_i32_2437
  let v2941 : BitVec 32 := Scalar.addi c0_i32_2438 v2940
  v2941.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_390 : BitVec 32 := 13#32
  let v542 : BitVec 32 := Scalar.addi v2 c13_i32_390
  let c16_i32_391 : BitVec 32 := 16#32
  let v543 : BitVec 32 := Scalar.remsi v542 c16_i32_391
  let c0_i32_393 : BitVec 32 := 0#32
  let v545 : BitVec 1 := Scalar.cmpi .sgt v543 c0_i32_393
  let v546 : BitVec 32 := Scalar.extui v545
  let c0_i32_394 : BitVec 32 := 0#32
  let v547 : BitVec 1 := Scalar.cmpi .slt v543 c0_i32_394
  let v548 : BitVec 32 := Scalar.extui v547
  let v549 : BitVec 32 := Scalar.subi v546 v548
  let c4_i32_392 : BitVec 32 := 4#32
  let c0_i32_395 : BitVec 32 := 0#32
  let v550 : BitVec 1 := Scalar.cmpi .sgt c4_i32_392 c0_i32_395
  let v551 : BitVec 32 := Scalar.extui v550
  let c0_i32_396 : BitVec 32 := 0#32
  let v552 : BitVec 1 := Scalar.cmpi .slt c4_i32_392 c0_i32_396
  let v553 : BitVec 32 := Scalar.extui v552
  let v554 : BitVec 32 := Scalar.subi v551 v553
  let v555 : BitVec 1 := Scalar.cmpi .ne v549 v554
  let v556 : BitVec 32 := Scalar.remsi v543 c4_i32_392
  let c0_i32_397 : BitVec 32 := 0#32
  let v557 : BitVec 1 := Scalar.cmpi .ne v556 c0_i32_397
  let v558 : BitVec 1 := Scalar.andi v555 v557
  let v544 : BitVec 32 := Scalar.divsi v543 c4_i32_392
  let c1_i32_398 : BitVec 32 := 1#32
  let v559 : BitVec 32 := Scalar.subi v544 c1_i32_398
  let v560 : BitVec 32 := Scalar.select v558 v559 v544
  let c0_i32_399 : BitVec 32 := 0#32
  let v561 : BitVec 1 := Scalar.cmpi .eq v560 c0_i32_399
  let v562 : BitVec 32 := Scalar.extui v561
  let c0_i32_404 : BitVec 32 := 0#32
  let v563 : BitVec 1 := Scalar.cmpi .ne v562 c0_i32_404
  v563

def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_390 : BitVec 32 := 13#32
  let v542 : BitVec 32 := Scalar.addi v2 c13_i32_390
  let c16_i32_391 : BitVec 32 := 16#32
  let v543 : BitVec 32 := Scalar.remsi v542 c16_i32_391
  let v2934 : Index := Scalar.indexCast v543
  let c0_2432 : Index := 0#32
  let c0_2433 : Index := 0#32
  ![v2934.toNat, 0, 0]
def k0_dev28 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_90 : BitVec 32 := 13#32
  let v96 : BitVec 32 := Scalar.addi v2 c13_i32_90
  let c16_i32_91 : BitVec 32 := 16#32
  let v97 : BitVec 32 := Scalar.remsi v96 c16_i32_91
  let c1_i32_2437 : BitVec 32 := 1#32
  let v2940 : BitVec 32 := Scalar.muli v97 c1_i32_2437
  let v2941 : BitVec 32 := Scalar.addi c0_i32_2438 v2940
  v2941.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_405 : BitVec 32 := 14#32
  let v564 : BitVec 32 := Scalar.addi v2 c14_i32_405
  let c16_i32_406 : BitVec 32 := 16#32
  let v565 : BitVec 32 := Scalar.remsi v564 c16_i32_406
  let c0_i32_408 : BitVec 32 := 0#32
  let v567 : BitVec 1 := Scalar.cmpi .sgt v565 c0_i32_408
  let v568 : BitVec 32 := Scalar.extui v567
  let c0_i32_409 : BitVec 32 := 0#32
  let v569 : BitVec 1 := Scalar.cmpi .slt v565 c0_i32_409
  let v570 : BitVec 32 := Scalar.extui v569
  let v571 : BitVec 32 := Scalar.subi v568 v570
  let c4_i32_407 : BitVec 32 := 4#32
  let c0_i32_410 : BitVec 32 := 0#32
  let v572 : BitVec 1 := Scalar.cmpi .sgt c4_i32_407 c0_i32_410
  let v573 : BitVec 32 := Scalar.extui v572
  let c0_i32_411 : BitVec 32 := 0#32
  let v574 : BitVec 1 := Scalar.cmpi .slt c4_i32_407 c0_i32_411
  let v575 : BitVec 32 := Scalar.extui v574
  let v576 : BitVec 32 := Scalar.subi v573 v575
  let v577 : BitVec 1 := Scalar.cmpi .ne v571 v576
  let v578 : BitVec 32 := Scalar.remsi v565 c4_i32_407
  let c0_i32_412 : BitVec 32 := 0#32
  let v579 : BitVec 1 := Scalar.cmpi .ne v578 c0_i32_412
  let v580 : BitVec 1 := Scalar.andi v577 v579
  let v566 : BitVec 32 := Scalar.divsi v565 c4_i32_407
  let c1_i32_413 : BitVec 32 := 1#32
  let v581 : BitVec 32 := Scalar.subi v566 c1_i32_413
  let v582 : BitVec 32 := Scalar.select v580 v581 v566
  let c0_i32_414 : BitVec 32 := 0#32
  let v583 : BitVec 1 := Scalar.cmpi .eq v582 c0_i32_414
  let v584 : BitVec 32 := Scalar.extui v583
  let c0_i32_419 : BitVec 32 := 0#32
  let v585 : BitVec 1 := Scalar.cmpi .ne v584 c0_i32_419
  v585

def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_405 : BitVec 32 := 14#32
  let v564 : BitVec 32 := Scalar.addi v2 c14_i32_405
  let c16_i32_406 : BitVec 32 := 16#32
  let v565 : BitVec 32 := Scalar.remsi v564 c16_i32_406
  let v2934 : Index := Scalar.indexCast v565
  let c0_2432 : Index := 0#32
  let c0_2433 : Index := 0#32
  ![v2934.toNat, 0, 0]
def k0_dev29 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_92 : BitVec 32 := 14#32
  let v98 : BitVec 32 := Scalar.addi v2 c14_i32_92
  let c16_i32_93 : BitVec 32 := 16#32
  let v99 : BitVec 32 := Scalar.remsi v98 c16_i32_93
  let c1_i32_2437 : BitVec 32 := 1#32
  let v2940 : BitVec 32 := Scalar.muli v99 c1_i32_2437
  let v2941 : BitVec 32 := Scalar.addi c0_i32_2438 v2940
  v2941.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_420 : BitVec 32 := 15#32
  let v586 : BitVec 32 := Scalar.addi v2 c15_i32_420
  let c16_i32_421 : BitVec 32 := 16#32
  let v587 : BitVec 32 := Scalar.remsi v586 c16_i32_421
  let c0_i32_423 : BitVec 32 := 0#32
  let v589 : BitVec 1 := Scalar.cmpi .sgt v587 c0_i32_423
  let v590 : BitVec 32 := Scalar.extui v589
  let c0_i32_424 : BitVec 32 := 0#32
  let v591 : BitVec 1 := Scalar.cmpi .slt v587 c0_i32_424
  let v592 : BitVec 32 := Scalar.extui v591
  let v593 : BitVec 32 := Scalar.subi v590 v592
  let c4_i32_422 : BitVec 32 := 4#32
  let c0_i32_425 : BitVec 32 := 0#32
  let v594 : BitVec 1 := Scalar.cmpi .sgt c4_i32_422 c0_i32_425
  let v595 : BitVec 32 := Scalar.extui v594
  let c0_i32_426 : BitVec 32 := 0#32
  let v596 : BitVec 1 := Scalar.cmpi .slt c4_i32_422 c0_i32_426
  let v597 : BitVec 32 := Scalar.extui v596
  let v598 : BitVec 32 := Scalar.subi v595 v597
  let v599 : BitVec 1 := Scalar.cmpi .ne v593 v598
  let v600 : BitVec 32 := Scalar.remsi v587 c4_i32_422
  let c0_i32_427 : BitVec 32 := 0#32
  let v601 : BitVec 1 := Scalar.cmpi .ne v600 c0_i32_427
  let v602 : BitVec 1 := Scalar.andi v599 v601
  let v588 : BitVec 32 := Scalar.divsi v587 c4_i32_422
  let c1_i32_428 : BitVec 32 := 1#32
  let v603 : BitVec 32 := Scalar.subi v588 c1_i32_428
  let v604 : BitVec 32 := Scalar.select v602 v603 v588
  let c0_i32_429 : BitVec 32 := 0#32
  let v605 : BitVec 1 := Scalar.cmpi .eq v604 c0_i32_429
  let v606 : BitVec 32 := Scalar.extui v605
  let c0_i32_434 : BitVec 32 := 0#32
  let v607 : BitVec 1 := Scalar.cmpi .ne v606 c0_i32_434
  v607

def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_420 : BitVec 32 := 15#32
  let v586 : BitVec 32 := Scalar.addi v2 c15_i32_420
  let c16_i32_421 : BitVec 32 := 16#32
  let v587 : BitVec 32 := Scalar.remsi v586 c16_i32_421
  let v2934 : Index := Scalar.indexCast v587
  let c0_2432 : Index := 0#32
  let c0_2433 : Index := 0#32
  ![v2934.toNat, 0, 0]
def k0_dev30 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_94 : BitVec 32 := 15#32
  let v100 : BitVec 32 := Scalar.addi v2 c15_i32_94
  let c16_i32_95 : BitVec 32 := 16#32
  let v101 : BitVec 32 := Scalar.remsi v100 c16_i32_95
  let c1_i32_2437 : BitVec 32 := 1#32
  let v2940 : BitVec 32 := Scalar.muli v101 c1_i32_2437
  let v2941 : BitVec 32 := Scalar.addi c0_i32_2438 v2940
  v2941.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_563 : BitVec 32 := 1#32
  let v784 : BitVec 32 := Scalar.addi v2 c1_i32_563
  let c16_i32_564 : BitVec 32 := 16#32
  let v785 : BitVec 32 := Scalar.remsi v784 c16_i32_564
  let c0_i32_566 : BitVec 32 := 0#32
  let v787 : BitVec 1 := Scalar.cmpi .sgt v785 c0_i32_566
  let v788 : BitVec 32 := Scalar.extui v787
  let c0_i32_567 : BitVec 32 := 0#32
  let v789 : BitVec 1 := Scalar.cmpi .slt v785 c0_i32_567
  let v790 : BitVec 32 := Scalar.extui v789
  let v791 : BitVec 32 := Scalar.subi v788 v790
  let c4_i32_565 : BitVec 32 := 4#32
  let c0_i32_568 : BitVec 32 := 0#32
  let v792 : BitVec 1 := Scalar.cmpi .sgt c4_i32_565 c0_i32_568
  let v793 : BitVec 32 := Scalar.extui v792
  let c0_i32_569 : BitVec 32 := 0#32
  let v794 : BitVec 1 := Scalar.cmpi .slt c4_i32_565 c0_i32_569
  let v795 : BitVec 32 := Scalar.extui v794
  let v796 : BitVec 32 := Scalar.subi v793 v795
  let v797 : BitVec 1 := Scalar.cmpi .ne v791 v796
  let v798 : BitVec 32 := Scalar.remsi v785 c4_i32_565
  let c0_i32_570 : BitVec 32 := 0#32
  let v799 : BitVec 1 := Scalar.cmpi .ne v798 c0_i32_570
  let v800 : BitVec 1 := Scalar.andi v797 v799
  let v786 : BitVec 32 := Scalar.divsi v785 c4_i32_565
  let c1_i32_571 : BitVec 32 := 1#32
  let v801 : BitVec 32 := Scalar.subi v786 c1_i32_571
  let v802 : BitVec 32 := Scalar.select v800 v801 v786
  let c1_i32_572 : BitVec 32 := 1#32
  let v803 : BitVec 1 := Scalar.cmpi .eq v802 c1_i32_572
  let v804 : BitVec 32 := Scalar.extui v803
  let c0_i32_577 : BitVec 32 := 0#32
  let v805 : BitVec 1 := Scalar.cmpi .ne v804 c0_i32_577
  v805

def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_563 : BitVec 32 := 1#32
  let v784 : BitVec 32 := Scalar.addi v2 c1_i32_563
  let c16_i32_564 : BitVec 32 := 16#32
  let v785 : BitVec 32 := Scalar.remsi v784 c16_i32_564
  let v2934 : Index := Scalar.indexCast v785
  let c0_2432 : Index := 0#32
  let c0_2433 : Index := 0#32
  ![v2934.toNat, 0, 0]
def k0_dev31 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v72 : BitVec 32 := Scalar.addi v2 c1_i32_66
  let c16_i32_67 : BitVec 32 := 16#32
  let v73 : BitVec 32 := Scalar.remsi v72 c16_i32_67
  let c1_i32_2437 : BitVec 32 := 1#32
  let v2940 : BitVec 32 := Scalar.muli v73 c1_i32_2437
  let v2941 : BitVec 32 := Scalar.addi c0_i32_2438 v2940
  v2941.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_578 : BitVec 32 := 2#32
  let v806 : BitVec 32 := Scalar.addi v2 c2_i32_578
  let c16_i32_579 : BitVec 32 := 16#32
  let v807 : BitVec 32 := Scalar.remsi v806 c16_i32_579
  let c0_i32_581 : BitVec 32 := 0#32
  let v809 : BitVec 1 := Scalar.cmpi .sgt v807 c0_i32_581
  let v810 : BitVec 32 := Scalar.extui v809
  let c0_i32_582 : BitVec 32 := 0#32
  let v811 : BitVec 1 := Scalar.cmpi .slt v807 c0_i32_582
  let v812 : BitVec 32 := Scalar.extui v811
  let v813 : BitVec 32 := Scalar.subi v810 v812
  let c4_i32_580 : BitVec 32 := 4#32
  let c0_i32_583 : BitVec 32 := 0#32
  let v814 : BitVec 1 := Scalar.cmpi .sgt c4_i32_580 c0_i32_583
  let v815 : BitVec 32 := Scalar.extui v814
  let c0_i32_584 : BitVec 32 := 0#32
  let v816 : BitVec 1 := Scalar.cmpi .slt c4_i32_580 c0_i32_584
  let v817 : BitVec 32 := Scalar.extui v816
  let v818 : BitVec 32 := Scalar.subi v815 v817
  let v819 : BitVec 1 := Scalar.cmpi .ne v813 v818
  let v820 : BitVec 32 := Scalar.remsi v807 c4_i32_580
  let c0_i32_585 : BitVec 32 := 0#32
  let v821 : BitVec 1 := Scalar.cmpi .ne v820 c0_i32_585
  let v822 : BitVec 1 := Scalar.andi v819 v821
  let v808 : BitVec 32 := Scalar.divsi v807 c4_i32_580
  let c1_i32_586 : BitVec 32 := 1#32
  let v823 : BitVec 32 := Scalar.subi v808 c1_i32_586
  let v824 : BitVec 32 := Scalar.select v822 v823 v808
  let c1_i32_587 : BitVec 32 := 1#32
  let v825 : BitVec 1 := Scalar.cmpi .eq v824 c1_i32_587
  let v826 : BitVec 32 := Scalar.extui v825
  let c0_i32_592 : BitVec 32 := 0#32
  let v827 : BitVec 1 := Scalar.cmpi .ne v826 c0_i32_592
  v827

def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_578 : BitVec 32 := 2#32
  let v806 : BitVec 32 := Scalar.addi v2 c2_i32_578
  let c16_i32_579 : BitVec 32 := 16#32
  let v807 : BitVec 32 := Scalar.remsi v806 c16_i32_579
  let v2934 : Index := Scalar.indexCast v807
  let c0_2432 : Index := 0#32
  let c0_2433 : Index := 0#32
  ![v2934.toNat, 0, 0]
def k0_dev32 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_68 : BitVec 32 := 2#32
  let v74 : BitVec 32 := Scalar.addi v2 c2_i32_68
  let c16_i32_69 : BitVec 32 := 16#32
  let v75 : BitVec 32 := Scalar.remsi v74 c16_i32_69
  let c1_i32_2437 : BitVec 32 := 1#32
  let v2940 : BitVec 32 := Scalar.muli v75 c1_i32_2437
  let v2941 : BitVec 32 := Scalar.addi c0_i32_2438 v2940
  v2941.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_593 : BitVec 32 := 3#32
  let v828 : BitVec 32 := Scalar.addi v2 c3_i32_593
  let c16_i32_594 : BitVec 32 := 16#32
  let v829 : BitVec 32 := Scalar.remsi v828 c16_i32_594
  let c0_i32_596 : BitVec 32 := 0#32
  let v831 : BitVec 1 := Scalar.cmpi .sgt v829 c0_i32_596
  let v832 : BitVec 32 := Scalar.extui v831
  let c0_i32_597 : BitVec 32 := 0#32
  let v833 : BitVec 1 := Scalar.cmpi .slt v829 c0_i32_597
  let v834 : BitVec 32 := Scalar.extui v833
  let v835 : BitVec 32 := Scalar.subi v832 v834
  let c4_i32_595 : BitVec 32 := 4#32
  let c0_i32_598 : BitVec 32 := 0#32
  let v836 : BitVec 1 := Scalar.cmpi .sgt c4_i32_595 c0_i32_598
  let v837 : BitVec 32 := Scalar.extui v836
  let c0_i32_599 : BitVec 32 := 0#32
  let v838 : BitVec 1 := Scalar.cmpi .slt c4_i32_595 c0_i32_599
  let v839 : BitVec 32 := Scalar.extui v838
  let v840 : BitVec 32 := Scalar.subi v837 v839
  let v841 : BitVec 1 := Scalar.cmpi .ne v835 v840
  let v842 : BitVec 32 := Scalar.remsi v829 c4_i32_595
  let c0_i32_600 : BitVec 32 := 0#32
  let v843 : BitVec 1 := Scalar.cmpi .ne v842 c0_i32_600
  let v844 : BitVec 1 := Scalar.andi v841 v843
  let v830 : BitVec 32 := Scalar.divsi v829 c4_i32_595
  let c1_i32_601 : BitVec 32 := 1#32
  let v845 : BitVec 32 := Scalar.subi v830 c1_i32_601
  let v846 : BitVec 32 := Scalar.select v844 v845 v830
  let c1_i32_602 : BitVec 32 := 1#32
  let v847 : BitVec 1 := Scalar.cmpi .eq v846 c1_i32_602
  let v848 : BitVec 32 := Scalar.extui v847
  let c0_i32_607 : BitVec 32 := 0#32
  let v849 : BitVec 1 := Scalar.cmpi .ne v848 c0_i32_607
  v849

def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_593 : BitVec 32 := 3#32
  let v828 : BitVec 32 := Scalar.addi v2 c3_i32_593
  let c16_i32_594 : BitVec 32 := 16#32
  let v829 : BitVec 32 := Scalar.remsi v828 c16_i32_594
  let v2934 : Index := Scalar.indexCast v829
  let c0_2432 : Index := 0#32
  let c0_2433 : Index := 0#32
  ![v2934.toNat, 0, 0]
def k0_dev33 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_70 : BitVec 32 := 3#32
  let v76 : BitVec 32 := Scalar.addi v2 c3_i32_70
  let c16_i32_71 : BitVec 32 := 16#32
  let v77 : BitVec 32 := Scalar.remsi v76 c16_i32_71
  let c1_i32_2437 : BitVec 32 := 1#32
  let v2940 : BitVec 32 := Scalar.muli v77 c1_i32_2437
  let v2941 : BitVec 32 := Scalar.addi c0_i32_2438 v2940
  v2941.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_608 : BitVec 32 := 4#32
  let v850 : BitVec 32 := Scalar.addi v2 c4_i32_608
  let c16_i32_609 : BitVec 32 := 16#32
  let v851 : BitVec 32 := Scalar.remsi v850 c16_i32_609
  let c0_i32_611 : BitVec 32 := 0#32
  let v853 : BitVec 1 := Scalar.cmpi .sgt v851 c0_i32_611
  let v854 : BitVec 32 := Scalar.extui v853
  let c0_i32_612 : BitVec 32 := 0#32
  let v855 : BitVec 1 := Scalar.cmpi .slt v851 c0_i32_612
  let v856 : BitVec 32 := Scalar.extui v855
  let v857 : BitVec 32 := Scalar.subi v854 v856
  let c4_i32_610 : BitVec 32 := 4#32
  let c0_i32_613 : BitVec 32 := 0#32
  let v858 : BitVec 1 := Scalar.cmpi .sgt c4_i32_610 c0_i32_613
  let v859 : BitVec 32 := Scalar.extui v858
  let c0_i32_614 : BitVec 32 := 0#32
  let v860 : BitVec 1 := Scalar.cmpi .slt c4_i32_610 c0_i32_614
  let v861 : BitVec 32 := Scalar.extui v860
  let v862 : BitVec 32 := Scalar.subi v859 v861
  let v863 : BitVec 1 := Scalar.cmpi .ne v857 v862
  let v864 : BitVec 32 := Scalar.remsi v851 c4_i32_610
  let c0_i32_615 : BitVec 32 := 0#32
  let v865 : BitVec 1 := Scalar.cmpi .ne v864 c0_i32_615
  let v866 : BitVec 1 := Scalar.andi v863 v865
  let v852 : BitVec 32 := Scalar.divsi v851 c4_i32_610
  let c1_i32_616 : BitVec 32 := 1#32
  let v867 : BitVec 32 := Scalar.subi v852 c1_i32_616
  let v868 : BitVec 32 := Scalar.select v866 v867 v852
  let c1_i32_617 : BitVec 32 := 1#32
  let v869 : BitVec 1 := Scalar.cmpi .eq v868 c1_i32_617
  let v870 : BitVec 32 := Scalar.extui v869
  let c0_i32_622 : BitVec 32 := 0#32
  let v871 : BitVec 1 := Scalar.cmpi .ne v870 c0_i32_622
  v871

def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_608 : BitVec 32 := 4#32
  let v850 : BitVec 32 := Scalar.addi v2 c4_i32_608
  let c16_i32_609 : BitVec 32 := 16#32
  let v851 : BitVec 32 := Scalar.remsi v850 c16_i32_609
  let v2934 : Index := Scalar.indexCast v851
  let c0_2432 : Index := 0#32
  let c0_2433 : Index := 0#32
  ![v2934.toNat, 0, 0]
def k0_dev34 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_72 : BitVec 32 := 4#32
  let v78 : BitVec 32 := Scalar.addi v2 c4_i32_72
  let c16_i32_73 : BitVec 32 := 16#32
  let v79 : BitVec 32 := Scalar.remsi v78 c16_i32_73
  let c1_i32_2437 : BitVec 32 := 1#32
  let v2940 : BitVec 32 := Scalar.muli v79 c1_i32_2437
  let v2941 : BitVec 32 := Scalar.addi c0_i32_2438 v2940
  v2941.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_623 : BitVec 32 := 5#32
  let v872 : BitVec 32 := Scalar.addi v2 c5_i32_623
  let c16_i32_624 : BitVec 32 := 16#32
  let v873 : BitVec 32 := Scalar.remsi v872 c16_i32_624
  let c0_i32_626 : BitVec 32 := 0#32
  let v875 : BitVec 1 := Scalar.cmpi .sgt v873 c0_i32_626
  let v876 : BitVec 32 := Scalar.extui v875
  let c0_i32_627 : BitVec 32 := 0#32
  let v877 : BitVec 1 := Scalar.cmpi .slt v873 c0_i32_627
  let v878 : BitVec 32 := Scalar.extui v877
  let v879 : BitVec 32 := Scalar.subi v876 v878
  let c4_i32_625 : BitVec 32 := 4#32
  let c0_i32_628 : BitVec 32 := 0#32
  let v880 : BitVec 1 := Scalar.cmpi .sgt c4_i32_625 c0_i32_628
  let v881 : BitVec 32 := Scalar.extui v880
  let c0_i32_629 : BitVec 32 := 0#32
  let v882 : BitVec 1 := Scalar.cmpi .slt c4_i32_625 c0_i32_629
  let v883 : BitVec 32 := Scalar.extui v882
  let v884 : BitVec 32 := Scalar.subi v881 v883
  let v885 : BitVec 1 := Scalar.cmpi .ne v879 v884
  let v886 : BitVec 32 := Scalar.remsi v873 c4_i32_625
  let c0_i32_630 : BitVec 32 := 0#32
  let v887 : BitVec 1 := Scalar.cmpi .ne v886 c0_i32_630
  let v888 : BitVec 1 := Scalar.andi v885 v887
  let v874 : BitVec 32 := Scalar.divsi v873 c4_i32_625
  let c1_i32_631 : BitVec 32 := 1#32
  let v889 : BitVec 32 := Scalar.subi v874 c1_i32_631
  let v890 : BitVec 32 := Scalar.select v888 v889 v874
  let c1_i32_632 : BitVec 32 := 1#32
  let v891 : BitVec 1 := Scalar.cmpi .eq v890 c1_i32_632
  let v892 : BitVec 32 := Scalar.extui v891
  let c0_i32_637 : BitVec 32 := 0#32
  let v893 : BitVec 1 := Scalar.cmpi .ne v892 c0_i32_637
  v893

def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_623 : BitVec 32 := 5#32
  let v872 : BitVec 32 := Scalar.addi v2 c5_i32_623
  let c16_i32_624 : BitVec 32 := 16#32
  let v873 : BitVec 32 := Scalar.remsi v872 c16_i32_624
  let v2934 : Index := Scalar.indexCast v873
  let c0_2432 : Index := 0#32
  let c0_2433 : Index := 0#32
  ![v2934.toNat, 0, 0]
def k0_dev35 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_74 : BitVec 32 := 5#32
  let v80 : BitVec 32 := Scalar.addi v2 c5_i32_74
  let c16_i32_75 : BitVec 32 := 16#32
  let v81 : BitVec 32 := Scalar.remsi v80 c16_i32_75
  let c1_i32_2437 : BitVec 32 := 1#32
  let v2940 : BitVec 32 := Scalar.muli v81 c1_i32_2437
  let v2941 : BitVec 32 := Scalar.addi c0_i32_2438 v2940
  v2941.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_638 : BitVec 32 := 6#32
  let v894 : BitVec 32 := Scalar.addi v2 c6_i32_638
  let c16_i32_639 : BitVec 32 := 16#32
  let v895 : BitVec 32 := Scalar.remsi v894 c16_i32_639
  let c0_i32_641 : BitVec 32 := 0#32
  let v897 : BitVec 1 := Scalar.cmpi .sgt v895 c0_i32_641
  let v898 : BitVec 32 := Scalar.extui v897
  let c0_i32_642 : BitVec 32 := 0#32
  let v899 : BitVec 1 := Scalar.cmpi .slt v895 c0_i32_642
  let v900 : BitVec 32 := Scalar.extui v899
  let v901 : BitVec 32 := Scalar.subi v898 v900
  let c4_i32_640 : BitVec 32 := 4#32
  let c0_i32_643 : BitVec 32 := 0#32
  let v902 : BitVec 1 := Scalar.cmpi .sgt c4_i32_640 c0_i32_643
  let v903 : BitVec 32 := Scalar.extui v902
  let c0_i32_644 : BitVec 32 := 0#32
  let v904 : BitVec 1 := Scalar.cmpi .slt c4_i32_640 c0_i32_644
  let v905 : BitVec 32 := Scalar.extui v904
  let v906 : BitVec 32 := Scalar.subi v903 v905
  let v907 : BitVec 1 := Scalar.cmpi .ne v901 v906
  let v908 : BitVec 32 := Scalar.remsi v895 c4_i32_640
  let c0_i32_645 : BitVec 32 := 0#32
  let v909 : BitVec 1 := Scalar.cmpi .ne v908 c0_i32_645
  let v910 : BitVec 1 := Scalar.andi v907 v909
  let v896 : BitVec 32 := Scalar.divsi v895 c4_i32_640
  let c1_i32_646 : BitVec 32 := 1#32
  let v911 : BitVec 32 := Scalar.subi v896 c1_i32_646
  let v912 : BitVec 32 := Scalar.select v910 v911 v896
  let c1_i32_647 : BitVec 32 := 1#32
  let v913 : BitVec 1 := Scalar.cmpi .eq v912 c1_i32_647
  let v914 : BitVec 32 := Scalar.extui v913
  let c0_i32_652 : BitVec 32 := 0#32
  let v915 : BitVec 1 := Scalar.cmpi .ne v914 c0_i32_652
  v915

def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_638 : BitVec 32 := 6#32
  let v894 : BitVec 32 := Scalar.addi v2 c6_i32_638
  let c16_i32_639 : BitVec 32 := 16#32
  let v895 : BitVec 32 := Scalar.remsi v894 c16_i32_639
  let v2934 : Index := Scalar.indexCast v895
  let c0_2432 : Index := 0#32
  let c0_2433 : Index := 0#32
  ![v2934.toNat, 0, 0]
def k0_dev36 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_76 : BitVec 32 := 6#32
  let v82 : BitVec 32 := Scalar.addi v2 c6_i32_76
  let c16_i32_77 : BitVec 32 := 16#32
  let v83 : BitVec 32 := Scalar.remsi v82 c16_i32_77
  let c1_i32_2437 : BitVec 32 := 1#32
  let v2940 : BitVec 32 := Scalar.muli v83 c1_i32_2437
  let v2941 : BitVec 32 := Scalar.addi c0_i32_2438 v2940
  v2941.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_653 : BitVec 32 := 7#32
  let v916 : BitVec 32 := Scalar.addi v2 c7_i32_653
  let c16_i32_654 : BitVec 32 := 16#32
  let v917 : BitVec 32 := Scalar.remsi v916 c16_i32_654
  let c0_i32_656 : BitVec 32 := 0#32
  let v919 : BitVec 1 := Scalar.cmpi .sgt v917 c0_i32_656
  let v920 : BitVec 32 := Scalar.extui v919
  let c0_i32_657 : BitVec 32 := 0#32
  let v921 : BitVec 1 := Scalar.cmpi .slt v917 c0_i32_657
  let v922 : BitVec 32 := Scalar.extui v921
  let v923 : BitVec 32 := Scalar.subi v920 v922
  let c4_i32_655 : BitVec 32 := 4#32
  let c0_i32_658 : BitVec 32 := 0#32
  let v924 : BitVec 1 := Scalar.cmpi .sgt c4_i32_655 c0_i32_658
  let v925 : BitVec 32 := Scalar.extui v924
  let c0_i32_659 : BitVec 32 := 0#32
  let v926 : BitVec 1 := Scalar.cmpi .slt c4_i32_655 c0_i32_659
  let v927 : BitVec 32 := Scalar.extui v926
  let v928 : BitVec 32 := Scalar.subi v925 v927
  let v929 : BitVec 1 := Scalar.cmpi .ne v923 v928
  let v930 : BitVec 32 := Scalar.remsi v917 c4_i32_655
  let c0_i32_660 : BitVec 32 := 0#32
  let v931 : BitVec 1 := Scalar.cmpi .ne v930 c0_i32_660
  let v932 : BitVec 1 := Scalar.andi v929 v931
  let v918 : BitVec 32 := Scalar.divsi v917 c4_i32_655
  let c1_i32_661 : BitVec 32 := 1#32
  let v933 : BitVec 32 := Scalar.subi v918 c1_i32_661
  let v934 : BitVec 32 := Scalar.select v932 v933 v918
  let c1_i32_662 : BitVec 32 := 1#32
  let v935 : BitVec 1 := Scalar.cmpi .eq v934 c1_i32_662
  let v936 : BitVec 32 := Scalar.extui v935
  let c0_i32_667 : BitVec 32 := 0#32
  let v937 : BitVec 1 := Scalar.cmpi .ne v936 c0_i32_667
  v937

def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_653 : BitVec 32 := 7#32
  let v916 : BitVec 32 := Scalar.addi v2 c7_i32_653
  let c16_i32_654 : BitVec 32 := 16#32
  let v917 : BitVec 32 := Scalar.remsi v916 c16_i32_654
  let v2934 : Index := Scalar.indexCast v917
  let c0_2432 : Index := 0#32
  let c0_2433 : Index := 0#32
  ![v2934.toNat, 0, 0]
def k0_dev37 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v84 : BitVec 32 := Scalar.addi v2 c7_i32_78
  let c16_i32_79 : BitVec 32 := 16#32
  let v85 : BitVec 32 := Scalar.remsi v84 c16_i32_79
  let c1_i32_2437 : BitVec 32 := 1#32
  let v2940 : BitVec 32 := Scalar.muli v85 c1_i32_2437
  let v2941 : BitVec 32 := Scalar.addi c0_i32_2438 v2940
  v2941.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_668 : BitVec 32 := 8#32
  let v938 : BitVec 32 := Scalar.addi v2 c8_i32_668
  let c16_i32_669 : BitVec 32 := 16#32
  let v939 : BitVec 32 := Scalar.remsi v938 c16_i32_669
  let c0_i32_671 : BitVec 32 := 0#32
  let v941 : BitVec 1 := Scalar.cmpi .sgt v939 c0_i32_671
  let v942 : BitVec 32 := Scalar.extui v941
  let c0_i32_672 : BitVec 32 := 0#32
  let v943 : BitVec 1 := Scalar.cmpi .slt v939 c0_i32_672
  let v944 : BitVec 32 := Scalar.extui v943
  let v945 : BitVec 32 := Scalar.subi v942 v944
  let c4_i32_670 : BitVec 32 := 4#32
  let c0_i32_673 : BitVec 32 := 0#32
  let v946 : BitVec 1 := Scalar.cmpi .sgt c4_i32_670 c0_i32_673
  let v947 : BitVec 32 := Scalar.extui v946
  let c0_i32_674 : BitVec 32 := 0#32
  let v948 : BitVec 1 := Scalar.cmpi .slt c4_i32_670 c0_i32_674
  let v949 : BitVec 32 := Scalar.extui v948
  let v950 : BitVec 32 := Scalar.subi v947 v949
  let v951 : BitVec 1 := Scalar.cmpi .ne v945 v950
  let v952 : BitVec 32 := Scalar.remsi v939 c4_i32_670
  let c0_i32_675 : BitVec 32 := 0#32
  let v953 : BitVec 1 := Scalar.cmpi .ne v952 c0_i32_675
  let v954 : BitVec 1 := Scalar.andi v951 v953
  let v940 : BitVec 32 := Scalar.divsi v939 c4_i32_670
  let c1_i32_676 : BitVec 32 := 1#32
  let v955 : BitVec 32 := Scalar.subi v940 c1_i32_676
  let v956 : BitVec 32 := Scalar.select v954 v955 v940
  let c1_i32_677 : BitVec 32 := 1#32
  let v957 : BitVec 1 := Scalar.cmpi .eq v956 c1_i32_677
  let v958 : BitVec 32 := Scalar.extui v957
  let c0_i32_682 : BitVec 32 := 0#32
  let v959 : BitVec 1 := Scalar.cmpi .ne v958 c0_i32_682
  v959

def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_668 : BitVec 32 := 8#32
  let v938 : BitVec 32 := Scalar.addi v2 c8_i32_668
  let c16_i32_669 : BitVec 32 := 16#32
  let v939 : BitVec 32 := Scalar.remsi v938 c16_i32_669
  let v2934 : Index := Scalar.indexCast v939
  let c0_2432 : Index := 0#32
  let c0_2433 : Index := 0#32
  ![v2934.toNat, 0, 0]
def k0_dev38 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_80 : BitVec 32 := 8#32
  let v86 : BitVec 32 := Scalar.addi v2 c8_i32_80
  let c16_i32_81 : BitVec 32 := 16#32
  let v87 : BitVec 32 := Scalar.remsi v86 c16_i32_81
  let c1_i32_2437 : BitVec 32 := 1#32
  let v2940 : BitVec 32 := Scalar.muli v87 c1_i32_2437
  let v2941 : BitVec 32 := Scalar.addi c0_i32_2438 v2940
  v2941.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_683 : BitVec 32 := 9#32
  let v960 : BitVec 32 := Scalar.addi v2 c9_i32_683
  let c16_i32_684 : BitVec 32 := 16#32
  let v961 : BitVec 32 := Scalar.remsi v960 c16_i32_684
  let c0_i32_686 : BitVec 32 := 0#32
  let v963 : BitVec 1 := Scalar.cmpi .sgt v961 c0_i32_686
  let v964 : BitVec 32 := Scalar.extui v963
  let c0_i32_687 : BitVec 32 := 0#32
  let v965 : BitVec 1 := Scalar.cmpi .slt v961 c0_i32_687
  let v966 : BitVec 32 := Scalar.extui v965
  let v967 : BitVec 32 := Scalar.subi v964 v966
  let c4_i32_685 : BitVec 32 := 4#32
  let c0_i32_688 : BitVec 32 := 0#32
  let v968 : BitVec 1 := Scalar.cmpi .sgt c4_i32_685 c0_i32_688
  let v969 : BitVec 32 := Scalar.extui v968
  let c0_i32_689 : BitVec 32 := 0#32
  let v970 : BitVec 1 := Scalar.cmpi .slt c4_i32_685 c0_i32_689
  let v971 : BitVec 32 := Scalar.extui v970
  let v972 : BitVec 32 := Scalar.subi v969 v971
  let v973 : BitVec 1 := Scalar.cmpi .ne v967 v972
  let v974 : BitVec 32 := Scalar.remsi v961 c4_i32_685
  let c0_i32_690 : BitVec 32 := 0#32
  let v975 : BitVec 1 := Scalar.cmpi .ne v974 c0_i32_690
  let v976 : BitVec 1 := Scalar.andi v973 v975
  let v962 : BitVec 32 := Scalar.divsi v961 c4_i32_685
  let c1_i32_691 : BitVec 32 := 1#32
  let v977 : BitVec 32 := Scalar.subi v962 c1_i32_691
  let v978 : BitVec 32 := Scalar.select v976 v977 v962
  let c1_i32_692 : BitVec 32 := 1#32
  let v979 : BitVec 1 := Scalar.cmpi .eq v978 c1_i32_692
  let v980 : BitVec 32 := Scalar.extui v979
  let c0_i32_697 : BitVec 32 := 0#32
  let v981 : BitVec 1 := Scalar.cmpi .ne v980 c0_i32_697
  v981

def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_683 : BitVec 32 := 9#32
  let v960 : BitVec 32 := Scalar.addi v2 c9_i32_683
  let c16_i32_684 : BitVec 32 := 16#32
  let v961 : BitVec 32 := Scalar.remsi v960 c16_i32_684
  let v2934 : Index := Scalar.indexCast v961
  let c0_2432 : Index := 0#32
  let c0_2433 : Index := 0#32
  ![v2934.toNat, 0, 0]
def k0_dev39 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_82 : BitVec 32 := 9#32
  let v88 : BitVec 32 := Scalar.addi v2 c9_i32_82
  let c16_i32_83 : BitVec 32 := 16#32
  let v89 : BitVec 32 := Scalar.remsi v88 c16_i32_83
  let c1_i32_2437 : BitVec 32 := 1#32
  let v2940 : BitVec 32 := Scalar.muli v89 c1_i32_2437
  let v2941 : BitVec 32 := Scalar.addi c0_i32_2438 v2940
  v2941.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_698 : BitVec 32 := 10#32
  let v982 : BitVec 32 := Scalar.addi v2 c10_i32_698
  let c16_i32_699 : BitVec 32 := 16#32
  let v983 : BitVec 32 := Scalar.remsi v982 c16_i32_699
  let c0_i32_701 : BitVec 32 := 0#32
  let v985 : BitVec 1 := Scalar.cmpi .sgt v983 c0_i32_701
  let v986 : BitVec 32 := Scalar.extui v985
  let c0_i32_702 : BitVec 32 := 0#32
  let v987 : BitVec 1 := Scalar.cmpi .slt v983 c0_i32_702
  let v988 : BitVec 32 := Scalar.extui v987
  let v989 : BitVec 32 := Scalar.subi v986 v988
  let c4_i32_700 : BitVec 32 := 4#32
  let c0_i32_703 : BitVec 32 := 0#32
  let v990 : BitVec 1 := Scalar.cmpi .sgt c4_i32_700 c0_i32_703
  let v991 : BitVec 32 := Scalar.extui v990
  let c0_i32_704 : BitVec 32 := 0#32
  let v992 : BitVec 1 := Scalar.cmpi .slt c4_i32_700 c0_i32_704
  let v993 : BitVec 32 := Scalar.extui v992
  let v994 : BitVec 32 := Scalar.subi v991 v993
  let v995 : BitVec 1 := Scalar.cmpi .ne v989 v994
  let v996 : BitVec 32 := Scalar.remsi v983 c4_i32_700
  let c0_i32_705 : BitVec 32 := 0#32
  let v997 : BitVec 1 := Scalar.cmpi .ne v996 c0_i32_705
  let v998 : BitVec 1 := Scalar.andi v995 v997
  let v984 : BitVec 32 := Scalar.divsi v983 c4_i32_700
  let c1_i32_706 : BitVec 32 := 1#32
  let v999 : BitVec 32 := Scalar.subi v984 c1_i32_706
  let v1000 : BitVec 32 := Scalar.select v998 v999 v984
  let c1_i32_707 : BitVec 32 := 1#32
  let v1001 : BitVec 1 := Scalar.cmpi .eq v1000 c1_i32_707
  let v1002 : BitVec 32 := Scalar.extui v1001
  let c0_i32_712 : BitVec 32 := 0#32
  let v1003 : BitVec 1 := Scalar.cmpi .ne v1002 c0_i32_712
  v1003

def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_698 : BitVec 32 := 10#32
  let v982 : BitVec 32 := Scalar.addi v2 c10_i32_698
  let c16_i32_699 : BitVec 32 := 16#32
  let v983 : BitVec 32 := Scalar.remsi v982 c16_i32_699
  let v2934 : Index := Scalar.indexCast v983
  let c0_2432 : Index := 0#32
  let c0_2433 : Index := 0#32
  ![v2934.toNat, 0, 0]
def k0_dev40 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_84 : BitVec 32 := 10#32
  let v90 : BitVec 32 := Scalar.addi v2 c10_i32_84
  let c16_i32_85 : BitVec 32 := 16#32
  let v91 : BitVec 32 := Scalar.remsi v90 c16_i32_85
  let c1_i32_2437 : BitVec 32 := 1#32
  let v2940 : BitVec 32 := Scalar.muli v91 c1_i32_2437
  let v2941 : BitVec 32 := Scalar.addi c0_i32_2438 v2940
  v2941.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_713 : BitVec 32 := 11#32
  let v1004 : BitVec 32 := Scalar.addi v2 c11_i32_713
  let c16_i32_714 : BitVec 32 := 16#32
  let v1005 : BitVec 32 := Scalar.remsi v1004 c16_i32_714
  let c0_i32_716 : BitVec 32 := 0#32
  let v1007 : BitVec 1 := Scalar.cmpi .sgt v1005 c0_i32_716
  let v1008 : BitVec 32 := Scalar.extui v1007
  let c0_i32_717 : BitVec 32 := 0#32
  let v1009 : BitVec 1 := Scalar.cmpi .slt v1005 c0_i32_717
  let v1010 : BitVec 32 := Scalar.extui v1009
  let v1011 : BitVec 32 := Scalar.subi v1008 v1010
  let c4_i32_715 : BitVec 32 := 4#32
  let c0_i32_718 : BitVec 32 := 0#32
  let v1012 : BitVec 1 := Scalar.cmpi .sgt c4_i32_715 c0_i32_718
  let v1013 : BitVec 32 := Scalar.extui v1012
  let c0_i32_719 : BitVec 32 := 0#32
  let v1014 : BitVec 1 := Scalar.cmpi .slt c4_i32_715 c0_i32_719
  let v1015 : BitVec 32 := Scalar.extui v1014
  let v1016 : BitVec 32 := Scalar.subi v1013 v1015
  let v1017 : BitVec 1 := Scalar.cmpi .ne v1011 v1016
  let v1018 : BitVec 32 := Scalar.remsi v1005 c4_i32_715
  let c0_i32_720 : BitVec 32 := 0#32
  let v1019 : BitVec 1 := Scalar.cmpi .ne v1018 c0_i32_720
  let v1020 : BitVec 1 := Scalar.andi v1017 v1019
  let v1006 : BitVec 32 := Scalar.divsi v1005 c4_i32_715
  let c1_i32_721 : BitVec 32 := 1#32
  let v1021 : BitVec 32 := Scalar.subi v1006 c1_i32_721
  let v1022 : BitVec 32 := Scalar.select v1020 v1021 v1006
  let c1_i32_722 : BitVec 32 := 1#32
  let v1023 : BitVec 1 := Scalar.cmpi .eq v1022 c1_i32_722
  let v1024 : BitVec 32 := Scalar.extui v1023
  let c0_i32_727 : BitVec 32 := 0#32
  let v1025 : BitVec 1 := Scalar.cmpi .ne v1024 c0_i32_727
  v1025

def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_713 : BitVec 32 := 11#32
  let v1004 : BitVec 32 := Scalar.addi v2 c11_i32_713
  let c16_i32_714 : BitVec 32 := 16#32
  let v1005 : BitVec 32 := Scalar.remsi v1004 c16_i32_714
  let v2934 : Index := Scalar.indexCast v1005
  let c0_2432 : Index := 0#32
  let c0_2433 : Index := 0#32
  ![v2934.toNat, 0, 0]
def k0_dev41 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_86 : BitVec 32 := 11#32
  let v92 : BitVec 32 := Scalar.addi v2 c11_i32_86
  let c16_i32_87 : BitVec 32 := 16#32
  let v93 : BitVec 32 := Scalar.remsi v92 c16_i32_87
  let c1_i32_2437 : BitVec 32 := 1#32
  let v2940 : BitVec 32 := Scalar.muli v93 c1_i32_2437
  let v2941 : BitVec 32 := Scalar.addi c0_i32_2438 v2940
  v2941.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_728 : BitVec 32 := 12#32
  let v1026 : BitVec 32 := Scalar.addi v2 c12_i32_728
  let c16_i32_729 : BitVec 32 := 16#32
  let v1027 : BitVec 32 := Scalar.remsi v1026 c16_i32_729
  let c0_i32_731 : BitVec 32 := 0#32
  let v1029 : BitVec 1 := Scalar.cmpi .sgt v1027 c0_i32_731
  let v1030 : BitVec 32 := Scalar.extui v1029
  let c0_i32_732 : BitVec 32 := 0#32
  let v1031 : BitVec 1 := Scalar.cmpi .slt v1027 c0_i32_732
  let v1032 : BitVec 32 := Scalar.extui v1031
  let v1033 : BitVec 32 := Scalar.subi v1030 v1032
  let c4_i32_730 : BitVec 32 := 4#32
  let c0_i32_733 : BitVec 32 := 0#32
  let v1034 : BitVec 1 := Scalar.cmpi .sgt c4_i32_730 c0_i32_733
  let v1035 : BitVec 32 := Scalar.extui v1034
  let c0_i32_734 : BitVec 32 := 0#32
  let v1036 : BitVec 1 := Scalar.cmpi .slt c4_i32_730 c0_i32_734
  let v1037 : BitVec 32 := Scalar.extui v1036
  let v1038 : BitVec 32 := Scalar.subi v1035 v1037
  let v1039 : BitVec 1 := Scalar.cmpi .ne v1033 v1038
  let v1040 : BitVec 32 := Scalar.remsi v1027 c4_i32_730
  let c0_i32_735 : BitVec 32 := 0#32
  let v1041 : BitVec 1 := Scalar.cmpi .ne v1040 c0_i32_735
  let v1042 : BitVec 1 := Scalar.andi v1039 v1041
  let v1028 : BitVec 32 := Scalar.divsi v1027 c4_i32_730
  let c1_i32_736 : BitVec 32 := 1#32
  let v1043 : BitVec 32 := Scalar.subi v1028 c1_i32_736
  let v1044 : BitVec 32 := Scalar.select v1042 v1043 v1028
  let c1_i32_737 : BitVec 32 := 1#32
  let v1045 : BitVec 1 := Scalar.cmpi .eq v1044 c1_i32_737
  let v1046 : BitVec 32 := Scalar.extui v1045
  let c0_i32_742 : BitVec 32 := 0#32
  let v1047 : BitVec 1 := Scalar.cmpi .ne v1046 c0_i32_742
  v1047

def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_728 : BitVec 32 := 12#32
  let v1026 : BitVec 32 := Scalar.addi v2 c12_i32_728
  let c16_i32_729 : BitVec 32 := 16#32
  let v1027 : BitVec 32 := Scalar.remsi v1026 c16_i32_729
  let v2934 : Index := Scalar.indexCast v1027
  let c0_2432 : Index := 0#32
  let c0_2433 : Index := 0#32
  ![v2934.toNat, 0, 0]
def k0_dev42 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_88 : BitVec 32 := 12#32
  let v94 : BitVec 32 := Scalar.addi v2 c12_i32_88
  let c16_i32_89 : BitVec 32 := 16#32
  let v95 : BitVec 32 := Scalar.remsi v94 c16_i32_89
  let c1_i32_2437 : BitVec 32 := 1#32
  let v2940 : BitVec 32 := Scalar.muli v95 c1_i32_2437
  let v2941 : BitVec 32 := Scalar.addi c0_i32_2438 v2940
  v2941.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_743 : BitVec 32 := 13#32
  let v1048 : BitVec 32 := Scalar.addi v2 c13_i32_743
  let c16_i32_744 : BitVec 32 := 16#32
  let v1049 : BitVec 32 := Scalar.remsi v1048 c16_i32_744
  let c0_i32_746 : BitVec 32 := 0#32
  let v1051 : BitVec 1 := Scalar.cmpi .sgt v1049 c0_i32_746
  let v1052 : BitVec 32 := Scalar.extui v1051
  let c0_i32_747 : BitVec 32 := 0#32
  let v1053 : BitVec 1 := Scalar.cmpi .slt v1049 c0_i32_747
  let v1054 : BitVec 32 := Scalar.extui v1053
  let v1055 : BitVec 32 := Scalar.subi v1052 v1054
  let c4_i32_745 : BitVec 32 := 4#32
  let c0_i32_748 : BitVec 32 := 0#32
  let v1056 : BitVec 1 := Scalar.cmpi .sgt c4_i32_745 c0_i32_748
  let v1057 : BitVec 32 := Scalar.extui v1056
  let c0_i32_749 : BitVec 32 := 0#32
  let v1058 : BitVec 1 := Scalar.cmpi .slt c4_i32_745 c0_i32_749
  let v1059 : BitVec 32 := Scalar.extui v1058
  let v1060 : BitVec 32 := Scalar.subi v1057 v1059
  let v1061 : BitVec 1 := Scalar.cmpi .ne v1055 v1060
  let v1062 : BitVec 32 := Scalar.remsi v1049 c4_i32_745
  let c0_i32_750 : BitVec 32 := 0#32
  let v1063 : BitVec 1 := Scalar.cmpi .ne v1062 c0_i32_750
  let v1064 : BitVec 1 := Scalar.andi v1061 v1063
  let v1050 : BitVec 32 := Scalar.divsi v1049 c4_i32_745
  let c1_i32_751 : BitVec 32 := 1#32
  let v1065 : BitVec 32 := Scalar.subi v1050 c1_i32_751
  let v1066 : BitVec 32 := Scalar.select v1064 v1065 v1050
  let c1_i32_752 : BitVec 32 := 1#32
  let v1067 : BitVec 1 := Scalar.cmpi .eq v1066 c1_i32_752
  let v1068 : BitVec 32 := Scalar.extui v1067
  let c0_i32_757 : BitVec 32 := 0#32
  let v1069 : BitVec 1 := Scalar.cmpi .ne v1068 c0_i32_757
  v1069

def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_743 : BitVec 32 := 13#32
  let v1048 : BitVec 32 := Scalar.addi v2 c13_i32_743
  let c16_i32_744 : BitVec 32 := 16#32
  let v1049 : BitVec 32 := Scalar.remsi v1048 c16_i32_744
  let v2934 : Index := Scalar.indexCast v1049
  let c0_2432 : Index := 0#32
  let c0_2433 : Index := 0#32
  ![v2934.toNat, 0, 0]
def k0_dev43 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_90 : BitVec 32 := 13#32
  let v96 : BitVec 32 := Scalar.addi v2 c13_i32_90
  let c16_i32_91 : BitVec 32 := 16#32
  let v97 : BitVec 32 := Scalar.remsi v96 c16_i32_91
  let c1_i32_2437 : BitVec 32 := 1#32
  let v2940 : BitVec 32 := Scalar.muli v97 c1_i32_2437
  let v2941 : BitVec 32 := Scalar.addi c0_i32_2438 v2940
  v2941.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_758 : BitVec 32 := 14#32
  let v1070 : BitVec 32 := Scalar.addi v2 c14_i32_758
  let c16_i32_759 : BitVec 32 := 16#32
  let v1071 : BitVec 32 := Scalar.remsi v1070 c16_i32_759
  let c0_i32_761 : BitVec 32 := 0#32
  let v1073 : BitVec 1 := Scalar.cmpi .sgt v1071 c0_i32_761
  let v1074 : BitVec 32 := Scalar.extui v1073
  let c0_i32_762 : BitVec 32 := 0#32
  let v1075 : BitVec 1 := Scalar.cmpi .slt v1071 c0_i32_762
  let v1076 : BitVec 32 := Scalar.extui v1075
  let v1077 : BitVec 32 := Scalar.subi v1074 v1076
  let c4_i32_760 : BitVec 32 := 4#32
  let c0_i32_763 : BitVec 32 := 0#32
  let v1078 : BitVec 1 := Scalar.cmpi .sgt c4_i32_760 c0_i32_763
  let v1079 : BitVec 32 := Scalar.extui v1078
  let c0_i32_764 : BitVec 32 := 0#32
  let v1080 : BitVec 1 := Scalar.cmpi .slt c4_i32_760 c0_i32_764
  let v1081 : BitVec 32 := Scalar.extui v1080
  let v1082 : BitVec 32 := Scalar.subi v1079 v1081
  let v1083 : BitVec 1 := Scalar.cmpi .ne v1077 v1082
  let v1084 : BitVec 32 := Scalar.remsi v1071 c4_i32_760
  let c0_i32_765 : BitVec 32 := 0#32
  let v1085 : BitVec 1 := Scalar.cmpi .ne v1084 c0_i32_765
  let v1086 : BitVec 1 := Scalar.andi v1083 v1085
  let v1072 : BitVec 32 := Scalar.divsi v1071 c4_i32_760
  let c1_i32_766 : BitVec 32 := 1#32
  let v1087 : BitVec 32 := Scalar.subi v1072 c1_i32_766
  let v1088 : BitVec 32 := Scalar.select v1086 v1087 v1072
  let c1_i32_767 : BitVec 32 := 1#32
  let v1089 : BitVec 1 := Scalar.cmpi .eq v1088 c1_i32_767
  let v1090 : BitVec 32 := Scalar.extui v1089
  let c0_i32_772 : BitVec 32 := 0#32
  let v1091 : BitVec 1 := Scalar.cmpi .ne v1090 c0_i32_772
  v1091

def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_758 : BitVec 32 := 14#32
  let v1070 : BitVec 32 := Scalar.addi v2 c14_i32_758
  let c16_i32_759 : BitVec 32 := 16#32
  let v1071 : BitVec 32 := Scalar.remsi v1070 c16_i32_759
  let v2934 : Index := Scalar.indexCast v1071
  let c0_2432 : Index := 0#32
  let c0_2433 : Index := 0#32
  ![v2934.toNat, 0, 0]
def k0_dev44 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_92 : BitVec 32 := 14#32
  let v98 : BitVec 32 := Scalar.addi v2 c14_i32_92
  let c16_i32_93 : BitVec 32 := 16#32
  let v99 : BitVec 32 := Scalar.remsi v98 c16_i32_93
  let c1_i32_2437 : BitVec 32 := 1#32
  let v2940 : BitVec 32 := Scalar.muli v99 c1_i32_2437
  let v2941 : BitVec 32 := Scalar.addi c0_i32_2438 v2940
  v2941.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_773 : BitVec 32 := 15#32
  let v1092 : BitVec 32 := Scalar.addi v2 c15_i32_773
  let c16_i32_774 : BitVec 32 := 16#32
  let v1093 : BitVec 32 := Scalar.remsi v1092 c16_i32_774
  let c0_i32_776 : BitVec 32 := 0#32
  let v1095 : BitVec 1 := Scalar.cmpi .sgt v1093 c0_i32_776
  let v1096 : BitVec 32 := Scalar.extui v1095
  let c0_i32_777 : BitVec 32 := 0#32
  let v1097 : BitVec 1 := Scalar.cmpi .slt v1093 c0_i32_777
  let v1098 : BitVec 32 := Scalar.extui v1097
  let v1099 : BitVec 32 := Scalar.subi v1096 v1098
  let c4_i32_775 : BitVec 32 := 4#32
  let c0_i32_778 : BitVec 32 := 0#32
  let v1100 : BitVec 1 := Scalar.cmpi .sgt c4_i32_775 c0_i32_778
  let v1101 : BitVec 32 := Scalar.extui v1100
  let c0_i32_779 : BitVec 32 := 0#32
  let v1102 : BitVec 1 := Scalar.cmpi .slt c4_i32_775 c0_i32_779
  let v1103 : BitVec 32 := Scalar.extui v1102
  let v1104 : BitVec 32 := Scalar.subi v1101 v1103
  let v1105 : BitVec 1 := Scalar.cmpi .ne v1099 v1104
  let v1106 : BitVec 32 := Scalar.remsi v1093 c4_i32_775
  let c0_i32_780 : BitVec 32 := 0#32
  let v1107 : BitVec 1 := Scalar.cmpi .ne v1106 c0_i32_780
  let v1108 : BitVec 1 := Scalar.andi v1105 v1107
  let v1094 : BitVec 32 := Scalar.divsi v1093 c4_i32_775
  let c1_i32_781 : BitVec 32 := 1#32
  let v1109 : BitVec 32 := Scalar.subi v1094 c1_i32_781
  let v1110 : BitVec 32 := Scalar.select v1108 v1109 v1094
  let c1_i32_782 : BitVec 32 := 1#32
  let v1111 : BitVec 1 := Scalar.cmpi .eq v1110 c1_i32_782
  let v1112 : BitVec 32 := Scalar.extui v1111
  let c0_i32_787 : BitVec 32 := 0#32
  let v1113 : BitVec 1 := Scalar.cmpi .ne v1112 c0_i32_787
  v1113

def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_773 : BitVec 32 := 15#32
  let v1092 : BitVec 32 := Scalar.addi v2 c15_i32_773
  let c16_i32_774 : BitVec 32 := 16#32
  let v1093 : BitVec 32 := Scalar.remsi v1092 c16_i32_774
  let v2934 : Index := Scalar.indexCast v1093
  let c0_2432 : Index := 0#32
  let c0_2433 : Index := 0#32
  ![v2934.toNat, 0, 0]
def k0_dev45 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_94 : BitVec 32 := 15#32
  let v100 : BitVec 32 := Scalar.addi v2 c15_i32_94
  let c16_i32_95 : BitVec 32 := 16#32
  let v101 : BitVec 32 := Scalar.remsi v100 c16_i32_95
  let c1_i32_2437 : BitVec 32 := 1#32
  let v2940 : BitVec 32 := Scalar.muli v101 c1_i32_2437
  let v2941 : BitVec 32 := Scalar.addi c0_i32_2438 v2940
  v2941.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_915 : BitVec 32 := 1#32
  let v1290 : BitVec 32 := Scalar.addi v2 c1_i32_915
  let c16_i32_916 : BitVec 32 := 16#32
  let v1291 : BitVec 32 := Scalar.remsi v1290 c16_i32_916
  let c0_i32_918 : BitVec 32 := 0#32
  let v1293 : BitVec 1 := Scalar.cmpi .sgt v1291 c0_i32_918
  let v1294 : BitVec 32 := Scalar.extui v1293
  let c0_i32_919 : BitVec 32 := 0#32
  let v1295 : BitVec 1 := Scalar.cmpi .slt v1291 c0_i32_919
  let v1296 : BitVec 32 := Scalar.extui v1295
  let v1297 : BitVec 32 := Scalar.subi v1294 v1296
  let c4_i32_917 : BitVec 32 := 4#32
  let c0_i32_920 : BitVec 32 := 0#32
  let v1298 : BitVec 1 := Scalar.cmpi .sgt c4_i32_917 c0_i32_920
  let v1299 : BitVec 32 := Scalar.extui v1298
  let c0_i32_921 : BitVec 32 := 0#32
  let v1300 : BitVec 1 := Scalar.cmpi .slt c4_i32_917 c0_i32_921
  let v1301 : BitVec 32 := Scalar.extui v1300
  let v1302 : BitVec 32 := Scalar.subi v1299 v1301
  let v1303 : BitVec 1 := Scalar.cmpi .ne v1297 v1302
  let v1304 : BitVec 32 := Scalar.remsi v1291 c4_i32_917
  let c0_i32_922 : BitVec 32 := 0#32
  let v1305 : BitVec 1 := Scalar.cmpi .ne v1304 c0_i32_922
  let v1306 : BitVec 1 := Scalar.andi v1303 v1305
  let v1292 : BitVec 32 := Scalar.divsi v1291 c4_i32_917
  let c1_i32_923 : BitVec 32 := 1#32
  let v1307 : BitVec 32 := Scalar.subi v1292 c1_i32_923
  let v1308 : BitVec 32 := Scalar.select v1306 v1307 v1292
  let c2_i32_924 : BitVec 32 := 2#32
  let v1309 : BitVec 1 := Scalar.cmpi .eq v1308 c2_i32_924
  let v1310 : BitVec 32 := Scalar.extui v1309
  let c0_i32_929 : BitVec 32 := 0#32
  let v1311 : BitVec 1 := Scalar.cmpi .ne v1310 c0_i32_929
  v1311

def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_915 : BitVec 32 := 1#32
  let v1290 : BitVec 32 := Scalar.addi v2 c1_i32_915
  let c16_i32_916 : BitVec 32 := 16#32
  let v1291 : BitVec 32 := Scalar.remsi v1290 c16_i32_916
  let v2934 : Index := Scalar.indexCast v1291
  let c0_2432 : Index := 0#32
  let c0_2433 : Index := 0#32
  ![v2934.toNat, 0, 0]
def k0_dev46 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v72 : BitVec 32 := Scalar.addi v2 c1_i32_66
  let c16_i32_67 : BitVec 32 := 16#32
  let v73 : BitVec 32 := Scalar.remsi v72 c16_i32_67
  let c1_i32_2437 : BitVec 32 := 1#32
  let v2940 : BitVec 32 := Scalar.muli v73 c1_i32_2437
  let v2941 : BitVec 32 := Scalar.addi c0_i32_2438 v2940
  v2941.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_930 : BitVec 32 := 2#32
  let v1312 : BitVec 32 := Scalar.addi v2 c2_i32_930
  let c16_i32_931 : BitVec 32 := 16#32
  let v1313 : BitVec 32 := Scalar.remsi v1312 c16_i32_931
  let c0_i32_933 : BitVec 32 := 0#32
  let v1315 : BitVec 1 := Scalar.cmpi .sgt v1313 c0_i32_933
  let v1316 : BitVec 32 := Scalar.extui v1315
  let c0_i32_934 : BitVec 32 := 0#32
  let v1317 : BitVec 1 := Scalar.cmpi .slt v1313 c0_i32_934
  let v1318 : BitVec 32 := Scalar.extui v1317
  let v1319 : BitVec 32 := Scalar.subi v1316 v1318
  let c4_i32_932 : BitVec 32 := 4#32
  let c0_i32_935 : BitVec 32 := 0#32
  let v1320 : BitVec 1 := Scalar.cmpi .sgt c4_i32_932 c0_i32_935
  let v1321 : BitVec 32 := Scalar.extui v1320
  let c0_i32_936 : BitVec 32 := 0#32
  let v1322 : BitVec 1 := Scalar.cmpi .slt c4_i32_932 c0_i32_936
  let v1323 : BitVec 32 := Scalar.extui v1322
  let v1324 : BitVec 32 := Scalar.subi v1321 v1323
  let v1325 : BitVec 1 := Scalar.cmpi .ne v1319 v1324
  let v1326 : BitVec 32 := Scalar.remsi v1313 c4_i32_932
  let c0_i32_937 : BitVec 32 := 0#32
  let v1327 : BitVec 1 := Scalar.cmpi .ne v1326 c0_i32_937
  let v1328 : BitVec 1 := Scalar.andi v1325 v1327
  let v1314 : BitVec 32 := Scalar.divsi v1313 c4_i32_932
  let c1_i32_938 : BitVec 32 := 1#32
  let v1329 : BitVec 32 := Scalar.subi v1314 c1_i32_938
  let v1330 : BitVec 32 := Scalar.select v1328 v1329 v1314
  let c2_i32_939 : BitVec 32 := 2#32
  let v1331 : BitVec 1 := Scalar.cmpi .eq v1330 c2_i32_939
  let v1332 : BitVec 32 := Scalar.extui v1331
  let c0_i32_944 : BitVec 32 := 0#32
  let v1333 : BitVec 1 := Scalar.cmpi .ne v1332 c0_i32_944
  v1333

def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_930 : BitVec 32 := 2#32
  let v1312 : BitVec 32 := Scalar.addi v2 c2_i32_930
  let c16_i32_931 : BitVec 32 := 16#32
  let v1313 : BitVec 32 := Scalar.remsi v1312 c16_i32_931
  let v2934 : Index := Scalar.indexCast v1313
  let c0_2432 : Index := 0#32
  let c0_2433 : Index := 0#32
  ![v2934.toNat, 0, 0]
def k0_dev47 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_68 : BitVec 32 := 2#32
  let v74 : BitVec 32 := Scalar.addi v2 c2_i32_68
  let c16_i32_69 : BitVec 32 := 16#32
  let v75 : BitVec 32 := Scalar.remsi v74 c16_i32_69
  let c1_i32_2437 : BitVec 32 := 1#32
  let v2940 : BitVec 32 := Scalar.muli v75 c1_i32_2437
  let v2941 : BitVec 32 := Scalar.addi c0_i32_2438 v2940
  v2941.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_945 : BitVec 32 := 3#32
  let v1334 : BitVec 32 := Scalar.addi v2 c3_i32_945
  let c16_i32_946 : BitVec 32 := 16#32
  let v1335 : BitVec 32 := Scalar.remsi v1334 c16_i32_946
  let c0_i32_948 : BitVec 32 := 0#32
  let v1337 : BitVec 1 := Scalar.cmpi .sgt v1335 c0_i32_948
  let v1338 : BitVec 32 := Scalar.extui v1337
  let c0_i32_949 : BitVec 32 := 0#32
  let v1339 : BitVec 1 := Scalar.cmpi .slt v1335 c0_i32_949
  let v1340 : BitVec 32 := Scalar.extui v1339
  let v1341 : BitVec 32 := Scalar.subi v1338 v1340
  let c4_i32_947 : BitVec 32 := 4#32
  let c0_i32_950 : BitVec 32 := 0#32
  let v1342 : BitVec 1 := Scalar.cmpi .sgt c4_i32_947 c0_i32_950
  let v1343 : BitVec 32 := Scalar.extui v1342
  let c0_i32_951 : BitVec 32 := 0#32
  let v1344 : BitVec 1 := Scalar.cmpi .slt c4_i32_947 c0_i32_951
  let v1345 : BitVec 32 := Scalar.extui v1344
  let v1346 : BitVec 32 := Scalar.subi v1343 v1345
  let v1347 : BitVec 1 := Scalar.cmpi .ne v1341 v1346
  let v1348 : BitVec 32 := Scalar.remsi v1335 c4_i32_947
  let c0_i32_952 : BitVec 32 := 0#32
  let v1349 : BitVec 1 := Scalar.cmpi .ne v1348 c0_i32_952
  let v1350 : BitVec 1 := Scalar.andi v1347 v1349
  let v1336 : BitVec 32 := Scalar.divsi v1335 c4_i32_947
  let c1_i32_953 : BitVec 32 := 1#32
  let v1351 : BitVec 32 := Scalar.subi v1336 c1_i32_953
  let v1352 : BitVec 32 := Scalar.select v1350 v1351 v1336
  let c2_i32_954 : BitVec 32 := 2#32
  let v1353 : BitVec 1 := Scalar.cmpi .eq v1352 c2_i32_954
  let v1354 : BitVec 32 := Scalar.extui v1353
  let c0_i32_959 : BitVec 32 := 0#32
  let v1355 : BitVec 1 := Scalar.cmpi .ne v1354 c0_i32_959
  v1355

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_945 : BitVec 32 := 3#32
  let v1334 : BitVec 32 := Scalar.addi v2 c3_i32_945
  let c16_i32_946 : BitVec 32 := 16#32
  let v1335 : BitVec 32 := Scalar.remsi v1334 c16_i32_946
  let v2934 : Index := Scalar.indexCast v1335
  let c0_2432 : Index := 0#32
  let c0_2433 : Index := 0#32
  ![v2934.toNat, 0, 0]
def k0_dev48 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_70 : BitVec 32 := 3#32
  let v76 : BitVec 32 := Scalar.addi v2 c3_i32_70
  let c16_i32_71 : BitVec 32 := 16#32
  let v77 : BitVec 32 := Scalar.remsi v76 c16_i32_71
  let c1_i32_2437 : BitVec 32 := 1#32
  let v2940 : BitVec 32 := Scalar.muli v77 c1_i32_2437
  let v2941 : BitVec 32 := Scalar.addi c0_i32_2438 v2940
  v2941.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_960 : BitVec 32 := 4#32
  let v1356 : BitVec 32 := Scalar.addi v2 c4_i32_960
  let c16_i32_961 : BitVec 32 := 16#32
  let v1357 : BitVec 32 := Scalar.remsi v1356 c16_i32_961
  let c0_i32_963 : BitVec 32 := 0#32
  let v1359 : BitVec 1 := Scalar.cmpi .sgt v1357 c0_i32_963
  let v1360 : BitVec 32 := Scalar.extui v1359
  let c0_i32_964 : BitVec 32 := 0#32
  let v1361 : BitVec 1 := Scalar.cmpi .slt v1357 c0_i32_964
  let v1362 : BitVec 32 := Scalar.extui v1361
  let v1363 : BitVec 32 := Scalar.subi v1360 v1362
  let c4_i32_962 : BitVec 32 := 4#32
  let c0_i32_965 : BitVec 32 := 0#32
  let v1364 : BitVec 1 := Scalar.cmpi .sgt c4_i32_962 c0_i32_965
  let v1365 : BitVec 32 := Scalar.extui v1364
  let c0_i32_966 : BitVec 32 := 0#32
  let v1366 : BitVec 1 := Scalar.cmpi .slt c4_i32_962 c0_i32_966
  let v1367 : BitVec 32 := Scalar.extui v1366
  let v1368 : BitVec 32 := Scalar.subi v1365 v1367
  let v1369 : BitVec 1 := Scalar.cmpi .ne v1363 v1368
  let v1370 : BitVec 32 := Scalar.remsi v1357 c4_i32_962
  let c0_i32_967 : BitVec 32 := 0#32
  let v1371 : BitVec 1 := Scalar.cmpi .ne v1370 c0_i32_967
  let v1372 : BitVec 1 := Scalar.andi v1369 v1371
  let v1358 : BitVec 32 := Scalar.divsi v1357 c4_i32_962
  let c1_i32_968 : BitVec 32 := 1#32
  let v1373 : BitVec 32 := Scalar.subi v1358 c1_i32_968
  let v1374 : BitVec 32 := Scalar.select v1372 v1373 v1358
  let c2_i32_969 : BitVec 32 := 2#32
  let v1375 : BitVec 1 := Scalar.cmpi .eq v1374 c2_i32_969
  let v1376 : BitVec 32 := Scalar.extui v1375
  let c0_i32_974 : BitVec 32 := 0#32
  let v1377 : BitVec 1 := Scalar.cmpi .ne v1376 c0_i32_974
  v1377

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_960 : BitVec 32 := 4#32
  let v1356 : BitVec 32 := Scalar.addi v2 c4_i32_960
  let c16_i32_961 : BitVec 32 := 16#32
  let v1357 : BitVec 32 := Scalar.remsi v1356 c16_i32_961
  let v2934 : Index := Scalar.indexCast v1357
  let c0_2432 : Index := 0#32
  let c0_2433 : Index := 0#32
  ![v2934.toNat, 0, 0]
def k0_dev49 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_72 : BitVec 32 := 4#32
  let v78 : BitVec 32 := Scalar.addi v2 c4_i32_72
  let c16_i32_73 : BitVec 32 := 16#32
  let v79 : BitVec 32 := Scalar.remsi v78 c16_i32_73
  let c1_i32_2437 : BitVec 32 := 1#32
  let v2940 : BitVec 32 := Scalar.muli v79 c1_i32_2437
  let v2941 : BitVec 32 := Scalar.addi c0_i32_2438 v2940
  v2941.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_975 : BitVec 32 := 5#32
  let v1378 : BitVec 32 := Scalar.addi v2 c5_i32_975
  let c16_i32_976 : BitVec 32 := 16#32
  let v1379 : BitVec 32 := Scalar.remsi v1378 c16_i32_976
  let c0_i32_978 : BitVec 32 := 0#32
  let v1381 : BitVec 1 := Scalar.cmpi .sgt v1379 c0_i32_978
  let v1382 : BitVec 32 := Scalar.extui v1381
  let c0_i32_979 : BitVec 32 := 0#32
  let v1383 : BitVec 1 := Scalar.cmpi .slt v1379 c0_i32_979
  let v1384 : BitVec 32 := Scalar.extui v1383
  let v1385 : BitVec 32 := Scalar.subi v1382 v1384
  let c4_i32_977 : BitVec 32 := 4#32
  let c0_i32_980 : BitVec 32 := 0#32
  let v1386 : BitVec 1 := Scalar.cmpi .sgt c4_i32_977 c0_i32_980
  let v1387 : BitVec 32 := Scalar.extui v1386
  let c0_i32_981 : BitVec 32 := 0#32
  let v1388 : BitVec 1 := Scalar.cmpi .slt c4_i32_977 c0_i32_981
  let v1389 : BitVec 32 := Scalar.extui v1388
  let v1390 : BitVec 32 := Scalar.subi v1387 v1389
  let v1391 : BitVec 1 := Scalar.cmpi .ne v1385 v1390
  let v1392 : BitVec 32 := Scalar.remsi v1379 c4_i32_977
  let c0_i32_982 : BitVec 32 := 0#32
  let v1393 : BitVec 1 := Scalar.cmpi .ne v1392 c0_i32_982
  let v1394 : BitVec 1 := Scalar.andi v1391 v1393
  let v1380 : BitVec 32 := Scalar.divsi v1379 c4_i32_977
  let c1_i32_983 : BitVec 32 := 1#32
  let v1395 : BitVec 32 := Scalar.subi v1380 c1_i32_983
  let v1396 : BitVec 32 := Scalar.select v1394 v1395 v1380
  let c2_i32_984 : BitVec 32 := 2#32
  let v1397 : BitVec 1 := Scalar.cmpi .eq v1396 c2_i32_984
  let v1398 : BitVec 32 := Scalar.extui v1397
  let c0_i32_989 : BitVec 32 := 0#32
  let v1399 : BitVec 1 := Scalar.cmpi .ne v1398 c0_i32_989
  v1399

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_975 : BitVec 32 := 5#32
  let v1378 : BitVec 32 := Scalar.addi v2 c5_i32_975
  let c16_i32_976 : BitVec 32 := 16#32
  let v1379 : BitVec 32 := Scalar.remsi v1378 c16_i32_976
  let v2934 : Index := Scalar.indexCast v1379
  let c0_2432 : Index := 0#32
  let c0_2433 : Index := 0#32
  ![v2934.toNat, 0, 0]
def k0_dev50 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_74 : BitVec 32 := 5#32
  let v80 : BitVec 32 := Scalar.addi v2 c5_i32_74
  let c16_i32_75 : BitVec 32 := 16#32
  let v81 : BitVec 32 := Scalar.remsi v80 c16_i32_75
  let c1_i32_2437 : BitVec 32 := 1#32
  let v2940 : BitVec 32 := Scalar.muli v81 c1_i32_2437
  let v2941 : BitVec 32 := Scalar.addi c0_i32_2438 v2940
  v2941.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_990 : BitVec 32 := 6#32
  let v1400 : BitVec 32 := Scalar.addi v2 c6_i32_990
  let c16_i32_991 : BitVec 32 := 16#32
  let v1401 : BitVec 32 := Scalar.remsi v1400 c16_i32_991
  let c0_i32_993 : BitVec 32 := 0#32
  let v1403 : BitVec 1 := Scalar.cmpi .sgt v1401 c0_i32_993
  let v1404 : BitVec 32 := Scalar.extui v1403
  let c0_i32_994 : BitVec 32 := 0#32
  let v1405 : BitVec 1 := Scalar.cmpi .slt v1401 c0_i32_994
  let v1406 : BitVec 32 := Scalar.extui v1405
  let v1407 : BitVec 32 := Scalar.subi v1404 v1406
  let c4_i32_992 : BitVec 32 := 4#32
  let c0_i32_995 : BitVec 32 := 0#32
  let v1408 : BitVec 1 := Scalar.cmpi .sgt c4_i32_992 c0_i32_995
  let v1409 : BitVec 32 := Scalar.extui v1408
  let c0_i32_996 : BitVec 32 := 0#32
  let v1410 : BitVec 1 := Scalar.cmpi .slt c4_i32_992 c0_i32_996
  let v1411 : BitVec 32 := Scalar.extui v1410
  let v1412 : BitVec 32 := Scalar.subi v1409 v1411
  let v1413 : BitVec 1 := Scalar.cmpi .ne v1407 v1412
  let v1414 : BitVec 32 := Scalar.remsi v1401 c4_i32_992
  let c0_i32_997 : BitVec 32 := 0#32
  let v1415 : BitVec 1 := Scalar.cmpi .ne v1414 c0_i32_997
  let v1416 : BitVec 1 := Scalar.andi v1413 v1415
  let v1402 : BitVec 32 := Scalar.divsi v1401 c4_i32_992
  let c1_i32_998 : BitVec 32 := 1#32
  let v1417 : BitVec 32 := Scalar.subi v1402 c1_i32_998
  let v1418 : BitVec 32 := Scalar.select v1416 v1417 v1402
  let c2_i32_999 : BitVec 32 := 2#32
  let v1419 : BitVec 1 := Scalar.cmpi .eq v1418 c2_i32_999
  let v1420 : BitVec 32 := Scalar.extui v1419
  let c0_i32_1004 : BitVec 32 := 0#32
  let v1421 : BitVec 1 := Scalar.cmpi .ne v1420 c0_i32_1004
  v1421

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_990 : BitVec 32 := 6#32
  let v1400 : BitVec 32 := Scalar.addi v2 c6_i32_990
  let c16_i32_991 : BitVec 32 := 16#32
  let v1401 : BitVec 32 := Scalar.remsi v1400 c16_i32_991
  let v2934 : Index := Scalar.indexCast v1401
  let c0_2432 : Index := 0#32
  let c0_2433 : Index := 0#32
  ![v2934.toNat, 0, 0]
def k0_dev51 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_76 : BitVec 32 := 6#32
  let v82 : BitVec 32 := Scalar.addi v2 c6_i32_76
  let c16_i32_77 : BitVec 32 := 16#32
  let v83 : BitVec 32 := Scalar.remsi v82 c16_i32_77
  let c1_i32_2437 : BitVec 32 := 1#32
  let v2940 : BitVec 32 := Scalar.muli v83 c1_i32_2437
  let v2941 : BitVec 32 := Scalar.addi c0_i32_2438 v2940
  v2941.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1005 : BitVec 32 := 7#32
  let v1422 : BitVec 32 := Scalar.addi v2 c7_i32_1005
  let c16_i32_1006 : BitVec 32 := 16#32
  let v1423 : BitVec 32 := Scalar.remsi v1422 c16_i32_1006
  let c0_i32_1008 : BitVec 32 := 0#32
  let v1425 : BitVec 1 := Scalar.cmpi .sgt v1423 c0_i32_1008
  let v1426 : BitVec 32 := Scalar.extui v1425
  let c0_i32_1009 : BitVec 32 := 0#32
  let v1427 : BitVec 1 := Scalar.cmpi .slt v1423 c0_i32_1009
  let v1428 : BitVec 32 := Scalar.extui v1427
  let v1429 : BitVec 32 := Scalar.subi v1426 v1428
  let c4_i32_1007 : BitVec 32 := 4#32
  let c0_i32_1010 : BitVec 32 := 0#32
  let v1430 : BitVec 1 := Scalar.cmpi .sgt c4_i32_1007 c0_i32_1010
  let v1431 : BitVec 32 := Scalar.extui v1430
  let c0_i32_1011 : BitVec 32 := 0#32
  let v1432 : BitVec 1 := Scalar.cmpi .slt c4_i32_1007 c0_i32_1011
  let v1433 : BitVec 32 := Scalar.extui v1432
  let v1434 : BitVec 32 := Scalar.subi v1431 v1433
  let v1435 : BitVec 1 := Scalar.cmpi .ne v1429 v1434
  let v1436 : BitVec 32 := Scalar.remsi v1423 c4_i32_1007
  let c0_i32_1012 : BitVec 32 := 0#32
  let v1437 : BitVec 1 := Scalar.cmpi .ne v1436 c0_i32_1012
  let v1438 : BitVec 1 := Scalar.andi v1435 v1437
  let v1424 : BitVec 32 := Scalar.divsi v1423 c4_i32_1007
  let c1_i32_1013 : BitVec 32 := 1#32
  let v1439 : BitVec 32 := Scalar.subi v1424 c1_i32_1013
  let v1440 : BitVec 32 := Scalar.select v1438 v1439 v1424
  let c2_i32_1014 : BitVec 32 := 2#32
  let v1441 : BitVec 1 := Scalar.cmpi .eq v1440 c2_i32_1014
  let v1442 : BitVec 32 := Scalar.extui v1441
  let c0_i32_1019 : BitVec 32 := 0#32
  let v1443 : BitVec 1 := Scalar.cmpi .ne v1442 c0_i32_1019
  v1443

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1005 : BitVec 32 := 7#32
  let v1422 : BitVec 32 := Scalar.addi v2 c7_i32_1005
  let c16_i32_1006 : BitVec 32 := 16#32
  let v1423 : BitVec 32 := Scalar.remsi v1422 c16_i32_1006
  let v2934 : Index := Scalar.indexCast v1423
  let c0_2432 : Index := 0#32
  let c0_2433 : Index := 0#32
  ![v2934.toNat, 0, 0]
def k0_dev52 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v84 : BitVec 32 := Scalar.addi v2 c7_i32_78
  let c16_i32_79 : BitVec 32 := 16#32
  let v85 : BitVec 32 := Scalar.remsi v84 c16_i32_79
  let c1_i32_2437 : BitVec 32 := 1#32
  let v2940 : BitVec 32 := Scalar.muli v85 c1_i32_2437
  let v2941 : BitVec 32 := Scalar.addi c0_i32_2438 v2940
  v2941.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1020 : BitVec 32 := 8#32
  let v1444 : BitVec 32 := Scalar.addi v2 c8_i32_1020
  let c16_i32_1021 : BitVec 32 := 16#32
  let v1445 : BitVec 32 := Scalar.remsi v1444 c16_i32_1021
  let c0_i32_1023 : BitVec 32 := 0#32
  let v1447 : BitVec 1 := Scalar.cmpi .sgt v1445 c0_i32_1023
  let v1448 : BitVec 32 := Scalar.extui v1447
  let c0_i32_1024 : BitVec 32 := 0#32
  let v1449 : BitVec 1 := Scalar.cmpi .slt v1445 c0_i32_1024
  let v1450 : BitVec 32 := Scalar.extui v1449
  let v1451 : BitVec 32 := Scalar.subi v1448 v1450
  let c4_i32_1022 : BitVec 32 := 4#32
  let c0_i32_1025 : BitVec 32 := 0#32
  let v1452 : BitVec 1 := Scalar.cmpi .sgt c4_i32_1022 c0_i32_1025
  let v1453 : BitVec 32 := Scalar.extui v1452
  let c0_i32_1026 : BitVec 32 := 0#32
  let v1454 : BitVec 1 := Scalar.cmpi .slt c4_i32_1022 c0_i32_1026
  let v1455 : BitVec 32 := Scalar.extui v1454
  let v1456 : BitVec 32 := Scalar.subi v1453 v1455
  let v1457 : BitVec 1 := Scalar.cmpi .ne v1451 v1456
  let v1458 : BitVec 32 := Scalar.remsi v1445 c4_i32_1022
  let c0_i32_1027 : BitVec 32 := 0#32
  let v1459 : BitVec 1 := Scalar.cmpi .ne v1458 c0_i32_1027
  let v1460 : BitVec 1 := Scalar.andi v1457 v1459
  let v1446 : BitVec 32 := Scalar.divsi v1445 c4_i32_1022
  let c1_i32_1028 : BitVec 32 := 1#32
  let v1461 : BitVec 32 := Scalar.subi v1446 c1_i32_1028
  let v1462 : BitVec 32 := Scalar.select v1460 v1461 v1446
  let c2_i32_1029 : BitVec 32 := 2#32
  let v1463 : BitVec 1 := Scalar.cmpi .eq v1462 c2_i32_1029
  let v1464 : BitVec 32 := Scalar.extui v1463
  let c0_i32_1034 : BitVec 32 := 0#32
  let v1465 : BitVec 1 := Scalar.cmpi .ne v1464 c0_i32_1034
  v1465

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1020 : BitVec 32 := 8#32
  let v1444 : BitVec 32 := Scalar.addi v2 c8_i32_1020
  let c16_i32_1021 : BitVec 32 := 16#32
  let v1445 : BitVec 32 := Scalar.remsi v1444 c16_i32_1021
  let v2934 : Index := Scalar.indexCast v1445
  let c0_2432 : Index := 0#32
  let c0_2433 : Index := 0#32
  ![v2934.toNat, 0, 0]
def k0_dev53 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_80 : BitVec 32 := 8#32
  let v86 : BitVec 32 := Scalar.addi v2 c8_i32_80
  let c16_i32_81 : BitVec 32 := 16#32
  let v87 : BitVec 32 := Scalar.remsi v86 c16_i32_81
  let c1_i32_2437 : BitVec 32 := 1#32
  let v2940 : BitVec 32 := Scalar.muli v87 c1_i32_2437
  let v2941 : BitVec 32 := Scalar.addi c0_i32_2438 v2940
  v2941.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1035 : BitVec 32 := 9#32
  let v1466 : BitVec 32 := Scalar.addi v2 c9_i32_1035
  let c16_i32_1036 : BitVec 32 := 16#32
  let v1467 : BitVec 32 := Scalar.remsi v1466 c16_i32_1036
  let c0_i32_1038 : BitVec 32 := 0#32
  let v1469 : BitVec 1 := Scalar.cmpi .sgt v1467 c0_i32_1038
  let v1470 : BitVec 32 := Scalar.extui v1469
  let c0_i32_1039 : BitVec 32 := 0#32
  let v1471 : BitVec 1 := Scalar.cmpi .slt v1467 c0_i32_1039
  let v1472 : BitVec 32 := Scalar.extui v1471
  let v1473 : BitVec 32 := Scalar.subi v1470 v1472
  let c4_i32_1037 : BitVec 32 := 4#32
  let c0_i32_1040 : BitVec 32 := 0#32
  let v1474 : BitVec 1 := Scalar.cmpi .sgt c4_i32_1037 c0_i32_1040
  let v1475 : BitVec 32 := Scalar.extui v1474
  let c0_i32_1041 : BitVec 32 := 0#32
  let v1476 : BitVec 1 := Scalar.cmpi .slt c4_i32_1037 c0_i32_1041
  let v1477 : BitVec 32 := Scalar.extui v1476
  let v1478 : BitVec 32 := Scalar.subi v1475 v1477
  let v1479 : BitVec 1 := Scalar.cmpi .ne v1473 v1478
  let v1480 : BitVec 32 := Scalar.remsi v1467 c4_i32_1037
  let c0_i32_1042 : BitVec 32 := 0#32
  let v1481 : BitVec 1 := Scalar.cmpi .ne v1480 c0_i32_1042
  let v1482 : BitVec 1 := Scalar.andi v1479 v1481
  let v1468 : BitVec 32 := Scalar.divsi v1467 c4_i32_1037
  let c1_i32_1043 : BitVec 32 := 1#32
  let v1483 : BitVec 32 := Scalar.subi v1468 c1_i32_1043
  let v1484 : BitVec 32 := Scalar.select v1482 v1483 v1468
  let c2_i32_1044 : BitVec 32 := 2#32
  let v1485 : BitVec 1 := Scalar.cmpi .eq v1484 c2_i32_1044
  let v1486 : BitVec 32 := Scalar.extui v1485
  let c0_i32_1049 : BitVec 32 := 0#32
  let v1487 : BitVec 1 := Scalar.cmpi .ne v1486 c0_i32_1049
  v1487

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1035 : BitVec 32 := 9#32
  let v1466 : BitVec 32 := Scalar.addi v2 c9_i32_1035
  let c16_i32_1036 : BitVec 32 := 16#32
  let v1467 : BitVec 32 := Scalar.remsi v1466 c16_i32_1036
  let v2934 : Index := Scalar.indexCast v1467
  let c0_2432 : Index := 0#32
  let c0_2433 : Index := 0#32
  ![v2934.toNat, 0, 0]
def k0_dev54 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_82 : BitVec 32 := 9#32
  let v88 : BitVec 32 := Scalar.addi v2 c9_i32_82
  let c16_i32_83 : BitVec 32 := 16#32
  let v89 : BitVec 32 := Scalar.remsi v88 c16_i32_83
  let c1_i32_2437 : BitVec 32 := 1#32
  let v2940 : BitVec 32 := Scalar.muli v89 c1_i32_2437
  let v2941 : BitVec 32 := Scalar.addi c0_i32_2438 v2940
  v2941.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1050 : BitVec 32 := 10#32
  let v1488 : BitVec 32 := Scalar.addi v2 c10_i32_1050
  let c16_i32_1051 : BitVec 32 := 16#32
  let v1489 : BitVec 32 := Scalar.remsi v1488 c16_i32_1051
  let c0_i32_1053 : BitVec 32 := 0#32
  let v1491 : BitVec 1 := Scalar.cmpi .sgt v1489 c0_i32_1053
  let v1492 : BitVec 32 := Scalar.extui v1491
  let c0_i32_1054 : BitVec 32 := 0#32
  let v1493 : BitVec 1 := Scalar.cmpi .slt v1489 c0_i32_1054
  let v1494 : BitVec 32 := Scalar.extui v1493
  let v1495 : BitVec 32 := Scalar.subi v1492 v1494
  let c4_i32_1052 : BitVec 32 := 4#32
  let c0_i32_1055 : BitVec 32 := 0#32
  let v1496 : BitVec 1 := Scalar.cmpi .sgt c4_i32_1052 c0_i32_1055
  let v1497 : BitVec 32 := Scalar.extui v1496
  let c0_i32_1056 : BitVec 32 := 0#32
  let v1498 : BitVec 1 := Scalar.cmpi .slt c4_i32_1052 c0_i32_1056
  let v1499 : BitVec 32 := Scalar.extui v1498
  let v1500 : BitVec 32 := Scalar.subi v1497 v1499
  let v1501 : BitVec 1 := Scalar.cmpi .ne v1495 v1500
  let v1502 : BitVec 32 := Scalar.remsi v1489 c4_i32_1052
  let c0_i32_1057 : BitVec 32 := 0#32
  let v1503 : BitVec 1 := Scalar.cmpi .ne v1502 c0_i32_1057
  let v1504 : BitVec 1 := Scalar.andi v1501 v1503
  let v1490 : BitVec 32 := Scalar.divsi v1489 c4_i32_1052
  let c1_i32_1058 : BitVec 32 := 1#32
  let v1505 : BitVec 32 := Scalar.subi v1490 c1_i32_1058
  let v1506 : BitVec 32 := Scalar.select v1504 v1505 v1490
  let c2_i32_1059 : BitVec 32 := 2#32
  let v1507 : BitVec 1 := Scalar.cmpi .eq v1506 c2_i32_1059
  let v1508 : BitVec 32 := Scalar.extui v1507
  let c0_i32_1064 : BitVec 32 := 0#32
  let v1509 : BitVec 1 := Scalar.cmpi .ne v1508 c0_i32_1064
  v1509

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1050 : BitVec 32 := 10#32
  let v1488 : BitVec 32 := Scalar.addi v2 c10_i32_1050
  let c16_i32_1051 : BitVec 32 := 16#32
  let v1489 : BitVec 32 := Scalar.remsi v1488 c16_i32_1051
  let v2934 : Index := Scalar.indexCast v1489
  let c0_2432 : Index := 0#32
  let c0_2433 : Index := 0#32
  ![v2934.toNat, 0, 0]
def k0_dev55 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_84 : BitVec 32 := 10#32
  let v90 : BitVec 32 := Scalar.addi v2 c10_i32_84
  let c16_i32_85 : BitVec 32 := 16#32
  let v91 : BitVec 32 := Scalar.remsi v90 c16_i32_85
  let c1_i32_2437 : BitVec 32 := 1#32
  let v2940 : BitVec 32 := Scalar.muli v91 c1_i32_2437
  let v2941 : BitVec 32 := Scalar.addi c0_i32_2438 v2940
  v2941.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1065 : BitVec 32 := 11#32
  let v1510 : BitVec 32 := Scalar.addi v2 c11_i32_1065
  let c16_i32_1066 : BitVec 32 := 16#32
  let v1511 : BitVec 32 := Scalar.remsi v1510 c16_i32_1066
  let c0_i32_1068 : BitVec 32 := 0#32
  let v1513 : BitVec 1 := Scalar.cmpi .sgt v1511 c0_i32_1068
  let v1514 : BitVec 32 := Scalar.extui v1513
  let c0_i32_1069 : BitVec 32 := 0#32
  let v1515 : BitVec 1 := Scalar.cmpi .slt v1511 c0_i32_1069
  let v1516 : BitVec 32 := Scalar.extui v1515
  let v1517 : BitVec 32 := Scalar.subi v1514 v1516
  let c4_i32_1067 : BitVec 32 := 4#32
  let c0_i32_1070 : BitVec 32 := 0#32
  let v1518 : BitVec 1 := Scalar.cmpi .sgt c4_i32_1067 c0_i32_1070
  let v1519 : BitVec 32 := Scalar.extui v1518
  let c0_i32_1071 : BitVec 32 := 0#32
  let v1520 : BitVec 1 := Scalar.cmpi .slt c4_i32_1067 c0_i32_1071
  let v1521 : BitVec 32 := Scalar.extui v1520
  let v1522 : BitVec 32 := Scalar.subi v1519 v1521
  let v1523 : BitVec 1 := Scalar.cmpi .ne v1517 v1522
  let v1524 : BitVec 32 := Scalar.remsi v1511 c4_i32_1067
  let c0_i32_1072 : BitVec 32 := 0#32
  let v1525 : BitVec 1 := Scalar.cmpi .ne v1524 c0_i32_1072
  let v1526 : BitVec 1 := Scalar.andi v1523 v1525
  let v1512 : BitVec 32 := Scalar.divsi v1511 c4_i32_1067
  let c1_i32_1073 : BitVec 32 := 1#32
  let v1527 : BitVec 32 := Scalar.subi v1512 c1_i32_1073
  let v1528 : BitVec 32 := Scalar.select v1526 v1527 v1512
  let c2_i32_1074 : BitVec 32 := 2#32
  let v1529 : BitVec 1 := Scalar.cmpi .eq v1528 c2_i32_1074
  let v1530 : BitVec 32 := Scalar.extui v1529
  let c0_i32_1079 : BitVec 32 := 0#32
  let v1531 : BitVec 1 := Scalar.cmpi .ne v1530 c0_i32_1079
  v1531

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1065 : BitVec 32 := 11#32
  let v1510 : BitVec 32 := Scalar.addi v2 c11_i32_1065
  let c16_i32_1066 : BitVec 32 := 16#32
  let v1511 : BitVec 32 := Scalar.remsi v1510 c16_i32_1066
  let v2934 : Index := Scalar.indexCast v1511
  let c0_2432 : Index := 0#32
  let c0_2433 : Index := 0#32
  ![v2934.toNat, 0, 0]
def k0_dev56 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_86 : BitVec 32 := 11#32
  let v92 : BitVec 32 := Scalar.addi v2 c11_i32_86
  let c16_i32_87 : BitVec 32 := 16#32
  let v93 : BitVec 32 := Scalar.remsi v92 c16_i32_87
  let c1_i32_2437 : BitVec 32 := 1#32
  let v2940 : BitVec 32 := Scalar.muli v93 c1_i32_2437
  let v2941 : BitVec 32 := Scalar.addi c0_i32_2438 v2940
  v2941.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1080 : BitVec 32 := 12#32
  let v1532 : BitVec 32 := Scalar.addi v2 c12_i32_1080
  let c16_i32_1081 : BitVec 32 := 16#32
  let v1533 : BitVec 32 := Scalar.remsi v1532 c16_i32_1081
  let c0_i32_1083 : BitVec 32 := 0#32
  let v1535 : BitVec 1 := Scalar.cmpi .sgt v1533 c0_i32_1083
  let v1536 : BitVec 32 := Scalar.extui v1535
  let c0_i32_1084 : BitVec 32 := 0#32
  let v1537 : BitVec 1 := Scalar.cmpi .slt v1533 c0_i32_1084
  let v1538 : BitVec 32 := Scalar.extui v1537
  let v1539 : BitVec 32 := Scalar.subi v1536 v1538
  let c4_i32_1082 : BitVec 32 := 4#32
  let c0_i32_1085 : BitVec 32 := 0#32
  let v1540 : BitVec 1 := Scalar.cmpi .sgt c4_i32_1082 c0_i32_1085
  let v1541 : BitVec 32 := Scalar.extui v1540
  let c0_i32_1086 : BitVec 32 := 0#32
  let v1542 : BitVec 1 := Scalar.cmpi .slt c4_i32_1082 c0_i32_1086
  let v1543 : BitVec 32 := Scalar.extui v1542
  let v1544 : BitVec 32 := Scalar.subi v1541 v1543
  let v1545 : BitVec 1 := Scalar.cmpi .ne v1539 v1544
  let v1546 : BitVec 32 := Scalar.remsi v1533 c4_i32_1082
  let c0_i32_1087 : BitVec 32 := 0#32
  let v1547 : BitVec 1 := Scalar.cmpi .ne v1546 c0_i32_1087
  let v1548 : BitVec 1 := Scalar.andi v1545 v1547
  let v1534 : BitVec 32 := Scalar.divsi v1533 c4_i32_1082
  let c1_i32_1088 : BitVec 32 := 1#32
  let v1549 : BitVec 32 := Scalar.subi v1534 c1_i32_1088
  let v1550 : BitVec 32 := Scalar.select v1548 v1549 v1534
  let c2_i32_1089 : BitVec 32 := 2#32
  let v1551 : BitVec 1 := Scalar.cmpi .eq v1550 c2_i32_1089
  let v1552 : BitVec 32 := Scalar.extui v1551
  let c0_i32_1094 : BitVec 32 := 0#32
  let v1553 : BitVec 1 := Scalar.cmpi .ne v1552 c0_i32_1094
  v1553

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1080 : BitVec 32 := 12#32
  let v1532 : BitVec 32 := Scalar.addi v2 c12_i32_1080
  let c16_i32_1081 : BitVec 32 := 16#32
  let v1533 : BitVec 32 := Scalar.remsi v1532 c16_i32_1081
  let v2934 : Index := Scalar.indexCast v1533
  let c0_2432 : Index := 0#32
  let c0_2433 : Index := 0#32
  ![v2934.toNat, 0, 0]
def k0_dev57 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_88 : BitVec 32 := 12#32
  let v94 : BitVec 32 := Scalar.addi v2 c12_i32_88
  let c16_i32_89 : BitVec 32 := 16#32
  let v95 : BitVec 32 := Scalar.remsi v94 c16_i32_89
  let c1_i32_2437 : BitVec 32 := 1#32
  let v2940 : BitVec 32 := Scalar.muli v95 c1_i32_2437
  let v2941 : BitVec 32 := Scalar.addi c0_i32_2438 v2940
  v2941.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1095 : BitVec 32 := 13#32
  let v1554 : BitVec 32 := Scalar.addi v2 c13_i32_1095
  let c16_i32_1096 : BitVec 32 := 16#32
  let v1555 : BitVec 32 := Scalar.remsi v1554 c16_i32_1096
  let c0_i32_1098 : BitVec 32 := 0#32
  let v1557 : BitVec 1 := Scalar.cmpi .sgt v1555 c0_i32_1098
  let v1558 : BitVec 32 := Scalar.extui v1557
  let c0_i32_1099 : BitVec 32 := 0#32
  let v1559 : BitVec 1 := Scalar.cmpi .slt v1555 c0_i32_1099
  let v1560 : BitVec 32 := Scalar.extui v1559
  let v1561 : BitVec 32 := Scalar.subi v1558 v1560
  let c4_i32_1097 : BitVec 32 := 4#32
  let c0_i32_1100 : BitVec 32 := 0#32
  let v1562 : BitVec 1 := Scalar.cmpi .sgt c4_i32_1097 c0_i32_1100
  let v1563 : BitVec 32 := Scalar.extui v1562
  let c0_i32_1101 : BitVec 32 := 0#32
  let v1564 : BitVec 1 := Scalar.cmpi .slt c4_i32_1097 c0_i32_1101
  let v1565 : BitVec 32 := Scalar.extui v1564
  let v1566 : BitVec 32 := Scalar.subi v1563 v1565
  let v1567 : BitVec 1 := Scalar.cmpi .ne v1561 v1566
  let v1568 : BitVec 32 := Scalar.remsi v1555 c4_i32_1097
  let c0_i32_1102 : BitVec 32 := 0#32
  let v1569 : BitVec 1 := Scalar.cmpi .ne v1568 c0_i32_1102
  let v1570 : BitVec 1 := Scalar.andi v1567 v1569
  let v1556 : BitVec 32 := Scalar.divsi v1555 c4_i32_1097
  let c1_i32_1103 : BitVec 32 := 1#32
  let v1571 : BitVec 32 := Scalar.subi v1556 c1_i32_1103
  let v1572 : BitVec 32 := Scalar.select v1570 v1571 v1556
  let c2_i32_1104 : BitVec 32 := 2#32
  let v1573 : BitVec 1 := Scalar.cmpi .eq v1572 c2_i32_1104
  let v1574 : BitVec 32 := Scalar.extui v1573
  let c0_i32_1109 : BitVec 32 := 0#32
  let v1575 : BitVec 1 := Scalar.cmpi .ne v1574 c0_i32_1109
  v1575

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1095 : BitVec 32 := 13#32
  let v1554 : BitVec 32 := Scalar.addi v2 c13_i32_1095
  let c16_i32_1096 : BitVec 32 := 16#32
  let v1555 : BitVec 32 := Scalar.remsi v1554 c16_i32_1096
  let v2934 : Index := Scalar.indexCast v1555
  let c0_2432 : Index := 0#32
  let c0_2433 : Index := 0#32
  ![v2934.toNat, 0, 0]
def k0_dev58 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_90 : BitVec 32 := 13#32
  let v96 : BitVec 32 := Scalar.addi v2 c13_i32_90
  let c16_i32_91 : BitVec 32 := 16#32
  let v97 : BitVec 32 := Scalar.remsi v96 c16_i32_91
  let c1_i32_2437 : BitVec 32 := 1#32
  let v2940 : BitVec 32 := Scalar.muli v97 c1_i32_2437
  let v2941 : BitVec 32 := Scalar.addi c0_i32_2438 v2940
  v2941.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1110 : BitVec 32 := 14#32
  let v1576 : BitVec 32 := Scalar.addi v2 c14_i32_1110
  let c16_i32_1111 : BitVec 32 := 16#32
  let v1577 : BitVec 32 := Scalar.remsi v1576 c16_i32_1111
  let c0_i32_1113 : BitVec 32 := 0#32
  let v1579 : BitVec 1 := Scalar.cmpi .sgt v1577 c0_i32_1113
  let v1580 : BitVec 32 := Scalar.extui v1579
  let c0_i32_1114 : BitVec 32 := 0#32
  let v1581 : BitVec 1 := Scalar.cmpi .slt v1577 c0_i32_1114
  let v1582 : BitVec 32 := Scalar.extui v1581
  let v1583 : BitVec 32 := Scalar.subi v1580 v1582
  let c4_i32_1112 : BitVec 32 := 4#32
  let c0_i32_1115 : BitVec 32 := 0#32
  let v1584 : BitVec 1 := Scalar.cmpi .sgt c4_i32_1112 c0_i32_1115
  let v1585 : BitVec 32 := Scalar.extui v1584
  let c0_i32_1116 : BitVec 32 := 0#32
  let v1586 : BitVec 1 := Scalar.cmpi .slt c4_i32_1112 c0_i32_1116
  let v1587 : BitVec 32 := Scalar.extui v1586
  let v1588 : BitVec 32 := Scalar.subi v1585 v1587
  let v1589 : BitVec 1 := Scalar.cmpi .ne v1583 v1588
  let v1590 : BitVec 32 := Scalar.remsi v1577 c4_i32_1112
  let c0_i32_1117 : BitVec 32 := 0#32
  let v1591 : BitVec 1 := Scalar.cmpi .ne v1590 c0_i32_1117
  let v1592 : BitVec 1 := Scalar.andi v1589 v1591
  let v1578 : BitVec 32 := Scalar.divsi v1577 c4_i32_1112
  let c1_i32_1118 : BitVec 32 := 1#32
  let v1593 : BitVec 32 := Scalar.subi v1578 c1_i32_1118
  let v1594 : BitVec 32 := Scalar.select v1592 v1593 v1578
  let c2_i32_1119 : BitVec 32 := 2#32
  let v1595 : BitVec 1 := Scalar.cmpi .eq v1594 c2_i32_1119
  let v1596 : BitVec 32 := Scalar.extui v1595
  let c0_i32_1124 : BitVec 32 := 0#32
  let v1597 : BitVec 1 := Scalar.cmpi .ne v1596 c0_i32_1124
  v1597

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1110 : BitVec 32 := 14#32
  let v1576 : BitVec 32 := Scalar.addi v2 c14_i32_1110
  let c16_i32_1111 : BitVec 32 := 16#32
  let v1577 : BitVec 32 := Scalar.remsi v1576 c16_i32_1111
  let v2934 : Index := Scalar.indexCast v1577
  let c0_2432 : Index := 0#32
  let c0_2433 : Index := 0#32
  ![v2934.toNat, 0, 0]
def k0_dev59 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_92 : BitVec 32 := 14#32
  let v98 : BitVec 32 := Scalar.addi v2 c14_i32_92
  let c16_i32_93 : BitVec 32 := 16#32
  let v99 : BitVec 32 := Scalar.remsi v98 c16_i32_93
  let c1_i32_2437 : BitVec 32 := 1#32
  let v2940 : BitVec 32 := Scalar.muli v99 c1_i32_2437
  let v2941 : BitVec 32 := Scalar.addi c0_i32_2438 v2940
  v2941.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1125 : BitVec 32 := 15#32
  let v1598 : BitVec 32 := Scalar.addi v2 c15_i32_1125
  let c16_i32_1126 : BitVec 32 := 16#32
  let v1599 : BitVec 32 := Scalar.remsi v1598 c16_i32_1126
  let c0_i32_1128 : BitVec 32 := 0#32
  let v1601 : BitVec 1 := Scalar.cmpi .sgt v1599 c0_i32_1128
  let v1602 : BitVec 32 := Scalar.extui v1601
  let c0_i32_1129 : BitVec 32 := 0#32
  let v1603 : BitVec 1 := Scalar.cmpi .slt v1599 c0_i32_1129
  let v1604 : BitVec 32 := Scalar.extui v1603
  let v1605 : BitVec 32 := Scalar.subi v1602 v1604
  let c4_i32_1127 : BitVec 32 := 4#32
  let c0_i32_1130 : BitVec 32 := 0#32
  let v1606 : BitVec 1 := Scalar.cmpi .sgt c4_i32_1127 c0_i32_1130
  let v1607 : BitVec 32 := Scalar.extui v1606
  let c0_i32_1131 : BitVec 32 := 0#32
  let v1608 : BitVec 1 := Scalar.cmpi .slt c4_i32_1127 c0_i32_1131
  let v1609 : BitVec 32 := Scalar.extui v1608
  let v1610 : BitVec 32 := Scalar.subi v1607 v1609
  let v1611 : BitVec 1 := Scalar.cmpi .ne v1605 v1610
  let v1612 : BitVec 32 := Scalar.remsi v1599 c4_i32_1127
  let c0_i32_1132 : BitVec 32 := 0#32
  let v1613 : BitVec 1 := Scalar.cmpi .ne v1612 c0_i32_1132
  let v1614 : BitVec 1 := Scalar.andi v1611 v1613
  let v1600 : BitVec 32 := Scalar.divsi v1599 c4_i32_1127
  let c1_i32_1133 : BitVec 32 := 1#32
  let v1615 : BitVec 32 := Scalar.subi v1600 c1_i32_1133
  let v1616 : BitVec 32 := Scalar.select v1614 v1615 v1600
  let c2_i32_1134 : BitVec 32 := 2#32
  let v1617 : BitVec 1 := Scalar.cmpi .eq v1616 c2_i32_1134
  let v1618 : BitVec 32 := Scalar.extui v1617
  let c0_i32_1139 : BitVec 32 := 0#32
  let v1619 : BitVec 1 := Scalar.cmpi .ne v1618 c0_i32_1139
  v1619

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1125 : BitVec 32 := 15#32
  let v1598 : BitVec 32 := Scalar.addi v2 c15_i32_1125
  let c16_i32_1126 : BitVec 32 := 16#32
  let v1599 : BitVec 32 := Scalar.remsi v1598 c16_i32_1126
  let v2934 : Index := Scalar.indexCast v1599
  let c0_2432 : Index := 0#32
  let c0_2433 : Index := 0#32
  ![v2934.toNat, 0, 0]
def k0_dev60 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_94 : BitVec 32 := 15#32
  let v100 : BitVec 32 := Scalar.addi v2 c15_i32_94
  let c16_i32_95 : BitVec 32 := 16#32
  let v101 : BitVec 32 := Scalar.remsi v100 c16_i32_95
  let c1_i32_2437 : BitVec 32 := 1#32
  let v2940 : BitVec 32 := Scalar.muli v101 c1_i32_2437
  let v2941 : BitVec 32 := Scalar.addi c0_i32_2438 v2940
  v2941.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1267 : BitVec 32 := 1#32
  let v1796 : BitVec 32 := Scalar.addi v2 c1_i32_1267
  let c16_i32_1268 : BitVec 32 := 16#32
  let v1797 : BitVec 32 := Scalar.remsi v1796 c16_i32_1268
  let c0_i32_1270 : BitVec 32 := 0#32
  let v1799 : BitVec 1 := Scalar.cmpi .sgt v1797 c0_i32_1270
  let v1800 : BitVec 32 := Scalar.extui v1799
  let c0_i32_1271 : BitVec 32 := 0#32
  let v1801 : BitVec 1 := Scalar.cmpi .slt v1797 c0_i32_1271
  let v1802 : BitVec 32 := Scalar.extui v1801
  let v1803 : BitVec 32 := Scalar.subi v1800 v1802
  let c4_i32_1269 : BitVec 32 := 4#32
  let c0_i32_1272 : BitVec 32 := 0#32
  let v1804 : BitVec 1 := Scalar.cmpi .sgt c4_i32_1269 c0_i32_1272
  let v1805 : BitVec 32 := Scalar.extui v1804
  let c0_i32_1273 : BitVec 32 := 0#32
  let v1806 : BitVec 1 := Scalar.cmpi .slt c4_i32_1269 c0_i32_1273
  let v1807 : BitVec 32 := Scalar.extui v1806
  let v1808 : BitVec 32 := Scalar.subi v1805 v1807
  let v1809 : BitVec 1 := Scalar.cmpi .ne v1803 v1808
  let v1810 : BitVec 32 := Scalar.remsi v1797 c4_i32_1269
  let c0_i32_1274 : BitVec 32 := 0#32
  let v1811 : BitVec 1 := Scalar.cmpi .ne v1810 c0_i32_1274
  let v1812 : BitVec 1 := Scalar.andi v1809 v1811
  let v1798 : BitVec 32 := Scalar.divsi v1797 c4_i32_1269
  let c1_i32_1275 : BitVec 32 := 1#32
  let v1813 : BitVec 32 := Scalar.subi v1798 c1_i32_1275
  let v1814 : BitVec 32 := Scalar.select v1812 v1813 v1798
  let c3_i32_1276 : BitVec 32 := 3#32
  let v1815 : BitVec 1 := Scalar.cmpi .eq v1814 c3_i32_1276
  let v1816 : BitVec 32 := Scalar.extui v1815
  let c0_i32_1281 : BitVec 32 := 0#32
  let v1817 : BitVec 1 := Scalar.cmpi .ne v1816 c0_i32_1281
  v1817

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1267 : BitVec 32 := 1#32
  let v1796 : BitVec 32 := Scalar.addi v2 c1_i32_1267
  let c16_i32_1268 : BitVec 32 := 16#32
  let v1797 : BitVec 32 := Scalar.remsi v1796 c16_i32_1268
  let v2934 : Index := Scalar.indexCast v1797
  let c0_2432 : Index := 0#32
  let c0_2433 : Index := 0#32
  ![v2934.toNat, 0, 0]
def k0_dev61 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v72 : BitVec 32 := Scalar.addi v2 c1_i32_66
  let c16_i32_67 : BitVec 32 := 16#32
  let v73 : BitVec 32 := Scalar.remsi v72 c16_i32_67
  let c1_i32_2437 : BitVec 32 := 1#32
  let v2940 : BitVec 32 := Scalar.muli v73 c1_i32_2437
  let v2941 : BitVec 32 := Scalar.addi c0_i32_2438 v2940
  v2941.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1282 : BitVec 32 := 2#32
  let v1818 : BitVec 32 := Scalar.addi v2 c2_i32_1282
  let c16_i32_1283 : BitVec 32 := 16#32
  let v1819 : BitVec 32 := Scalar.remsi v1818 c16_i32_1283
  let c0_i32_1285 : BitVec 32 := 0#32
  let v1821 : BitVec 1 := Scalar.cmpi .sgt v1819 c0_i32_1285
  let v1822 : BitVec 32 := Scalar.extui v1821
  let c0_i32_1286 : BitVec 32 := 0#32
  let v1823 : BitVec 1 := Scalar.cmpi .slt v1819 c0_i32_1286
  let v1824 : BitVec 32 := Scalar.extui v1823
  let v1825 : BitVec 32 := Scalar.subi v1822 v1824
  let c4_i32_1284 : BitVec 32 := 4#32
  let c0_i32_1287 : BitVec 32 := 0#32
  let v1826 : BitVec 1 := Scalar.cmpi .sgt c4_i32_1284 c0_i32_1287
  let v1827 : BitVec 32 := Scalar.extui v1826
  let c0_i32_1288 : BitVec 32 := 0#32
  let v1828 : BitVec 1 := Scalar.cmpi .slt c4_i32_1284 c0_i32_1288
  let v1829 : BitVec 32 := Scalar.extui v1828
  let v1830 : BitVec 32 := Scalar.subi v1827 v1829
  let v1831 : BitVec 1 := Scalar.cmpi .ne v1825 v1830
  let v1832 : BitVec 32 := Scalar.remsi v1819 c4_i32_1284
  let c0_i32_1289 : BitVec 32 := 0#32
  let v1833 : BitVec 1 := Scalar.cmpi .ne v1832 c0_i32_1289
  let v1834 : BitVec 1 := Scalar.andi v1831 v1833
  let v1820 : BitVec 32 := Scalar.divsi v1819 c4_i32_1284
  let c1_i32_1290 : BitVec 32 := 1#32
  let v1835 : BitVec 32 := Scalar.subi v1820 c1_i32_1290
  let v1836 : BitVec 32 := Scalar.select v1834 v1835 v1820
  let c3_i32_1291 : BitVec 32 := 3#32
  let v1837 : BitVec 1 := Scalar.cmpi .eq v1836 c3_i32_1291
  let v1838 : BitVec 32 := Scalar.extui v1837
  let c0_i32_1296 : BitVec 32 := 0#32
  let v1839 : BitVec 1 := Scalar.cmpi .ne v1838 c0_i32_1296
  v1839

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1282 : BitVec 32 := 2#32
  let v1818 : BitVec 32 := Scalar.addi v2 c2_i32_1282
  let c16_i32_1283 : BitVec 32 := 16#32
  let v1819 : BitVec 32 := Scalar.remsi v1818 c16_i32_1283
  let v2934 : Index := Scalar.indexCast v1819
  let c0_2432 : Index := 0#32
  let c0_2433 : Index := 0#32
  ![v2934.toNat, 0, 0]
def k0_dev62 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_68 : BitVec 32 := 2#32
  let v74 : BitVec 32 := Scalar.addi v2 c2_i32_68
  let c16_i32_69 : BitVec 32 := 16#32
  let v75 : BitVec 32 := Scalar.remsi v74 c16_i32_69
  let c1_i32_2437 : BitVec 32 := 1#32
  let v2940 : BitVec 32 := Scalar.muli v75 c1_i32_2437
  let v2941 : BitVec 32 := Scalar.addi c0_i32_2438 v2940
  v2941.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1297 : BitVec 32 := 3#32
  let v1840 : BitVec 32 := Scalar.addi v2 c3_i32_1297
  let c16_i32_1298 : BitVec 32 := 16#32
  let v1841 : BitVec 32 := Scalar.remsi v1840 c16_i32_1298
  let c0_i32_1300 : BitVec 32 := 0#32
  let v1843 : BitVec 1 := Scalar.cmpi .sgt v1841 c0_i32_1300
  let v1844 : BitVec 32 := Scalar.extui v1843
  let c0_i32_1301 : BitVec 32 := 0#32
  let v1845 : BitVec 1 := Scalar.cmpi .slt v1841 c0_i32_1301
  let v1846 : BitVec 32 := Scalar.extui v1845
  let v1847 : BitVec 32 := Scalar.subi v1844 v1846
  let c4_i32_1299 : BitVec 32 := 4#32
  let c0_i32_1302 : BitVec 32 := 0#32
  let v1848 : BitVec 1 := Scalar.cmpi .sgt c4_i32_1299 c0_i32_1302
  let v1849 : BitVec 32 := Scalar.extui v1848
  let c0_i32_1303 : BitVec 32 := 0#32
  let v1850 : BitVec 1 := Scalar.cmpi .slt c4_i32_1299 c0_i32_1303
  let v1851 : BitVec 32 := Scalar.extui v1850
  let v1852 : BitVec 32 := Scalar.subi v1849 v1851
  let v1853 : BitVec 1 := Scalar.cmpi .ne v1847 v1852
  let v1854 : BitVec 32 := Scalar.remsi v1841 c4_i32_1299
  let c0_i32_1304 : BitVec 32 := 0#32
  let v1855 : BitVec 1 := Scalar.cmpi .ne v1854 c0_i32_1304
  let v1856 : BitVec 1 := Scalar.andi v1853 v1855
  let v1842 : BitVec 32 := Scalar.divsi v1841 c4_i32_1299
  let c1_i32_1305 : BitVec 32 := 1#32
  let v1857 : BitVec 32 := Scalar.subi v1842 c1_i32_1305
  let v1858 : BitVec 32 := Scalar.select v1856 v1857 v1842
  let c3_i32_1306 : BitVec 32 := 3#32
  let v1859 : BitVec 1 := Scalar.cmpi .eq v1858 c3_i32_1306
  let v1860 : BitVec 32 := Scalar.extui v1859
  let c0_i32_1311 : BitVec 32 := 0#32
  let v1861 : BitVec 1 := Scalar.cmpi .ne v1860 c0_i32_1311
  v1861

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1297 : BitVec 32 := 3#32
  let v1840 : BitVec 32 := Scalar.addi v2 c3_i32_1297
  let c16_i32_1298 : BitVec 32 := 16#32
  let v1841 : BitVec 32 := Scalar.remsi v1840 c16_i32_1298
  let v2934 : Index := Scalar.indexCast v1841
  let c0_2432 : Index := 0#32
  let c0_2433 : Index := 0#32
  ![v2934.toNat, 0, 0]
def k0_dev63 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_70 : BitVec 32 := 3#32
  let v76 : BitVec 32 := Scalar.addi v2 c3_i32_70
  let c16_i32_71 : BitVec 32 := 16#32
  let v77 : BitVec 32 := Scalar.remsi v76 c16_i32_71
  let c1_i32_2437 : BitVec 32 := 1#32
  let v2940 : BitVec 32 := Scalar.muli v77 c1_i32_2437
  let v2941 : BitVec 32 := Scalar.addi c0_i32_2438 v2940
  v2941.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1312 : BitVec 32 := 4#32
  let v1862 : BitVec 32 := Scalar.addi v2 c4_i32_1312
  let c16_i32_1313 : BitVec 32 := 16#32
  let v1863 : BitVec 32 := Scalar.remsi v1862 c16_i32_1313
  let c0_i32_1315 : BitVec 32 := 0#32
  let v1865 : BitVec 1 := Scalar.cmpi .sgt v1863 c0_i32_1315
  let v1866 : BitVec 32 := Scalar.extui v1865
  let c0_i32_1316 : BitVec 32 := 0#32
  let v1867 : BitVec 1 := Scalar.cmpi .slt v1863 c0_i32_1316
  let v1868 : BitVec 32 := Scalar.extui v1867
  let v1869 : BitVec 32 := Scalar.subi v1866 v1868
  let c4_i32_1314 : BitVec 32 := 4#32
  let c0_i32_1317 : BitVec 32 := 0#32
  let v1870 : BitVec 1 := Scalar.cmpi .sgt c4_i32_1314 c0_i32_1317
  let v1871 : BitVec 32 := Scalar.extui v1870
  let c0_i32_1318 : BitVec 32 := 0#32
  let v1872 : BitVec 1 := Scalar.cmpi .slt c4_i32_1314 c0_i32_1318
  let v1873 : BitVec 32 := Scalar.extui v1872
  let v1874 : BitVec 32 := Scalar.subi v1871 v1873
  let v1875 : BitVec 1 := Scalar.cmpi .ne v1869 v1874
  let v1876 : BitVec 32 := Scalar.remsi v1863 c4_i32_1314
  let c0_i32_1319 : BitVec 32 := 0#32
  let v1877 : BitVec 1 := Scalar.cmpi .ne v1876 c0_i32_1319
  let v1878 : BitVec 1 := Scalar.andi v1875 v1877
  let v1864 : BitVec 32 := Scalar.divsi v1863 c4_i32_1314
  let c1_i32_1320 : BitVec 32 := 1#32
  let v1879 : BitVec 32 := Scalar.subi v1864 c1_i32_1320
  let v1880 : BitVec 32 := Scalar.select v1878 v1879 v1864
  let c3_i32_1321 : BitVec 32 := 3#32
  let v1881 : BitVec 1 := Scalar.cmpi .eq v1880 c3_i32_1321
  let v1882 : BitVec 32 := Scalar.extui v1881
  let c0_i32_1326 : BitVec 32 := 0#32
  let v1883 : BitVec 1 := Scalar.cmpi .ne v1882 c0_i32_1326
  v1883

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1312 : BitVec 32 := 4#32
  let v1862 : BitVec 32 := Scalar.addi v2 c4_i32_1312
  let c16_i32_1313 : BitVec 32 := 16#32
  let v1863 : BitVec 32 := Scalar.remsi v1862 c16_i32_1313
  let v2934 : Index := Scalar.indexCast v1863
  let c0_2432 : Index := 0#32
  let c0_2433 : Index := 0#32
  ![v2934.toNat, 0, 0]
def k0_dev64 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_72 : BitVec 32 := 4#32
  let v78 : BitVec 32 := Scalar.addi v2 c4_i32_72
  let c16_i32_73 : BitVec 32 := 16#32
  let v79 : BitVec 32 := Scalar.remsi v78 c16_i32_73
  let c1_i32_2437 : BitVec 32 := 1#32
  let v2940 : BitVec 32 := Scalar.muli v79 c1_i32_2437
  let v2941 : BitVec 32 := Scalar.addi c0_i32_2438 v2940
  v2941.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1327 : BitVec 32 := 5#32
  let v1884 : BitVec 32 := Scalar.addi v2 c5_i32_1327
  let c16_i32_1328 : BitVec 32 := 16#32
  let v1885 : BitVec 32 := Scalar.remsi v1884 c16_i32_1328
  let c0_i32_1330 : BitVec 32 := 0#32
  let v1887 : BitVec 1 := Scalar.cmpi .sgt v1885 c0_i32_1330
  let v1888 : BitVec 32 := Scalar.extui v1887
  let c0_i32_1331 : BitVec 32 := 0#32
  let v1889 : BitVec 1 := Scalar.cmpi .slt v1885 c0_i32_1331
  let v1890 : BitVec 32 := Scalar.extui v1889
  let v1891 : BitVec 32 := Scalar.subi v1888 v1890
  let c4_i32_1329 : BitVec 32 := 4#32
  let c0_i32_1332 : BitVec 32 := 0#32
  let v1892 : BitVec 1 := Scalar.cmpi .sgt c4_i32_1329 c0_i32_1332
  let v1893 : BitVec 32 := Scalar.extui v1892
  let c0_i32_1333 : BitVec 32 := 0#32
  let v1894 : BitVec 1 := Scalar.cmpi .slt c4_i32_1329 c0_i32_1333
  let v1895 : BitVec 32 := Scalar.extui v1894
  let v1896 : BitVec 32 := Scalar.subi v1893 v1895
  let v1897 : BitVec 1 := Scalar.cmpi .ne v1891 v1896
  let v1898 : BitVec 32 := Scalar.remsi v1885 c4_i32_1329
  let c0_i32_1334 : BitVec 32 := 0#32
  let v1899 : BitVec 1 := Scalar.cmpi .ne v1898 c0_i32_1334
  let v1900 : BitVec 1 := Scalar.andi v1897 v1899
  let v1886 : BitVec 32 := Scalar.divsi v1885 c4_i32_1329
  let c1_i32_1335 : BitVec 32 := 1#32
  let v1901 : BitVec 32 := Scalar.subi v1886 c1_i32_1335
  let v1902 : BitVec 32 := Scalar.select v1900 v1901 v1886
  let c3_i32_1336 : BitVec 32 := 3#32
  let v1903 : BitVec 1 := Scalar.cmpi .eq v1902 c3_i32_1336
  let v1904 : BitVec 32 := Scalar.extui v1903
  let c0_i32_1341 : BitVec 32 := 0#32
  let v1905 : BitVec 1 := Scalar.cmpi .ne v1904 c0_i32_1341
  v1905

def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1327 : BitVec 32 := 5#32
  let v1884 : BitVec 32 := Scalar.addi v2 c5_i32_1327
  let c16_i32_1328 : BitVec 32 := 16#32
  let v1885 : BitVec 32 := Scalar.remsi v1884 c16_i32_1328
  let v2934 : Index := Scalar.indexCast v1885
  let c0_2432 : Index := 0#32
  let c0_2433 : Index := 0#32
  ![v2934.toNat, 0, 0]
def k0_dev65 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_74 : BitVec 32 := 5#32
  let v80 : BitVec 32 := Scalar.addi v2 c5_i32_74
  let c16_i32_75 : BitVec 32 := 16#32
  let v81 : BitVec 32 := Scalar.remsi v80 c16_i32_75
  let c1_i32_2437 : BitVec 32 := 1#32
  let v2940 : BitVec 32 := Scalar.muli v81 c1_i32_2437
  let v2941 : BitVec 32 := Scalar.addi c0_i32_2438 v2940
  v2941.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1342 : BitVec 32 := 6#32
  let v1906 : BitVec 32 := Scalar.addi v2 c6_i32_1342
  let c16_i32_1343 : BitVec 32 := 16#32
  let v1907 : BitVec 32 := Scalar.remsi v1906 c16_i32_1343
  let c0_i32_1345 : BitVec 32 := 0#32
  let v1909 : BitVec 1 := Scalar.cmpi .sgt v1907 c0_i32_1345
  let v1910 : BitVec 32 := Scalar.extui v1909
  let c0_i32_1346 : BitVec 32 := 0#32
  let v1911 : BitVec 1 := Scalar.cmpi .slt v1907 c0_i32_1346
  let v1912 : BitVec 32 := Scalar.extui v1911
  let v1913 : BitVec 32 := Scalar.subi v1910 v1912
  let c4_i32_1344 : BitVec 32 := 4#32
  let c0_i32_1347 : BitVec 32 := 0#32
  let v1914 : BitVec 1 := Scalar.cmpi .sgt c4_i32_1344 c0_i32_1347
  let v1915 : BitVec 32 := Scalar.extui v1914
  let c0_i32_1348 : BitVec 32 := 0#32
  let v1916 : BitVec 1 := Scalar.cmpi .slt c4_i32_1344 c0_i32_1348
  let v1917 : BitVec 32 := Scalar.extui v1916
  let v1918 : BitVec 32 := Scalar.subi v1915 v1917
  let v1919 : BitVec 1 := Scalar.cmpi .ne v1913 v1918
  let v1920 : BitVec 32 := Scalar.remsi v1907 c4_i32_1344
  let c0_i32_1349 : BitVec 32 := 0#32
  let v1921 : BitVec 1 := Scalar.cmpi .ne v1920 c0_i32_1349
  let v1922 : BitVec 1 := Scalar.andi v1919 v1921
  let v1908 : BitVec 32 := Scalar.divsi v1907 c4_i32_1344
  let c1_i32_1350 : BitVec 32 := 1#32
  let v1923 : BitVec 32 := Scalar.subi v1908 c1_i32_1350
  let v1924 : BitVec 32 := Scalar.select v1922 v1923 v1908
  let c3_i32_1351 : BitVec 32 := 3#32
  let v1925 : BitVec 1 := Scalar.cmpi .eq v1924 c3_i32_1351
  let v1926 : BitVec 32 := Scalar.extui v1925
  let c0_i32_1356 : BitVec 32 := 0#32
  let v1927 : BitVec 1 := Scalar.cmpi .ne v1926 c0_i32_1356
  v1927

def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1342 : BitVec 32 := 6#32
  let v1906 : BitVec 32 := Scalar.addi v2 c6_i32_1342
  let c16_i32_1343 : BitVec 32 := 16#32
  let v1907 : BitVec 32 := Scalar.remsi v1906 c16_i32_1343
  let v2934 : Index := Scalar.indexCast v1907
  let c0_2432 : Index := 0#32
  let c0_2433 : Index := 0#32
  ![v2934.toNat, 0, 0]
def k0_dev66 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_76 : BitVec 32 := 6#32
  let v82 : BitVec 32 := Scalar.addi v2 c6_i32_76
  let c16_i32_77 : BitVec 32 := 16#32
  let v83 : BitVec 32 := Scalar.remsi v82 c16_i32_77
  let c1_i32_2437 : BitVec 32 := 1#32
  let v2940 : BitVec 32 := Scalar.muli v83 c1_i32_2437
  let v2941 : BitVec 32 := Scalar.addi c0_i32_2438 v2940
  v2941.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1357 : BitVec 32 := 7#32
  let v1928 : BitVec 32 := Scalar.addi v2 c7_i32_1357
  let c16_i32_1358 : BitVec 32 := 16#32
  let v1929 : BitVec 32 := Scalar.remsi v1928 c16_i32_1358
  let c0_i32_1360 : BitVec 32 := 0#32
  let v1931 : BitVec 1 := Scalar.cmpi .sgt v1929 c0_i32_1360
  let v1932 : BitVec 32 := Scalar.extui v1931
  let c0_i32_1361 : BitVec 32 := 0#32
  let v1933 : BitVec 1 := Scalar.cmpi .slt v1929 c0_i32_1361
  let v1934 : BitVec 32 := Scalar.extui v1933
  let v1935 : BitVec 32 := Scalar.subi v1932 v1934
  let c4_i32_1359 : BitVec 32 := 4#32
  let c0_i32_1362 : BitVec 32 := 0#32
  let v1936 : BitVec 1 := Scalar.cmpi .sgt c4_i32_1359 c0_i32_1362
  let v1937 : BitVec 32 := Scalar.extui v1936
  let c0_i32_1363 : BitVec 32 := 0#32
  let v1938 : BitVec 1 := Scalar.cmpi .slt c4_i32_1359 c0_i32_1363
  let v1939 : BitVec 32 := Scalar.extui v1938
  let v1940 : BitVec 32 := Scalar.subi v1937 v1939
  let v1941 : BitVec 1 := Scalar.cmpi .ne v1935 v1940
  let v1942 : BitVec 32 := Scalar.remsi v1929 c4_i32_1359
  let c0_i32_1364 : BitVec 32 := 0#32
  let v1943 : BitVec 1 := Scalar.cmpi .ne v1942 c0_i32_1364
  let v1944 : BitVec 1 := Scalar.andi v1941 v1943
  let v1930 : BitVec 32 := Scalar.divsi v1929 c4_i32_1359
  let c1_i32_1365 : BitVec 32 := 1#32
  let v1945 : BitVec 32 := Scalar.subi v1930 c1_i32_1365
  let v1946 : BitVec 32 := Scalar.select v1944 v1945 v1930
  let c3_i32_1366 : BitVec 32 := 3#32
  let v1947 : BitVec 1 := Scalar.cmpi .eq v1946 c3_i32_1366
  let v1948 : BitVec 32 := Scalar.extui v1947
  let c0_i32_1371 : BitVec 32 := 0#32
  let v1949 : BitVec 1 := Scalar.cmpi .ne v1948 c0_i32_1371
  v1949

def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1357 : BitVec 32 := 7#32
  let v1928 : BitVec 32 := Scalar.addi v2 c7_i32_1357
  let c16_i32_1358 : BitVec 32 := 16#32
  let v1929 : BitVec 32 := Scalar.remsi v1928 c16_i32_1358
  let v2934 : Index := Scalar.indexCast v1929
  let c0_2432 : Index := 0#32
  let c0_2433 : Index := 0#32
  ![v2934.toNat, 0, 0]
def k0_dev67 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v84 : BitVec 32 := Scalar.addi v2 c7_i32_78
  let c16_i32_79 : BitVec 32 := 16#32
  let v85 : BitVec 32 := Scalar.remsi v84 c16_i32_79
  let c1_i32_2437 : BitVec 32 := 1#32
  let v2940 : BitVec 32 := Scalar.muli v85 c1_i32_2437
  let v2941 : BitVec 32 := Scalar.addi c0_i32_2438 v2940
  v2941.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1372 : BitVec 32 := 8#32
  let v1950 : BitVec 32 := Scalar.addi v2 c8_i32_1372
  let c16_i32_1373 : BitVec 32 := 16#32
  let v1951 : BitVec 32 := Scalar.remsi v1950 c16_i32_1373
  let c0_i32_1375 : BitVec 32 := 0#32
  let v1953 : BitVec 1 := Scalar.cmpi .sgt v1951 c0_i32_1375
  let v1954 : BitVec 32 := Scalar.extui v1953
  let c0_i32_1376 : BitVec 32 := 0#32
  let v1955 : BitVec 1 := Scalar.cmpi .slt v1951 c0_i32_1376
  let v1956 : BitVec 32 := Scalar.extui v1955
  let v1957 : BitVec 32 := Scalar.subi v1954 v1956
  let c4_i32_1374 : BitVec 32 := 4#32
  let c0_i32_1377 : BitVec 32 := 0#32
  let v1958 : BitVec 1 := Scalar.cmpi .sgt c4_i32_1374 c0_i32_1377
  let v1959 : BitVec 32 := Scalar.extui v1958
  let c0_i32_1378 : BitVec 32 := 0#32
  let v1960 : BitVec 1 := Scalar.cmpi .slt c4_i32_1374 c0_i32_1378
  let v1961 : BitVec 32 := Scalar.extui v1960
  let v1962 : BitVec 32 := Scalar.subi v1959 v1961
  let v1963 : BitVec 1 := Scalar.cmpi .ne v1957 v1962
  let v1964 : BitVec 32 := Scalar.remsi v1951 c4_i32_1374
  let c0_i32_1379 : BitVec 32 := 0#32
  let v1965 : BitVec 1 := Scalar.cmpi .ne v1964 c0_i32_1379
  let v1966 : BitVec 1 := Scalar.andi v1963 v1965
  let v1952 : BitVec 32 := Scalar.divsi v1951 c4_i32_1374
  let c1_i32_1380 : BitVec 32 := 1#32
  let v1967 : BitVec 32 := Scalar.subi v1952 c1_i32_1380
  let v1968 : BitVec 32 := Scalar.select v1966 v1967 v1952
  let c3_i32_1381 : BitVec 32 := 3#32
  let v1969 : BitVec 1 := Scalar.cmpi .eq v1968 c3_i32_1381
  let v1970 : BitVec 32 := Scalar.extui v1969
  let c0_i32_1386 : BitVec 32 := 0#32
  let v1971 : BitVec 1 := Scalar.cmpi .ne v1970 c0_i32_1386
  v1971

def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1372 : BitVec 32 := 8#32
  let v1950 : BitVec 32 := Scalar.addi v2 c8_i32_1372
  let c16_i32_1373 : BitVec 32 := 16#32
  let v1951 : BitVec 32 := Scalar.remsi v1950 c16_i32_1373
  let v2934 : Index := Scalar.indexCast v1951
  let c0_2432 : Index := 0#32
  let c0_2433 : Index := 0#32
  ![v2934.toNat, 0, 0]
def k0_dev68 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_80 : BitVec 32 := 8#32
  let v86 : BitVec 32 := Scalar.addi v2 c8_i32_80
  let c16_i32_81 : BitVec 32 := 16#32
  let v87 : BitVec 32 := Scalar.remsi v86 c16_i32_81
  let c1_i32_2437 : BitVec 32 := 1#32
  let v2940 : BitVec 32 := Scalar.muli v87 c1_i32_2437
  let v2941 : BitVec 32 := Scalar.addi c0_i32_2438 v2940
  v2941.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1387 : BitVec 32 := 9#32
  let v1972 : BitVec 32 := Scalar.addi v2 c9_i32_1387
  let c16_i32_1388 : BitVec 32 := 16#32
  let v1973 : BitVec 32 := Scalar.remsi v1972 c16_i32_1388
  let c0_i32_1390 : BitVec 32 := 0#32
  let v1975 : BitVec 1 := Scalar.cmpi .sgt v1973 c0_i32_1390
  let v1976 : BitVec 32 := Scalar.extui v1975
  let c0_i32_1391 : BitVec 32 := 0#32
  let v1977 : BitVec 1 := Scalar.cmpi .slt v1973 c0_i32_1391
  let v1978 : BitVec 32 := Scalar.extui v1977
  let v1979 : BitVec 32 := Scalar.subi v1976 v1978
  let c4_i32_1389 : BitVec 32 := 4#32
  let c0_i32_1392 : BitVec 32 := 0#32
  let v1980 : BitVec 1 := Scalar.cmpi .sgt c4_i32_1389 c0_i32_1392
  let v1981 : BitVec 32 := Scalar.extui v1980
  let c0_i32_1393 : BitVec 32 := 0#32
  let v1982 : BitVec 1 := Scalar.cmpi .slt c4_i32_1389 c0_i32_1393
  let v1983 : BitVec 32 := Scalar.extui v1982
  let v1984 : BitVec 32 := Scalar.subi v1981 v1983
  let v1985 : BitVec 1 := Scalar.cmpi .ne v1979 v1984
  let v1986 : BitVec 32 := Scalar.remsi v1973 c4_i32_1389
  let c0_i32_1394 : BitVec 32 := 0#32
  let v1987 : BitVec 1 := Scalar.cmpi .ne v1986 c0_i32_1394
  let v1988 : BitVec 1 := Scalar.andi v1985 v1987
  let v1974 : BitVec 32 := Scalar.divsi v1973 c4_i32_1389
  let c1_i32_1395 : BitVec 32 := 1#32
  let v1989 : BitVec 32 := Scalar.subi v1974 c1_i32_1395
  let v1990 : BitVec 32 := Scalar.select v1988 v1989 v1974
  let c3_i32_1396 : BitVec 32 := 3#32
  let v1991 : BitVec 1 := Scalar.cmpi .eq v1990 c3_i32_1396
  let v1992 : BitVec 32 := Scalar.extui v1991
  let c0_i32_1401 : BitVec 32 := 0#32
  let v1993 : BitVec 1 := Scalar.cmpi .ne v1992 c0_i32_1401
  v1993

def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1387 : BitVec 32 := 9#32
  let v1972 : BitVec 32 := Scalar.addi v2 c9_i32_1387
  let c16_i32_1388 : BitVec 32 := 16#32
  let v1973 : BitVec 32 := Scalar.remsi v1972 c16_i32_1388
  let v2934 : Index := Scalar.indexCast v1973
  let c0_2432 : Index := 0#32
  let c0_2433 : Index := 0#32
  ![v2934.toNat, 0, 0]
def k0_dev69 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_82 : BitVec 32 := 9#32
  let v88 : BitVec 32 := Scalar.addi v2 c9_i32_82
  let c16_i32_83 : BitVec 32 := 16#32
  let v89 : BitVec 32 := Scalar.remsi v88 c16_i32_83
  let c1_i32_2437 : BitVec 32 := 1#32
  let v2940 : BitVec 32 := Scalar.muli v89 c1_i32_2437
  let v2941 : BitVec 32 := Scalar.addi c0_i32_2438 v2940
  v2941.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1402 : BitVec 32 := 10#32
  let v1994 : BitVec 32 := Scalar.addi v2 c10_i32_1402
  let c16_i32_1403 : BitVec 32 := 16#32
  let v1995 : BitVec 32 := Scalar.remsi v1994 c16_i32_1403
  let c0_i32_1405 : BitVec 32 := 0#32
  let v1997 : BitVec 1 := Scalar.cmpi .sgt v1995 c0_i32_1405
  let v1998 : BitVec 32 := Scalar.extui v1997
  let c0_i32_1406 : BitVec 32 := 0#32
  let v1999 : BitVec 1 := Scalar.cmpi .slt v1995 c0_i32_1406
  let v2000 : BitVec 32 := Scalar.extui v1999
  let v2001 : BitVec 32 := Scalar.subi v1998 v2000
  let c4_i32_1404 : BitVec 32 := 4#32
  let c0_i32_1407 : BitVec 32 := 0#32
  let v2002 : BitVec 1 := Scalar.cmpi .sgt c4_i32_1404 c0_i32_1407
  let v2003 : BitVec 32 := Scalar.extui v2002
  let c0_i32_1408 : BitVec 32 := 0#32
  let v2004 : BitVec 1 := Scalar.cmpi .slt c4_i32_1404 c0_i32_1408
  let v2005 : BitVec 32 := Scalar.extui v2004
  let v2006 : BitVec 32 := Scalar.subi v2003 v2005
  let v2007 : BitVec 1 := Scalar.cmpi .ne v2001 v2006
  let v2008 : BitVec 32 := Scalar.remsi v1995 c4_i32_1404
  let c0_i32_1409 : BitVec 32 := 0#32
  let v2009 : BitVec 1 := Scalar.cmpi .ne v2008 c0_i32_1409
  let v2010 : BitVec 1 := Scalar.andi v2007 v2009
  let v1996 : BitVec 32 := Scalar.divsi v1995 c4_i32_1404
  let c1_i32_1410 : BitVec 32 := 1#32
  let v2011 : BitVec 32 := Scalar.subi v1996 c1_i32_1410
  let v2012 : BitVec 32 := Scalar.select v2010 v2011 v1996
  let c3_i32_1411 : BitVec 32 := 3#32
  let v2013 : BitVec 1 := Scalar.cmpi .eq v2012 c3_i32_1411
  let v2014 : BitVec 32 := Scalar.extui v2013
  let c0_i32_1416 : BitVec 32 := 0#32
  let v2015 : BitVec 1 := Scalar.cmpi .ne v2014 c0_i32_1416
  v2015

def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1402 : BitVec 32 := 10#32
  let v1994 : BitVec 32 := Scalar.addi v2 c10_i32_1402
  let c16_i32_1403 : BitVec 32 := 16#32
  let v1995 : BitVec 32 := Scalar.remsi v1994 c16_i32_1403
  let v2934 : Index := Scalar.indexCast v1995
  let c0_2432 : Index := 0#32
  let c0_2433 : Index := 0#32
  ![v2934.toNat, 0, 0]
def k0_dev70 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_84 : BitVec 32 := 10#32
  let v90 : BitVec 32 := Scalar.addi v2 c10_i32_84
  let c16_i32_85 : BitVec 32 := 16#32
  let v91 : BitVec 32 := Scalar.remsi v90 c16_i32_85
  let c1_i32_2437 : BitVec 32 := 1#32
  let v2940 : BitVec 32 := Scalar.muli v91 c1_i32_2437
  let v2941 : BitVec 32 := Scalar.addi c0_i32_2438 v2940
  v2941.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1417 : BitVec 32 := 11#32
  let v2016 : BitVec 32 := Scalar.addi v2 c11_i32_1417
  let c16_i32_1418 : BitVec 32 := 16#32
  let v2017 : BitVec 32 := Scalar.remsi v2016 c16_i32_1418
  let c0_i32_1420 : BitVec 32 := 0#32
  let v2019 : BitVec 1 := Scalar.cmpi .sgt v2017 c0_i32_1420
  let v2020 : BitVec 32 := Scalar.extui v2019
  let c0_i32_1421 : BitVec 32 := 0#32
  let v2021 : BitVec 1 := Scalar.cmpi .slt v2017 c0_i32_1421
  let v2022 : BitVec 32 := Scalar.extui v2021
  let v2023 : BitVec 32 := Scalar.subi v2020 v2022
  let c4_i32_1419 : BitVec 32 := 4#32
  let c0_i32_1422 : BitVec 32 := 0#32
  let v2024 : BitVec 1 := Scalar.cmpi .sgt c4_i32_1419 c0_i32_1422
  let v2025 : BitVec 32 := Scalar.extui v2024
  let c0_i32_1423 : BitVec 32 := 0#32
  let v2026 : BitVec 1 := Scalar.cmpi .slt c4_i32_1419 c0_i32_1423
  let v2027 : BitVec 32 := Scalar.extui v2026
  let v2028 : BitVec 32 := Scalar.subi v2025 v2027
  let v2029 : BitVec 1 := Scalar.cmpi .ne v2023 v2028
  let v2030 : BitVec 32 := Scalar.remsi v2017 c4_i32_1419
  let c0_i32_1424 : BitVec 32 := 0#32
  let v2031 : BitVec 1 := Scalar.cmpi .ne v2030 c0_i32_1424
  let v2032 : BitVec 1 := Scalar.andi v2029 v2031
  let v2018 : BitVec 32 := Scalar.divsi v2017 c4_i32_1419
  let c1_i32_1425 : BitVec 32 := 1#32
  let v2033 : BitVec 32 := Scalar.subi v2018 c1_i32_1425
  let v2034 : BitVec 32 := Scalar.select v2032 v2033 v2018
  let c3_i32_1426 : BitVec 32 := 3#32
  let v2035 : BitVec 1 := Scalar.cmpi .eq v2034 c3_i32_1426
  let v2036 : BitVec 32 := Scalar.extui v2035
  let c0_i32_1431 : BitVec 32 := 0#32
  let v2037 : BitVec 1 := Scalar.cmpi .ne v2036 c0_i32_1431
  v2037

def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1417 : BitVec 32 := 11#32
  let v2016 : BitVec 32 := Scalar.addi v2 c11_i32_1417
  let c16_i32_1418 : BitVec 32 := 16#32
  let v2017 : BitVec 32 := Scalar.remsi v2016 c16_i32_1418
  let v2934 : Index := Scalar.indexCast v2017
  let c0_2432 : Index := 0#32
  let c0_2433 : Index := 0#32
  ![v2934.toNat, 0, 0]
def k0_dev71 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_86 : BitVec 32 := 11#32
  let v92 : BitVec 32 := Scalar.addi v2 c11_i32_86
  let c16_i32_87 : BitVec 32 := 16#32
  let v93 : BitVec 32 := Scalar.remsi v92 c16_i32_87
  let c1_i32_2437 : BitVec 32 := 1#32
  let v2940 : BitVec 32 := Scalar.muli v93 c1_i32_2437
  let v2941 : BitVec 32 := Scalar.addi c0_i32_2438 v2940
  v2941.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1432 : BitVec 32 := 12#32
  let v2038 : BitVec 32 := Scalar.addi v2 c12_i32_1432
  let c16_i32_1433 : BitVec 32 := 16#32
  let v2039 : BitVec 32 := Scalar.remsi v2038 c16_i32_1433
  let c0_i32_1435 : BitVec 32 := 0#32
  let v2041 : BitVec 1 := Scalar.cmpi .sgt v2039 c0_i32_1435
  let v2042 : BitVec 32 := Scalar.extui v2041
  let c0_i32_1436 : BitVec 32 := 0#32
  let v2043 : BitVec 1 := Scalar.cmpi .slt v2039 c0_i32_1436
  let v2044 : BitVec 32 := Scalar.extui v2043
  let v2045 : BitVec 32 := Scalar.subi v2042 v2044
  let c4_i32_1434 : BitVec 32 := 4#32
  let c0_i32_1437 : BitVec 32 := 0#32
  let v2046 : BitVec 1 := Scalar.cmpi .sgt c4_i32_1434 c0_i32_1437
  let v2047 : BitVec 32 := Scalar.extui v2046
  let c0_i32_1438 : BitVec 32 := 0#32
  let v2048 : BitVec 1 := Scalar.cmpi .slt c4_i32_1434 c0_i32_1438
  let v2049 : BitVec 32 := Scalar.extui v2048
  let v2050 : BitVec 32 := Scalar.subi v2047 v2049
  let v2051 : BitVec 1 := Scalar.cmpi .ne v2045 v2050
  let v2052 : BitVec 32 := Scalar.remsi v2039 c4_i32_1434
  let c0_i32_1439 : BitVec 32 := 0#32
  let v2053 : BitVec 1 := Scalar.cmpi .ne v2052 c0_i32_1439
  let v2054 : BitVec 1 := Scalar.andi v2051 v2053
  let v2040 : BitVec 32 := Scalar.divsi v2039 c4_i32_1434
  let c1_i32_1440 : BitVec 32 := 1#32
  let v2055 : BitVec 32 := Scalar.subi v2040 c1_i32_1440
  let v2056 : BitVec 32 := Scalar.select v2054 v2055 v2040
  let c3_i32_1441 : BitVec 32 := 3#32
  let v2057 : BitVec 1 := Scalar.cmpi .eq v2056 c3_i32_1441
  let v2058 : BitVec 32 := Scalar.extui v2057
  let c0_i32_1446 : BitVec 32 := 0#32
  let v2059 : BitVec 1 := Scalar.cmpi .ne v2058 c0_i32_1446
  v2059

def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1432 : BitVec 32 := 12#32
  let v2038 : BitVec 32 := Scalar.addi v2 c12_i32_1432
  let c16_i32_1433 : BitVec 32 := 16#32
  let v2039 : BitVec 32 := Scalar.remsi v2038 c16_i32_1433
  let v2934 : Index := Scalar.indexCast v2039
  let c0_2432 : Index := 0#32
  let c0_2433 : Index := 0#32
  ![v2934.toNat, 0, 0]
def k0_dev72 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_88 : BitVec 32 := 12#32
  let v94 : BitVec 32 := Scalar.addi v2 c12_i32_88
  let c16_i32_89 : BitVec 32 := 16#32
  let v95 : BitVec 32 := Scalar.remsi v94 c16_i32_89
  let c1_i32_2437 : BitVec 32 := 1#32
  let v2940 : BitVec 32 := Scalar.muli v95 c1_i32_2437
  let v2941 : BitVec 32 := Scalar.addi c0_i32_2438 v2940
  v2941.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1447 : BitVec 32 := 13#32
  let v2060 : BitVec 32 := Scalar.addi v2 c13_i32_1447
  let c16_i32_1448 : BitVec 32 := 16#32
  let v2061 : BitVec 32 := Scalar.remsi v2060 c16_i32_1448
  let c0_i32_1450 : BitVec 32 := 0#32
  let v2063 : BitVec 1 := Scalar.cmpi .sgt v2061 c0_i32_1450
  let v2064 : BitVec 32 := Scalar.extui v2063
  let c0_i32_1451 : BitVec 32 := 0#32
  let v2065 : BitVec 1 := Scalar.cmpi .slt v2061 c0_i32_1451
  let v2066 : BitVec 32 := Scalar.extui v2065
  let v2067 : BitVec 32 := Scalar.subi v2064 v2066
  let c4_i32_1449 : BitVec 32 := 4#32
  let c0_i32_1452 : BitVec 32 := 0#32
  let v2068 : BitVec 1 := Scalar.cmpi .sgt c4_i32_1449 c0_i32_1452
  let v2069 : BitVec 32 := Scalar.extui v2068
  let c0_i32_1453 : BitVec 32 := 0#32
  let v2070 : BitVec 1 := Scalar.cmpi .slt c4_i32_1449 c0_i32_1453
  let v2071 : BitVec 32 := Scalar.extui v2070
  let v2072 : BitVec 32 := Scalar.subi v2069 v2071
  let v2073 : BitVec 1 := Scalar.cmpi .ne v2067 v2072
  let v2074 : BitVec 32 := Scalar.remsi v2061 c4_i32_1449
  let c0_i32_1454 : BitVec 32 := 0#32
  let v2075 : BitVec 1 := Scalar.cmpi .ne v2074 c0_i32_1454
  let v2076 : BitVec 1 := Scalar.andi v2073 v2075
  let v2062 : BitVec 32 := Scalar.divsi v2061 c4_i32_1449
  let c1_i32_1455 : BitVec 32 := 1#32
  let v2077 : BitVec 32 := Scalar.subi v2062 c1_i32_1455
  let v2078 : BitVec 32 := Scalar.select v2076 v2077 v2062
  let c3_i32_1456 : BitVec 32 := 3#32
  let v2079 : BitVec 1 := Scalar.cmpi .eq v2078 c3_i32_1456
  let v2080 : BitVec 32 := Scalar.extui v2079
  let c0_i32_1461 : BitVec 32 := 0#32
  let v2081 : BitVec 1 := Scalar.cmpi .ne v2080 c0_i32_1461
  v2081

def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1447 : BitVec 32 := 13#32
  let v2060 : BitVec 32 := Scalar.addi v2 c13_i32_1447
  let c16_i32_1448 : BitVec 32 := 16#32
  let v2061 : BitVec 32 := Scalar.remsi v2060 c16_i32_1448
  let v2934 : Index := Scalar.indexCast v2061
  let c0_2432 : Index := 0#32
  let c0_2433 : Index := 0#32
  ![v2934.toNat, 0, 0]
def k0_dev73 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_90 : BitVec 32 := 13#32
  let v96 : BitVec 32 := Scalar.addi v2 c13_i32_90
  let c16_i32_91 : BitVec 32 := 16#32
  let v97 : BitVec 32 := Scalar.remsi v96 c16_i32_91
  let c1_i32_2437 : BitVec 32 := 1#32
  let v2940 : BitVec 32 := Scalar.muli v97 c1_i32_2437
  let v2941 : BitVec 32 := Scalar.addi c0_i32_2438 v2940
  v2941.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1462 : BitVec 32 := 14#32
  let v2082 : BitVec 32 := Scalar.addi v2 c14_i32_1462
  let c16_i32_1463 : BitVec 32 := 16#32
  let v2083 : BitVec 32 := Scalar.remsi v2082 c16_i32_1463
  let c0_i32_1465 : BitVec 32 := 0#32
  let v2085 : BitVec 1 := Scalar.cmpi .sgt v2083 c0_i32_1465
  let v2086 : BitVec 32 := Scalar.extui v2085
  let c0_i32_1466 : BitVec 32 := 0#32
  let v2087 : BitVec 1 := Scalar.cmpi .slt v2083 c0_i32_1466
  let v2088 : BitVec 32 := Scalar.extui v2087
  let v2089 : BitVec 32 := Scalar.subi v2086 v2088
  let c4_i32_1464 : BitVec 32 := 4#32
  let c0_i32_1467 : BitVec 32 := 0#32
  let v2090 : BitVec 1 := Scalar.cmpi .sgt c4_i32_1464 c0_i32_1467
  let v2091 : BitVec 32 := Scalar.extui v2090
  let c0_i32_1468 : BitVec 32 := 0#32
  let v2092 : BitVec 1 := Scalar.cmpi .slt c4_i32_1464 c0_i32_1468
  let v2093 : BitVec 32 := Scalar.extui v2092
  let v2094 : BitVec 32 := Scalar.subi v2091 v2093
  let v2095 : BitVec 1 := Scalar.cmpi .ne v2089 v2094
  let v2096 : BitVec 32 := Scalar.remsi v2083 c4_i32_1464
  let c0_i32_1469 : BitVec 32 := 0#32
  let v2097 : BitVec 1 := Scalar.cmpi .ne v2096 c0_i32_1469
  let v2098 : BitVec 1 := Scalar.andi v2095 v2097
  let v2084 : BitVec 32 := Scalar.divsi v2083 c4_i32_1464
  let c1_i32_1470 : BitVec 32 := 1#32
  let v2099 : BitVec 32 := Scalar.subi v2084 c1_i32_1470
  let v2100 : BitVec 32 := Scalar.select v2098 v2099 v2084
  let c3_i32_1471 : BitVec 32 := 3#32
  let v2101 : BitVec 1 := Scalar.cmpi .eq v2100 c3_i32_1471
  let v2102 : BitVec 32 := Scalar.extui v2101
  let c0_i32_1476 : BitVec 32 := 0#32
  let v2103 : BitVec 1 := Scalar.cmpi .ne v2102 c0_i32_1476
  v2103

def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1462 : BitVec 32 := 14#32
  let v2082 : BitVec 32 := Scalar.addi v2 c14_i32_1462
  let c16_i32_1463 : BitVec 32 := 16#32
  let v2083 : BitVec 32 := Scalar.remsi v2082 c16_i32_1463
  let v2934 : Index := Scalar.indexCast v2083
  let c0_2432 : Index := 0#32
  let c0_2433 : Index := 0#32
  ![v2934.toNat, 0, 0]
def k0_dev74 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_92 : BitVec 32 := 14#32
  let v98 : BitVec 32 := Scalar.addi v2 c14_i32_92
  let c16_i32_93 : BitVec 32 := 16#32
  let v99 : BitVec 32 := Scalar.remsi v98 c16_i32_93
  let c1_i32_2437 : BitVec 32 := 1#32
  let v2940 : BitVec 32 := Scalar.muli v99 c1_i32_2437
  let v2941 : BitVec 32 := Scalar.addi c0_i32_2438 v2940
  v2941.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1477 : BitVec 32 := 15#32
  let v2104 : BitVec 32 := Scalar.addi v2 c15_i32_1477
  let c16_i32_1478 : BitVec 32 := 16#32
  let v2105 : BitVec 32 := Scalar.remsi v2104 c16_i32_1478
  let c0_i32_1480 : BitVec 32 := 0#32
  let v2107 : BitVec 1 := Scalar.cmpi .sgt v2105 c0_i32_1480
  let v2108 : BitVec 32 := Scalar.extui v2107
  let c0_i32_1481 : BitVec 32 := 0#32
  let v2109 : BitVec 1 := Scalar.cmpi .slt v2105 c0_i32_1481
  let v2110 : BitVec 32 := Scalar.extui v2109
  let v2111 : BitVec 32 := Scalar.subi v2108 v2110
  let c4_i32_1479 : BitVec 32 := 4#32
  let c0_i32_1482 : BitVec 32 := 0#32
  let v2112 : BitVec 1 := Scalar.cmpi .sgt c4_i32_1479 c0_i32_1482
  let v2113 : BitVec 32 := Scalar.extui v2112
  let c0_i32_1483 : BitVec 32 := 0#32
  let v2114 : BitVec 1 := Scalar.cmpi .slt c4_i32_1479 c0_i32_1483
  let v2115 : BitVec 32 := Scalar.extui v2114
  let v2116 : BitVec 32 := Scalar.subi v2113 v2115
  let v2117 : BitVec 1 := Scalar.cmpi .ne v2111 v2116
  let v2118 : BitVec 32 := Scalar.remsi v2105 c4_i32_1479
  let c0_i32_1484 : BitVec 32 := 0#32
  let v2119 : BitVec 1 := Scalar.cmpi .ne v2118 c0_i32_1484
  let v2120 : BitVec 1 := Scalar.andi v2117 v2119
  let v2106 : BitVec 32 := Scalar.divsi v2105 c4_i32_1479
  let c1_i32_1485 : BitVec 32 := 1#32
  let v2121 : BitVec 32 := Scalar.subi v2106 c1_i32_1485
  let v2122 : BitVec 32 := Scalar.select v2120 v2121 v2106
  let c3_i32_1486 : BitVec 32 := 3#32
  let v2123 : BitVec 1 := Scalar.cmpi .eq v2122 c3_i32_1486
  let v2124 : BitVec 32 := Scalar.extui v2123
  let c0_i32_1491 : BitVec 32 := 0#32
  let v2125 : BitVec 1 := Scalar.cmpi .ne v2124 c0_i32_1491
  v2125

def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1477 : BitVec 32 := 15#32
  let v2104 : BitVec 32 := Scalar.addi v2 c15_i32_1477
  let c16_i32_1478 : BitVec 32 := 16#32
  let v2105 : BitVec 32 := Scalar.remsi v2104 c16_i32_1478
  let v2934 : Index := Scalar.indexCast v2105
  let c0_2432 : Index := 0#32
  let c0_2433 : Index := 0#32
  ![v2934.toNat, 0, 0]
def k0_dev75 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_94 : BitVec 32 := 15#32
  let v100 : BitVec 32 := Scalar.addi v2 c15_i32_94
  let c16_i32_95 : BitVec 32 := 16#32
  let v101 : BitVec 32 := Scalar.remsi v100 c16_i32_95
  let c1_i32_2437 : BitVec 32 := 1#32
  let v2940 : BitVec 32 := Scalar.muli v101 c1_i32_2437
  let v2941 : BitVec 32 := Scalar.addi c0_i32_2438 v2940
  v2941.toNat
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2126 : Index := Scalar.indexCast v2
  let c0_1492 : Index := 0#32
  let c0_1493 : Index := 0#32
  ![v2126.toNat, 0, 0]
def k0_dev76 (d0 : Dev nD) : Nat :=
  let c0_i32_1694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1689 : BitVec 32 := 8#32
  let v2301 : BitVec 32 := Scalar.xori v2 c8_i32_1689
  let c1_i32_1693 : BitVec 32 := 1#32
  let v2302 : BitVec 32 := Scalar.muli v2301 c1_i32_1693
  let v2303 : BitVec 32 := Scalar.addi c0_i32_1694 v2302
  v2303.toNat
def k0_dev77 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1709 : BitVec 32 := 2#32
  let v2320 : BitVec 32 := Scalar.xori v2 c2_i32_1709
  let c1_i32_1714 : BitVec 32 := 1#32
  let v2321 : BitVec 32 := Scalar.muli v2320 c1_i32_1714
  let v2322 : BitVec 32 := Scalar.addi c0_i32_1715 v2321
  v2322.toNat
def k0_dev78 (d0 : Dev nD) : Nat :=
  let c0_i32_1725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1720 : BitVec 32 := 2#32
  let v2331 : BitVec 32 := Scalar.xori v2 c2_i32_1720
  let c1_i32_1724 : BitVec 32 := 1#32
  let v2332 : BitVec 32 := Scalar.muli v2331 c1_i32_1724
  let v2333 : BitVec 32 := Scalar.addi c0_i32_1725 v2332
  v2333.toNat
def k0_dev79 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1750 : BitVec 32 := 4#32
  let v2358 : BitVec 32 := Scalar.xori v2 c4_i32_1750
  let c1_i32_1754 : BitVec 32 := 1#32
  let v2359 : BitVec 32 := Scalar.muli v2358 c1_i32_1754
  let v2360 : BitVec 32 := Scalar.addi c0_i32_1755 v2359
  v2360.toNat
def k0_dev80 (d0 : Dev nD) : Nat :=
  let c0_i32_1765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1760 : BitVec 32 := 4#32
  let v2369 : BitVec 32 := Scalar.xori v2 c4_i32_1760
  let c1_i32_1764 : BitVec 32 := 1#32
  let v2370 : BitVec 32 := Scalar.muli v2369 c1_i32_1764
  let v2371 : BitVec 32 := Scalar.addi c0_i32_1765 v2370
  v2371.toNat
def k0_dev81 (d0 : Dev nD) : Nat :=
  let c0_i32_1775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1770 : BitVec 32 := 4#32
  let v2380 : BitVec 32 := Scalar.xori v2 c4_i32_1770
  let c1_i32_1774 : BitVec 32 := 1#32
  let v2381 : BitVec 32 := Scalar.muli v2380 c1_i32_1774
  let v2382 : BitVec 32 := Scalar.addi c0_i32_1775 v2381
  v2382.toNat
def k0_dev82 (d0 : Dev nD) : Nat :=
  let c0_i32_1785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1780 : BitVec 32 := 4#32
  let v2391 : BitVec 32 := Scalar.xori v2 c4_i32_1780
  let c1_i32_1784 : BitVec 32 := 1#32
  let v2392 : BitVec 32 := Scalar.muli v2391 c1_i32_1784
  let v2393 : BitVec 32 := Scalar.addi c0_i32_1785 v2392
  v2393.toNat
def k0_dev83 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1830 : BitVec 32 := 1#32
  let v2434 : BitVec 32 := Scalar.xori v2 c1_i32_1830
  let c1_i32_1835 : BitVec 32 := 1#32
  let v2435 : BitVec 32 := Scalar.muli v2434 c1_i32_1835
  let v2436 : BitVec 32 := Scalar.addi c0_i32_1836 v2435
  v2436.toNat
def k0_dev84 (d0 : Dev nD) : Nat :=
  let c0_i32_1846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1841 : BitVec 32 := 1#32
  let v2445 : BitVec 32 := Scalar.xori v2 c1_i32_1841
  let c1_i32_1845 : BitVec 32 := 1#32
  let v2446 : BitVec 32 := Scalar.muli v2445 c1_i32_1845
  let v2447 : BitVec 32 := Scalar.addi c0_i32_1846 v2446
  v2447.toNat
def k0_dev85 (d0 : Dev nD) : Nat :=
  let c0_i32_1856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1851 : BitVec 32 := 1#32
  let v2456 : BitVec 32 := Scalar.xori v2 c1_i32_1851
  let c1_i32_1855 : BitVec 32 := 1#32
  let v2457 : BitVec 32 := Scalar.muli v2456 c1_i32_1855
  let v2458 : BitVec 32 := Scalar.addi c0_i32_1856 v2457
  v2458.toNat
def k0_dev86 (d0 : Dev nD) : Nat :=
  let c0_i32_1866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1861 : BitVec 32 := 1#32
  let v2467 : BitVec 32 := Scalar.xori v2 c1_i32_1861
  let c1_i32_1865 : BitVec 32 := 1#32
  let v2468 : BitVec 32 := Scalar.muli v2467 c1_i32_1865
  let v2469 : BitVec 32 := Scalar.addi c0_i32_1866 v2468
  v2469.toNat
def k0_dev87 (d0 : Dev nD) : Nat :=
  let c0_i32_1876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1871 : BitVec 32 := 1#32
  let v2478 : BitVec 32 := Scalar.xori v2 c1_i32_1871
  let c1_i32_1875 : BitVec 32 := 1#32
  let v2479 : BitVec 32 := Scalar.muli v2478 c1_i32_1875
  let v2480 : BitVec 32 := Scalar.addi c0_i32_1876 v2479
  v2480.toNat
def k0_dev88 (d0 : Dev nD) : Nat :=
  let c0_i32_1886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1881 : BitVec 32 := 1#32
  let v2489 : BitVec 32 := Scalar.xori v2 c1_i32_1881
  let c1_i32_1885 : BitVec 32 := 1#32
  let v2490 : BitVec 32 := Scalar.muli v2489 c1_i32_1885
  let v2491 : BitVec 32 := Scalar.addi c0_i32_1886 v2490
  v2491.toNat
def k0_dev89 (d0 : Dev nD) : Nat :=
  let c0_i32_1896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1891 : BitVec 32 := 1#32
  let v2500 : BitVec 32 := Scalar.xori v2 c1_i32_1891
  let c1_i32_1895 : BitVec 32 := 1#32
  let v2501 : BitVec 32 := Scalar.muli v2500 c1_i32_1895
  let v2502 : BitVec 32 := Scalar.addi c0_i32_1896 v2501
  v2502.toNat
def k0_dev90 (d0 : Dev nD) : Nat :=
  let c0_i32_1906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1901 : BitVec 32 := 1#32
  let v2511 : BitVec 32 := Scalar.xori v2 c1_i32_1901
  let c1_i32_1905 : BitVec 32 := 1#32
  let v2512 : BitVec 32 := Scalar.muli v2511 c1_i32_1905
  let v2513 : BitVec 32 := Scalar.addi c0_i32_1906 v2512
  v2513.toNat
def k0_off62 (d0 : Dev nD) (c1_i32_1994 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2588 : BitVec 32 := Scalar.xori v2 c1_i32_1994
  let v2589 : Index := Scalar.indexCast v2588
  let c0_1995 : Index := 0#32
  let c0_1996 : Index := 0#32
  ![v2589.toNat, 0, 0]
def k0_dev91 (d0 : Dev nD) : Nat :=
  let c0_i32_2359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2355 : BitVec 32 := 1#32
  let v2874 : BitVec 32 := Scalar.addi v2 c1_i32_2355
  let c16_i32_2356 : BitVec 32 := 16#32
  let v2875 : BitVec 32 := Scalar.remsi v2874 c16_i32_2356
  let c1_i32_2358 : BitVec 32 := 1#32
  let v2876 : BitVec 32 := Scalar.muli v2875 c1_i32_2358
  let v2877 : BitVec 32 := Scalar.addi c0_i32_2359 v2876
  v2877.toNat
def k0_dev92 (d0 : Dev nD) : Nat :=
  let c0_i32_2364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2360 : BitVec 32 := 2#32
  let v2878 : BitVec 32 := Scalar.addi v2 c2_i32_2360
  let c16_i32_2361 : BitVec 32 := 16#32
  let v2879 : BitVec 32 := Scalar.remsi v2878 c16_i32_2361
  let c1_i32_2363 : BitVec 32 := 1#32
  let v2880 : BitVec 32 := Scalar.muli v2879 c1_i32_2363
  let v2881 : BitVec 32 := Scalar.addi c0_i32_2364 v2880
  v2881.toNat
def k0_dev93 (d0 : Dev nD) : Nat :=
  let c0_i32_2369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2365 : BitVec 32 := 3#32
  let v2882 : BitVec 32 := Scalar.addi v2 c3_i32_2365
  let c16_i32_2366 : BitVec 32 := 16#32
  let v2883 : BitVec 32 := Scalar.remsi v2882 c16_i32_2366
  let c1_i32_2368 : BitVec 32 := 1#32
  let v2884 : BitVec 32 := Scalar.muli v2883 c1_i32_2368
  let v2885 : BitVec 32 := Scalar.addi c0_i32_2369 v2884
  v2885.toNat
def k0_dev94 (d0 : Dev nD) : Nat :=
  let c0_i32_2374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2370 : BitVec 32 := 4#32
  let v2886 : BitVec 32 := Scalar.addi v2 c4_i32_2370
  let c16_i32_2371 : BitVec 32 := 16#32
  let v2887 : BitVec 32 := Scalar.remsi v2886 c16_i32_2371
  let c1_i32_2373 : BitVec 32 := 1#32
  let v2888 : BitVec 32 := Scalar.muli v2887 c1_i32_2373
  let v2889 : BitVec 32 := Scalar.addi c0_i32_2374 v2888
  v2889.toNat
def k0_dev95 (d0 : Dev nD) : Nat :=
  let c0_i32_2379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2375 : BitVec 32 := 5#32
  let v2890 : BitVec 32 := Scalar.addi v2 c5_i32_2375
  let c16_i32_2376 : BitVec 32 := 16#32
  let v2891 : BitVec 32 := Scalar.remsi v2890 c16_i32_2376
  let c1_i32_2378 : BitVec 32 := 1#32
  let v2892 : BitVec 32 := Scalar.muli v2891 c1_i32_2378
  let v2893 : BitVec 32 := Scalar.addi c0_i32_2379 v2892
  v2893.toNat
def k0_dev96 (d0 : Dev nD) : Nat :=
  let c0_i32_2384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2380 : BitVec 32 := 6#32
  let v2894 : BitVec 32 := Scalar.addi v2 c6_i32_2380
  let c16_i32_2381 : BitVec 32 := 16#32
  let v2895 : BitVec 32 := Scalar.remsi v2894 c16_i32_2381
  let c1_i32_2383 : BitVec 32 := 1#32
  let v2896 : BitVec 32 := Scalar.muli v2895 c1_i32_2383
  let v2897 : BitVec 32 := Scalar.addi c0_i32_2384 v2896
  v2897.toNat
def k0_dev97 (d0 : Dev nD) : Nat :=
  let c0_i32_2389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2385 : BitVec 32 := 7#32
  let v2898 : BitVec 32 := Scalar.addi v2 c7_i32_2385
  let c16_i32_2386 : BitVec 32 := 16#32
  let v2899 : BitVec 32 := Scalar.remsi v2898 c16_i32_2386
  let c1_i32_2388 : BitVec 32 := 1#32
  let v2900 : BitVec 32 := Scalar.muli v2899 c1_i32_2388
  let v2901 : BitVec 32 := Scalar.addi c0_i32_2389 v2900
  v2901.toNat
def k0_dev98 (d0 : Dev nD) : Nat :=
  let c0_i32_2394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2390 : BitVec 32 := 8#32
  let v2902 : BitVec 32 := Scalar.addi v2 c8_i32_2390
  let c16_i32_2391 : BitVec 32 := 16#32
  let v2903 : BitVec 32 := Scalar.remsi v2902 c16_i32_2391
  let c1_i32_2393 : BitVec 32 := 1#32
  let v2904 : BitVec 32 := Scalar.muli v2903 c1_i32_2393
  let v2905 : BitVec 32 := Scalar.addi c0_i32_2394 v2904
  v2905.toNat
def k0_dev99 (d0 : Dev nD) : Nat :=
  let c0_i32_2399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2395 : BitVec 32 := 9#32
  let v2906 : BitVec 32 := Scalar.addi v2 c9_i32_2395
  let c16_i32_2396 : BitVec 32 := 16#32
  let v2907 : BitVec 32 := Scalar.remsi v2906 c16_i32_2396
  let c1_i32_2398 : BitVec 32 := 1#32
  let v2908 : BitVec 32 := Scalar.muli v2907 c1_i32_2398
  let v2909 : BitVec 32 := Scalar.addi c0_i32_2399 v2908
  v2909.toNat
def k0_dev100 (d0 : Dev nD) : Nat :=
  let c0_i32_2404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2400 : BitVec 32 := 10#32
  let v2910 : BitVec 32 := Scalar.addi v2 c10_i32_2400
  let c16_i32_2401 : BitVec 32 := 16#32
  let v2911 : BitVec 32 := Scalar.remsi v2910 c16_i32_2401
  let c1_i32_2403 : BitVec 32 := 1#32
  let v2912 : BitVec 32 := Scalar.muli v2911 c1_i32_2403
  let v2913 : BitVec 32 := Scalar.addi c0_i32_2404 v2912
  v2913.toNat
def k0_dev101 (d0 : Dev nD) : Nat :=
  let c0_i32_2409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2405 : BitVec 32 := 11#32
  let v2914 : BitVec 32 := Scalar.addi v2 c11_i32_2405
  let c16_i32_2406 : BitVec 32 := 16#32
  let v2915 : BitVec 32 := Scalar.remsi v2914 c16_i32_2406
  let c1_i32_2408 : BitVec 32 := 1#32
  let v2916 : BitVec 32 := Scalar.muli v2915 c1_i32_2408
  let v2917 : BitVec 32 := Scalar.addi c0_i32_2409 v2916
  v2917.toNat
def k0_dev102 (d0 : Dev nD) : Nat :=
  let c0_i32_2414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2410 : BitVec 32 := 12#32
  let v2918 : BitVec 32 := Scalar.addi v2 c12_i32_2410
  let c16_i32_2411 : BitVec 32 := 16#32
  let v2919 : BitVec 32 := Scalar.remsi v2918 c16_i32_2411
  let c1_i32_2413 : BitVec 32 := 1#32
  let v2920 : BitVec 32 := Scalar.muli v2919 c1_i32_2413
  let v2921 : BitVec 32 := Scalar.addi c0_i32_2414 v2920
  v2921.toNat
def k0_dev103 (d0 : Dev nD) : Nat :=
  let c0_i32_2419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2415 : BitVec 32 := 13#32
  let v2922 : BitVec 32 := Scalar.addi v2 c13_i32_2415
  let c16_i32_2416 : BitVec 32 := 16#32
  let v2923 : BitVec 32 := Scalar.remsi v2922 c16_i32_2416
  let c1_i32_2418 : BitVec 32 := 1#32
  let v2924 : BitVec 32 := Scalar.muli v2923 c1_i32_2418
  let v2925 : BitVec 32 := Scalar.addi c0_i32_2419 v2924
  v2925.toNat
def k0_dev104 (d0 : Dev nD) : Nat :=
  let c0_i32_2424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2420 : BitVec 32 := 14#32
  let v2926 : BitVec 32 := Scalar.addi v2 c14_i32_2420
  let c16_i32_2421 : BitVec 32 := 16#32
  let v2927 : BitVec 32 := Scalar.remsi v2926 c16_i32_2421
  let c1_i32_2423 : BitVec 32 := 1#32
  let v2928 : BitVec 32 := Scalar.muli v2927 c1_i32_2423
  let v2929 : BitVec 32 := Scalar.addi c0_i32_2424 v2928
  v2929.toNat
def k0_dev105 (d0 : Dev nD) : Nat :=
  let c0_i32_2429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2425 : BitVec 32 := 15#32
  let v2930 : BitVec 32 := Scalar.addi v2 c15_i32_2425
  let c16_i32_2426 : BitVec 32 := 16#32
  let v2931 : BitVec 32 := Scalar.remsi v2930 c16_i32_2426
  let c1_i32_2428 : BitVec 32 := 1#32
  let v2932 : BitVec 32 := Scalar.muli v2931 c1_i32_2428
  let v2933 : BitVec 32 := Scalar.addi c0_i32_2429 v2932
  v2933.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x512x16384 : Shape := ⟨3, ![1, 512, 16384]⟩
abbrev S1x512x128x128 : Shape := ⟨4, ![1, 512, 128, 128]⟩
abbrev S_ : Shape := ⟨0, ![]⟩
abbrev S1x128x512x1 : Shape := ⟨4, ![1, 128, 512, 1]⟩
abbrev S1x1024x128x128 : Shape := ⟨4, ![1, 1024, 128, 128]⟩
abbrev S1x128x512x1024 : Shape := ⟨4, ![1, 128, 512, 1024]⟩
abbrev S1x128x512 : Shape := ⟨3, ![1, 128, 512]⟩
abbrev S1x512x128x1 : Shape := ⟨4, ![1, 512, 128, 1]⟩
abbrev S1x128x128x512 : Shape := ⟨4, ![1, 128, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x16384, .f32⟩
  | .hbm, ⟨2, _⟩ => ⟨S1x2048x128x128, .f32⟩
  | .hbm, ⟨3, _⟩ => ⟨S1x2048x128x128, .f32⟩
  | .hbm, ⟨4, _⟩ => ⟨S16384x1024, .f32⟩
  | .hbm, ⟨5, _⟩ => ⟨S1x512x16384, .f32⟩
  | .hbm, ⟨6, _⟩ => ⟨S1x512x128x128, .f32⟩
  | .hbm, ⟨7, _⟩ => ⟨S_, .f32⟩
  | .hbm, ⟨8, _⟩ => ⟨S1x512x128x128, .f32⟩
  | .hbm, ⟨9, _⟩ => ⟨S_, .f32⟩
  | .hbm, ⟨10, _⟩ => ⟨S1x128x512x1, .f32⟩
  | .hbm, ⟨11, _⟩ => ⟨S_, .f32⟩
  | .hbm, ⟨12, _⟩ => ⟨S1x128x512x1, .f32⟩
  | .hbm, ⟨13, _⟩ => ⟨S1x1024x128x128, .f32⟩
  | .hbm, ⟨14, _⟩ => ⟨S1x1024x128x128, .f32⟩
  | .hbm, ⟨15, _⟩ => ⟨S1x128x512x1024, .f32⟩
  | .hbm, ⟨16, _⟩ => ⟨S_, .f32⟩
  | .hbm, ⟨17, _⟩ => ⟨S1x128x512x1024, .f32⟩
  | .hbm, ⟨18, _⟩ => ⟨S1x128x512x1024, .f32⟩
  | .hbm, ⟨19, _⟩ => ⟨S_, .f32⟩
  | .hbm, ⟨20, _⟩ => ⟨S1x128x512, .f32⟩
  | .hbm, ⟨21, _⟩ => ⟨S1x128x512x1, .f32⟩
  | .hbm, ⟨22, _⟩ => ⟨S1x128x512x1, .f32⟩
  | .hbm, ⟨23, _⟩ => ⟨S1x128x512x1, .f32⟩
  | .hbm, ⟨24, _⟩ => ⟨S1x128x512x1, .f32⟩
  | .hbm, ⟨25, _⟩ => ⟨S1x128x512x1024, .f32⟩
  | .hbm, ⟨26, _⟩ => ⟨S1x128x512x1024, .f32⟩
  | .hbm, ⟨27, _⟩ => ⟨S1x128x512x1024, .f32⟩
  | .hbm, ⟨28, _⟩ => ⟨S1x128x512x1, .f32⟩
  | .hbm, ⟨29, _⟩ => ⟨S_, .f32⟩
  | .hbm, ⟨30, _⟩ => ⟨S1x128x512, .f32⟩
  | .hbm, ⟨31, _⟩ => ⟨S1x128x512x1, .f32⟩
  | .hbm, ⟨32, _⟩ => ⟨S1x128x512x1, .f32⟩
  | .hbm, ⟨33, _⟩ => ⟨S1x512x128x1, .f32⟩
  | .hbm, ⟨34, _⟩ => ⟨S1x512x128x128, .f32⟩
  | .hbm, ⟨35, _⟩ => ⟨S1x512x128x128, .f32⟩
  | .hbm, ⟨36, _⟩ => ⟨S1x128x128x512, .f32⟩
  | .hbm, ⟨37, _⟩ => ⟨S1x512x128x128, .f32⟩
  | .hbm, ⟨38, _⟩ => ⟨S1x512x128x128, .f32⟩
  | .hbm, ⟨39, _⟩ => ⟨S1x1024x128x128, .f32⟩
  | .hbm, ⟨40, _⟩ => ⟨S1x1024x128x128, .f32⟩
  | .hbm, ⟨41, _⟩ => ⟨S1x128x512x1024, .f32⟩
  | .hbm, ⟨42, _⟩ => ⟨S_, .f32⟩
  | .hbm, ⟨43, _⟩ => ⟨S1x128x512x1024, .f32⟩
  | .hbm, ⟨44, _⟩ => ⟨S1x128x512x1024, .f32⟩
  | .hbm, ⟨45, _⟩ => ⟨S_, .f32⟩
  | .hbm, ⟨46, _⟩ => ⟨S1x128x512, .f32⟩
  | .hbm, ⟨47, _⟩ => ⟨S1x128x512x1, .f32⟩
  | .hbm, ⟨48, _⟩ => ⟨S1x128x512x1, .f32⟩
  | .hbm, ⟨49, _⟩ => ⟨S1x128x512x1, .f32⟩
  | .hbm, ⟨50, _⟩ => ⟨S1x128x512x1, .f32⟩
  | .hbm, ⟨51, _⟩ => ⟨S1x128x512x1024, .f32⟩
  | .hbm, ⟨52, _⟩ => ⟨S1x128x512x1024, .f32⟩
  | .hbm, ⟨53, _⟩ => ⟨S1x128x512x1024, .f32⟩
  | .hbm, ⟨54, _⟩ => ⟨S1x128x512x1, .f32⟩
  | .hbm, ⟨55, _⟩ => ⟨S_, .f32⟩
  | .hbm, ⟨56, _⟩ => ⟨S1x128x512, .f32⟩
  | .hbm, ⟨57, _⟩ => ⟨S1x128x512x1, .f32⟩
  | .hbm, ⟨58, _⟩ => ⟨S1x128x512x1, .f32⟩
  | .hbm, ⟨59, _⟩ => ⟨S1x512x128x1, .f32⟩
  | .hbm, ⟨60, _⟩ => ⟨S1x512x128x128, .f32⟩
  | .hbm, ⟨61, _⟩ => ⟨S1x512x128x128, .f32⟩
  | .hbm, ⟨62, _⟩ => ⟨S1x128x128x512, .f32⟩
  | .hbm, ⟨63, _⟩ => ⟨S1x512x128x128, .f32⟩
  | .hbm, ⟨64, _⟩ => ⟨S1x512x128x128, .f32⟩
  | .hbm, ⟨65, _⟩ => ⟨S1x512x128x1, .f32⟩
  | .hbm, ⟨66, _⟩ => ⟨S1x512x128x128, .f32⟩
  | .hbm, ⟨67, _⟩ => ⟨S1x512x128x128, .f32⟩
  | .hbm, ⟨68, _⟩ => ⟨S1x512x16384, .f32⟩
  | .hbm, ⟨69, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Same.lean ====
/- The kernel as printed and the kernel as printed for exact numbers are one program. -/
module

public import proofs.«01_k».proof.Defs
public import proofs.«01_k».proof.Proof.Gen.Kernel
public import proofs.«01_k».proof.Proof.Gen.KernelIdeal
public import Idealize.ShloMosaic.Lib.Pipeline.Regions

@[expose] public section

noncomputable section

namespace Cert.Proof

open Idealize.ShloMosaic Idealize.SL.Sem

/-- That the kernel leaves its arguments alone and every counter at zero, in any format of numbers. -/
def Quiet (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (@Cert.KernelIdeal.defs F _ Cert.KernelIdeal.Gen.facts) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem quiet_same : @Cert.quiescent_Kernel Cert.Kernel.Gen.facts = Quiet Bits := by
  chain_rfl

end Cert.Proof
-- ==== Proof.Geo.lean ====
/- The places, devices and cells of the exchange: which device a transfer goes to, which buffer row it
   lands in, and what a row of a three-dimensional buffer holds. -/
module

public import proofs.«01_k».proof.Proof.Gen.KernelIdeal
public import proofs.«01_k».proof.Proof.Gen.KernelIdeal.Skeleton
public import Idealize.ShloMosaic.Lib.StableHlo
public import Idealize.ShloMosaic.Lib.Tactic
public import Idealize.ShloMosaic.PureOps
public import Idealize.ShloMosaic.Lib.Pointwise.Index
public import Idealize.ShloMosaic.Lib.ViewIndex
public import Idealize.ShloMosaic.Lib.Writes
public import Idealize.ShloMosaic.Lib.ShareLeaves
public import Idealize.ShloMosaic.Lib.Pipeline.RegionTalk
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Devices -/

/-- The device `d + 1` places after `c`. -/
def sh (c : Dev nD) (d : Fin 15) : Dev nD := ⟨(c.val + d.val + 1) % 16, Nat.mod_lt _ (by decide)⟩
/-- The device `d + 1` places before `c`. -/
def hs (c : Dev nD) (d : Fin 15) : Dev nD := ⟨(c.val + 15 - d.val) % 16, Nat.mod_lt _ (by decide)⟩

theorem hs_sh : ∀ (c : Dev nD) (d : Fin 15), hs (sh c d) d = c := by decide +kernel
theorem sh_hs : ∀ (c : Dev nD) (d : Fin 15), sh (hs c d) d = c := by decide +kernel

/-- Exclusive or of two places. -/
def xr (a b : Fin 16) : Fin 16 := ⟨(a.val ^^^ b.val) % 16, Nat.mod_lt _ (by decide)⟩

/-- The place flipped by the step that carries slot `j` of the second exchange. -/
def pm (j : Fin 16) : Fin 16 := if j.val % 2 = 1 then 1 else if j.val % 8 ≥ 4 then 4 else if j.val % 4 ≥ 2 then 2 else 8

/-- The slot a transfer of the second exchange fills. -/
def dslot (i : Fin 30) : Fin 16 := ⟨(i.val - 14) % 16, Nat.mod_lt _ (by decide)⟩
/-- The slot it copies. -/
def sslot (i : Fin 30) : Fin 16 := xr (dslot i) (pm (dslot i))
/-- Which share of the slot it borrows. -/
def lf (i : Fin 30) : Fin 8 := if (pm (dslot i)).val = 8 then 0 else if (pm (dslot i)).val = 2 then 1 else if (pm (dslot i)).val = 4 then 2 else 3

/-- Where device `c` sends transfer `i`: the first fifteen are the scatter, the others the gather. -/
def tgt (c : Dev nD) (i : Fin 30) : Dev nD :=
  if i.val < 15 then ⟨(c.val + i.val + 1) % 16, Nat.mod_lt _ (by decide)⟩ else xr c (pm (dslot i))
/-- From where device `c` receives transfer `i`. -/
def src (c : Dev nD) (i : Fin 30) : Dev nD :=
  if i.val < 15 then ⟨(c.val + 15 - i.val) % 16, Nat.mod_lt _ (by decide)⟩ else xr c (pm (dslot i))

theorem src_tgt : ∀ (c : Dev nD) (i : Fin 30), src (tgt c i) i = c := by decide +kernel
theorem tgt_src : ∀ (c : Dev nD) (i : Fin 30), tgt (src c i) i = c := by decide +kernel

/-- Place of a gather transfer in the order they are started. -/
def apos (i : Fin 30) : ℕ :=
  match i.val with
  | 22 => 0 | 16 => 1 | 24 => 2 | 18 => 3 | 26 => 4 | 20 => 5 | 28 => 6
  | 15 => 7 | 23 => 8 | 17 => 9 | 25 => 10 | 19 => 11 | 27 => 12 | 21 => 13 | _ => 14

/-- When device `c` starts transfer `i`: the scatter in four blocks of fifteen moments, then the gather. -/
def spos (c : Dev nD) (i : Fin 30) : ℕ := if i.val < 15 then 15 * ((tgt c i).val / 4) + i.val else 60 + apos i
/-- When a device waits for transfer `i` to have come. -/
def rpos (i : Fin 30) : ℕ := if i.val < 15 then i.val else 15 + apos i

theorem spos_inj : ∀ (c : Dev nD) (i j : Fin 30), spos c i = spos c j → i = j := by decide +kernel
theorem rpos_inj : ∀ (i j : Fin 30), rpos i = rpos j → i = j := by decide +kernel
theorem spos_lt : ∀ (c : Dev nD) (i : Fin 30), spos c i < 75 := by decide +kernel
theorem rpos_lt : ∀ (i : Fin 30), rpos i < 30 := by decide +kernel

/-- At which level a device waits for transfer `i`. -/
def rlev (i : Fin 30) : ℕ := if i.val < 15 then 2 else if apos i < 1 then 3 else if apos i < 3 then 4 else if apos i < 7 then 5 else 6

/-! ## Semaphores and cells -/

theorem dsem_lt (i : Fin 30) (k : ℕ) (h : k ≤ 36) : k + i.val < 66 := by have := i.isLt; omega

/-- The semaphore that tells the sender of transfer `i` its source is free again. -/
def sndS (i : Fin 30) : DmaSem sig := ⟨6 + i.val, dsem_lt i 6 (by decide)⟩
/-- The semaphore that tells the receiver of transfer `i` that it has come. -/
def rcvS (i : Fin 30) : DmaSem sig := ⟨36 + i.val, dsem_lt i 36 (by decide)⟩
def barS : Sem sig := ⟨1, by decide⟩
def exS : Sem sig := ⟨0, by decide⟩

abbrev barC (c : Dev nD) : GSem nD τ sig := ((c : Thread nD τ), .reg barS)
abbrev exC (c : Dev nD) : GSem nD τ sig := ((c : Thread nD τ), .reg exS)
abbrev sndC (c : Dev nD) (i : Fin 30) : GSem nD τ sig := ((c : Thread nD τ), .dma (sndS i))
abbrev rcvC (c : Dev nD) (i : Fin 30) : GSem nD τ sig := ((c : Thread nD τ), .dma (rcvS i))

theorem sem_snd (i : Fin 30) (inb : ∀ a, (![i.val] : Fin 1 → ℕ) a + S1.size a ≤ S30.size a) :
    ((cc0_scratch6.slice (Rect.unit (s := S30) ![i.val] S1.size inb)).squeeze S_ squeezes_S1_S_).sem = sndS i := by
  revert inb; revert i; decide +kernel
theorem sem_rcv (i : Fin 30) (inb : ∀ a, (![i.val] : Fin 1 → ℕ) a + S1.size a ≤ S30.size a) :
    ((cc0_scratch7.slice (Rect.unit (s := S30) ![i.val] S1.size inb)).squeeze S_ squeezes_S1_S_).sem = rcvS i := by
  revert inb; revert i; decide +kernel
theorem sem_ex : cc0_scratch8.sem = exS := by decide +kernel
theorem sem_bar : (SemArray.scalar (sig.barrier 0 rfl) : Sems sig S_).sem = barS := by decide +kernel

/-! ## Rows of a three-dimensional buffer -/

abbrev SR (n : ℕ) : Shape := ⟨3, ![n, 32, 1024]⟩

/-- The elements of row `k`. -/
def rowS (n k : ℕ) : Finset (SR n).Idx := Finset.univ.filter fun x => (x 0).val = k

theorem mem_rowS {n k : ℕ} {x : (SR n).Idx} : x ∈ rowS n k ↔ (x 0).val = k := by
  unfold rowS; rw [Finset.mem_filter]; exact ⟨fun h => h.2, fun h => ⟨Finset.mem_univ _, h⟩⟩

theorem rowS_disjoint {n k l : ℕ} (h : k ≠ l) : Disjoint (rowS n k) (rowS n l) :=
  Finset.disjoint_left.mpr fun x hx hy => h ((mem_rowS.mp hx).symm.trans (mem_rowS.mp hy))

/-- Every row holding the same values. -/
def spread (n : ℕ) (v : S1x32x1024.Idx → Elt F .f32) : (SR n).Idx → Elt F .f32 := fun x => v (ix3 (n0 := 1) (n1 := 32) (n2 := 1024) 0 (x 1) (x 2))

theorem set_row {n k : ℕ} (off : Fin 3 → ℕ) (ho : off = ![k, 0, 0]) (inb : ∀ a, off a + S1x32x1024.size a ≤ (SR n).size a) :
    (Rect.unit (s := SR n) off S1x32x1024.size inb).set = rowS n k := by
  subst ho
  ext x
  rw [Rect.mem_set_unit, mem_rowS]
  constructor
  · intro h; have := h 0; simp at this; omega
  · intro h a
    match a with
    | ⟨0, _⟩ => simp; omega
    | ⟨1, _⟩ => have := (x 1).isLt; simp at this ⊢; omega
    | ⟨2, _⟩ => have := (x 2).isLt; simp at this ⊢; omega

theorem emb_row {n k : ℕ} (hk : k < n) (off : Fin 3 → ℕ) (ho : off = ![k, 0, 0]) (inb : ∀ a, off a + S1x32x1024.size a ≤ (SR n).size a) (y : S1x32x1024.Idx) :
    (Rect.unit (s := SR n) off S1x32x1024.size inb).emb y = ix3 (n0 := n) (n1 := 32) (n2 := 1024) ⟨k, hk⟩ (y 1) (y 2) := by
  subst ho
  refine Shape.idx3_ext ?_ ?_ ?_
  · rw [Rect.emb_apply]
    show k + 1 * (y 0).val = k
    have h : (y 0).val < 1 := (y 0).isLt
    omega
  · rw [Rect.emb_apply]; show 0 + 1 * (y 1).val = (y 1).val; omega
  · rw [Rect.emb_apply]; show 0 + 1 * (y 2).val = (y 2).val; omega

section Rows

variable {n : ℕ} (v : View sig .tc .vmem (SR n) .f32) {k : ℕ} (hk : k < n) (off : Fin 3 → ℕ) (ho : off = ![k, 0, 0])
  (inb : ∀ a, off a + S1x32x1024.size a ≤ (SR n).size a)

include ho in
theorem read_row (f : v.ty.Contents (Elt F)) (y : S1x32x1024.Idx) :
    (v.slice (Rect.unit (s := SR n) off S1x32x1024.size inb)).read (Elt F) f y
      = v.read (Elt F) f (ix3 (n0 := n) (n1 := 32) (n2 := 1024) ⟨k, hk⟩ (y 1) (y 2)) := by
  show v.read (Elt F) f ((Rect.unit (s := SR n) off S1x32x1024.size inb).emb y) = _
  rw [emb_row hk off ho inb y]

include hk ho in
theorem write_row (f : v.ty.Contents (Elt F)) (w : S1x32x1024.Idx → Elt F .f32) (x : (SR n).Idx) :
    v.read (Elt F) ((v.slice (Rect.unit (s := SR n) off S1x32x1024.size inb)).write (Elt F) f w Finset.univ) x
      = if (x 0).val = k then w (ix3 (n0 := 1) (n1 := 32) (n2 := 1024) 0 (x 1) (x 2)) else v.read (Elt F) f x := by
  by_cases h : (x 0).val = k
  · rw [if_pos h]
    have e : x = (Rect.unit (s := SR n) off S1x32x1024.size inb).emb (ix3 (n0 := 1) (n1 := 32) (n2 := 1024) 0 (x 1) (x 2)) := by
      rw [emb_row hk off ho inb]
      exact Shape.idx3_ext h rfl rfl
    have h2 := View.read_write_of_mem (v := v.slice (Rect.unit (s := SR n) off S1x32x1024.size inb)) f w
      (Finset.mem_univ (ix3 (n0 := 1) (n1 := 32) (n2 := 1024) 0 (x 1) (x 2)))
    rw [← h2]
    conv_lhs => rw [e]
    rfl
  · rw [if_neg h, View.read_apply, View.read_apply, View.write_of_not_mem]
    rw [View.setOn_univ, View.set_slice, set_row off ho inb, Finset.mem_map]
    rintro ⟨y, hy, e⟩
    exact h (v.emb.injective e ▸ mem_rowS.mp hy)

end Rows

/-- What a transfer of one row leaves: the row copied, every other row as it was. -/
theorem land_row {n m : ℕ} (vd : View sig .tc .vmem (SR n) .f32) (vs : View sig .tc .vmem (SR m) .f32) {kd ks : ℕ} (hkd : kd < n) (hks : ks < m)
    (inbd : ∀ a, (![kd, 0, 0] : Fin 3 → ℕ) a + S1x32x1024.size a ≤ (SR n).size a)
    (inbs : ∀ a, (![ks, 0, 0] : Fin 3 → ℕ) a + S1x32x1024.size a ≤ (SR m).size a)
    (hr : S32x1024.numel = S1x32x1024.numel) (fd : vd.ty.Contents (Elt F)) (fs : vs.ty.Contents (Elt F)) (x : (SR n).Idx) :
    vd.read (Elt F) (((vd.slice (Rect.unit (s := SR n) ![kd, 0, 0] S1x32x1024.size inbd)).reshape S32x1024 hr).write (Elt F) fd
        (((vs.slice (Rect.unit (s := SR m) ![ks, 0, 0] S1x32x1024.size inbs)).reshape S32x1024 hr).read (Elt F) fs) Finset.univ) x
      = if (x 0).val = kd then vs.read (Elt F) fs (ix3 (n0 := m) (n1 := 32) (n2 := 1024) ⟨ks, hks⟩ (x 1) (x 2)) else vd.read (Elt F) fd x := by
  rw [View.write_reshape_univ, write_row vd hkd _ rfl]
  split
  · exact (congrArg ((vs.slice (Rect.unit (s := SR m) ![ks, 0, 0] S1x32x1024.size inbs)).read (Elt F) fs)
      (Equiv.apply_symm_apply (Shape.reshapeEquiv hr) (ix3 (n0 := 1) (n1 := 32) (n2 := 1024) 0 (x 1) (x 2)))).trans
      (read_row vs hks _ rfl inbs fs _)
  · rfl

end Cert.KernelIdeal.Talk
-- ==== Proof.Sched.lean ====
/- The exchange as a schedule: who pays what into which semaphore, and with which values. -/
module

public import proofs.«01_k».proof.Proof.Geo

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UX : Type := URounds (GSem nD τ sig) (Fin 15)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The buffers -/

abbrev M0 : Memref sig .tc .vmem S512x1024 .f32 := Memref.whole cc0_stg0_0
abbrev M1 : Memref sig .tc .vmem S1024x1024 .f32 := Memref.whole cc0_stg1_0
abbrev M2 : Memref sig .tc .vmem S1024x1024 .f32 := Memref.whole cc0_stg2_0
abbrev M3 : Memref sig .tc .vmem S8x2048x128 .f32 := Memref.whole cc0_stg3_0
abbrev M4 : Memref sig .tc .vmem S8x2048x128 .f32 := Memref.whole cc0_stg4_0
abbrev M5 : Memref sig .tc .vmem S512x1024 .f32 := Memref.whole cc0_stg5_0
abbrev M6 : Memref sig .tc .vmem S512x1024 .f32 := Memref.whole cc0_scratch0
abbrev M7 : Memref sig .tc .vmem S512x1024 .f32 := Memref.whole cc0_scratch1
abbrev M8 : Memref sig .tc .vmem S16x32x1024 .f32 := Memref.whole cc0_scratch2
abbrev M9 : Memref sig .tc .vmem S15x32x1024 .f32 := Memref.whole cc0_scratch3
abbrev M10 : Memref sig .tc .vmem S15x32x1024 .f32 := Memref.whole cc0_scratch4
abbrev M11 : Memref sig .tc .vmem S16x32x1024 .f32 := Memref.whole cc0_scratch5

/-- One row of a buffer as a transfer names it. -/
abbrev rowM {n : ℕ} (m : Memref sig .tc .vmem (SR n) .f32) (k : ℕ) (inb : ∀ a, (![k, 0, 0] : Fin 3 → ℕ) a + S1x32x1024.size a ≤ (SR n).size a) :
    Memref sig .tc .vmem S32x1024 .f32 :=
  (m.slice (Rect.unit (s := SR n) ![k, 0, 0] S1x32x1024.size inb) (fun _ => rfl)).squeeze S32x1024 squeezes_S1x32x1024_S32x1024

/-- What a transfer of one row counts for. -/
def N : ℕ := (rowM M10 0 inb_S15x32x1024_S1x32x1024_0_0_0).view.dmaCredit
theorem N_pos : 0 < N := View.dmaCredit_pos _ (by decide)

theorem amt10 (k inb) (s : DmaSem sig) : (rowM M10 k inb).view.amount (SemLoc.dma s) = N := rfl
theorem amt11 (k inb) (s : DmaSem sig) : (rowM M11 k inb).view.amount (SemLoc.dma s) = N := rfl
theorem amt9 (k inb) (s : DmaSem sig) : (rowM M9 k inb).view.amount (SemLoc.dma s) = N := rfl
theorem set9 (k inb) : (rowM M9 k inb).view.set = rowS 15 k := by
  show ((View.slice _ _).reshape _ _).set = _
  rw [View.set_reshape, View.set_slice_whole]; exact set_row _ rfl _
theorem set10 (k inb) : (rowM M10 k inb).view.set = rowS 15 k := by
  show ((View.slice _ _).reshape _ _).set = _
  rw [View.set_reshape, View.set_slice_whole]; exact set_row _ rfl _
theorem set11 (k inb) : (rowM M11 k inb).view.set = rowS 16 k := by
  show ((View.slice _ _).reshape _ _).set = _
  rw [View.set_reshape, View.set_slice_whole]; exact set_row _ rfl _

/-- A row of the send, the receive, and the gather buffer. -/
def b9 (c : Dev nD) (k : ℕ) (f : (SR 15).Idx → Elt F .f32) : sProp 𝕄 := ((c : Thread nD τ).loc cc0_scratch3) ↦[rowS 15 k]{fullShare} f
def b10 (c : Dev nD) (k : ℕ) (f : (SR 15).Idx → Elt F .f32) : sProp 𝕄 := ((c : Thread nD τ).loc cc0_scratch4) ↦[rowS 15 k]{fullShare} f
def b11 (c : Dev nD) (k : ℕ) (q : PosShare TreeShare) (f : (SR 16).Idx → Elt F .f32) : sProp 𝕄 := ((c : Thread nD τ).loc cc0_scratch5) ↦[rowS 16 k]{q} f

/-! ## The values carried -/

/- `Pv p r`: rows `32 r ..` of the product of device `p` alone. -/
variable (Pv : Dev nD → Dev nD → Vec F S1x32x1024 .f32)

/-- What scatter transfer `k` brings to device `c`. -/
abbrev Vs (c : Dev nD) (k : Fin 30) : Vec F S1x32x1024 .f32 := Pv (src c k) c

def part0 (c : Dev nD) : FVec F S32x1024 .f32 := k0_pay122 (Pv c c)
def part2 (c : Dev nD) : FVec F S32x1024 .f32 := k0_pay123 (part0 Pv c) (Vs Pv c 0) (Vs Pv c 1)
def part5 (c : Dev nD) : FVec F S32x1024 .f32 := k0_pay124 (part2 Pv c) (Vs Pv c 2) (Vs Pv c 3) (Vs Pv c 4)
def part7 (c : Dev nD) : FVec F S32x1024 .f32 := k0_pay125 (part5 Pv c) (Vs Pv c 5) (Vs Pv c 6)
def part9 (c : Dev nD) : FVec F S32x1024 .f32 := k0_pay126 (part7 Pv c) (Vs Pv c 7) (Vs Pv c 8)
def part12 (c : Dev nD) : FVec F S32x1024 .f32 := k0_pay127 (part9 Pv c) (Vs Pv c 9) (Vs Pv c 10) (Vs Pv c 11)
def part14 (c : Dev nD) : FVec F S32x1024 .f32 := k0_pay128 (part12 Pv c) (Vs Pv c 12) (Vs Pv c 13)
/-- Device `c`'s rows of the sum over all devices. -/
def Tv (c : Dev nD) : FVec F S1x32x1024 .f32 := k0_pay130 (part14 Pv c) (Vs Pv c 14)

/-- What transfer `i` brings to device `c`. -/
def Vv (c : Dev nD) (i : Fin 30) : Vec F S1x32x1024 .f32 := if i.val < 15 then Pv (src c i) c else Tv Pv (xr c (dslot i))

/-- Where transfer `i` lands on device `c`, holding anything. -/
def landAny (c : Dev nD) (i : Fin 30) : sProp 𝕄 :=
  if i.val < 15 then iprop(∃ f, b10 c i.val f) else iprop(∃ f, b11 c (dslot i).val fullShare f)
/-- The same place once the transfer has landed. -/
def landAt (c : Dev nD) (i : Fin 30) : sProp 𝕄 :=
  if i.val < 15 then b10 c i.val (spread 15 (Vv Pv c i)) else b11 c (dslot i).val fullShare (spread 16 (Vv Pv c i))
/-- A borrowed share of a slot of the gather buffer. -/
abbrev leaf11 (c : Dev nD) (s : Fin 16) (l : Fin 8) : sProp 𝕄 :=
  b11 c s.val (ShareLeaves.leaf 3 fullShare l) (spread 16 (Tv Pv (xr c s)))

/-- What the sender of transfer `i` gets back when its source has been read. -/
def sndPay (c : Dev nD) (i : Fin 30) : sProp 𝕄 :=
  if i.val < 15 then iprop(∃ f, b9 c i.val f) else leaf11 Pv c (sslot i) (lf i)

/-- What device `x` gets with the `d`-th unit of its barrier, from the device `d + 1` places before: that
    device's landing places for the transfers `x` sends it, and that its cells are open. -/
def barPay (x : Dev nD) (d : Fin 15) : sProp 𝕄 :=
  iprop((bigSep Finset.univ fun i : Fin 30 => if tgt x i = hs x d then iprop(landAny (F := F) (hs x d) i ∗ reached ER (rcvC (hs x d) i) 0) else iprop(emp))
    ∗ reached ER (exC (hs x d)) 0)

def regPay (x : Dev nD) (s : Sem sig) (d : Fin 15) : sProp 𝕄 := if s.val = 1 then barPay (F := F) x d else iprop(emp)
def dmaPay (x : Dev nD) (n : DmaSem sig) : sProp 𝕄 :=
  if h : 6 ≤ n.val ∧ n.val < 36 then sndPay Pv x ⟨n.val - 6, by omega⟩
  else if h : 36 ≤ n.val ∧ n.val < 66 then landAt Pv x ⟨n.val - 36, by omega⟩
  else iprop(emp)

/-- One round on every cell: fifteen units on a barrier or exit cell, one landing on a transfer's cell. -/
def talkRd : Rounds.Schedule (GSem nD τ sig) (Fin 15) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg s => regPay (F := F) g.1.1 s d | .dma n => dmaPay Pv g.1.1 n
  amount_pos g _ _ _ := by
    cases g.2 with
    | reg s => exact Nat.one_pos
    | dma n => exact N_pos

instance landAny_storable (c : Dev nD) (i : Fin 30) : BI.Storable (upEmb : UEmb _ 𝕄) (landAny (F := F) c i) := by
  unfold landAny b10 b11; split <;> infer_instance
instance landAt_storable (c : Dev nD) (i : Fin 30) : BI.Storable (upEmb : UEmb _ 𝕄) (landAt Pv c i) := by
  unfold landAt b10 b11; split <;> infer_instance
instance sndPay_storable (c : Dev nD) (i : Fin 30) : BI.Storable (upEmb : UEmb _ 𝕄) (sndPay Pv c i) := by
  unfold sndPay leaf11 b9 b11; split <;> infer_instance
instance barItem_storable (p x : Dev nD) (i : Fin 30) : BI.Storable (upEmb : UEmb _ 𝕄)
    (if tgt x i = p then iprop(landAny (F := F) p i ∗ reached ER (rcvC p i) 0) else iprop(emp)) := by
  split <;> infer_instance
instance barPay_storable (x : Dev nD) (d : Fin 15) : BI.Storable (upEmb : UEmb _ 𝕄) (barPay (F := F) x d) := by
  unfold barPay; infer_instance
instance talkRd_payload_storable (g : GSem nD τ sig) (r : ℕ) (d : Fin 15) :
    BI.Storable (upEmb : UEmb _ 𝕄) ((talkRd Pv).payload g r d) := by
  show BI.Storable upEmb (match g.2 with | .reg s => regPay (F := F) g.1.1 s d | .dma n => dmaPay Pv g.1.1 n)
  cases g.2 with
  | reg s => show BI.Storable upEmb (regPay (F := F) g.1.1 s d); unfold regPay; split <;> infer_instance
  | dma n => show BI.Storable upEmb (dmaPay Pv g.1.1 n); unfold dmaPay; (repeat' split) <;> infer_instance

section Facts

variable (c : Dev nD) (i : Fin 30) (d : Fin 15)

theorem duties_bar : (talkRd Pv).duties (barC c) 0 = Finset.univ := by
  show (if 0 = 0 ∧ (barC c).1.2 = .tc then (Finset.univ : Finset (Fin 15)) else ∅) = Finset.univ
  exact if_pos ⟨rfl, rfl⟩
theorem duties_ex : (talkRd Pv).duties (exC c) 0 = Finset.univ := by
  show (if 0 = 0 ∧ (exC c).1.2 = .tc then (Finset.univ : Finset (Fin 15)) else ∅) = Finset.univ
  exact if_pos ⟨rfl, rfl⟩
theorem duties_snd : (talkRd Pv).duties (sndC c i) 0 = {0} := by
  show (if 0 = 0 ∧ (sndC c i).1.2 = .tc then ({0} : Finset (Fin 15)) else ∅) = {0}
  exact if_pos ⟨rfl, rfl⟩
theorem duties_rcv : (talkRd Pv).duties (rcvC c i) 0 = {0} := by
  show (if 0 = 0 ∧ (rcvC c i).1.2 = .tc then ({0} : Finset (Fin 15)) else ∅) = {0}
  exact if_pos ⟨rfl, rfl⟩
theorem duties_later (g : GSem nD τ sig) : ∀ r, 1 ≤ r → (talkRd Pv).duties g r = ∅ :=
  fun r hr => if_neg fun h => by omega
theorem amount_bar : (talkRd Pv).amount (barC c) 0 d = 1 := rfl
theorem amount_ex : (talkRd Pv).amount (exC c) 0 d = 1 := rfl
theorem amount_snd : (talkRd Pv).amount (sndC c i) 0 d = N := rfl
theorem amount_rcv : (talkRd Pv).amount (rcvC c i) 0 d = N := rfl
theorem expect_bar : (talkRd Pv).expect (barC c) 0 = 15 := by
  unfold Schedule.expect Schedule.amountOf; rw [duties_bar]
  exact (Finset.sum_const 1).trans (by decide)
theorem expect_ex : (talkRd Pv).expect (exC c) 0 = 15 := by
  unfold Schedule.expect Schedule.amountOf; rw [duties_ex]
  exact (Finset.sum_const 1).trans (by decide)
theorem expect_snd : (talkRd Pv).expect (sndC c i) 0 = N := by
  unfold Schedule.expect Schedule.amountOf; rw [duties_snd, Finset.sum_singleton, amount_snd]
theorem expect_rcv : (talkRd Pv).expect (rcvC c i) 0 = N := by
  unfold Schedule.expect Schedule.amountOf; rw [duties_rcv, Finset.sum_singleton, amount_rcv]
theorem payload_bar : (talkRd Pv).payload (barC c) 0 d = barPay (F := F) c d := by
  show regPay (F := F) c barS d = _; unfold regPay; exact if_pos rfl
theorem payload_ex : (talkRd Pv).payload (exC c) 0 d = iprop(emp) := by
  show regPay (F := F) c exS d = _; unfold regPay; exact if_neg (show ¬((0 : ℕ) = 1) by decide)
theorem payload_snd : (talkRd Pv).payload (sndC c i) 0 d = sndPay Pv c i := by
  show dmaPay Pv c (sndS i) = _
  have := i.isLt
  unfold dmaPay
  rw [dif_pos (show 6 ≤ (sndS i).val ∧ (sndS i).val < 36 from ⟨Nat.le_add_right 6 _, by show 6 + i.val < 36; omega⟩)]
  congr 1
  exact Fin.ext (Nat.add_sub_cancel_left 6 i.val)
theorem payload_rcv : (talkRd Pv).payload (rcvC c i) 0 d = landAt Pv c i := by
  show dmaPay Pv c (rcvS i) = _
  have := i.isLt
  unfold dmaPay
  rw [dif_neg (show ¬(6 ≤ (rcvS i).val ∧ (rcvS i).val < 36) from fun h => by have := h.2; change 36 + i.val < 36 at this; omega),
    dif_pos (show 36 ≤ (rcvS i).val ∧ (rcvS i).val < 66 from ⟨Nat.le_add_right 36 _, by show 36 + i.val < 66; omega⟩)]
  congr 1
  exact Fin.ext (Nat.add_sub_cancel_left 36 i.val)

theorem rest_snd : bigSep ((talkRd Pv).duties (sndC c i) 0 \ ∅) (fun u => (talkRd Pv).payload (sndC c i) 0 u) = sndPay Pv c i := by
  rw [Finset.sdiff_empty, duties_snd, bigSep_singleton, payload_snd]
theorem rest_rcv : bigSep ((talkRd Pv).duties (rcvC c i) 0 \ ∅) (fun u => (talkRd Pv).payload (rcvC c i) 0 u) = landAt Pv c i := by
  rw [Finset.sdiff_empty, duties_rcv, bigSep_singleton, payload_rcv]
theorem rest_bar : bigSep ((talkRd Pv).duties (barC c) 0 \ ∅) (fun u => (talkRd Pv).payload (barC c) 0 u)
    = bigSep Finset.univ fun u : Fin 15 => barPay (F := F) c u := by
  rw [Finset.sdiff_empty, duties_bar]; exact bigSep_congr fun u _ => payload_bar Pv c u

end Facts

/-! ## Levels -/

def L (g : GSem nD τ sig) : Finset Unit := if g.1.2 = .tc then {()} else ∅
/-- Barrier cells at 1, arrivals in the order they are waited for at 2 to 6, exit cells at 7, the rest at 0. -/
def lv (g : GSem nD τ sig) (_ : Unit) : ℕ :=
  match g.2 with
  | .reg s => if s.val = 1 then 1 else 7
  | .dma n => if h : 36 ≤ n.val ∧ n.val < 66 then rlev ⟨n.val - 36, by omega⟩ else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := rfl
theorem lv_ex (c : Dev nD) (u : Unit) : lv (exC c) u = 7 := rfl
theorem lv_rcv (c : Dev nD) (i : Fin 30) (u : Unit) : lv (rcvC c i) u = rlev i := by
  have := i.isLt
  show (if h : 36 ≤ (rcvS i).val ∧ (rcvS i).val < 66 then rlev ⟨(rcvS i).val - 36, _⟩ else 0) = _
  rw [dif_pos (show 36 ≤ (rcvS i).val ∧ (rcvS i).val < 66 from ⟨Nat.le_add_right 36 _, by show 36 + i.val < 66; omega⟩)]
  congr 1
  exact Fin.ext (Nat.add_sub_cancel_left 36 i.val)
theorem lv_snd (c : Dev nD) (i : Fin 30) (u : Unit) : lv (sndC c i) u = 0 := by
  have := i.isLt
  exact dif_neg (show ¬(36 ≤ (sndS i).val ∧ (sndS i).val < 66) from fun h => by have := h.1; change 36 ≤ 6 + i.val at this; omega)

/-- What device `c` still owes once it has started the transfers before moment `n` and paid the first `e` exit units. -/
def Ow (c : Dev nD) (n e : ℕ) : CellTallies nD τ sig Unit :=
  (∑ i ∈ Finset.univ.filter fun i : Fin 30 => n ≤ spos c i, tallyAt (rcvC (tgt c i) i) () N)
    + ∑ d ∈ Finset.univ.filter fun d : Fin 15 => e ≤ d.val, tallyAt (exC (sh c d)) () 1
/-- And with the barrier units from the `b`-th on. -/
def Ob (c : Dev nD) (b : ℕ) : CellTallies nD τ sig Unit :=
  Ow c 0 0 + ∑ d ∈ Finset.univ.filter fun d : Fin 15 => b ≤ d.val, tallyAt (barC (sh c d)) () 1

theorem sum_pos {I : Type} [DecidableEq I] (s : Finset I) (f : I → CellTallies nD τ sig Unit) (g : GSem nD τ sig) (u : Unit)
    (h : 0 < (∑ i ∈ s, f i) g u) : ∃ i ∈ s, 0 < f i g u := by
  induction s using Finset.induction_on with
  | empty => exact absurd h (Nat.lt_irrefl 0)
  | insert a s ha ih =>
    rw [Finset.sum_insert ha] at h
    have h' : 0 < f a g u + (∑ i ∈ s, f i) g u := h
    by_cases h0 : 0 < f a g u
    · exact ⟨a, Finset.mem_insert_self _ _, h0⟩
    · obtain ⟨i, hi, hp⟩ := ih (by omega)
      exact ⟨i, Finset.mem_insert_of_mem hi, hp⟩

theorem tally_pos {g0 g : GSem nD τ sig} {u : Unit} {k : ℕ} (h : 0 < tallyAt g0 () k g u) : g = g0 := by
  rw [tallyAt_apply] at h
  by_cases hg : g = g0 ∧ u = ()
  · exact hg.1
  · rw [if_neg hg] at h; exact absurd h (Nat.lt_irrefl 0)

theorem Ow_pos (c : Dev nD) (n e : ℕ) (g : GSem nD τ sig) (u : Unit) (h : 0 < Ow c n e g u) :
    (∃ i, n ≤ spos c i ∧ g = rcvC (tgt c i) i) ∨ ∃ d, g = exC (sh c d) := by
  have h' : 0 < (∑ i ∈ Finset.univ.filter fun i : Fin 30 => n ≤ spos c i, tallyAt (rcvC (tgt c i) i) () N) g u
    + (∑ d ∈ Finset.univ.filter fun d : Fin 15 => e ≤ d.val, tallyAt (exC (sh c d)) () 1) g u := h
  rcases Nat.eq_zero_or_pos ((∑ i ∈ Finset.univ.filter fun i : Fin 30 => n ≤ spos c i, tallyAt (rcvC (tgt c i) i) () N) g u) with h0 | h0
  · obtain ⟨d, -, hp⟩ := sum_pos _ _ g u (by omega : 0 < (∑ d ∈ Finset.univ.filter fun d : Fin 15 => e ≤ d.val, tallyAt (exC (sh c d)) () 1) g u)
    exact .inr ⟨d, tally_pos hp⟩
  · obtain ⟨i, hi, hp⟩ := sum_pos _ _ g u h0
    exact .inl ⟨i, (Finset.mem_filter.mp hi).2, tally_pos hp⟩

/-- A wait below the level of everything still owed is allowed. -/
theorem mayWait (c : Dev nD) (sm : SemLoc sig) (n e l : ℕ) (hl : lv ((c : Thread nD τ), sm) () ≤ l) (h7 : l < 7)
    (h : ∀ i : Fin 30, n ≤ spos c i → l < rlev i) :
    (levAts L lv : sProp 𝕄) ⊢ MayWait (c : Thread nD τ) sm () (Ow c n e) :=
  MayOwe.of_cut (L := L) (lev := lv) l
    (fun p hp => by rw [Finset.mem_singleton.mp hp, L_tc]; exact Finset.mem_singleton_self _)
    (fun g u hg => by
      rcases Ow_pos c n e g u hg with ⟨i, -, rfl⟩ | ⟨d, rfl⟩ <;> rw [L_tc] <;> exact Finset.mem_singleton_self _)
    (fun p hp => by rw [Finset.mem_singleton.mp hp]; exact hl)
    (fun g u hg => by
      rcases Ow_pos c n e g u hg with ⟨i, hi, rfl⟩ | ⟨d, rfl⟩
      · rw [lv_rcv]; exact h i hi
      · rw [lv_ex]; exact h7)

/-! ## Pending sets, counted -/

/-- Taking the entry whose moment has come out of the pending ones. -/
theorem pend_step {I : Type} [Fintype I] [DecidableEq I] (pos : I → ℕ) (hinj : ∀ i j, pos i = pos j → i = j) (i : I) (n : ℕ) (h : pos i = n)
    (Φ : I → sProp 𝕄) :
    bigSep (Finset.univ.filter fun j => n ≤ pos j) Φ = iprop(Φ i ∗ bigSep (Finset.univ.filter fun j => n + 1 ≤ pos j) Φ) := by
  subst h
  rw [show (Finset.univ.filter fun j => pos i ≤ pos j) = insert i (Finset.univ.filter fun j => pos i + 1 ≤ pos j) from ?_]
  · exact bigSep_insert (by simp)
  · ext j
    simp only [Finset.mem_filter, Finset.mem_univ, _root_.true_and, Finset.mem_insert]
    constructor
    · intro h
      rcases Nat.eq_or_lt_of_le h with h | h
      · exact .inl (hinj _ _ h.symm)
      · exact .inr h
    · rintro (rfl | h)
      · exact Nat.le_refl _
      · omega
/-- And putting it with the past ones. -/
theorem past_step {I : Type} [Fintype I] [DecidableEq I] (pos : I → ℕ) (hinj : ∀ i j, pos i = pos j → i = j) (i : I) (n : ℕ) (h : pos i = n)
    (Φ : I → sProp 𝕄) :
    bigSep (Finset.univ.filter fun j => pos j < n + 1) Φ = iprop(Φ i ∗ bigSep (Finset.univ.filter fun j => pos j < n) Φ) := by
  subst h
  rw [show (Finset.univ.filter fun j => pos j < pos i + 1) = insert i (Finset.univ.filter fun j => pos j < pos i) from ?_]
  · exact bigSep_insert (by simp)
  · ext j
    simp only [Finset.mem_filter, Finset.mem_univ, _root_.true_and, Finset.mem_insert]
    constructor
    · intro h
      rcases Nat.eq_or_lt_of_le (Nat.le_of_lt_succ h) with h | h
      · exact .inl (hinj _ _ h)
      · exact .inr h
    · rintro (rfl | h)
      · omega
      · omega
/-- No entry at this moment: nothing changes. -/
theorem pend_skip {I : Type} [Fintype I] (pos : I → ℕ) (n : ℕ) (h : ∀ i, pos i ≠ n) :
    (Finset.univ.filter fun j => n ≤ pos j) = Finset.univ.filter fun j => n + 1 ≤ pos j := by
  ext j
  simp only [Finset.mem_filter, Finset.mem_univ, _root_.true_and]
  have := h j
  omega
theorem past_skip {I : Type} [Fintype I] (pos : I → ℕ) (n : ℕ) (h : ∀ i, pos i ≠ n) :
    (Finset.univ.filter fun j => pos j < n) = Finset.univ.filter fun j => pos j < n + 1 := by
  ext j
  simp only [Finset.mem_filter, Finset.mem_univ, _root_.true_and]
  have := h j
  omega
theorem sum_step {I : Type} [Fintype I] [DecidableEq I] (pos : I → ℕ) (hinj : ∀ i j, pos i = pos j → i = j) (i : I) (n : ℕ) (h : pos i = n)
    (f : I → CellTallies nD τ sig Unit) :
    (∑ j ∈ Finset.univ.filter fun j => n ≤ pos j, f j) = (∑ j ∈ Finset.univ.filter fun j => n + 1 ≤ pos j, f j) + f i := by
  subst h
  rw [show (Finset.univ.filter fun j => pos i ≤ pos j) = insert i (Finset.univ.filter fun j => pos i + 1 ≤ pos j) from ?_]
  · rw [Finset.sum_insert (by simp), add_comm]
  · ext j
    simp only [Finset.mem_filter, Finset.mem_univ, _root_.true_and, Finset.mem_insert]
    constructor
    · intro h
      rcases Nat.eq_or_lt_of_le h with h | h
      · exact .inl (hinj _ _ h.symm)
      · exact .inr h
    · rintro (rfl | h)
      · exact Nat.le_refl _
      · omega

theorem Ow_send (c : Dev nD) (i : Fin 30) (n e : ℕ) (h : spos c i = n) : Ow c n e = Ow c (n + 1) e + tallyAt (rcvC (tgt c i) i) () N := by
  unfold Ow; rw [sum_step (spos c) (spos_inj c) i n h, add_right_comm]
theorem Ow_skip (c : Dev nD) (n e : ℕ) (h : ∀ i, spos c i ≠ n) : Ow c n e = Ow c (n + 1) e := by
  unfold Ow; rw [pend_skip (spos c) n h]
theorem Ow_exit (c : Dev nD) (d : Fin 15) (n e : ℕ) (h : d.val = e) : Ow c n e = Ow c n (e + 1) + tallyAt (exC (sh c d)) () 1 := by
  unfold Ow; rw [sum_step (fun d : Fin 15 => d.val) (fun _ _ => Fin.ext) d e h, add_assoc]
theorem Ob_step (c : Dev nD) (d : Fin 15) (b : ℕ) (h : d.val = b) : Ob c b = Ob c (b + 1) + tallyAt (barC (sh c d)) () 1 := by
  unfold Ob; rw [sum_step (fun d : Fin 15 => d.val) (fun _ _ => Fin.ext) d b h, add_assoc]
theorem Ob_done (c : Dev nD) : Ob c 15 = Ow c 0 0 := by
  unfold Ob
  rw [show (Finset.univ.filter fun d : Fin 15 => 15 ≤ d.val) = ∅ from by decide, Finset.sum_empty, add_zero]
theorem Ow_done (c : Dev nD) : Ow c 75 15 = 0 := by
  unfold Ow
  rw [show (Finset.univ.filter fun d : Fin 15 => 15 ≤ d.val) = ∅ from by decide, Finset.sum_empty, add_zero,
    show (Finset.univ.filter fun i : Fin 30 => 75 ≤ spos c i) = ∅ from
      Finset.filter_eq_empty_iff.mpr fun i _ => by have := spos_lt c i; omega, Finset.sum_empty]

end Cert.KernelIdeal.Talk
-- ==== Proof.Mem.lean ====
/- Single steps of the body: loads and stores of the buffers a device has to itself, over a state that names
   what is known of each. -/
module

public import proofs.«01_k».proof.Proof.Sched

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The body's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` has buffer `b` whole, at contents of which `P` is known. -/
def own (c : Dev nD) {cs : CoreSpace} {s : Shape} {e : EltTy} (b : Memref sig .tc cs s e) (P : b.view.ty.Contents (Elt F) → Prop) : sProp 𝕄 :=
  iprop(∃ f : Buf (Elt F) (b.view.loc (c : Thread nD τ)), ⌜P f⌝ ∗ (b.view.loc (c : Thread nD τ)) ↦{fullShare} f)

section Generic

variable {α : Type} (c : Dev nD) {cs : CoreSpace} {s : Shape} {e : EltTy} (b : Memref sig .tc cs s e) {P P' : b.view.ty.Contents (Elt F) → Prop}

theorem own_load {A : sProp 𝕄} {Q : α → sProp 𝕄} {r : Rect s} {hl : b.view.LoadsAt r.toLoadRect} {k : (r.shape.Idx → Elt F e) → Prog (TpuEff nD τ sig (Elt F) Λ₀ .tc) α}
    (h : ∀ f, P f → iprop(own c b P ∗ A) ⊢ WP c (k ((b.access r).read (Elt F) f)) Q) :
    iprop(own c b P ∗ A) ⊢ WP c (Prog.lift (.load b r.toLoadRect hl) >>= k) Q := by
  rw [Prog.bind_lift]
  unfold own
  iintro ⟨⟨%f, %hf, H⟩, HA⟩
  iapply (wp_load_rect 𝒱₀ (c : Thread nD τ) none Set.univ (m := b) (r := r) (S := Finset.univ) (Finset.subset_univ _)) $$ H
  iintro H
  iapply (h f hf)
  isplitl [H]
  · unfold own; iexists f; isplitr; · ipureintro; exact hf
    iexact H
  · iexact HA

theorem own_store {A : sProp 𝕄} {Q : α → sProp 𝕄} {r : Rect s} {w : r.shape.Idx → Elt F e} {hx : (b.access r).Stores Finset.univ} {hm} {k : PUnit → Prog (TpuEff nD τ sig (Elt F) Λ₀ .tc) α}
    (hP : ∀ f, P f → P' ((b.access r).write (Elt F) f w Finset.univ))
    (h : iprop(own c b P' ∗ A) ⊢ WP c (k ⟨⟩) Q) :
    iprop(own c b P ∗ A) ⊢ WP c (Prog.lift (.store b r w Finset.univ hx hm) >>= k) Q := by
  rw [Prog.bind_lift]
  unfold own
  iintro ⟨⟨%f, %hf, H⟩, HA⟩
  iapply (wp_store 𝒱₀ (c : Thread nD τ) none Set.univ (m := b) (r := r) (w := w) (Mk := Finset.univ) (S := Finset.univ) (Finset.subset_univ _)) $$ H
  iintro H
  iapply h
  isplitl [H]
  · unfold own; iexists _; isplitr
    · ipureintro; exact hP f hf
    · iexact H
  · iexact HA

end Generic

/-! ## The state -/

/-- What is known of the nine buffers a device has to itself, and the exchange's part `T`. -/
def St (c : Dev nD) (P0 : M0.view.ty.Contents (Elt F) → Prop) (P1 : M1.view.ty.Contents (Elt F) → Prop) (P2 : M2.view.ty.Contents (Elt F) → Prop) (P3 : M3.view.ty.Contents (Elt F) → Prop) (P4 : M4.view.ty.Contents (Elt F) → Prop) (P5 : M5.view.ty.Contents (Elt F) → Prop) (P6 : M6.view.ty.Contents (Elt F) → Prop) (P7 : M7.view.ty.Contents (Elt F) → Prop) (P8 : M8.view.ty.Contents (Elt F) → Prop) (T : sProp 𝕄) : sProp 𝕄 :=
  iprop(own c M0 P0 ∗ own c M1 P1 ∗ own c M2 P2 ∗ own c M3 P3 ∗ own c M4 P4 ∗ own c M5 P5 ∗ own c M6 P6 ∗ own c M7 P7 ∗ own c M8 P8 ∗ T)

section

variable {α : Type} {c : Dev nD} {P0 P0' : M0.view.ty.Contents (Elt F) → Prop} {P1 P1' : M1.view.ty.Contents (Elt F) → Prop} {P2 P2' : M2.view.ty.Contents (Elt F) → Prop} {P3 P3' : M3.view.ty.Contents (Elt F) → Prop} {P4 P4' : M4.view.ty.Contents (Elt F) → Prop} {P5 P5' : M5.view.ty.Contents (Elt F) → Prop} {P6 P6' : M6.view.ty.Contents (Elt F) → Prop} {P7 P7' : M7.view.ty.Contents (Elt F) → Prop} {P8 P8' : M8.view.ty.Contents (Elt F) → Prop}

theorem out0 {T : sProp 𝕄} : St c P0 P1 P2 P3 P4 P5 P6 P7 P8 T ⊣⊢ iprop(own c M0 P0 ∗ (own c M1 P1 ∗ own c M2 P2 ∗ own c M3 P3 ∗ own c M4 P4 ∗ own c M5 P5 ∗ own c M6 P6 ∗ own c M7 P7 ∗ own c M8 P8 ∗ T)) := by
  unfold St
  constructor
  · iintro ⟨H0, H1, H2, H3, H4, H5, H6, H7, H8, HT⟩; iframe
  · iintro ⟨H0, H1, H2, H3, H4, H5, H6, H7, H8, HT⟩; iframe

/-- A load of which the value is known. -/
theorem load0 {T : sProp 𝕄} {Q : α → sProp 𝕄} {r : Rect S512x1024} {hl : M0.view.LoadsAt r.toLoadRect} {k : (r.shape.Idx → Elt F .f32) → Prog (TpuEff nD τ sig (Elt F) Λ₀ .tc) α} (v : r.shape.Idx → Elt F .f32)
    (hv : ∀ f, P0 f → (M0.access r).read (Elt F) f = v) (h : St c P0 P1 P2 P3 P4 P5 P6 P7 P8 T ⊢ WP c (k v) Q) :
    St c P0 P1 P2 P3 P4 P5 P6 P7 P8 T ⊢ WP c (Prog.lift (.load M0 r.toLoadRect hl) >>= k) Q :=
  out0.1.trans (own_load c M0 (r := r) fun f hf => out0.2.trans ((h.trans (Entails.of_eq (by rw [← hv f hf])))))
/-- A load of which the value is not used. -/
theorem any0 {T : sProp 𝕄} {Q : α → sProp 𝕄} {r : Rect S512x1024} {hl : M0.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M0 r.toLoadRect hl) >>= k) Q :=
  out0.1.trans (own_load c M0 (r := r) fun f hf => out0.2.trans (h _))

theorem out1 {T : sProp 𝕄} : St c P0 P1 P2 P3 P4 P5 P6 P7 P8 T ⊣⊢ iprop(own c M1 P1 ∗ (own c M0 P0 ∗ own c M2 P2 ∗ own c M3 P3 ∗ own c M4 P4 ∗ own c M5 P5 ∗ own c M6 P6 ∗ own c M7 P7 ∗ own c M8 P8 ∗ T)) := by
  unfold St
  constructor
  · iintro ⟨H0, H1, H2, H3, H4, H5, H6, H7, H8, HT⟩; iframe
  · iintro ⟨H1, H0, H2, H3, H4, H5, H6, H7, H8, HT⟩; iframe

/-- A load of which the value is known. -/
theorem load1 {T : sProp 𝕄} {Q : α → sProp 𝕄} {r : Rect S1024x1024} {hl : M1.view.LoadsAt r.toLoadRect} {k : (r.shape.Idx → Elt F .f32) → Prog (TpuEff nD τ sig (Elt F) Λ₀ .tc) α} (v : r.shape.Idx → Elt F .f32)
    (hv : ∀ f, P1 f → (M1.access r).read (Elt F) f = v) (h : St c P0 P1 P2 P3 P4 P5 P6 P7 P8 T ⊢ WP c (k v) Q) :
    St c P0 P1 P2 P3 P4 P5 P6 P7 P8 T ⊢ WP c (Prog.lift (.load M1 r.toLoadRect hl) >>= k) Q :=
  out1.1.trans (own_load c M1 (r := r) fun f hf => out1.2.trans ((h.trans (Entails.of_eq (by rw [← hv f hf])))))
/-- A load of which the value is not used. -/
theorem any1 {T : sProp 𝕄} {Q : α → sProp 𝕄} {r : Rect S1024x1024} {hl : M1.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M1 r.toLoadRect hl) >>= k) Q :=
  out1.1.trans (own_load c M1 (r := r) fun f hf => out1.2.trans (h _))

theorem out2 {T : sProp 𝕄} : St c P0 P1 P2 P3 P4 P5 P6 P7 P8 T ⊣⊢ iprop(own c M2 P2 ∗ (own c M0 P0 ∗ own c M1 P1 ∗ own c M3 P3 ∗ own c M4 P4 ∗ own c M5 P5 ∗ own c M6 P6 ∗ own c M7 P7 ∗ own c M8 P8 ∗ T)) := by
  unfold St
  constructor
  · iintro ⟨H0, H1, H2, H3, H4, H5, H6, H7, H8, HT⟩; iframe
  · iintro ⟨H2, H0, H1, H3, H4, H5, H6, H7, H8, HT⟩; iframe

/-- A load of which the value is known. -/
theorem load2 {T : sProp 𝕄} {Q : α → sProp 𝕄} {r : Rect S1024x1024} {hl : M2.view.LoadsAt r.toLoadRect} {k : (r.shape.Idx → Elt F .f32) → Prog (TpuEff nD τ sig (Elt F) Λ₀ .tc) α} (v : r.shape.Idx → Elt F .f32)
    (hv : ∀ f, P2 f → (M2.access r).read (Elt F) f = v) (h : St c P0 P1 P2 P3 P4 P5 P6 P7 P8 T ⊢ WP c (k v) Q) :
    St c P0 P1 P2 P3 P4 P5 P6 P7 P8 T ⊢ WP c (Prog.lift (.load M2 r.toLoadRect hl) >>= k) Q :=
  out2.1.trans (own_load c M2 (r := r) fun f hf => out2.2.trans ((h.trans (Entails.of_eq (by rw [← hv f hf])))))
/-- A load of which the value is not used. -/
theorem any2 {T : sProp 𝕄} {Q : α → sProp 𝕄} {r : Rect S1024x1024} {hl : M2.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M2 r.toLoadRect hl) >>= k) Q :=
  out2.1.trans (own_load c M2 (r := r) fun f hf => out2.2.trans (h _))

theorem out3 {T : sProp 𝕄} : St c P0 P1 P2 P3 P4 P5 P6 P7 P8 T ⊣⊢ iprop(own c M3 P3 ∗ (own c M0 P0 ∗ own c M1 P1 ∗ own c M2 P2 ∗ own c M4 P4 ∗ own c M5 P5 ∗ own c M6 P6 ∗ own c M7 P7 ∗ own c M8 P8 ∗ T)) := by
  unfold St
  constructor
  · iintro ⟨H0, H1, H2, H3, H4, H5, H6, H7, H8, HT⟩; iframe
  · iintro ⟨H3, H0, H1, H2, H4, H5, H6, H7, H8, HT⟩; iframe

/-- A load of which the value is known. -/
theorem load3 {T : sProp 𝕄} {Q : α → sProp 𝕄} {r : Rect S8x2048x128} {hl : M3.view.LoadsAt r.toLoadRect} {k : (r.shape.Idx → Elt F .f32) → Prog (TpuEff nD τ sig (Elt F) Λ₀ .tc) α} (v : r.shape.Idx → Elt F .f32)
    (hv : ∀ f, P3 f → (M3.access r).read (Elt F) f = v) (h : St c P0 P1 P2 P3 P4 P5 P6 P7 P8 T ⊢ WP c (k v) Q) :
    St c P0 P1 P2 P3 P4 P5 P6 P7 P8 T ⊢ WP c (Prog.lift (.load M3 r.toLoadRect hl) >>= k) Q :=
  out3.1.trans (own_load c M3 (r := r) fun f hf => out3.2.trans ((h.trans (Entails.of_eq (by rw [← hv f hf])))))
/-- A load of which the value is not used. -/
theorem any3 {T : sProp 𝕄} {Q : α → sProp 𝕄} {r : Rect S8x2048x128} {hl : M3.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M3 r.toLoadRect hl) >>= k) Q :=
  out3.1.trans (own_load c M3 (r := r) fun f hf => out3.2.trans (h _))

theorem out4 {T : sProp 𝕄} : St c P0 P1 P2 P3 P4 P5 P6 P7 P8 T ⊣⊢ iprop(own c M4 P4 ∗ (own c M0 P0 ∗ own c M1 P1 ∗ own c M2 P2 ∗ own c M3 P3 ∗ own c M5 P5 ∗ own c M6 P6 ∗ own c M7 P7 ∗ own c M8 P8 ∗ T)) := by
  unfold St
  constructor
  · iintro ⟨H0, H1, H2, H3, H4, H5, H6, H7, H8, HT⟩; iframe
  · iintro ⟨H4, H0, H1, H2, H3, H5, H6, H7, H8, HT⟩; iframe

/-- A load of which the value is known. -/
theorem load4 {T : sProp 𝕄} {Q : α → sProp 𝕄} {r : Rect S8x2048x128} {hl : M4.view.LoadsAt r.toLoadRect} {k : (r.shape.Idx → Elt F .f32) → Prog (TpuEff nD τ sig (Elt F) Λ₀ .tc) α} (v : r.shape.Idx → Elt F .f32)
    (hv : ∀ f, P4 f → (M4.access r).read (Elt F) f = v) (h : St c P0 P1 P2 P3 P4 P5 P6 P7 P8 T ⊢ WP c (k v) Q) :
    St c P0 P1 P2 P3 P4 P5 P6 P7 P8 T ⊢ WP c (Prog.lift (.load M4 r.toLoadRect hl) >>= k) Q :=
  out4.1.trans (own_load c M4 (r := r) fun f hf => out4.2.trans ((h.trans (Entails.of_eq (by rw [← hv f hf])))))
/-- A load of which the value is not used. -/
theorem any4 {T : sProp 𝕄} {Q : α → sProp 𝕄} {r : Rect S8x2048x128} {hl : M4.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M4 r.toLoadRect hl) >>= k) Q :=
  out4.1.trans (own_load c M4 (r := r) fun f hf => out4.2.trans (h _))

theorem out5 {T : sProp 𝕄} : St c P0 P1 P2 P3 P4 P5 P6 P7 P8 T ⊣⊢ iprop(own c M5 P5 ∗ (own c M0 P0 ∗ own c M1 P1 ∗ own c M2 P2 ∗ own c M3 P3 ∗ own c M4 P4 ∗ own c M6 P6 ∗ own c M7 P7 ∗ own c M8 P8 ∗ T)) := by
  unfold St
  constructor
  · iintro ⟨H0, H1, H2, H3, H4, H5, H6, H7, H8, HT⟩; iframe
  · iintro ⟨H5, H0, H1, H2, H3, H4, H6, H7, H8, HT⟩; iframe

/-- A load of which the value is known. -/
theorem load5 {T : sProp 𝕄} {Q : α → sProp 𝕄} {r : Rect S512x1024} {hl : M5.view.LoadsAt r.toLoadRect} {k : (r.shape.Idx → Elt F .f32) → Prog (TpuEff nD τ sig (Elt F) Λ₀ .tc) α} (v : r.shape.Idx → Elt F .f32)
    (hv : ∀ f, P5 f → (M5.access r).read (Elt F) f = v) (h : St c P0 P1 P2 P3 P4 P5 P6 P7 P8 T ⊢ WP c (k v) Q) :
    St c P0 P1 P2 P3 P4 P5 P6 P7 P8 T ⊢ WP c (Prog.lift (.load M5 r.toLoadRect hl) >>= k) Q :=
  out5.1.trans (own_load c M5 (r := r) fun f hf => out5.2.trans ((h.trans (Entails.of_eq (by rw [← hv f hf])))))
/-- A load of which the value is not used. -/
theorem any5 {T : sProp 𝕄} {Q : α → sProp 𝕄} {r : Rect S512x1024} {hl : M5.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M5 r.toLoadRect hl) >>= k) Q :=
  out5.1.trans (own_load c M5 (r := r) fun f hf => out5.2.trans (h _))
theorem store5 {T : sProp 𝕄} {Q : α → sProp 𝕄} (P5' : M5.view.ty.Contents (Elt F) → Prop) {r : Rect S512x1024} {w : r.shape.Idx → Elt F .f32} {hx : (M5.access r).Stores Finset.univ} {hm} {k : PUnit → Prog (TpuEff nD τ sig (Elt F) Λ₀ .tc) α}
    (hP : ∀ f, P5 f → P5' ((M5.access r).write (Elt F) f w Finset.univ)) (h : St c P0 P1 P2 P3 P4 P5' P6 P7 P8 T ⊢ WP c (k ⟨⟩) Q) :
    St c P0 P1 P2 P3 P4 P5 P6 P7 P8 T ⊢ WP c (Prog.lift (.store M5 r w Finset.univ hx hm) >>= k) Q :=
  out5.1.trans (own_store c M5 (r := r) hP (out5.2.trans h))

theorem out6 {T : sProp 𝕄} : St c P0 P1 P2 P3 P4 P5 P6 P7 P8 T ⊣⊢ iprop(own c M6 P6 ∗ (own c M0 P0 ∗ own c M1 P1 ∗ own c M2 P2 ∗ own c M3 P3 ∗ own c M4 P4 ∗ own c M5 P5 ∗ own c M7 P7 ∗ own c M8 P8 ∗ T)) := by
  unfold St
  constructor
  · iintro ⟨H0, H1, H2, H3, H4, H5, H6, H7, H8, HT⟩; iframe
  · iintro ⟨H6, H0, H1, H2, H3, H4, H5, H7, H8, HT⟩; iframe

/-- A load of which the value is known. -/
theorem load6 {T : sProp 𝕄} {Q : α → sProp 𝕄} {r : Rect S512x1024} {hl : M6.view.LoadsAt r.toLoadRect} {k : (r.shape.Idx → Elt F .f32) → Prog (TpuEff nD τ sig (Elt F) Λ₀ .tc) α} (v : r.shape.Idx → Elt F .f32)
    (hv : ∀ f, P6 f → (M6.access r).read (Elt F) f = v) (h : St c P0 P1 P2 P3 P4 P5 P6 P7 P8 T ⊢ WP c (k v) Q) :
    St c P0 P1 P2 P3 P4 P5 P6 P7 P8 T ⊢ WP c (Prog.lift (.load M6 r.toLoadRect hl) >>= k) Q :=
  out6.1.trans (own_load c M6 (r := r) fun f hf => out6.2.trans ((h.trans (Entails.of_eq (by rw [← hv f hf])))))
/-- A load of which the value is not used. -/
theorem any6 {T : sProp 𝕄} {Q : α → sProp 𝕄} {r : Rect S512x1024} {hl : M6.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M6 r.toLoadRect hl) >>= k) Q :=
  out6.1.trans (own_load c M6 (r := r) fun f hf => out6.2.trans (h _))
theorem store6 {T : sProp 𝕄} {Q : α → sProp 𝕄} (P6' : M6.view.ty.Contents (Elt F) → Prop) {r : Rect S512x1024} {w : r.shape.Idx → Elt F .f32} {hx : (M6.access r).Stores Finset.univ} {hm} {k : PUnit → Prog (TpuEff nD τ sig (Elt F) Λ₀ .tc) α}
    (hP : ∀ f, P6 f → P6' ((M6.access r).write (Elt F) f w Finset.univ)) (h : St c P0 P1 P2 P3 P4 P5 P6' P7 P8 T ⊢ WP c (k ⟨⟩) Q) :
    St c P0 P1 P2 P3 P4 P5 P6 P7 P8 T ⊢ WP c (Prog.lift (.store M6 r w Finset.univ hx hm) >>= k) Q :=
  out6.1.trans (own_store c M6 (r := r) hP (out6.2.trans h))

theorem out7 {T : sProp 𝕄} : St c P0 P1 P2 P3 P4 P5 P6 P7 P8 T ⊣⊢ iprop(own c M7 P7 ∗ (own c M0 P0 ∗ own c M1 P1 ∗ own c M2 P2 ∗ own c M3 P3 ∗ own c M4 P4 ∗ own c M5 P5 ∗ own c M6 P6 ∗ own c M8 P8 ∗ T)) := by
  unfold St
  constructor
  · iintro ⟨H0, H1, H2, H3, H4, H5, H6, H7, H8, HT⟩; iframe
  · iintro ⟨H7, H0, H1, H2, H3, H4, H5, H6, H8, HT⟩; iframe

/-- A load of which the value is known. -/
theorem load7 {T : sProp 𝕄} {Q : α → sProp 𝕄} {r : Rect S512x1024} {hl : M7.view.LoadsAt r.toLoadRect} {k : (r.shape.Idx → Elt F .f32) → Prog (TpuEff nD τ sig (Elt F) Λ₀ .tc) α} (v : r.shape.Idx → Elt F .f32)
    (hv : ∀ f, P7 f → (M7.access r).read (Elt F) f = v) (h : St c P0 P1 P2 P3 P4 P5 P6 P7 P8 T ⊢ WP c (k v) Q) :
    St c P0 P1 P2 P3 P4 P5 P6 P7 P8 T ⊢ WP c (Prog.lift (.load M7 r.toLoadRect hl) >>= k) Q :=
  out7.1.trans (own_load c M7 (r := r) fun f hf => out7.2.trans ((h.trans (Entails.of_eq (by rw [← hv f hf])))))
/-- A load of which the value is not used. -/
theorem any7 {T : sProp 𝕄} {Q : α → sProp 𝕄} {r : Rect S512x1024} {hl : M7.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M7 r.toLoadRect hl) >>= k) Q :=
  out7.1.trans (own_load c M7 (r := r) fun f hf => out7.2.trans (h _))
theorem store7 {T : sProp 𝕄} {Q : α → sProp 𝕄} (P7' : M7.view.ty.Contents (Elt F) → Prop) {r : Rect S512x1024} {w : r.shape.Idx → Elt F .f32} {hx : (M7.access r).Stores Finset.univ} {hm} {k : PUnit → Prog (TpuEff nD τ sig (Elt F) Λ₀ .tc) α}
    (hP : ∀ f, P7 f → P7' ((M7.access r).write (Elt F) f w Finset.univ)) (h : St c P0 P1 P2 P3 P4 P5 P6 P7' P8 T ⊢ WP c (k ⟨⟩) Q) :
    St c P0 P1 P2 P3 P4 P5 P6 P7 P8 T ⊢ WP c (Prog.lift (.store M7 r w Finset.univ hx hm) >>= k) Q :=
  out7.1.trans (own_store c M7 (r := r) hP (out7.2.trans h))

theorem out8 {T : sProp 𝕄} : St c P0 P1 P2 P3 P4 P5 P6 P7 P8 T ⊣⊢ iprop(own c M8 P8 ∗ (own c M0 P0 ∗ own c M1 P1 ∗ own c M2 P2 ∗ own c M3 P3 ∗ own c M4 P4 ∗ own c M5 P5 ∗ own c M6 P6 ∗ own c M7 P7 ∗ T)) := by
  unfold St
  constructor
  · iintro ⟨H0, H1, H2, H3, H4, H5, H6, H7, H8, HT⟩; iframe
  · iintro ⟨H8, H0, H1, H2, H3, H4, H5, H6, H7, HT⟩; iframe

/-- A load of which the value is known. -/
theorem load8 {T : sProp 𝕄} {Q : α → sProp 𝕄} {r : Rect S16x32x1024} {hl : M8.view.LoadsAt r.toLoadRect} {k : (r.shape.Idx → Elt F .f32) → Prog (TpuEff nD τ sig (Elt F) Λ₀ .tc) α} (v : r.shape.Idx → Elt F .f32)
    (hv : ∀ f, P8 f → (M8.access r).read (Elt F) f = v) (h : St c P0 P1 P2 P3 P4 P5 P6 P7 P8 T ⊢ WP c (k v) Q) :
    St c P0 P1 P2 P3 P4 P5 P6 P7 P8 T ⊢ WP c (Prog.lift (.load M8 r.toLoadRect hl) >>= k) Q :=
  out8.1.trans (own_load c M8 (r := r) fun f hf => out8.2.trans ((h.trans (Entails.of_eq (by rw [← hv f hf])))))
/-- A load of which the value is not used. -/
theorem any8 {T : sProp 𝕄} {Q : α → sProp 𝕄} {r : Rect S16x32x1024} {hl : M8.view.LoadsAt r.toLoadRect} {k : (r.shape.Idx → Elt F .f32) → Prog (TpuEff nD τ sig (Elt F) Λ₀ .tc) α}
    (h : ∀ v, St c P0 P1 P2 P3 P4 P5 P6 P7 P8 T ⊢ WP c (k v) Q) :
    St c P0 P1 P2 P3 P4 P5 P6 P7 P8 T ⊢ WP c (Prog.lift (.load M8 r.toLoadRect hl) >>= k) Q :=
  out8.1.trans (own_load c M8 (r := r) fun f hf => out8.2.trans (h _))
theorem store8 {T : sProp 𝕄} {Q : α → sProp 𝕄} (P8' : M8.view.ty.Contents (Elt F) → Prop) {r : Rect S16x32x1024} {w : r.shape.Idx → Elt F .f32} {hx : (M8.access r).Stores Finset.univ} {hm} {k : PUnit → Prog (TpuEff nD τ sig (Elt F) Λ₀ .tc) α}
    (hP : ∀ f, P8 f → P8' ((M8.access r).write (Elt F) f w Finset.univ)) (h : St c P0 P1 P2 P3 P4 P5 P6 P7 P8' T ⊢ WP c (k ⟨⟩) Q) :
    St c P0 P1 P2 P3 P4 P5 P6 P7 P8 T ⊢ WP c (Prog.lift (.store M8 r w Finset.univ hx hm) >>= k) Q :=
  out8.1.trans (own_store c M8 (r := r) hP (out8.2.trans h))

theorem outT {T : sProp 𝕄} : St c P0 P1 P2 P3 P4 P5 P6 P7 P8 T ⊣⊢ iprop(T ∗ (own c M0 P0 ∗ own c M1 P1 ∗ own c M2 P2 ∗ own c M3 P3 ∗ own c M4 P4 ∗ own c M5 P5 ∗ own c M6 P6 ∗ own c M7 P7 ∗ own c M8 P8)) := by
  unfold St
  constructor
  · iintro ⟨H0, H1, H2, H3, H4, H5, H6, H7, H8, HT⟩; iframe
  · iintro ⟨HT, H0, H1, H2, H3, H4, H5, H6, H7, H8⟩; iframe

/-- A step of the exchange's part alone. -/
theorem stepT {T T' : sProp 𝕄} {Q : α → sProp 𝕄} {p p' : Prog (TpuEff nD τ sig (Elt F) Λ₀ .tc) α} (hT : T ⊢ iprop((T' -∗ WP c p' Q) -∗ WP c p Q))
    (h : St c P0 P1 P2 P3 P4 P5 P6 P7 P8 T' ⊢ WP c p' Q) : St c P0 P1 P2 P3 P4 P5 P6 P7 P8 T ⊢ WP c p Q := by
  refine outT.1.trans ?_
  iintro ⟨HT, HR⟩
  iapply hT $$ HT
  iintro HT
  iapply (outT.2.trans h)
  iframe

end

end Cert.KernelIdeal.Talk
-- ==== Proof.Vals.lean ====
/- What the body computes, named step by step, and its loads and stores at those values. -/
module

public import proofs.«01_k».proof.Proof.Mem

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A device's five inputs as they stand in its buffers. -/
structure In (F : FTy → Type) where
  x : S512x1024.Idx → Elt F .f32
  wq : S1024x1024.Idx → Elt F .f32
  wo : S1024x1024.Idx → Elt F .f32
  kk : S8x2048x128.Idx → Elt F .f32
  vv : S8x2048x128.Idx → Elt F .f32

theorem idx2_ext {d : Fin 2 → ℕ} {x y : (⟨2, d⟩ : Shape).Idx} (h0 : (x 0).val = (y 0).val) (h1 : (x 1).val = (y 1).val) : x = y := by
  funext i
  match i with
  | ⟨0, _⟩ => exact Fin.ext h0
  | ⟨1, _⟩ => exact Fin.ext h1

section Values

variable (a : In F)

/-- The queries. -/
def qv : S512x1024.Idx → Elt F .f32 := k0_pay1 a.x a.wq

theorem inb_tile (b : Fin 4) (h : Fin 8) : ∀ i, (![128 * b.val, 128 * h.val] : Fin 2 → ℕ) i + S128x128.size i ≤ S512x1024.size i
  | ⟨0, _⟩ => by show 128 * b.val + 128 ≤ 512; omega
  | ⟨1, _⟩ => by show 128 * h.val + 128 ≤ 1024; omega
theorem inb_rows (b : Fin 4) : ∀ i, (![128 * b.val, 0] : Fin 2 → ℕ) i + S128x1024.size i ≤ S512x1024.size i
  | ⟨0, _⟩ => by show 128 * b.val + 128 ≤ 512; omega
  | ⟨1, _⟩ => by show 0 + 1024 ≤ 1024; omega
theorem inb_head (h : Fin 8) : ∀ i, (![h.val, 0, 0] : Fin 3 → ℕ) i + S1x2048x128.size i ≤ S8x2048x128.size i
  | ⟨0, _⟩ => by show h.val + 1 ≤ 8; omega
  | ⟨1, _⟩ => by show 0 + 2048 ≤ 2048; omega
  | ⟨2, _⟩ => by show 0 + 128 ≤ 128; omega
theorem inb_four (b : Fin 4) : ∀ i, (![4 * b.val, 0, 0] : Fin 3 → ℕ) i + S4x32x1024.size i ≤ S16x32x1024.size i
  | ⟨0, _⟩ => by show 4 * b.val + 4 ≤ 16; omega
  | ⟨1, _⟩ => by show 0 + 32 ≤ 32; omega
  | ⟨2, _⟩ => by show 0 + 1024 ≤ 1024; omega

/-- Row block `b`, columns of head `h`. -/
abbrev tile (b : Fin 4) (h : Fin 8) : Rect S512x1024 := Rect.unit ![128 * b.val, 128 * h.val] S128x128.size (inb_tile b h)
abbrev rows (b : Fin 4) : Rect S512x1024 := Rect.unit ![128 * b.val, 0] S128x1024.size (inb_rows b)
abbrev head (h : Fin 8) : Rect S8x2048x128 := Rect.unit ![h.val, 0, 0] S1x2048x128.size (inb_head h)

def qt (b : Fin 4) (h : Fin 8) : Vec F S128x128 .f32 := (M6.access (tile b h)).read (Elt F) (qv a)
def kt (h : Fin 8) : Vec F S1x2048x128 .f32 := (M3.access (head h)).read (Elt F) a.kk
def vt (h : Fin 8) : Vec F S1x2048x128 .f32 := (M4.access (head h)).read (Elt F) a.vv
/-- One head's attention for one block of rows. -/
def hd (b : Fin 4) (h : Fin 8) : FVec F S128x128 .f32 := k0_pay2 (qt a b h) (kt a h) (vt a h)
/-- All heads and rows. -/
def attnF : S512x1024.Idx → Elt F .f32 := fun x =>
  hd a ⟨(x 0).val / 128, by have h : (x 0).val < 512 := (x 0).isLt; omega⟩ ⟨(x 1).val / 128, by have h : (x 1).val < 1024 := (x 1).isLt; omega⟩
    (ix2 (n0 := 128) (n1 := 128) ⟨(x 0).val % 128, Nat.mod_lt _ (by decide)⟩ ⟨(x 1).val % 128, Nat.mod_lt _ (by decide)⟩)
def at4 (b : Fin 4) : Vec F S128x1024 .f32 := (M7.access (rows b)).read (Elt F) (attnF a)
/-- A block of rows times the device's rows of the output weight. -/
def accB (b : Fin 4) : FVec F S4x32x1024 .f32 := k0_pay17 (at4 a b) (k0_pay16 a.wo) (constant S128x1024 .f32 0x00000000#32)
/-- The device's own product. -/
def accF : S16x32x1024.Idx → Elt F .f32 := fun x =>
  accB a ⟨(x 0).val / 4, by have h : (x 0).val < 16 := (x 0).isLt; omega⟩ (ix3 (n0 := 4) (n1 := 32) (n2 := 1024) ⟨(x 0).val % 4, Nat.mod_lt _ (by decide)⟩ (x 1) (x 2))
/-- Its rows for device `r`. -/
def prow (r : Dev nD) : Vec F S1x32x1024 .f32 := fun i => accF a (ix3 (n0 := 16) (n1 := 32) (n2 := 1024) r (i 1) (i 2))

/-! ## What is known of a buffer -/

def Any {A : Type} : A → Prop := fun _ => True
def Is {A : Type} (v : A) : A → Prop := fun f => f = v
/-- The first `n` tiles of the attention are in place. -/
def AttnOK (n : ℕ) : (S512x1024.Idx → Elt F .f32) → Prop := fun f => ∀ x : S512x1024.Idx, 8 * ((x 0).val / 128) + (x 1).val / 128 < n → f x = attnF a x
/-- The first `n` row groups of the own product are in place. -/
def AccOK (n : ℕ) : (S16x32x1024.Idx → Elt F .f32) → Prop := fun f => ∀ x : S16x32x1024.Idx, (x 0).val < n → f x = accF a x

theorem accOK_zero (f : S16x32x1024.Idx → Elt F .f32) : AccOK a 0 f := fun x h => absurd h (Nat.not_lt_zero _)
theorem attnOK_zero (f : S512x1024.Idx → Elt F .f32) : AttnOK a 0 f := fun x h => absurd h (Nat.not_lt_zero _)

theorem emb_tile (b : Fin 4) (h : Fin 8) (y : S128x128.Idx) :
    (tile b h).emb y = ix2 (n0 := 512) (n1 := 1024) ⟨128 * b.val + (y 0).val, by have := b.isLt; have h : (y 0).val < 128 := (y 0).isLt; omega⟩
      ⟨128 * h.val + (y 1).val, by have := h.isLt; have h : (y 1).val < 128 := (y 1).isLt; omega⟩ := by
  refine idx2_ext ?_ ?_
  · rw [Rect.emb_apply]; show 128 * b.val + 1 * (y 0).val = 128 * b.val + (y 0).val; omega
  · rw [Rect.emb_apply]; show 128 * h.val + 1 * (y 1).val = 128 * h.val + (y 1).val; omega

theorem attn_step (b : Fin 4) (h : Fin 8) (n : ℕ) (hn : n = 8 * b.val + h.val) (f : S512x1024.Idx → Elt F .f32) (hf : AttnOK a n f)
    (w : S128x128.Idx → Elt F .f32) (hw : w = hd a b h) :
    AttnOK a (n + 1) ((M7.access (tile b h)).write (Elt F) f w Finset.univ) := by
  subst hw
  intro x hx
  have hx0 : (x 0).val < 512 := (x 0).isLt
  have hx1 : (x 1).val < 1024 := (x 1).isLt
  have hb := b.isLt
  have hh := h.isLt
  by_cases hm : (x 0).val / 128 = b.val ∧ (x 1).val / 128 = h.val
  · have e : x = (tile b h).emb (ix2 (n0 := 128) (n1 := 128) ⟨(x 0).val % 128, Nat.mod_lt _ (by decide)⟩ ⟨(x 1).val % 128, Nat.mod_lt _ (by decide)⟩) := by
      rw [emb_tile]
      refine idx2_ext ?_ ?_
      · show (x 0).val = 128 * b.val + (x 0).val % 128; omega
      · show (x 1).val = 128 * h.val + (x 1).val % 128; omega
    have h2 := View.read_write_of_mem (v := M7.access (tile b h)) f (hd a b h) (Finset.mem_univ (ix2 (n0 := 128) (n1 := 128) ⟨(x 0).val % 128, Nat.mod_lt _ (by decide)⟩ ⟨(x 1).val % 128, Nat.mod_lt _ (by decide)⟩))
    have hb' : (⟨(x 0).val / 128, by omega⟩ : Fin 4) = b := Fin.ext hm.1
    have hh' : (⟨(x 1).val / 128, by omega⟩ : Fin 8) = h := Fin.ext hm.2
    unfold attnF
    rw [hb', hh', ← h2]
    conv_lhs => rw [e]
    rfl
  · have hn : x ∉ (M7.access (tile b h)).setOn Finset.univ := by
      rw [View.setOn_univ]
      show x ∉ ((View.whole cc0_scratch1).slice (tile b h)).set
      rw [View.set_slice_whole]
      intro hx'
      have hr := Rect.mem_set_unit.mp hx'
      have r0 : 128 * b.val ≤ (x 0).val ∧ (x 0).val < 128 * b.val + 128 := hr 0
      have r1 : 128 * h.val ≤ (x 1).val ∧ (x 1).val < 128 * h.val + 128 := hr 1
      exact hm ⟨by omega, by omega⟩
    exact (View.write_of_not_mem (v := M7.access (tile b h)) f (hd a b h) Finset.univ hn).trans (hf x (by omega))

theorem attn_rows (b : Fin 4) (n : ℕ) (hn : 8 * (b.val + 1) ≤ n) (f : S512x1024.Idx → Elt F .f32) (hf : AttnOK a n f) :
    (M7.access (rows b)).read (Elt F) f = at4 a b := by
  funext y
  refine hf ((rows b).emb y) ?_
  have hy0 : (y 0).val < 128 := (y 0).isLt
  have hx1 : (((rows b).emb y) 1).val < 1024 := (((rows b).emb y) 1).isLt
  have h0 : (((rows b).emb y) 0).val = 128 * b.val + 1 * (y 0).val := Rect.emb_apply _ _ _
  rw [h0]
  omega

abbrev four (b : Fin 4) : Rect S16x32x1024 := Rect.unit ![4 * b.val, 0, 0] S4x32x1024.size (inb_four b)

theorem emb_four (b : Fin 4) (y : S4x32x1024.Idx) :
    (four b).emb y = ix3 (n0 := 16) (n1 := 32) (n2 := 1024) ⟨4 * b.val + (y 0).val, by have := b.isLt; have h : (y 0).val < 4 := (y 0).isLt; omega⟩ (y 1) (y 2) := by
  refine Shape.idx3_ext ?_ ?_ ?_
  · rw [Rect.emb_apply]; show 4 * b.val + 1 * (y 0).val = 4 * b.val + (y 0).val; omega
  · rw [Rect.emb_apply]; show 0 + 1 * (y 1).val = (y 1).val; omega
  · rw [Rect.emb_apply]; show 0 + 1 * (y 2).val = (y 2).val; omega

theorem acc_step (b : Fin 4) (f : S16x32x1024.Idx → Elt F .f32) (hf : AccOK a (4 * b.val) f)
    (w : S4x32x1024.Idx → Elt F .f32) (hw : w = accB a b) :
    AccOK a (4 * b.val + 4) ((M8.access (four b)).write (Elt F) f w Finset.univ) := by
  subst hw
  intro x hx
  have hb := b.isLt
  by_cases hm : (x 0).val / 4 = b.val
  · have e : x = (four b).emb (ix3 (n0 := 4) (n1 := 32) (n2 := 1024) ⟨(x 0).val % 4, Nat.mod_lt _ (by decide)⟩ (x 1) (x 2)) := by
      rw [emb_four]
      refine Shape.idx3_ext ?_ rfl rfl
      show (x 0).val = 4 * b.val + (x 0).val % 4; omega
    have h2 := View.write_emb_of_mem (v := M8.access (four b)) (Val := Elt F) f (accB a b) (M := Finset.univ) (x := ix3 (n0 := 4) (n1 := 32) (n2 := 1024) ⟨(x 0).val % 4, Nat.mod_lt _ (by decide)⟩ (x 1) (x 2)) (Finset.mem_univ _)
    have hb' : (⟨(x 0).val / 4, by omega⟩ : Fin 4) = b := Fin.ext hm
    have h3 : accF a x = accB a b (ix3 (n0 := 4) (n1 := 32) (n2 := 1024) ⟨(x 0).val % 4, Nat.mod_lt _ (by decide)⟩ (x 1) (x 2)) := by
      unfold accF; rw [hb']
    rw [h3]
    exact (congrArg ((M8.access (four b)).write (Elt F) f (accB a b) Finset.univ) e).trans h2
  · have hn : x ∉ (M8.access (four b)).setOn Finset.univ := by
      rw [View.setOn_univ]
      show x ∉ ((View.whole cc0_scratch2).slice (four b)).set
      rw [View.set_slice_whole]
      intro hx'
      have hr := Rect.mem_set_unit.mp hx'
      have r0 : 4 * b.val ≤ (x 0).val ∧ (x 0).val < 4 * b.val + 4 := hr 0
      exact hm (by omega)
    exact (View.write_of_not_mem (v := M8.access (four b)) f (accB a b) Finset.univ hn).trans (hf x (by omega))

theorem acc_row (r : Dev nD) (n : ℕ) (hn : r.val < n) (off : Fin 3 → ℕ) (ho : off = ![r.val, 0, 0]) (inb : ∀ i, off i + S1x32x1024.size i ≤ S16x32x1024.size i)
    (f : S16x32x1024.Idx → Elt F .f32) (hf : AccOK a n f) :
    (M8.access (Rect.unit (s := S16x32x1024) off S1x32x1024.size inb)).read (Elt F) f = prow a r := by
  funext y
  refine (read_row (n := 16) (View.whole cc0_scratch2) r.isLt off ho inb f y).trans ?_
  exact hf (ix3 (n0 := 16) (n1 := 32) (n2 := 1024) r (y 1) (y 2)) hn

end Values

/-! ## Loads and stores at the named values -/

section Steps

variable {α : Type} {c : Dev nD} {a : In F}

theorem ldq {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P7 : M7.view.ty.Contents (Elt F) → Prop} {P8 : M8.view.ty.Contents (Elt F) → Prop} {T : sProp 𝕄} {Q : α → sProp 𝕄} (b : Fin 4) (h : Fin 8) {o0 o1 : ℕ} {inb : ∀ i, (![o0, o1] : Fin 2 → ℕ) i + S128x128.size i ≤ S512x1024.size i} {hl : M6.view.LoadsAt (Rect.unit (s := S512x1024) ![o0, o1] S128x128.size inb).toLoadRect} {k : Vec F S128x128 .f32 → Prog (TpuEff nD τ sig (Elt F) Λ₀ .tc) α} (h0 : o0 = 128 * b.val) (h1 : o1 = 128 * h.val)
    (hh : St c P0 P1 P2 P3 P4 P5 (Is (qv a)) P7 P8 T ⊢ WP c (k (qt a b h)) Q) :
    St c P0 P1 P2 P3 P4 P5 (Is (qv a)) P7 P8 T ⊢ WP c (Prog.lift (.load M6 (Rect.unit (s := S512x1024) ![o0, o1] S128x128.size inb).toLoadRect hl) >>= k) Q := by
  subst h0; subst h1
  exact load6 (r := tile b h) (qt a b h) (fun f hf => by rw [hf]; rfl) hh

theorem ldk {P0 : M0.view.ty.Contents (Elt F) → Prop} {P1 : M1.view.ty.Contents (Elt F) → Prop} {P2 : M2.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {P8 : M8.view.ty.Contents (Elt F) → Prop} {T : sProp 𝕄} {Q : α → sProp 𝕄} (h : Fin 8) {o0 : ℕ} {inb : ∀ i, (![o0, 0, 0] : Fin 3 → ℕ) i + S1x2048x128.size i ≤ S8x2048x128.size i} {hl : M3.view.LoadsAt (Rect.unit (s := S8x2048x128) ![o0, 0, 0] S1x2048x128.size inb).toLoadRect} {k : Vec F S1x2048x128 .f32 → Prog (TpuEff nD τ sig (Elt F) Λ₀ .tc) α} (h0 : o0 = h.val)
    (hh : St c P0 P1 P2 (Is a.kk) P4 P5 P6 P7 P8 T ⊢ WP c (k (kt a h)) Q) :
    St c P0 P1 P2 (Is a.kk) P4 P5 P6 P7 P8 T ⊢ WP c (Prog.lift (.load M3 (Rect.unit (s := S8x2048x128) ![o0, 0, 0] S1x2048x128.size inb).toLoadRect hl) >>= k) Q := by
  subst h0
  exact load3 (r := head h) (kt a h) (fun f hf => by rw [hf]; rfl) hh

theorem ldv {P0 : M0.view.ty.Contents (Elt F) → Prop} {P1 : M1.view.ty.Contents (Elt F) → Prop} {P2 : M2.view.ty.Contents (Elt F) → Prop} {P3 : M3.view.ty.Contents (Elt F) → Prop} {P5 : M5.view.ty.Contents (Elt F) → Prop} {P6 : M6.view.ty.Contents (Elt F) → Prop} {P7 : M7.view.ty.Contents (Elt F) → Prop} {P8 : M8.view.ty.Contents (Elt F) → Prop} {T : sProp 𝕄} {Q : α → sProp 𝕄} (h : Fin 8) {o0 : ℕ} {inb : ∀ i, (![o0, 0, 0] : Fin 3 → ℕ) i + S1x2048x128.size i ≤ S8x2048x128.size i} {hl : M4.view.LoadsAt (Rect.unit (s := S8x2048x128) ![o0, 0, 0] S1x2048x128.size inb).toLoadRect} {k : Vec F S1x2048x128 .f32 → Prog (TpuEff nD τ sig (Elt F) Λ₀ .tc) α} (h0 : o0 = h.val)
    (hh : St c P0 P1 P2 P3 (Is a.vv) P5 P6 P7 P8 T ⊢ WP c (k (vt a h)) Q) :
    St c P0 P1 P2 P3 (Is a.vv) P5 P6 P7 P8 T ⊢ WP c (Prog.lift (.load M4 (Rect.unit (s := S8x2048x128) ![o0, 0, 0] S1x2048x128.size inb).toLoadRect hl) >>= k) Q := by
  subst h0
  exact load4 (r := head h) (vt a h) (fun f hf => by rw [hf]; rfl) hh

theorem ldx {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {P8 : M8.view.ty.Contents (Elt F) → Prop} {T : sProp 𝕄} {Q : α → sProp 𝕄} {inb : ∀ i, (![0, 0] : Fin 2 → ℕ) i + S512x1024.size i ≤ S512x1024.size i} {hl : M0.view.LoadsAt (Rect.unit (s := S512x1024) ![0, 0] S512x1024.size inb).toLoadRect} {k : Vec F S512x1024 .f32 → Prog (TpuEff nD τ sig (Elt F) Λ₀ .tc) α}
    (hh : St c (Is a.x) P1 P2 P3 P4 P5 P6 P7 P8 T ⊢ WP c (k a.x) Q) :
    St c (Is a.x) P1 P2 P3 P4 P5 P6 P7 P8 T ⊢ WP c (Prog.lift (.load M0 (Rect.unit (s := S512x1024) ![0, 0] S512x1024.size inb).toLoadRect hl) >>= k) Q := by
  exact load0 a.x (fun f hf => by rw [hf]; exact Memref.read_access_unit_zero _ _ (by funext i; fin_cases i <;> rfl) _ _) hh

theorem ldwq {P0 : M0.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {P8 : M8.view.ty.Contents (Elt F) → Prop} {T : sProp 𝕄} {Q : α → sProp 𝕄} {inb : ∀ i, (![0, 0] : Fin 2 → ℕ) i + S1024x1024.size i ≤ S1024x1024.size i} {hl : M1.view.LoadsAt (Rect.unit (s := S1024x1024) ![0, 0] S1024x1024.size inb).toLoadRect} {k : Vec F S1024x1024 .f32 → Prog (TpuEff nD τ sig (Elt F) Λ₀ .tc) α}
    (hh : St c P0 (Is a.wq) P2 P3 P4 P5 P6 P7 P8 T ⊢ WP c (k a.wq) Q) :
    St c P0 (Is a.wq) P2 P3 P4 P5 P6 P7 P8 T ⊢ WP c (Prog.lift (.load M1 (Rect.unit (s := S1024x1024) ![0, 0] S1024x1024.size inb).toLoadRect hl) >>= k) Q := by
  exact load1 a.wq (fun f hf => by rw [hf]; exact Memref.read_access_unit_zero _ _ (by funext i; fin_cases i <;> rfl) _ _) hh

theorem ldwo {P0 : M0.view.ty.Contents (Elt F) → Prop} {P1 : M1.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {P8 : M8.view.ty.Contents (Elt F) → Prop} {T : sProp 𝕄} {Q : α → sProp 𝕄} {inb : ∀ i, (![0, 0] : Fin 2 → ℕ) i + S1024x1024.size i ≤ S1024x1024.size i} {hl : M2.view.LoadsAt (Rect.unit (s := S1024x1024) ![0, 0] S1024x1024.size inb).toLoadRect} {k : Vec F S1024x1024 .f32 → Prog (TpuEff nD τ sig (Elt F) Λ₀ .tc) α}
    (hh : St c P0 P1 (Is a.wo) P3 P4 P5 P6 P7 P8 T ⊢ WP c (k a.wo) Q) :
    St c P0 P1 (Is a.wo) P3 P4 P5 P6 P7 P8 T ⊢ WP c (Prog.lift (.load M2 (Rect.unit (s := S1024x1024) ![0, 0] S1024x1024.size inb).toLoadRect hl) >>= k) Q := by
  exact load2 a.wo (fun f hf => by rw [hf]; exact Memref.read_access_unit_zero _ _ (by funext i; fin_cases i <;> rfl) _ _) hh

theorem ldrows {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P8 : M8.view.ty.Contents (Elt F) → Prop} {T : sProp 𝕄} {Q : α → sProp 𝕄} (b : Fin 4) (n : ℕ) (hn : 8 * (b.val + 1) ≤ n) {o0 : ℕ} {inb : ∀ i, (![o0, 0] : Fin 2 → ℕ) i + S128x1024.size i ≤ S512x1024.size i} {hl : M7.view.LoadsAt (Rect.unit (s := S512x1024) ![o0, 0] S128x1024.size inb).toLoadRect} {k : Vec F S128x1024 .f32 → Prog (TpuEff nD τ sig (Elt F) Λ₀ .tc) α} (h0 : o0 = 128 * b.val)
    (hh : St c P0 P1 P2 P3 P4 P5 P6 (AttnOK a n) P8 T ⊢ WP c (k (at4 a b)) Q) :
    St c P0 P1 P2 P3 P4 P5 P6 (AttnOK a n) P8 T ⊢ WP c (Prog.lift (.load M7 (Rect.unit (s := S512x1024) ![o0, 0] S128x1024.size inb).toLoadRect hl) >>= k) Q := by
  subst h0
  exact load7 (r := rows b) (at4 a b) (fun f hf => attn_rows a b n hn f hf) hh

theorem ldrow {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {T : sProp 𝕄} {Q : α → sProp 𝕄} (r : Dev nD) (n : ℕ) (hn : r.val < n) {off : Fin 3 → ℕ} {inb : ∀ i, off i + S1x32x1024.size i ≤ S16x32x1024.size i} {hl : M8.view.LoadsAt (Rect.unit (s := S16x32x1024) off S1x32x1024.size inb).toLoadRect} {k : Vec F S1x32x1024 .f32 → Prog (TpuEff nD τ sig (Elt F) Λ₀ .tc) α} (h0 : off = ![r.val, 0, 0])
    (hh : St c P0 P1 P2 P3 P4 P5 P6 P7 (AccOK a n) T ⊢ WP c (k (prow a r)) Q) :
    St c P0 P1 P2 P3 P4 P5 P6 P7 (AccOK a n) T ⊢ WP c (Prog.lift (.load M8 (Rect.unit (s := S16x32x1024) off S1x32x1024.size inb).toLoadRect hl) >>= k) Q :=
  load8 (r := Rect.unit (s := S16x32x1024) off S1x32x1024.size inb) (prow a r) (fun f hf => acc_row a r n hn off h0 inb f hf) hh

theorem stq {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P7 : M7.view.ty.Contents (Elt F) → Prop} {P8 : M8.view.ty.Contents (Elt F) → Prop} {T : sProp 𝕄} {Q : α → sProp 𝕄} {P6 : M6.view.ty.Contents (Elt F) → Prop} {inb : ∀ i, (![0, 0] : Fin 2 → ℕ) i + S512x1024.size i ≤ S512x1024.size i} {w : S512x1024.Idx → Elt F .f32} {hx : (M6.access (Rect.unit (s := S512x1024) ![0, 0] S512x1024.size inb)).Stores Finset.univ} {hm} {k : PUnit → Prog (TpuEff nD τ sig (Elt F) Λ₀ .tc) α} (hw : w = qv a)
    (hh : St c P0 P1 P2 P3 P4 P5 (Is (qv a)) P7 P8 T ⊢ WP c (k ⟨⟩) Q) :
    St c P0 P1 P2 P3 P4 P5 P6 P7 P8 T ⊢ WP c (Prog.lift (.store M6 (Rect.unit (s := S512x1024) ![0, 0] S512x1024.size inb) w Finset.univ hx hm) >>= k) Q := by
  subst hw
  exact store6 (Is (qv a)) (fun f _ => Memref.write_access_unit_zero_univ _ _ (by funext i; fin_cases i <;> rfl) _ _ _) hh

theorem stattn {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P8 : M8.view.ty.Contents (Elt F) → Prop} {T : sProp 𝕄} {Q : α → sProp 𝕄} (b : Fin 4) (h : Fin 8) {n : ℕ} (hn : n = 8 * b.val + h.val) {o0 o1 : ℕ} {inb : ∀ i, (![o0, o1] : Fin 2 → ℕ) i + S128x128.size i ≤ S512x1024.size i} {w : S128x128.Idx → Elt F .f32} {hx : (M7.access (Rect.unit (s := S512x1024) ![o0, o1] S128x128.size inb)).Stores Finset.univ} {hm} {k : PUnit → Prog (TpuEff nD τ sig (Elt F) Λ₀ .tc) α} (h0 : o0 = 128 * b.val) (h1 : o1 = 128 * h.val) (hw : w = hd a b h)
    (hh : St c P0 P1 P2 P3 P4 P5 P6 (AttnOK a (n + 1)) P8 T ⊢ WP c (k ⟨⟩) Q) :
    St c P0 P1 P2 P3 P4 P5 P6 (AttnOK a n) P8 T ⊢ WP c (Prog.lift (.store M7 (Rect.unit (s := S512x1024) ![o0, o1] S128x128.size inb) w Finset.univ hx hm) >>= k) Q := by
  subst h0; subst h1
  exact store7 (AttnOK a (n + 1)) (r := tile b h) (fun f hf => attn_step a b h n hn f hf w hw) hh

theorem stacc {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {T : sProp 𝕄} {Q : α → sProp 𝕄} (b : Fin 4) {n : ℕ} (hn : n = 4 * b.val) {o0 : ℕ} {inb : ∀ i, (![o0, 0, 0] : Fin 3 → ℕ) i + S4x32x1024.size i ≤ S16x32x1024.size i} {w : S4x32x1024.Idx → Elt F .f32} {hx : (M8.access (Rect.unit (s := S16x32x1024) ![o0, 0, 0] S4x32x1024.size inb)).Stores Finset.univ} {hm} {k : PUnit → Prog (TpuEff nD τ sig (Elt F) Λ₀ .tc) α} (h0 : o0 = 4 * b.val) (hw : w = accB a b)
    (hh : St c P0 P1 P2 P3 P4 P5 P6 P7 (AccOK a (n + 4)) T ⊢ WP c (k ⟨⟩) Q) :
    St c P0 P1 P2 P3 P4 P5 P6 P7 (AccOK a n) T ⊢ WP c (Prog.lift (.store M8 (Rect.unit (s := S16x32x1024) ![o0, 0, 0] S4x32x1024.size inb) w Finset.univ hx hm) >>= k) Q := by
  subst h0; subst hn
  exact store8 (AccOK a (4 * b.val + 4)) (r := four b) (fun f hf => acc_step a b f hf w hw) hh

end Steps

end Cert.KernelIdeal.Talk
-- ==== Proof.Talk.lean ====
/- What a device holds of the exchange between two steps, and what each step of the exchange does to it. -/
module

public import proofs.«01_k».proof.Proof.Vals

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (Pv : Dev nD → Dev nD → Vec F S1x32x1024 .f32)

theorem elimSep {I : Type} [DecidableEq I] {s : Finset I} {i : I} (h : i ∈ s) (Φ : I → sProp 𝕄) : (bigSep s Φ : sProp 𝕄) ⊢ Φ i := bigSep_elim h
theorem eraseSep {I : Type} [DecidableEq I] {s : Finset I} {i : I} (h : i ∈ s) (Φ : I → sProp 𝕄) : (bigSep s Φ : sProp 𝕄) = iprop(Φ i ∗ bigSep (s.erase i) Φ) := bigSep_erase h
theorem empSep {I : Type} (s : Finset I) : (bigSep s fun _ : I => (iprop(emp) : sProp 𝕄)) = iprop(emp) := bigSep_emp_const s
theorem sep_emp_eq (P : sProp 𝕄) : iprop(P ∗ emp) = P := equiv_iff.mp BI.sep_emp

/-! ## The exchange's part of the state -/

/-- The invariants of all cells. -/
def invAll (K : GSem nD τ sig → ℕ) : sProp 𝕄 :=
  bigSep Finset.univ fun p : Dev nD => iprop(cellInv ER (talkRd Pv) (K (barC p)) (barC p) ∗ cellInv ER (talkRd Pv) (K (exC p)) (exC p)
    ∗ bigSep Finset.univ fun i : Fin 30 => iprop(cellInv ER (talkRd Pv) (K (sndC p i)) (sndC p i) ∗ cellInv ER (talkRd Pv) (K (rcvC p i)) (rcvC p i)))
instance invAll_persistent (K : GSem nD τ sig → ℕ) : BI.Persistent (invAll Pv K) := by unfold invAll; infer_instance

theorem inv_of (K : GSem nD τ sig → ℕ) (p : Dev nD) : invAll Pv K ⊢ iprop(cellInv ER (talkRd Pv) (K (barC p)) (barC p) ∗ cellInv ER (talkRd Pv) (K (exC p)) (exC p)
    ∗ bigSep Finset.univ fun i : Fin 30 => iprop(cellInv ER (talkRd Pv) (K (sndC p i)) (sndC p i) ∗ cellInv ER (talkRd Pv) (K (rcvC p i)) (rcvC p i))) := by
  unfold invAll
  exact elimSep (Finset.mem_univ p) (fun p : Dev nD => iprop(cellInv ER (talkRd Pv) (K (barC p)) (barC p) ∗ cellInv ER (talkRd Pv) (K (exC p)) (exC p)
    ∗ bigSep Finset.univ fun i : Fin 30 => iprop(cellInv ER (talkRd Pv) (K (sndC p i)) (sndC p i) ∗ cellInv ER (talkRd Pv) (K (rcvC p i)) (rcvC p i))))
theorem inv_bar (K : GSem nD τ sig → ℕ) (p : Dev nD) : invAll Pv K ⊢ cellInv ER (talkRd Pv) (K (barC p)) (barC p) := by
  iintro H; ihave H := (inv_of Pv K p) $$ H; icases H with ⟨H, -, -⟩; iexact H
theorem inv_ex (K : GSem nD τ sig → ℕ) (p : Dev nD) : invAll Pv K ⊢ cellInv ER (talkRd Pv) (K (exC p)) (exC p) := by
  iintro H; ihave H := (inv_of Pv K p) $$ H; icases H with ⟨-, H, -⟩; iexact H
theorem inv_tr (K : GSem nD τ sig → ℕ) (p : Dev nD) (i : Fin 30) :
    invAll Pv K ⊢ iprop(cellInv ER (talkRd Pv) (K (sndC p i)) (sndC p i) ∗ cellInv ER (talkRd Pv) (K (rcvC p i)) (rcvC p i)) := by
  iintro H; ihave H := (inv_of Pv K p) $$ H; icases H with ⟨-, -, H⟩
  ihave H := (elimSep (Finset.mem_univ i) (fun i : Fin 30 => iprop(cellInv ER (talkRd Pv) (K (sndC p i)) (sndC p i) ∗ cellInv ER (talkRd Pv) (K (rcvC p i)) (rcvC p i)))) $$ H
  iexact H
theorem inv_snd (K : GSem nD τ sig → ℕ) (p : Dev nD) (i : Fin 30) : invAll Pv K ⊢ cellInv ER (talkRd Pv) (K (sndC p i)) (sndC p i) := by
  iintro H; ihave H := (inv_tr Pv K p i) $$ H; icases H with ⟨H, -⟩; iexact H
theorem inv_rcv (K : GSem nD τ sig → ℕ) (p : Dev nD) (i : Fin 30) : invAll Pv K ⊢ cellInv ER (talkRd Pv) (K (rcvC p i)) (rcvC p i) := by
  iintro H; ihave H := (inv_tr Pv K p i) $$ H; icases H with ⟨-, H⟩; iexact H
theorem rch_snd (c : Dev nD) (i : Fin 30) : (bigSep Finset.univ fun i : Fin 30 => reached ER (sndC c i) 0) ⊢ (reached ER (sndC c i) 0 : sProp 𝕄) :=
  elimSep (Finset.mem_univ i) (fun i : Fin 30 => (reached ER (sndC c i) 0 : sProp 𝕄))

/-- What every device may use at any time. -/
def Pers (K : GSem nD τ sig → ℕ) (c : Dev nD) : sProp 𝕄 :=
  iprop(invAll Pv K ∗ levAts L lv ∗ bigSep Finset.univ fun i : Fin 30 => reached ER (sndC c i) 0)
instance pers_persistent (K : GSem nD τ sig → ℕ) (c : Dev nD) : BI.Persistent (Pers Pv K c) := by unfold Pers; infer_instance

/-- The device's row of the send buffer for transfer `i`. -/
def own9 (c : Dev nD) (i : Fin 30) : sProp 𝕄 := if i.val < 15 then iprop(∃ f, b9 (F := F) c i.val f) else iprop(emp)
/-- What starting transfer `i` takes of the sender's own. -/
def tokS (c : Dev nD) (i : Fin 30) : sProp 𝕄 := iprop(dutyTok ER (sndC c i) 0 0 ∗ dutyTok ER (rcvC (tgt c i) i) 0 0 ∗ own9 (F := F) c i)
/-- And of the receiver's. -/
def landS (c : Dev nD) (i : Fin 30) : sProp 𝕄 := iprop(landAny (F := F) (tgt c i) i ∗ reached ER (rcvC (tgt c i) i) 0)
def sendRes (c : Dev nD) (i : Fin 30) : sProp 𝕄 := iprop(tokS (F := F) c i ∗ landS (F := F) c i)
/-- What waiting for transfer `i` takes. -/
def rcvRes (c : Dev nD) (i : Fin 30) : sProp 𝕄 := iprop(cred (tallyAt (rcvC c i) () N) ∗ atPos ER (rcvC c i) 0 ∅ 0)
/-- And what is left of it afterwards, besides what the gather has brought. -/
def rcvEnd (c : Dev nD) (i : Fin 30) : sProp 𝕄 := iprop(atPos ER (rcvC c i) 1 ∅ 0 ∗ if i.val < 15 then landAt Pv c i else iprop(emp))
/-- The gather buffer's first slot, holding anything. -/
def slot0 (c : Dev nD) : sProp 𝕄 := iprop(∃ f, b11 (F := F) c 0 fullShare f)

/-- Untouched until the end. -/
def Idle (c : Dev nD) : sProp 𝕄 :=
  iprop((bigSep Finset.univ fun i : Fin 30 => atPos ER (sndC c i) 0 ∅ 0) ∗ atPos ER (exC c) 0 ∅ 0 ∗ cred (tallyAt (exC c) () 15))
def exTok (c : Dev nD) (d : Fin 15) : sProp 𝕄 := dutyTok ER (exC (sh c d)) 0 d
/-- What an exit unit takes. -/
def exRes (c : Dev nD) (d : Fin 15) : sProp 𝕄 := iprop(exTok (F := F) c d ∗ reached ER (exC (sh c d)) 0)
/-- What a barrier unit takes. -/
def barRes (c : Dev nD) (d : Fin 15) : sProp 𝕄 :=
  iprop(dutyTok ER (barC (sh c d)) 0 d ∗ reached ER (barC (sh c d)) 0 ∗ barPay (F := F) (sh c d) d)

/-- Before the barrier, `b` units paid. -/
def T0 (K : GSem nD τ sig → ℕ) (c : Dev nD) (b : ℕ) : sProp 𝕄 :=
  iprop(Pers Pv K c ∗ (bigSep (Finset.univ.filter fun d : Fin 15 => b ≤ d.val) fun d => barRes (F := F) c d)
    ∗ (bigSep Finset.univ fun i : Fin 30 => tokS (F := F) c i) ∗ (bigSep Finset.univ fun i : Fin 30 => rcvRes (F := F) c i)
    ∗ slot0 (F := F) c ∗ Idle (F := F) c ∗ (bigSep Finset.univ fun d : Fin 15 => exTok (F := F) c d)
    ∗ atPos ER (barC c) 0 ∅ 0 ∗ cred (tallyAt (barC c) () 15) ∗ ∃ W, owes (c : Thread nD τ) (Ob c b) W)

/-- Between the barrier and the end: the transfers before moment `n` started, the first `r` received; `X` is held of
    the gather buffer. -/
def T1 (K : GSem nD τ sig → ℕ) (c : Dev nD) (n r : ℕ) (X : sProp 𝕄) : sProp 𝕄 :=
  iprop(Pers Pv K c ∗ (bigSep (Finset.univ.filter fun i : Fin 30 => n ≤ spos c i) fun i => sendRes (F := F) c i)
    ∗ (bigSep (Finset.univ.filter fun i : Fin 30 => spos c i < n) fun i => cred (tallyAt (sndC c i) () N))
    ∗ (bigSep (Finset.univ.filter fun i : Fin 30 => r ≤ rpos i) fun i => rcvRes (F := F) c i)
    ∗ (bigSep (Finset.univ.filter fun i : Fin 30 => rpos i < r) fun i => rcvEnd Pv c i)
    ∗ X ∗ Idle (F := F) c ∗ (bigSep Finset.univ fun d : Fin 15 => exRes (F := F) c d)
    ∗ atPos ER (barC c) 1 ∅ 0 ∗ ∃ W, owes (c : Thread nD τ) (Ow c n 0) W)

/-- Which shares of which slots of the gather buffer a device has then. -/
def held (n r : ℕ) : Finset (Fin 16 × Fin 8) := Finset.univ.filter fun p =>
  (p.1 = 0 ∨ ∃ i : Fin 30, 15 ≤ i.val ∧ dslot i = p.1 ∧ rpos i < r) ∧ ∀ i : Fin 30, 15 ≤ i.val → sslot i = p.1 → lf i = p.2 → n ≤ 60 + apos i
def Lv (c : Dev nD) (n r : ℕ) : sProp 𝕄 := bigSep (held n r) fun p => leaf11 Pv c p.1 p.2

/-- At the end: `w` transfers' sources back, `e` exit units paid. -/
def T2 (K : GSem nD τ sig → ℕ) (c : Dev nD) (w e : ℕ) : sProp 𝕄 :=
  iprop(Pers Pv K c ∗ (bigSep (Finset.univ.filter fun i : Fin 30 => w ≤ rpos i) fun i => iprop(cred (tallyAt (sndC c i) () N) ∗ atPos ER (sndC c i) 0 ∅ 0))
    ∗ (bigSep (Finset.univ.filter fun i : Fin 30 => rpos i < w) fun i => iprop(atPos ER (sndC c i) 1 ∅ 0 ∗ sndPay Pv c i))
    ∗ (bigSep Finset.univ fun i : Fin 30 => rcvEnd Pv c i) ∗ Lv Pv c 75 30
    ∗ (bigSep (Finset.univ.filter fun d : Fin 15 => e ≤ d.val) fun d => exRes (F := F) c d)
    ∗ atPos ER (barC c) 1 ∅ 0 ∗ atPos ER (exC c) 0 ∅ 0 ∗ cred (tallyAt (exC c) () 15) ∗ ∃ W, owes (c : Thread nD τ) (Ow c 75 e) W)
/-- And when the device has waited for the exit units. -/
def T3 (K : GSem nD τ sig → ℕ) (c : Dev nD) : sProp 𝕄 :=
  iprop(Pers Pv K c ∗ (bigSep Finset.univ fun i : Fin 30 => iprop(atPos ER (sndC c i) 1 ∅ 0 ∗ sndPay Pv c i))
    ∗ (bigSep Finset.univ fun i : Fin 30 => rcvEnd Pv c i) ∗ Lv Pv c 75 30
    ∗ atPos ER (barC c) 1 ∅ 0 ∗ atPos ER (exC c) 1 ∅ 0 ∗ ∃ W, owes (c : Thread nD τ) 0 W)

/-! ## Barrier and exit -/

section Steps

variable {α : Type} (K : GSem nD τ sig → ℕ) (c : Dev nD)

theorem sig_bar (d : Fin 15) {p : Dev nD} (hp : p = sh c d) {s : Sem sig} (hs : s = barS) {k : PUnit → Prog (TpuEff nD τ sig (Elt F) Λ₀ .tc) α} {Q : α → sProp 𝕄} :
    T0 Pv K c d.val ⊢ iprop((T0 Pv K c (d.val + 1) -∗ WP c (k ⟨⟩) Q) -∗ WP c (semSignalWord p s 1#32 >>= k) Q) := by
  subst hp; subst hs
  unfold semSignalWord T0
  rw [Prog.bind_op]
  simp only [Prog.bind_ret]
  rw [pend_step (fun d : Fin 15 => d.val) (fun _ _ => Fin.ext) d d.val rfl]
  unfold Pers
  iintro ⟨⟨#HI, #HL, #HR⟩, ⟨Hb, HB⟩, Ht, Hr, HX, HZ, HE, Hat, Hcr, %W, HO⟩ Hk
  unfold barRes
  icases Hb with ⟨Htok, Hre, Hpay⟩
  iapply (Rounds.wp_signal 𝒱₀ ER (talkRd Pv) (c : Thread nD τ) none (dst := (sh c d : Thread nD τ)) (sem := barS) (r := 0) (d := d) (κ := K (barC (sh c d)))
      (by rw [duties_bar]; exact Finset.mem_univ _) ((amount_bar Pv (sh c d) d).trans (by decide)) () (Ob c (d.val + 1)) (Ob_step c d d.val rfl)) $$ [HO Htok Hpay Hre]
  · isplitr; · iapply (inv_bar Pv K (sh c d)); iexact HI
    isplitl [HO]; · iexact HO
    isplitl [Htok]; · iexact Htok
    isplitl [Hpay]
    · rw [payload_bar]; iexact Hpay
    · iexact Hre
  iintro HO
  iapply Hk
  iframe
  isplitr
  · isplitr; · iexact HI
    isplitr; · iexact HL
    iexact HR
  iexists W; iexact HO

theorem rlev_gt : ∀ i : Fin 30, 1 < rlev i := by decide +kernel
/-- Two nested products taken the other way round. -/
theorem swapSep {I J : Type} [DecidableEq I] [DecidableEq J] (s : Finset I) (t : Finset J) (Φ : I → J → sProp 𝕄) :
    (bigSep s fun i => bigSep t fun j => Φ i j) = bigSep t fun j => bigSep s fun i => Φ i j := by
  induction s using Finset.induction_on with
  | empty =>
    exact (empSep t).symm
  | insert i s hi ih =>
    rw [bigSep_insert hi, ih]
    exact (bigSep_sep _ _ _).symm.trans (bigSep_congr fun j _ => (bigSep_insert (Φ := fun i => Φ i j) hi).symm)
/-- A product of which one factor counts. -/
theorem oneSep {I : Type} [Fintype I] [DecidableEq I] (i : I) (P : sProp 𝕄) :
    (bigSep Finset.univ fun j : I => if j = i then P else iprop(emp)) = P := by
  rw [bigSep_univ_at _ i, if_pos rfl, bigSep_congr (Ψ := fun _ => iprop(emp)) fun j hj => if_neg (Finset.ne_of_mem_erase hj), empSep]
  exact sep_emp_eq P
theorem dof : ∀ (c : Dev nD) (i : Fin 30), ∃ d0 : Fin 15, ∀ d : Fin 15, tgt c i = hs c d ↔ d = d0 := by decide +kernel
theorem hs_rev : ∀ (c : Dev nD) (d : Fin 15), hs c d = sh c (Fin.revPerm d) := by decide +kernel

/-- The barrier's units together: every landing place the device sends to, and that every exit cell is open. -/
theorem collect : (bigSep Finset.univ fun d : Fin 15 => barPay (F := F) c d)
    ⊢ iprop((bigSep Finset.univ fun i : Fin 30 => landS (F := F) c i) ∗ bigSep Finset.univ fun d : Fin 15 => reached ER (exC (sh c d)) 0) := by
  have e1 : (bigSep Finset.univ fun d : Fin 15 => bigSep Finset.univ fun i : Fin 30 =>
        if tgt c i = hs c d then iprop(landAny (F := F) (hs c d) i ∗ reached ER (rcvC (hs c d) i) 0) else iprop(emp))
      = bigSep Finset.univ fun i : Fin 30 => landS (F := F) c i := by
    rw [swapSep]
    refine bigSep_congr fun i _ => ?_
    obtain ⟨d0, h0⟩ := dof c i
    rw [show (fun d : Fin 15 => if tgt c i = hs c d then iprop(landAny (F := F) (hs c d) i ∗ reached ER (rcvC (hs c d) i) 0) else iprop(emp))
        = fun d : Fin 15 => if d = d0 then landS (F := F) c i else iprop(emp) from funext fun d => ?_]
    · exact oneSep d0 _
    · by_cases h : tgt c i = hs c d
      · rw [if_pos h, if_pos ((h0 d).mp h), ← h]; rfl
      · rw [if_neg h, if_neg fun e => h ((h0 d).mpr e)]
  have e2 : (bigSep Finset.univ fun d : Fin 15 => (reached ER (exC (hs c d)) 0 : sProp 𝕄))
      = bigSep Finset.univ fun d : Fin 15 => reached ER (exC (sh c d)) 0 := by
    rw [bigSep_univ_equiv Fin.revPerm (fun d : Fin 15 => (reached ER (exC (sh c d)) 0 : sProp 𝕄))]
    exact bigSep_congr fun d _ => by rw [hs_rev]
  unfold barPay
  rw [bigSep_sep', e1, e2]

theorem wait_bar {s : Sem sig} (hs : s = barS) {k : PUnit → Prog (TpuEff nD τ sig (Elt F) Λ₀ .tc) α} {Q : α → sProp 𝕄} :
    T0 Pv K c 15 ⊢ iprop((T1 Pv K c 0 0 (slot0 (F := F) c) -∗ WP c (k ⟨⟩) Q) -∗ WP c (semWaitWord s 15#32 >>= k) Q) := by
  subst hs
  unfold semWaitWord T0 T1
  rw [Prog.bind_op]
  simp only [Prog.bind_ret]
  rw [Ob_done]
  unfold Pers
  iintro ⟨⟨#HI, #HL, #HR⟩, -, Ht, Hr, HX, HZ, HE, Hat, Hcr, %W, HO⟩ Hk
  iapply (Rounds.wp_wait_rest_token 𝒱₀ ER (talkRd Pv) (c : Thread nD τ) none (κ := K (barC c))
      (wpE_semWait_eq 𝒱₀ (c : Thread nD τ) none Set.univ) (Set.mem_univ _) () (O := Ow c 0 0) (W := W) (R := 0) (m := 0) (T := ∅)
      ((Nat.zero_add _).trans (expect_bar Pv c).symm)) $$ [Hcr HO Hat]
  · isplitr; · iapply (inv_bar Pv K c); iexact HI
    isplitl [Hcr]; · iexact Hcr
    isplitl [HO]; · iexact HO
    isplitr
    · iapply (mayWait c (.reg barS) 0 0 1 (Nat.le_refl 1) (by decide) (fun i _ => rlev_gt i)); iexact HL
    · iexact Hat
  iintro ⟨HO, Hat, -, Hpay⟩
  ihave Hp := (Entails.of_eq (rest_bar Pv c)) $$ Hpay
  ihave Hp := (collect c) $$ Hp
  icases Hp with ⟨Hland, HexR⟩
  iapply Hk
  isplitr
  · isplitr; · iexact HI
    isplitr; · iexact HL
    iexact HR
  isplitl [Ht Hland]
  · rw [show (Finset.univ.filter fun i : Fin 30 => 0 ≤ spos c i) = Finset.univ from Finset.filter_true_of_mem fun i _ => Nat.zero_le _]
    unfold sendRes
    rw [bigSep_sep']
    iframe
  isplitr
  · rw [show (Finset.univ.filter fun i : Fin 30 => spos c i < 0) = ∅ from Finset.filter_false_of_mem fun i _ => Nat.not_lt_zero _]
    rw [bigSep_empty]; iempintro
  isplitl [Hr]
  · rw [show (Finset.univ.filter fun i : Fin 30 => 0 ≤ rpos i) = Finset.univ from Finset.filter_true_of_mem fun i _ => Nat.zero_le _]
    iexact Hr
  isplitr
  · rw [show (Finset.univ.filter fun i : Fin 30 => rpos i < 0) = ∅ from Finset.filter_false_of_mem fun i _ => Nat.not_lt_zero _]
    rw [bigSep_empty]; iempintro
  isplitl [HX]; · iexact HX
  isplitl [HZ]; · iexact HZ
  isplitl [HE HexR]
  · unfold exRes; rw [bigSep_sep']; iframe
  isplitl [Hat]; · iexact Hat
  iexists _; iexact HO

theorem sig_ex (d : Fin 15) {p : Dev nD} (hp : p = sh c d) {s : Sem sig} (hs : s = exS) {k : PUnit → Prog (TpuEff nD τ sig (Elt F) Λ₀ .tc) α} {Q : α → sProp 𝕄} :
    T2 Pv K c 30 d.val ⊢ iprop((T2 Pv K c 30 (d.val + 1) -∗ WP c (k ⟨⟩) Q) -∗ WP c (semSignalWord p s 1#32 >>= k) Q) := by
  subst hp; subst hs
  unfold semSignalWord T2
  rw [Prog.bind_op]
  simp only [Prog.bind_ret]
  rw [pend_step (fun d : Fin 15 => d.val) (fun _ _ => Fin.ext) d d.val rfl]
  unfold Pers
  iintro ⟨⟨#HI, #HL, #HR⟩, HA, HB, HC, HD, ⟨Hb, HE⟩, Hbar, Hat, Hcr, %W, HO⟩ Hk
  unfold exRes exTok
  icases Hb with ⟨Htok, Hre⟩
  iapply (Rounds.wp_signal 𝒱₀ ER (talkRd Pv) (c : Thread nD τ) none (dst := (sh c d : Thread nD τ)) (sem := exS) (r := 0) (d := d) (κ := K (exC (sh c d)))
      (by rw [duties_ex]; exact Finset.mem_univ _) ((amount_ex Pv (sh c d) d).trans (by decide)) () (Ow c 75 (d.val + 1)) (Ow_exit c d 75 d.val rfl)) $$ [HO Htok Hre]
  · isplitr; · iapply (inv_ex Pv K (sh c d)); iexact HI
    isplitl [HO]; · iexact HO
    isplitl [Htok]; · iexact Htok
    isplitr
    · rw [payload_ex]; iempintro
    · iexact Hre
  iintro HO
  iapply Hk
  iframe
  isplitr
  · isplitr; · iexact HI
    isplitr; · iexact HL
    iexact HR
  iexists W; iexact HO

theorem wait_ex {s : Sem sig} (hs : s = exS) {k : PUnit → Prog (TpuEff nD τ sig (Elt F) Λ₀ .tc) α} {Q : α → sProp 𝕄} :
    T2 Pv K c 30 15 ⊢ iprop((T3 Pv K c -∗ WP c (k ⟨⟩) Q) -∗ WP c (semWaitWord s 15#32 >>= k) Q) := by
  subst hs
  unfold semWaitWord T2 T3
  rw [Prog.bind_op]
  simp only [Prog.bind_ret]
  rw [Ow_done]
  unfold Pers
  iintro ⟨⟨#HI, #HL, #HR⟩, -, HB, HC, HD, -, Hbar, Hat, Hcr, %W, HO⟩ Hk
  iapply (Rounds.wp_wait_rest_token 𝒱₀ ER (talkRd Pv) (c : Thread nD τ) none (κ := K (exC c))
      (wpE_semWait_eq 𝒱₀ (c : Thread nD τ) none Set.univ) (Set.mem_univ _) () (O := 0) (W := W) (R := 0) (m := 0) (T := ∅)
      ((Nat.zero_add _).trans (expect_ex Pv c).symm)) $$ [Hcr HO Hat]
  · isplitr; · iapply (inv_ex Pv K c); iexact HI
    isplitl [Hcr]; · iexact Hcr
    isplitl [HO]; · iexact HO
    isplitr
    · rw [MayWait_zero]; iempintro
    · iexact Hat
  iintro ⟨HO, Hat, -, -⟩
  iapply Hk
  isplitr
  · isplitr; · iexact HI
    isplitr; · iexact HL
    iexact HR
  isplitl [HB]
  · rw [show (Finset.univ.filter fun i : Fin 30 => rpos i < 30) = Finset.univ from Finset.filter_true_of_mem fun i _ => rpos_lt i]
    iexact HB
  isplitl [HC]; · iexact HC
  isplitl [HD]; · iexact HD
  isplitl [Hbar]; · iexact Hbar
  isplitl [Hat]; · iexact Hat
  iexists _; iexact HO

/-! ## Transfers -/

/-- No transfer at this moment: the device goes on. -/
theorem T1_skip (n r : ℕ) (X : sProp 𝕄) (h : ∀ i, spos c i ≠ n) : T1 Pv K c n r X = T1 Pv K c (n + 1) r X := by
  unfold T1
  rw [pend_skip (spos c) n h, past_skip (spos c) n h, Ow_skip c n 0 h]

theorem own9_eq (i : Fin 30) (h : i.val < 15) : own9 (F := F) c i = iprop(∃ f, b9 (F := F) c i.val f) := if_pos h

theorem b9_def (k f) : b9 (F := F) c k f = ((M9.view.loc (c : Thread nD τ)) ↦[rowS 15 k]{fullShare} f) := rfl
theorem row9 (k inb f) : b9 (F := F) c k f = ((rowM M9 k inb).view.loc (c : Thread nD τ) ↦[(rowM M9 k inb).view.set]{fullShare} f) := by rw [set9]; rfl
theorem row10 (k inb f) : b10 (F := F) c k f = ((rowM M10 k inb).view.loc (c : Thread nD τ) ↦[(rowM M10 k inb).view.set]{fullShare} f) := by rw [set10]; rfl
theorem row11 (k inb q f) : b11 (F := F) c k q f = ((rowM M11 k inb).view.loc (c : Thread nD τ) ↦[(rowM M11 k inb).view.set]{q} f) := by rw [set11]; rfl

/-- What a row of the send buffer holds after it has been stored. -/
theorem stored9 {kk : ℕ} (hk : kk < 15) (inb : ∀ a, (![kk, 0, 0] : Fin 3 → ℕ) a + S1x32x1024.size a ≤ S15x32x1024.size a) (f : (SR 15).Idx → Elt F .f32) (w : S1x32x1024.Idx → Elt F .f32) :
    b9 (F := F) c kk ((M9.access (Rect.unit (s := S15x32x1024) ![kk, 0, 0] S1x32x1024.size inb)).write (Elt F) f w Finset.univ) = b9 c kk (spread 15 w) := by
  unfold b9
  refine pointsTo_congr fun x hx => ?_
  have e : x = (Rect.unit (s := S15x32x1024) ![kk, 0, 0] S1x32x1024.size inb).emb (ix3 (n0 := 1) (n1 := 32) (n2 := 1024) 0 (x 1) (x 2)) := by
    rw [emb_row hk _ rfl inb]
    exact Shape.idx3_ext (mem_rowS.mp hx) rfl rfl
  have h2 := View.write_emb_of_mem (v := M9.access (Rect.unit (s := S15x32x1024) ![kk, 0, 0] S1x32x1024.size inb)) (Val := Elt F) f w (M := Finset.univ)
    (x := ix3 (n0 := 1) (n1 := 32) (n2 := 1024) 0 (x 1) (x 2)) (Finset.mem_univ _)
  exact (congrArg ((M9.access (Rect.unit (s := S15x32x1024) ![kk, 0, 0] S1x32x1024.size inb)).write (Elt F) f w Finset.univ) e).trans h2
theorem stored11 {kk : ℕ} (hk : kk < 16) (inb : ∀ a, (![kk, 0, 0] : Fin 3 → ℕ) a + S1x32x1024.size a ≤ S16x32x1024.size a) (f : (SR 16).Idx → Elt F .f32) (w : S1x32x1024.Idx → Elt F .f32) :
    b11 (F := F) c kk fullShare ((M11.access (Rect.unit (s := S16x32x1024) ![kk, 0, 0] S1x32x1024.size inb)).write (Elt F) f w Finset.univ) = b11 c kk fullShare (spread 16 w) := by
  unfold b11
  refine pointsTo_congr fun x hx => ?_
  have e : x = (Rect.unit (s := S16x32x1024) ![kk, 0, 0] S1x32x1024.size inb).emb (ix3 (n0 := 1) (n1 := 32) (n2 := 1024) 0 (x 1) (x 2)) := by
    rw [emb_row hk _ rfl inb]
    exact Shape.idx3_ext (mem_rowS.mp hx) rfl rfl
  have h2 := View.write_emb_of_mem (v := M11.access (Rect.unit (s := S16x32x1024) ![kk, 0, 0] S1x32x1024.size inb)) (Val := Elt F) f w (M := Finset.univ)
    (x := ix3 (n0 := 1) (n1 := 32) (n2 := 1024) 0 (x 1) (x 2)) (Finset.mem_univ _)
  exact (congrArg ((M11.access (Rect.unit (s := S16x32x1024) ![kk, 0, 0] S1x32x1024.size inb)).write (Elt F) f w Finset.univ) e).trans h2

/-- What a transfer of a send row leaves in the receive buffer. -/
theorem landed10 {kk : ℕ} (hk : kk < 15) (inb inb') (f : (SR 15).Idx → Elt F .f32) (w : S1x32x1024.Idx → Elt F .f32) :
    b10 (F := F) c kk ((rowM M10 kk inb).view.write (Elt F) f ((rowM M9 kk inb').view.read (Elt F) (spread 15 w)) Finset.univ) = b10 c kk (spread 15 w) := by
  unfold b10
  refine pointsTo_congr fun x hx => ?_
  have e := land_row (F := F) (View.whole cc0_scratch4) (View.whole cc0_scratch3) hk hk inb inb' (by decide) f (spread 15 w) x
  rw [if_pos (mem_rowS.mp hx)] at e
  exact e
theorem landed11 {kd ks : ℕ} (hd : kd < 16) (hs : ks < 16) (inb inb') (f : (SR 16).Idx → Elt F .f32) (w : S1x32x1024.Idx → Elt F .f32) :
    b11 (F := F) c kd fullShare ((rowM M11 kd inb).view.write (Elt F) f ((rowM M11 ks inb').view.read (Elt F) (spread 16 w)) Finset.univ) = b11 c kd fullShare (spread 16 w) := by
  unfold b11
  refine pointsTo_congr fun x hx => ?_
  have e := land_row (F := F) (View.whole cc0_scratch5) (View.whole cc0_scratch5) hd hs inb inb' (by decide) f (spread 16 w) x
  rw [if_pos (mem_rowS.mp hx)] at e
  exact e

theorem land_lo {kk : ℕ} (hk : kk < 15) (inb inb') (f : (SR 15).Idx → Elt F .f32) (w : S1x32x1024.Idx → Elt F .f32) :
    ((rowM M10 kk inb).view.loc (c : Thread nD τ) ↦[(rowM M10 kk inb).view.set]{fullShare} ((rowM M10 kk inb).view.write (Elt F) f ((rowM M9 kk inb').view.read (Elt F) (spread 15 w)) Finset.univ) : sProp 𝕄)
      = b10 c kk (spread 15 w) := (row10 c kk inb _).symm.trans (landed10 c hk inb inb' f w)
theorem land_hi {kd ks : ℕ} (hd : kd < 16) (hs : ks < 16) (inb inb') (f : (SR 16).Idx → Elt F .f32) (w : S1x32x1024.Idx → Elt F .f32) :
    ((rowM M11 kd inb).view.loc (c : Thread nD τ) ↦[(rowM M11 kd inb).view.set]{fullShare} ((rowM M11 kd inb).view.write (Elt F) f ((rowM M11 ks inb').view.read (Elt F) (spread 16 w)) Finset.univ) : sProp 𝕄)
      = b11 c kd fullShare (spread 16 w) := (row11 c kd inb _ _).symm.trans (landed11 c hd hs inb inb' f w)

/-- Starting transfer `i`, whatever buffers it goes between. -/
theorem start (i : Fin 30) (n : ℕ) (hn : spos c i = n) (mS mD : Memref sig .tc .vmem S32x1024 .f32) {hsc} (hN : mD.view.amount (SemLoc.dma (rcvS i)) = N)
    {q : PosShare TreeShare} {fs : Buf (Elt F) (mS.view.loc (c : Thread nD τ))} {fd : Buf (Elt F) (mD.view.loc (tgt c i : Thread nD τ))}
    (hpay₁ : (mS.view.loc (c : Thread nD τ) ↦[mS.view.set]{q} fs : sProp 𝕄) ⊢ sndPay Pv c i)
    (hpay₂ : (mD.view.loc (tgt c i : Thread nD τ) ↦[mD.view.set]{fullShare} (mD.view.write (Elt F) fd (mS.view.read (Elt F) fs) Finset.univ) : sProp 𝕄) ⊢ landAt Pv (tgt c i) i)
    {h1 h2 h3} {W : Waits sig Unit} {k : PUnit → Prog (TpuEff nD τ sig (Elt F) Λ₀ .tc) α} {Q : α → sProp 𝕄} :
    iprop(cellInv ER (talkRd Pv) (K (sndC c i)) (sndC c i) ∗ cellInv ER (talkRd Pv) (K (rcvC (tgt c i) i)) (rcvC (tgt c i) i)
        ∗ (mS.view.loc (c : Thread nD τ) ↦[mS.view.set]{q} fs) ∗ (mD.view.loc (tgt c i : Thread nD τ) ↦[mD.view.set]{fullShare} fd)
        ∗ owes (c : Thread nD τ) (Ow c n 0) W
        ∗ dutyTok ER (sndC c i) 0 0 ∗ reached ER (sndC c i) 0 ∗ dutyTok ER (rcvC (tgt c i) i) 0 0 ∗ reached ER (rcvC (tgt c i) i) 0)
      ⊢ iprop(((cred (tallyAt (sndC c i) () N) ∗ owes (c : Thread nD τ) (Ow c (n + 1) 0) W) -∗ WP c (k ⟨⟩) Q)
          -∗ WP c (.op (.enqueueDma mS (.remote (Dev.tc (tgt c i)) mD (.dma (sndS i)) hsc) (.dma (rcvS i)) h1 h2 h3) k) Q) := by
  exact Rounds.wp_send_pointsTo 𝒱₀ ER (talkRd Pv) (c : Thread nD τ) none (c' := (tgt c i : Thread nD τ)) (κ₁ := K (sndC c i)) (κ₂ := K (rcvC (tgt c i) i))
    (r₁ := 0) (r₂ := 0) (d₁ := 0) (d₂ := 0) (fd := fd)
    (by rw [duties_snd]; exact Finset.mem_singleton_self _) (by rw [duties_rcv]; exact Finset.mem_singleton_self _)
    () () N hN (amount_snd Pv c i 0) (amount_rcv Pv (tgt c i) i 0) (Ow c (n + 1) 0) (Ow_send c i n 0 hn) (W := W)
    (by rw [payload_snd]; exact hpay₁)
    (by rw [payload_rcv]; exact hpay₂)

theorem landAny_lo (i : Fin 30) (h : i.val < 15) : landAny (F := F) c i = iprop(∃ f, b10 (F := F) c i.val f) := if_pos h
theorem landAny_hi (i : Fin 30) (h : ¬i.val < 15) : landAny (F := F) c i = iprop(∃ f, b11 (F := F) c (dslot i).val fullShare f) := if_neg h
theorem landAt_lo (i : Fin 30) (h : i.val < 15) : landAt Pv c i = b10 c i.val (spread 15 (Pv (src c i) c)) := by
  unfold landAt Vv; rw [if_pos h, if_pos h]
theorem landAt_hi (i : Fin 30) (h : ¬i.val < 15) : landAt Pv c i = b11 c (dslot i).val fullShare (spread 16 (Tv Pv (xr c (dslot i)))) := by
  unfold landAt Vv; rw [if_neg h, if_neg h]
theorem sndPay_lo (i : Fin 30) (h : i.val < 15) : sndPay Pv c i = iprop(∃ f, b9 (F := F) c i.val f) := if_pos h
theorem sndPay_hi (i : Fin 30) (h : ¬i.val < 15) : sndPay Pv c i = leaf11 Pv c (sslot i) (lf i) := if_neg h
theorem gather_src : ∀ (c : Dev nD) (i : Fin 30), ¬i.val < 15 → xr c (sslot i) = xr (tgt c i) (dslot i) := by decide +kernel
theorem gather_pos : ∀ (c : Dev nD) (i : Fin 30), ¬i.val < 15 → spos c i = 60 + apos i := by decide +kernel

/-- A scatter transfer: the row is put into the send buffer and started. -/
theorem scatter (i : Fin 30) (hi : i.val < 15) {n r : ℕ} (hn : spos c i = n) (X : sProp 𝕄) {kk : ℕ} (hkk : kk = i.val)
    {w : S1x32x1024.Idx → Elt F .f32} (hw : w = Pv c (tgt c i)) {p : Dev nD} (hp : p = tgt c i) {sS sR : DmaSem sig} (hsS : sS = sndS i) (hsR : sR = rcvS i)
    {inb1 inb2 inb3 inb4 : ∀ a, (![kk, 0, 0] : Fin 3 → ℕ) a + S1x32x1024.size a ≤ S15x32x1024.size a}
    {hl hx hm hsc h1 h2 h3} {k : PUnit → Prog (TpuEff nD τ sig (Elt F) Λ₀ .tc) α} {Q : α → sProp 𝕄} :
    T1 Pv K c n r X ⊢ iprop((T1 Pv K c (n + 1) r X -∗ WP c (k ⟨⟩) Q) -∗ WP c
      (Prog.lift (.load M9 (Rect.unit (s := S15x32x1024) ![kk, 0, 0] S1x32x1024.size inb1).toLoadRect hl) >>= fun _ =>
        Prog.lift (.store M9 (Rect.unit (s := S15x32x1024) ![kk, 0, 0] S1x32x1024.size inb2) w Finset.univ hx hm) >>= fun _ =>
        Prog.lift (.enqueueDma (rowM M9 kk inb3) (.remote (Dev.tc p) (rowM M10 kk inb4) (.dma sS) hsc) (.dma sR) h1 h2 h3) >>= k) Q) := by
  subst hkk; subst hp; subst hsS; subst hsR; subst hn; subst hw
  rw [Prog.bind_lift]
  unfold T1
  rw [pend_step (spos c) (spos_inj c) i _ rfl, past_step (spos c) (spos_inj c) i _ rfl]
  unfold Pers
  iintro ⟨⟨#HI, #HL, #HR⟩, ⟨Hs, HS⟩, HC, HV, HD, HX, HZ, HE, Hbar, %W, HO⟩ Hk
  unfold sendRes tokS landS
  rw [own9_eq c i hi, landAny_lo _ i hi]
  icases Hs with ⟨⟨HtS, HtR, %f9, H9⟩, ⟨%f10, H10⟩, Hre⟩
  unfold b9
  iapply (wp_load_rect 𝒱₀ (c : Thread nD τ) none Set.univ (m := M9) (r := Rect.unit (s := S15x32x1024) ![i.val, 0, 0] S1x32x1024.size inb1)
    (S := rowS 15 i.val) (by rw [View.set_slice_whole, set_row _ rfl])) $$ H9
  iintro H9
  rw [Prog.bind_lift]
  iapply (wp_store 𝒱₀ (c : Thread nD τ) none Set.univ (m := M9) (r := Rect.unit (s := S15x32x1024) ![i.val, 0, 0] S1x32x1024.size inb2)
    (w := Pv c (tgt c i)) (Mk := Finset.univ) (S := rowS 15 i.val) (by rw [View.setOn_univ, View.set_slice_whole, set_row _ rfl])) $$ H9
  iintro H9
  rw [Prog.bind_lift]
  ihave H9 := (Entails.of_eq (((b9_def c i.val _).symm.trans (stored9 c hi inb2 f9 (Pv c (tgt c i)))).trans (row9 c i.val inb3 _))) $$ H9
  ihave H10 := (Entails.of_eq (row10 (tgt c i) i.val inb4 f10)) $$ H10
  iapply (start Pv K c i _ rfl (rowM M9 i.val inb3) (rowM M10 i.val inb4) rfl
      (by rw [sndPay_lo Pv c i hi]; iintro H; iexists _; ihave H := (Entails.of_eq (row9 c i.val inb3 (spread 15 (Pv c (tgt c i)))).symm) $$ H; iexact H)
      (by rw [landAt_lo Pv _ i hi, src_tgt]; exact Entails.of_eq (land_lo (tgt c i) hi inb4 inb3 f10 _))) $$ [H9 H10 HO HtS HtR Hre]
  · isplitr; · iapply (inv_snd Pv K c i); iexact HI
    isplitr; · iapply (inv_rcv Pv K (tgt c i) i); iexact HI
    isplitl [H9]; · iexact H9
    isplitl [H10]; · iexact H10
    isplitl [HO]; · iexact HO
    isplitl [HtS]; · iexact HtS
    isplitr; · iapply (rch_snd c i); iexact HR
    isplitl [HtR]; · iexact HtR
    iexact Hre
  iintro ⟨Hc, HO⟩
  iapply Hk
  isplitr
  · isplitr; · iexact HI
    isplitr; · iexact HL
    iexact HR
  isplitl [HS]; · iexact HS
  isplitl [Hc HC]; · isplitl [Hc] <;> iassumption
  iframe
  iexists W; iexact HO

/-- A gather transfer: a borrowed share of a slot is sent on. -/
theorem gather (i : Fin 30) (hi : ¬i.val < 15) {n r : ℕ} (hn : 60 + apos i = n) (hmem : (sslot i, lf i) ∈ held n r)
    (herase : (held n r).erase (sslot i, lf i) = held (n + 1) r) {ks kd : ℕ} (hks : ks = (sslot i).val) (hkd : kd = (dslot i).val)
    {p : Dev nD} (hp : p = tgt c i) {sS sR : DmaSem sig} (hsS : sS = sndS i) (hsR : sR = rcvS i)
    {inb3 : ∀ a, (![ks, 0, 0] : Fin 3 → ℕ) a + S1x32x1024.size a ≤ S16x32x1024.size a} {inb4 : ∀ a, (![kd, 0, 0] : Fin 3 → ℕ) a + S1x32x1024.size a ≤ S16x32x1024.size a}
    {hsc h1 h2 h3} {k : PUnit → Prog (TpuEff nD τ sig (Elt F) Λ₀ .tc) α} {Q : α → sProp 𝕄} :
    T1 Pv K c n r (Lv Pv c n r) ⊢ iprop((T1 Pv K c (n + 1) r (Lv Pv c (n + 1) r) -∗ WP c (k ⟨⟩) Q) -∗ WP c
      (Prog.lift (.enqueueDma (rowM M11 ks inb3) (.remote (Dev.tc p) (rowM M11 kd inb4) (.dma sS) hsc) (.dma sR) h1 h2 h3) >>= k) Q) := by
  subst hks; subst hkd; subst hp; subst hsS; subst hsR
  have hn' : spos c i = n := (gather_pos c i hi).trans hn
  subst hn'
  rw [Prog.bind_lift]
  unfold T1
  rw [pend_step (spos c) (spos_inj c) i _ rfl, past_step (spos c) (spos_inj c) i _ rfl]
  unfold Pers Lv
  rw [eraseSep hmem, herase]
  iintro ⟨⟨#HI, #HL, #HR⟩, ⟨Hs, HS⟩, HC, HV, HD, ⟨H9, HX⟩, HZ, HE, Hbar, %W, HO⟩ Hk
  unfold sendRes tokS landS
  rw [landAny_hi _ i hi]
  icases Hs with ⟨⟨HtS, HtR, -⟩, ⟨%f10, H10⟩, Hre⟩
  ihave H9 := (Entails.of_eq (row11 c (sslot i).val inb3 _ _)) $$ H9
  ihave H10 := (Entails.of_eq (row11 (tgt c i) (dslot i).val inb4 _ f10)) $$ H10
  iapply (start Pv K c i _ rfl (rowM M11 (sslot i).val inb3) (rowM M11 (dslot i).val inb4) rfl
      (by rw [sndPay_hi Pv c i hi]; exact Entails.of_eq (row11 c (sslot i).val inb3 _ _).symm)
      (by rw [landAt_hi Pv _ i hi, ← gather_src c i hi]; exact Entails.of_eq (land_hi (tgt c i) (dslot i).isLt (sslot i).isLt inb4 inb3 f10 _))) $$ [H9 H10 HO HtS HtR Hre]
  · isplitr; · iapply (inv_snd Pv K c i); iexact HI
    isplitr; · iapply (inv_rcv Pv K (tgt c i) i); iexact HI
    isplitl [H9]; · iexact H9
    isplitl [H10]; · iexact H10
    isplitl [HO]; · iexact HO
    isplitl [HtS]; · iexact HtS
    isplitr; · iapply (rch_snd c i); iexact HR
    isplitl [HtR]; · iexact HtR
    iexact Hre
  iintro ⟨Hc, HO⟩
  iapply Hk
  isplitr
  · isplitr; · iexact HI
    isplitr; · iexact HL
    iexact HR
  isplitl [HS]; · iexact HS
  isplitl [Hc HC]; · isplitl [Hc] <;> iassumption
  iframe
  iexists W; iexact HO

end Steps

end Cert.KernelIdeal.Talk
-- ==== Proof.Recv.lean ====
/- Waits for transfers, and the loads and stores of the rows they bring. -/
module

public import proofs.«01_k».proof.Proof.Talk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Steps

variable (Pv : Dev nD → Dev nD → Vec F S1x32x1024 .f32)
variable {α : Type} (K : GSem nD τ sig → ℕ) (c : Dev nD)

theorem rlev_lt : ∀ i : Fin 30, rlev i < 7 := by decide +kernel

/-- The wait for transfer `i` to have come. -/
theorem waitR (i : Fin 30) {n r : ℕ} (hr : rpos i = r) (hlev : ∀ i', n ≤ spos c i' → rlev i < rlev i') {X X' : sProp 𝕄}
    (hX : iprop(X ∗ landAt Pv c i) ⊢ iprop(X' ∗ if i.val < 15 then landAt Pv c i else iprop(emp)))
    {s : DmaSem sig} (hs : s = rcvS i) {mS mD : Memref sig .tc .vmem S32x1024 .f32} (hN : mD.view.dmaCredit = N)
    {h1 h2} {k : PUnit → Prog (TpuEff nD τ sig (Elt F) Λ₀ .tc) α} {Q : α → sProp 𝕄} :
    T1 Pv K c n r X ⊢ iprop((T1 Pv K c n (r + 1) X' -∗ WP c (k ⟨⟩) Q) -∗ WP c (Prog.lift (.waitDma2 s mS mD h1 h2) >>= k) Q) := by
  subst hs; subst hr
  rw [Prog.bind_lift]
  unfold T1
  rw [pend_step rpos rpos_inj i _ rfl, past_step rpos rpos_inj i _ rfl]
  unfold Pers
  iintro ⟨⟨#HI, #HL, #HR⟩, HS, HC, ⟨Hv, HV⟩, HD, HX, HZ, HE, Hbar, %W, HO⟩ Hk
  unfold rcvRes
  icases Hv with ⟨Hcr, Hat⟩
  iapply (Rounds.wp_wait_rest_token 𝒱₀ ER (talkRd Pv) (c : Thread nD τ) none (κ := K (rcvC c i)) (k' := N)
      (fun Kk => (wpE_waitDma2_eq 𝒱₀ (c : Thread nD τ) none Set.univ Kk).trans (by rw [hN])) (Set.mem_univ _) () (O := Ow c n 0) (W := W) (R := 0) (m := 0) (T := ∅)
      ((Nat.zero_add _).trans (expect_rcv Pv c i).symm)) $$ [Hcr HO Hat]
  · isplitr; · iapply (inv_rcv Pv K c i); iexact HI
    isplitl [Hcr]; · iexact Hcr
    isplitl [HO]; · iexact HO
    isplitr
    · iapply (mayWait c (.dma (rcvS i)) n 0 (rlev i) (Nat.le_of_eq (lv_rcv c i ())) (rlev_lt i) hlev); iexact HL
    · iexact Hat
  iintro ⟨HO, Hat, -, Hpay⟩
  ihave Hp := (Entails.of_eq (rest_rcv Pv c i)) $$ Hpay
  ihave HXp := hX $$ [HX Hp]
  · isplitl [HX] <;> iassumption
  icases HXp with ⟨HX, Hp⟩
  iapply Hk
  isplitr
  · isplitr; · iexact HI
    isplitr; · iexact HL
    iexact HR
  isplitl [HS]; · iexact HS
  isplitl [HC]; · iexact HC
  isplitl [HV]; · iexact HV
  isplitl [Hat Hp HD]
  · isplitl [Hat Hp]
    · unfold rcvEnd; isplitl [Hat] <;> iassumption
    · iexact HD
  iframe
  iexists _; iexact HO

theorem keepX (i : Fin 30) (hi : i.val < 15) (X : sProp 𝕄) : iprop(X ∗ landAt Pv c i) ⊢ iprop(X ∗ if i.val < 15 then landAt Pv c i else iprop(emp)) := by
  rw [if_pos hi]

/-- The eight shares of a slot. -/
def slotE (s : Fin 16) : Fin 8 ↪ Fin 16 × Fin 8 := ⟨fun l => (s, l), fun _ _ h => (Prod.mk.inj h).2⟩

theorem leaves_any (s : Fin 16) (f : S16x32x1024.Idx → Elt F .f32) : (b11 c s.val fullShare f : sProp 𝕄) = bigSep Finset.univ fun l : Fin 8 => b11 c s.val (ShareLeaves.leaf 3 fullShare l) f := by
  unfold b11
  exact ShareLeaves.pointsTo_leaves (ℓ := M11.view.loc (c : Thread nD τ)) (rowS 16 s.val) f 3 fullShare

/-- A slot held whole is its eight shares. -/
theorem leaves (s : Fin 16) : (b11 c s.val fullShare (spread 16 (Tv Pv (xr c s))) : sProp 𝕄) = bigSep (Finset.univ.map (slotE s)) fun p => leaf11 Pv c p.1 p.2 := by
  rw [bigSep_map]
  exact (leaves_any c s _).trans (bigSep_congr (Ψ := fun l : Fin 8 => leaf11 Pv c (slotE s l).1 (slotE s l).2) fun l _ => rfl)

theorem Lv_add (s : Fin 16) {n r r' : ℕ} (h : ∀ p : Fin 16 × Fin 8, (p ∈ held n r' ↔ p ∈ held n r ∨ p.1 = s) ∧ (p.1 = s → p ∉ held n r)) :
    iprop(Lv Pv c n r ∗ b11 c s.val fullShare (spread 16 (Tv Pv (xr c s)))) ⊢ Lv Pv c n r' := by
  rw [leaves]
  unfold Lv
  have e : held n r' = held n r ∪ Finset.univ.map (slotE s) := by
    ext p
    rw [Finset.mem_union, (h p).1]
    refine or_congr Iff.rfl ⟨fun hp => Finset.mem_map.mpr ⟨p.2, Finset.mem_univ _, Prod.ext hp.symm rfl⟩, fun hp => ?_⟩
    obtain ⟨l, -, rfl⟩ := Finset.mem_map.mp hp
    rfl
  rw [e]
  refine Entails.of_eq (bigSep_union (Finset.disjoint_left.mpr fun p hp hq => ?_)).symm
  obtain ⟨l, -, rfl⟩ := Finset.mem_map.mp hq
  exact (h _).2 rfl hp

theorem addX (i : Fin 30) (hi : ¬i.val < 15) {n r : ℕ} (h : ∀ p : Fin 16 × Fin 8, (p ∈ held n (r + 1) ↔ p ∈ held n r ∨ p.1 = dslot i) ∧ (p.1 = dslot i → p ∉ held n r)) :
    iprop(Lv Pv c n r ∗ landAt Pv c i) ⊢ iprop(Lv Pv c n (r + 1) ∗ if i.val < 15 then landAt Pv c i else iprop(emp)) := by
  rw [if_neg hi, sep_emp_eq, landAt_hi Pv c i hi]
  exact Lv_add Pv c (dslot i) h

/-- The wait for transfer `i` to have been read. -/
theorem waitS (i : Fin 30) {w : ℕ} (hw : rpos i = w)
    {s : DmaSem sig} (hs : s = sndS i) {mS mD : Memref sig .tc .vmem S32x1024 .f32} (hN : mD.view.dmaCredit = N)
    {h1 h2} {k : PUnit → Prog (TpuEff nD τ sig (Elt F) Λ₀ .tc) α} {Q : α → sProp 𝕄} :
    T2 Pv K c w 0 ⊢ iprop((T2 Pv K c (w + 1) 0 -∗ WP c (k ⟨⟩) Q) -∗ WP c (Prog.lift (.waitDma2 s mS mD h1 h2) >>= k) Q) := by
  subst hs; subst hw
  rw [Prog.bind_lift]
  unfold T2
  rw [pend_step rpos rpos_inj i _ rfl, past_step rpos rpos_inj i _ rfl]
  unfold Pers
  iintro ⟨⟨#HI, #HL, #HR⟩, ⟨⟨Hcr, Hat⟩, HA⟩, HB, HC, HD, HE, Hbar, HatE, HcrE, %W, HO⟩ Hk
  iapply (Rounds.wp_wait_rest_token 𝒱₀ ER (talkRd Pv) (c : Thread nD τ) none (κ := K (sndC c i)) (k' := N)
      (fun Kk => (wpE_waitDma2_eq 𝒱₀ (c : Thread nD τ) none Set.univ Kk).trans (by rw [hN])) (Set.mem_univ _) () (O := Ow c 75 0) (W := W) (R := 0) (m := 0) (T := ∅)
      ((Nat.zero_add _).trans (expect_snd Pv c i).symm)) $$ [Hcr HO Hat]
  · isplitr; · iapply (inv_snd Pv K c i); iexact HI
    isplitl [Hcr]; · iexact Hcr
    isplitl [HO]; · iexact HO
    isplitr
    · iapply (mayWait c (.dma (sndS i)) 75 0 0 (Nat.le_of_eq (lv_snd c i ())) (by decide) (fun i' h => absurd h (Nat.not_le.mpr (spos_lt c i')))); iexact HL
    · iexact Hat
  iintro ⟨HO, Hat, -, Hpay⟩
  ihave Hp := (Entails.of_eq (rest_snd Pv c i)) $$ Hpay
  iapply Hk
  isplitr
  · isplitr; · iexact HI
    isplitr; · iexact HL
    iexact HR
  isplitl [HA]; · iexact HA
  isplitl [Hat Hp HB]
  · isplitl [Hat Hp]
    · isplitl [Hat] <;> iassumption
    · iexact HB
  iframe
  iexists _; iexact HO

/-- All transfers started and received. -/
theorem T1_T2 : T1 Pv K c 75 30 (Lv Pv c 75 30) ⊢ T2 Pv K c 0 0 := by
  unfold T1 T2 Idle
  rw [show (Finset.univ.filter fun i : Fin 30 => spos c i < 75) = Finset.univ from Finset.filter_true_of_mem fun i _ => spos_lt c i,
    show (Finset.univ.filter fun i : Fin 30 => rpos i < 30) = Finset.univ from Finset.filter_true_of_mem fun i _ => rpos_lt i,
    show (Finset.univ.filter fun i : Fin 30 => 0 ≤ rpos i) = Finset.univ from Finset.filter_true_of_mem fun i _ => Nat.zero_le _,
    show (Finset.univ.filter fun i : Fin 30 => rpos i < 0) = ∅ from Finset.filter_false_of_mem fun i _ => Nat.not_lt_zero _,
    show (Finset.univ.filter fun d : Fin 15 => 0 ≤ d.val) = Finset.univ from Finset.filter_true_of_mem fun i _ => Nat.zero_le _, bigSep_sep']
  iintro ⟨HP, -, HC, -, HD, HX, ⟨HZ, Hex, Hcr⟩, HE, Hbar, HO⟩
  iframe
  rw [bigSep_empty]; iempintro

/-! ## Rows -/

theorem read10 {kk : ℕ} (hk : kk < 15) (inb : ∀ a, (![kk, 0, 0] : Fin 3 → ℕ) a + S1x32x1024.size a ≤ S15x32x1024.size a) (w : S1x32x1024.Idx → Elt F .f32) :
    (M10.access (Rect.unit (s := S15x32x1024) ![kk, 0, 0] S1x32x1024.size inb)).read (Elt F) (spread 15 w) = w := by
  funext y
  refine (read_row (n := 15) (View.whole cc0_scratch4) hk ![kk, 0, 0] rfl inb (spread 15 w) y).trans ?_
  exact congrArg w (Shape.idx3_ext (Nat.lt_one_iff.mp (y 0).isLt).symm rfl rfl)
theorem read11 {kk : ℕ} (hk : kk < 16) (inb : ∀ a, (![kk, 0, 0] : Fin 3 → ℕ) a + S1x32x1024.size a ≤ S16x32x1024.size a) (w : S1x32x1024.Idx → Elt F .f32) :
    (M11.access (Rect.unit (s := S16x32x1024) ![kk, 0, 0] S1x32x1024.size inb)).read (Elt F) (spread 16 w) = w := by
  funext y
  refine (read_row (n := 16) (View.whole cc0_scratch5) hk ![kk, 0, 0] rfl inb (spread 16 w) y).trans ?_
  exact congrArg w (Shape.idx3_ext (Nat.lt_one_iff.mp (y 0).isLt).symm rfl rfl)

/-- A load of a row of the receive buffer that has come. -/
theorem ld10T (i : Fin 30) (hi : i.val < 15) {n r : ℕ} (hr : rpos i < r) {X : sProp 𝕄} {kk : ℕ} (hkk : kk = i.val)
    {inb : ∀ a, (![kk, 0, 0] : Fin 3 → ℕ) a + S1x32x1024.size a ≤ S15x32x1024.size a} {hl} {k : Vec F S1x32x1024 .f32 → Prog (TpuEff nD τ sig (Elt F) Λ₀ .tc) α} {Q : α → sProp 𝕄} :
    T1 Pv K c n r X ⊢ iprop((T1 Pv K c n r X -∗ WP c (k (Vs Pv c i)) Q) -∗ WP c
      (Prog.lift (.load M10 (Rect.unit (s := S15x32x1024) ![kk, 0, 0] S1x32x1024.size inb).toLoadRect hl) >>= k) Q) := by
  subst hkk
  rw [Prog.bind_lift]
  unfold T1
  rw [eraseSep (Finset.mem_filter.mpr ⟨Finset.mem_univ i, hr⟩) (fun i => rcvEnd Pv c i)]
  unfold rcvEnd
  rw [if_pos hi, landAt_lo Pv c i hi]
  iintro ⟨HP, HS, HC, HV, ⟨⟨Hat, Hb⟩, HD⟩, HX, HZ, HE, Hbar, HO⟩ Hk
  unfold b10
  iapply (wp_load_rect 𝒱₀ (c : Thread nD τ) none Set.univ (m := M10) (r := Rect.unit (s := S15x32x1024) ![i.val, 0, 0] S1x32x1024.size inb)
    (S := rowS 15 i.val) (by rw [View.set_slice_whole, set_row _ rfl])) $$ Hb
  rw [read10 hi]
  iintro Hb
  iapply Hk
  iframe

/-- A load of a slot of the gather buffer that has come. -/
theorem ld11T (s : Fin 16) {n r : ℕ} (hr : (s, (7 : Fin 8)) ∈ held n r) {kk : ℕ} (hkk : kk = s.val)
    {inb : ∀ a, (![kk, 0, 0] : Fin 3 → ℕ) a + S1x32x1024.size a ≤ S16x32x1024.size a} {hl} {k : Vec F S1x32x1024 .f32 → Prog (TpuEff nD τ sig (Elt F) Λ₀ .tc) α} {Q : α → sProp 𝕄} :
    T1 Pv K c n r (Lv Pv c n r) ⊢ iprop((T1 Pv K c n r (Lv Pv c n r) -∗ WP c (k (Tv Pv (xr c s))) Q) -∗ WP c
      (Prog.lift (.load M11 (Rect.unit (s := S16x32x1024) ![kk, 0, 0] S1x32x1024.size inb).toLoadRect hl) >>= k) Q) := by
  subst hkk
  rw [Prog.bind_lift]
  unfold T1 Lv
  rw [eraseSep hr (fun p => leaf11 Pv c p.1 p.2)]
  iintro ⟨HP, HS, HC, HV, HD, ⟨Hb, HX⟩, HZ, HE, Hbar, HO⟩ Hk
  unfold leaf11 b11
  iapply (wp_load_rect 𝒱₀ (c : Thread nD τ) none Set.univ (m := M11) (r := Rect.unit (s := S16x32x1024) ![s.val, 0, 0] S1x32x1024.size inb)
    (S := rowS 16 s.val) (by rw [View.set_slice_whole, set_row _ rfl])) $$ Hb
  rw [read11 s.isLt]
  iintro Hb
  iapply Hk
  iframe

theorem b11_def (k q f) : b11 (F := F) c k q f = ((M11.view.loc (c : Thread nD τ)) ↦[rowS 16 k]{q} f) := rfl
theorem xr_zero : ∀ c : Fin 16, xr c 0 = c := by decide +kernel
theorem held0 : ∀ p : Fin 16 × Fin 8, p ∈ held 60 15 ↔ p.1 = 0 := by decide +kernel
theorem first_slot : (b11 c 0 fullShare (spread 16 (Tv Pv c)) : sProp 𝕄) ⊢ Lv Pv c 60 15 := by
  have e := leaves Pv c 0
  rw [xr_zero c] at e
  unfold Lv
  rw [show held 60 15 = Finset.univ.map (slotE 0) from ?_]
  · exact Entails.of_eq e
  · ext p
    rw [held0]
    refine ⟨fun hp => Finset.mem_map.mpr ⟨p.2, Finset.mem_univ _, Prod.ext hp.symm rfl⟩, fun hp => ?_⟩
    obtain ⟨l, -, rfl⟩ := Finset.mem_map.mp hp
    rfl

/-- The device's own sum put into the first slot. -/
theorem st11T {w : S1x32x1024.Idx → Elt F .f32} (hw : w = Tv Pv c)
    {inb1 inb2 : ∀ a, (![0, 0, 0] : Fin 3 → ℕ) a + S1x32x1024.size a ≤ S16x32x1024.size a} {hl hx hm} {k : PUnit → Prog (TpuEff nD τ sig (Elt F) Λ₀ .tc) α} {Q : α → sProp 𝕄} :
    T1 Pv K c 60 15 (slot0 (F := F) c) ⊢ iprop((T1 Pv K c 60 15 (Lv Pv c 60 15) -∗ WP c (k ⟨⟩) Q) -∗ WP c
      (Prog.lift (.load M11 (Rect.unit (s := S16x32x1024) ![0, 0, 0] S1x32x1024.size inb1).toLoadRect hl) >>= fun _ =>
        Prog.lift (.store M11 (Rect.unit (s := S16x32x1024) ![0, 0, 0] S1x32x1024.size inb2) w Finset.univ hx hm) >>= k) Q) := by
  subst hw
  rw [Prog.bind_lift]
  unfold T1 slot0
  iintro ⟨HP, HS, HC, HV, HD, ⟨%f, Hb⟩, HZ, HE, Hbar, HO⟩ Hk
  unfold b11
  iapply (wp_load_rect 𝒱₀ (c : Thread nD τ) none Set.univ (m := M11) (r := Rect.unit (s := S16x32x1024) ![0, 0, 0] S1x32x1024.size inb1)
    (S := rowS 16 0) (by rw [View.set_slice_whole, set_row _ rfl])) $$ Hb
  iintro Hb
  rw [Prog.bind_lift]
  iapply (wp_store 𝒱₀ (c : Thread nD τ) none Set.univ (m := M11) (r := Rect.unit (s := S16x32x1024) ![0, 0, 0] S1x32x1024.size inb2)
    (w := Tv Pv c) (Mk := Finset.univ) (S := rowS 16 0) (by rw [View.setOn_univ, View.set_slice_whole, set_row _ rfl])) $$ Hb
  iintro Hb
  ihave Hb := (Entails.of_eq ((b11_def c 0 fullShare _).symm.trans (stored11 c (by decide) inb2 f (Tv Pv c)))) $$ Hb
  iapply Hk
  iframe
  ihave Hb := (first_slot Pv c) $$ Hb
  iexact Hb

end Steps

/-! ## The whole sum -/

section Whole

variable (Pv : Dev nD → Dev nD → Vec F S1x32x1024 .f32) {α : Type} {c : Dev nD}

/-- Every row of the sum over all devices. -/
def allT : S16x32x1024.Idx → Elt F .f32 := fun x => Tv Pv (x 0) (ix3 (n0 := 1) (n1 := 32) (n2 := 1024) 0 (x 1) (x 2))
/-- The rows of the first `n` slots are in place. -/
def AccT (c : Dev nD) (n : ℕ) : (S16x32x1024.Idx → Elt F .f32) → Prop := fun f => ∀ x : S16x32x1024.Idx, (xr c (x 0)).val < n → f x = allT Pv x

theorem xr_xr : ∀ a b : Fin 16, xr a (xr a b) = b := by decide +kernel

theorem accT_step (j : Fin 16) (f : S16x32x1024.Idx → Elt F .f32) (hf : AccT Pv c j.val f) (off : Fin 3 → ℕ) (ho : off = ![(xr c j).val, 0, 0])
    (inb : ∀ a, off a + S1x32x1024.size a ≤ S16x32x1024.size a) (w : S1x32x1024.Idx → Elt F .f32) (hw : w = Tv Pv (xr c j)) :
    AccT Pv c (j.val + 1) ((M8.access (Rect.unit (s := S16x32x1024) off S1x32x1024.size inb)).write (Elt F) f w Finset.univ) := by
  subst hw; subst ho
  intro x hx
  by_cases hm : (x 0).val = (xr c j).val
  · have e : x = (Rect.unit (s := S16x32x1024) ![(xr c j).val, 0, 0] S1x32x1024.size inb).emb (ix3 (n0 := 1) (n1 := 32) (n2 := 1024) 0 (x 1) (x 2)) := by
      rw [emb_row (xr c j).isLt _ rfl inb]
      exact Shape.idx3_ext hm rfl rfl
    have h2 := View.write_emb_of_mem (v := M8.access (Rect.unit (s := S16x32x1024) ![(xr c j).val, 0, 0] S1x32x1024.size inb)) (Val := Elt F) f (Tv Pv (xr c j)) (M := Finset.univ)
      (x := ix3 (n0 := 1) (n1 := 32) (n2 := 1024) 0 (x 1) (x 2)) (Finset.mem_univ _)
    have h3 : allT Pv x = Tv Pv (xr c j) (ix3 (n0 := 1) (n1 := 32) (n2 := 1024) 0 (x 1) (x 2)) := by
      unfold allT; rw [show x 0 = xr c j from Fin.ext hm]
    rw [h3]
    exact (congrArg ((M8.access (Rect.unit (s := S16x32x1024) ![(xr c j).val, 0, 0] S1x32x1024.size inb)).write (Elt F) f (Tv Pv (xr c j)) Finset.univ) e).trans h2
  · have hn : x ∉ (M8.access (Rect.unit (s := S16x32x1024) ![(xr c j).val, 0, 0] S1x32x1024.size inb)).setOn Finset.univ := by
      rw [View.setOn_univ]
      show x ∉ ((View.whole cc0_scratch2).slice (Rect.unit (s := S16x32x1024) ![(xr c j).val, 0, 0] S1x32x1024.size inb)).set
      rw [View.set_slice_whole, set_row _ rfl]
      exact fun h => hm (mem_rowS.mp h)
    refine (View.write_of_not_mem (v := M8.access (Rect.unit (s := S16x32x1024) ![(xr c j).val, 0, 0] S1x32x1024.size inb)) f (Tv Pv (xr c j)) Finset.univ hn).trans (hf x ?_)
    rcases Nat.eq_or_lt_of_le (Nat.le_of_lt_succ hx) with h | h
    · exact absurd (congrArg Fin.val ((xr_xr c (x 0)).symm.trans (congrArg (xr c) (Fin.ext h)))) hm
    · exact h

theorem sttot {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {P8 : M8.view.ty.Contents (Elt F) → Prop} {T : sProp 𝕄} {Q : α → sProp 𝕄} (j : Fin 16) (hP : ∀ f, P8 f → AccT Pv c j.val f) {off : Fin 3 → ℕ} (ho : off = ![(xr c j).val, 0, 0])
    {inb : ∀ a, off a + S1x32x1024.size a ≤ S16x32x1024.size a} {w : S1x32x1024.Idx → Elt F .f32} (hw : w = Tv Pv (xr c j)) {hx} {hm} {k : PUnit → Prog (TpuEff nD τ sig (Elt F) Λ₀ .tc) α}
    (hh : St c P0 P1 P2 P3 P4 P5 P6 P7 (AccT Pv c (j.val + 1)) T ⊢ WP c (k ⟨⟩) Q) :
    St c P0 P1 P2 P3 P4 P5 P6 P7 P8 T ⊢ WP c (Prog.lift (.store M8 (Rect.unit (s := S16x32x1024) off S1x32x1024.size inb) w Finset.univ hx hm) >>= k) Q :=
  store8 (AccT Pv c (j.val + 1)) (r := Rect.unit (s := S16x32x1024) off S1x32x1024.size inb) (fun f hf => accT_step Pv j f (hP f hf) off ho inb w hw) hh

theorem ldall {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {T : sProp 𝕄} {Q : α → sProp 𝕄} {inb : ∀ i, (![0, 0, 0] : Fin 3 → ℕ) i + S16x32x1024.size i ≤ S16x32x1024.size i} {hl} {k : Vec F S16x32x1024 .f32 → Prog (TpuEff nD τ sig (Elt F) Λ₀ .tc) α}
    (hh : St c P0 P1 P2 P3 P4 P5 P6 P7 (AccT Pv c 16) T ⊢ WP c (k (allT Pv)) Q) :
    St c P0 P1 P2 P3 P4 P5 P6 P7 (AccT Pv c 16) T ⊢ WP c (Prog.lift (.load M8 (Rect.unit (s := S16x32x1024) ![0, 0, 0] S16x32x1024.size inb).toLoadRect hl) >>= k) Q :=
  load8 (allT Pv) (fun f hf => (Memref.read_access_unit_zero _ _ (by funext i; fin_cases i <;> rfl) _ _).trans (funext fun x => hf x (xr c (x 0)).isLt)) hh

theorem stout {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {P8 : M8.view.ty.Contents (Elt F) → Prop} {T : sProp 𝕄} {Q : α → sProp 𝕄} {inb : ∀ i, (![0, 0] : Fin 2 → ℕ) i + S512x1024.size i ≤ S512x1024.size i} {w : S512x1024.Idx → Elt F .f32} {hx} {hm} {k : PUnit → Prog (TpuEff nD τ sig (Elt F) Λ₀ .tc) α}
    (hh : St c P0 P1 P2 P3 P4 (Is w) P6 P7 P8 T ⊢ WP c (k ⟨⟩) Q) :
    St c P0 P1 P2 P3 P4 P5 P6 P7 P8 T ⊢ WP c (Prog.lift (.store M5 (Rect.unit (s := S512x1024) ![0, 0] S512x1024.size inb) w Finset.univ hx hm) >>= k) Q :=
  store5 (Is w) (fun f _ => Memref.write_access_unit_zero_univ _ _ (by funext i; fin_cases i <;> rfl) _ _ _) hh

theorem stT {P0 : M0.view.ty.Contents (Elt F) → Prop} {P1 : M1.view.ty.Contents (Elt F) → Prop} {P2 : M2.view.ty.Contents (Elt F) → Prop} {P3 : M3.view.ty.Contents (Elt F) → Prop} {P4 : M4.view.ty.Contents (Elt F) → Prop} {P5 : M5.view.ty.Contents (Elt F) → Prop} {P6 : M6.view.ty.Contents (Elt F) → Prop} {P7 : M7.view.ty.Contents (Elt F) → Prop} {P8 : M8.view.ty.Contents (Elt F) → Prop} {T T' : sProp 𝕄} {R : sProp 𝕄} (h : T ⊢ T') (hh : St c P0 P1 P2 P3 P4 P5 P6 P7 P8 T' ⊢ R) : St c P0 P1 P2 P3 P4 P5 P6 P7 P8 T ⊢ R := by
  refine outT.1.trans ?_
  iintro ⟨HT, HR⟩
  ihave HT := h $$ HT
  iapply (outT.2.trans hh)
  iframe

end Whole

end Cert.KernelIdeal.Talk
-- ==== Proof.Start.lean ====
/- From what a core has as the body starts to the state its steps begin with, and from the state they end in to what the core gives back. -/
module

public import proofs.«01_k».proof.Proof.Recv

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Products of products -/

theorem monoSep {I : Type} {s : Finset I} {Φ Ψ : I → sProp 𝕄} (h : ∀ i ∈ s, Φ i ⊢ Ψ i) : bigSep s Φ ⊢ bigSep s Ψ := bigSep_mono h
theorem mkSep {I : Type} [Fintype I] {Φ Ψ : I → sProp 𝕄} : iprop(bigSep Finset.univ Φ ∗ bigSep Finset.univ Ψ) ⊢ bigSep Finset.univ fun i => iprop(Φ i ∗ Ψ i) :=
  Entails.of_eq (bigSep_sep' _ _ _).symm
theorem unSep {I : Type} [Fintype I] {Φ Ψ : I → sProp 𝕄} : (bigSep Finset.univ fun i => iprop(Φ i ∗ Ψ i)) ⊢ iprop(bigSep Finset.univ Φ ∗ bigSep Finset.univ Ψ) :=
  Entails.of_eq (bigSep_sep' _ _ _)

/-! ## Rows of a buffer -/

theorem rows_univ (n : ℕ) : (Finset.univ : Finset (SR n).Idx) = Finset.univ.biUnion fun k : Fin n => rowS n k.val := by
  ext x
  simp only [Finset.mem_univ, Finset.mem_biUnion, mem_rowS, _root_.true_and, true_iff]
  exact ⟨x 0, rfl⟩
theorem rows_apart (n : ℕ) : ∀ k ∈ (Finset.univ : Finset (Fin n)), ∀ l ∈ (Finset.univ : Finset (Fin n)), k ≠ l → Disjoint (rowS n k.val) (rowS n l.val) :=
  fun k _ l _ h => rowS_disjoint fun e => h (Fin.ext e)

theorem split9 (c : Dev nD) (f : (SR 15).Idx → Elt F .f32) :
    ((c : Thread nD τ).loc cc0_scratch3 ↦{fullShare} f : sProp 𝕄) = bigSep Finset.univ fun k : Fin 15 => b9 c k.val f :=
  (congrArg (fun I => ((c : Thread nD τ).loc cc0_scratch3 ↦[I]{fullShare} f : sProp 𝕄)) (rows_univ 15)).trans
    (pointsTo_biUnion (ℓ := (c : Thread nD τ).loc cc0_scratch3) Finset.univ (fun k : Fin 15 => rowS 15 k.val) (rows_apart 15))
theorem split10 (c : Dev nD) (f : (SR 15).Idx → Elt F .f32) :
    ((c : Thread nD τ).loc cc0_scratch4 ↦{fullShare} f : sProp 𝕄) = bigSep Finset.univ fun k : Fin 15 => b10 c k.val f :=
  (congrArg (fun I => ((c : Thread nD τ).loc cc0_scratch4 ↦[I]{fullShare} f : sProp 𝕄)) (rows_univ 15)).trans
    (pointsTo_biUnion (ℓ := (c : Thread nD τ).loc cc0_scratch4) Finset.univ (fun k : Fin 15 => rowS 15 k.val) (rows_apart 15))
theorem split11 (c : Dev nD) (f : (SR 16).Idx → Elt F .f32) :
    ((c : Thread nD τ).loc cc0_scratch5 ↦{fullShare} f : sProp 𝕄) = bigSep Finset.univ fun k : Fin 16 => b11 c k.val fullShare f :=
  (congrArg (fun I => ((c : Thread nD τ).loc cc0_scratch5 ↦[I]{fullShare} f : sProp 𝕄)) (rows_univ 16)).trans
    (pointsTo_biUnion (ℓ := (c : Thread nD τ).loc cc0_scratch5) Finset.univ (fun k : Fin 16 => rowS 16 k.val) (rows_apart 16))

theorem join9 (c : Dev nD) : (bigSep Finset.univ fun k : Fin 15 => iprop(∃ f, b9 (F := F) c k.val f)) ⊢ (iprop(∃ f, (c : Thread nD τ).loc cc0_scratch3 ↦{fullShare} f) : sProp 𝕄) := by
  have one : Nonempty ((SR 15).Idx → Elt F .f32) := ⟨fun _ => Idealize.ShloMosaic.FloatOps.ofBits .f32 0⟩
  haveI : ∀ _ : Fin 15, Nonempty ((SR 15).Idx → Elt F .f32) := fun _ => one
  iintro H
  ihave H := (bigSep_exists_pi Finset.univ fun (k : Fin 15) (f : (SR 15).Idx → Elt F .f32) => b9 (F := F) c k.val f) $$ H
  icases H with ⟨%fs, H⟩
  unfold b9
  ihave H := (pointsTo_biUnion_join (ℓ := (c : Thread nD τ).loc cc0_scratch3) Finset.univ (fun k : Fin 15 => rowS 15 k.val) fs (fs 0) (rows_apart 15)) $$ H
  icases H with ⟨%g, -, H⟩
  iexists g
  rw [← rows_univ 15]
  iexact H
theorem join10 (c : Dev nD) : (bigSep Finset.univ fun k : Fin 15 => iprop(∃ f, b10 (F := F) c k.val f)) ⊢ (iprop(∃ f, (c : Thread nD τ).loc cc0_scratch4 ↦{fullShare} f) : sProp 𝕄) := by
  have one : Nonempty ((SR 15).Idx → Elt F .f32) := ⟨fun _ => Idealize.ShloMosaic.FloatOps.ofBits .f32 0⟩
  haveI : ∀ _ : Fin 15, Nonempty ((SR 15).Idx → Elt F .f32) := fun _ => one
  iintro H
  ihave H := (bigSep_exists_pi Finset.univ fun (k : Fin 15) (f : (SR 15).Idx → Elt F .f32) => b10 (F := F) c k.val f) $$ H
  icases H with ⟨%fs, H⟩
  unfold b10
  ihave H := (pointsTo_biUnion_join (ℓ := (c : Thread nD τ).loc cc0_scratch4) Finset.univ (fun k : Fin 15 => rowS 15 k.val) fs (fs 0) (rows_apart 15)) $$ H
  icases H with ⟨%g, -, H⟩
  iexists g
  rw [← rows_univ 15]
  iexact H
theorem join11 (c : Dev nD) : (bigSep Finset.univ fun k : Fin 16 => iprop(∃ f, b11 (F := F) c k.val fullShare f)) ⊢ (iprop(∃ f, (c : Thread nD τ).loc cc0_scratch5 ↦{fullShare} f) : sProp 𝕄) := by
  have one : Nonempty ((SR 16).Idx → Elt F .f32) := ⟨fun _ => Idealize.ShloMosaic.FloatOps.ofBits .f32 0⟩
  haveI : ∀ _ : Fin 16, Nonempty ((SR 16).Idx → Elt F .f32) := fun _ => one
  iintro H
  ihave H := (bigSep_exists_pi Finset.univ fun (k : Fin 16) (f : (SR 16).Idx → Elt F .f32) => b11 (F := F) c k.val fullShare f) $$ H
  icases H with ⟨%fs, H⟩
  unfold b11
  ihave H := (pointsTo_biUnion_join (ℓ := (c : Thread nD τ).loc cc0_scratch5) Finset.univ (fun k : Fin 16 => rowS 16 k.val) fs (fs 0) (rows_apart 16)) $$ H
  icases H with ⟨%g, -, H⟩
  iexists g
  rw [← rows_univ 16]
  iexact H

/-! ## The two halves of the transfers -/

def lo (k : Fin 15) : Fin 30 := ⟨k.val, by have := k.isLt; omega⟩
def hi (k : Fin 15) : Fin 30 := ⟨15 + k.val, by have := k.isLt; omega⟩
def loE : Fin 15 ↪ Fin 30 := ⟨lo, fun a b h => Fin.ext (by have := congrArg Fin.val h; simpa [lo] using this)⟩
def hiE : Fin 15 ↪ Fin 30 := ⟨hi, fun a b h => Fin.ext (by have := congrArg Fin.val h; simpa [hi] using this)⟩
theorem halves_univ : (Finset.univ : Finset (Fin 30)) = Finset.univ.map loE ∪ Finset.univ.map hiE := by decide +kernel
theorem halves_apart : Disjoint (Finset.univ.map loE) (Finset.univ.map hiE) := by decide +kernel
theorem halves (Φ : Fin 30 → sProp 𝕄) :
    bigSep Finset.univ Φ = iprop((bigSep Finset.univ fun k : Fin 15 => Φ (lo k)) ∗ bigSep Finset.univ fun k : Fin 15 => Φ (hi k)) := by
  rw [halves_univ, bigSep_union halves_apart, bigSep_map, bigSep_map]; rfl
theorem lo_lt (k : Fin 15) : (lo k).val < 15 := k.isLt
theorem hi_ge (k : Fin 15) : ¬(hi k).val < 15 := by unfold hi; simp
theorem dslot_hi : ∀ k : Fin 15, dslot (hi k) = k.succ := by decide +kernel
theorem slots_univ : (Finset.univ : Finset (Fin 16)) = insert 0 (Finset.univ.map (Fin.succEmb 15)) := by decide +kernel
theorem slots_apart : (0 : Fin 16) ∉ Finset.univ.map (Fin.succEmb 15) := by decide +kernel
theorem slots (Φ : Fin 16 → sProp 𝕄) : bigSep Finset.univ Φ = iprop(Φ 0 ∗ bigSep Finset.univ fun k : Fin 15 => Φ (dslot (hi k))) := by
  rw [slots_univ, bigSep_insert slots_apart, bigSep_map]
  exact congrArg (fun X => iprop(Φ 0 ∗ X)) (bigSep_congr (Ψ := fun k : Fin 15 => Φ (dslot (hi k))) fun k _ => by rw [dslot_hi]; rfl)

/-- The three buffers of the talk. -/
def Bufs (c : Dev nD) : sProp 𝕄 :=
  iprop((∃ f, (c : Thread nD τ).loc cc0_scratch3 ↦{fullShare} f) ∗ (∃ f, (c : Thread nD τ).loc cc0_scratch4 ↦{fullShare} f)
    ∗ ∃ f, (c : Thread nD τ).loc cc0_scratch5 ↦{fullShare} f)

theorem open_mem (c : Dev nD) :
    Bufs (F := F) c ⊢ iprop((bigSep Finset.univ fun i : Fin 30 => own9 (F := F) c i) ∗ (bigSep Finset.univ fun i : Fin 30 => landAny (F := F) c i) ∗ slot0 (F := F) c) := by
  unfold Bufs
  rw [halves (fun i => own9 (F := F) c i), halves (fun i => landAny (F := F) c i)]
  iintro ⟨⟨%f9, H9⟩, ⟨%f10, H10⟩, ⟨%f11, H11⟩⟩
  ihave H9 := (Entails.of_eq (split9 c f9)) $$ H9
  ihave H10 := (Entails.of_eq (split10 c f10)) $$ H10
  ihave H11 := (Entails.of_eq ((split11 c f11).trans (slots fun k : Fin 16 => b11 (F := F) c k.val fullShare f11))) $$ H11
  icases H11 with ⟨H0, H11⟩
  isplitl [H9]
  · isplitl [H9]
    · iapply (monoSep (s := Finset.univ) (Φ := fun k : Fin 15 => b9 (F := F) c k.val f9) fun k _ => (show b9 (F := F) c k.val f9 ⊢ own9 (F := F) c (lo k) from by
        unfold own9; rw [if_pos (lo_lt k)]; iintro H; iexists f9; iexact H))
      iexact H9
    · rw [bigSep_congr (Ψ := fun _ : Fin 15 => (iprop(emp) : sProp 𝕄)) fun k _ => (show own9 (F := F) c (hi k) = iprop(emp) from if_neg (hi_ge k)), empSep]
      iempintro
  isplitr [H0]
  · isplitl [H10]
    · iapply (monoSep (s := Finset.univ) (Φ := fun k : Fin 15 => b10 (F := F) c k.val f10) fun k _ => (show b10 (F := F) c k.val f10 ⊢ landAny (F := F) c (lo k) from by
        unfold landAny; rw [if_pos (lo_lt k)]; iintro H; iexists f10; iexact H))
      iexact H10
    · iapply (monoSep (s := Finset.univ) (Φ := fun k : Fin 15 => b11 (F := F) c (dslot (hi k)).val fullShare f11) fun k _ => (show b11 (F := F) c (dslot (hi k)).val fullShare f11 ⊢ landAny (F := F) c (hi k) from by
        unfold landAny; rw [if_neg (hi_ge k)]; iintro H; iexists f11; iexact H))
      iexact H11
  · unfold slot0; iexists f11; iexact H0

variable (Pv : Dev nD → Dev nD → Vec F S1x32x1024 .f32)

def backE : Fin 15 ↪ Fin 16 × Fin 8 := ⟨fun k => (sslot (hi k), lf (hi k)), by decide +kernel⟩
theorem back_univ : (Finset.univ : Finset (Fin 16 × Fin 8)) = Finset.univ.map backE ∪ held 75 30 := by decide +kernel
theorem back_apart : Disjoint (Finset.univ.map backE) (held 75 30) := by decide +kernel

theorem close_mem (c : Dev nD) :
    iprop((bigSep Finset.univ fun i : Fin 30 => sndPay Pv c i) ∗ (bigSep Finset.univ fun i : Fin 30 => if i.val < 15 then landAt Pv c i else iprop(emp)) ∗ Lv Pv c 75 30)
      ⊢ Bufs (F := F) c := by
  unfold Bufs
  rw [halves (fun i => sndPay Pv c i), halves (fun i : Fin 30 => if i.val < 15 then landAt Pv c i else iprop(emp))]
  iintro ⟨⟨H9, Hb⟩, ⟨H10, -⟩, HL⟩
  isplitl [H9]
  · iapply (join9 c)
    iapply (monoSep (s := Finset.univ) (Φ := fun k : Fin 15 => sndPay Pv c (lo k)) fun k _ => (show sndPay Pv c (lo k) ⊢ iprop(∃ f, b9 (F := F) c k.val f) from by
      unfold sndPay; rw [if_pos (lo_lt k)]; exact Entails.rfl))
    iexact H9
  isplitl [H10]
  · iapply (join10 c)
    iapply (monoSep (s := Finset.univ) (Φ := fun k : Fin 15 => if (lo k).val < 15 then landAt Pv c (lo k) else iprop(emp)) fun k _ =>
      (show (if (lo k).val < 15 then landAt Pv c (lo k) else iprop(emp)) ⊢ iprop(∃ f, b10 (F := F) c k.val f) from by
        unfold landAt; rw [if_pos (lo_lt k), if_pos (lo_lt k)]; iintro H; iexists _; iexact H))
    iexact H10
  · have e : (iprop((bigSep Finset.univ fun k : Fin 15 => sndPay Pv c (hi k)) ∗ Lv Pv c 75 30) : sProp 𝕄)
        = bigSep Finset.univ fun s : Fin 16 => b11 c s.val fullShare (spread 16 (Tv Pv (xr c s))) := by
      rw [bigSep_congr (Ψ := fun k : Fin 15 => leaf11 Pv c (backE k).1 (backE k).2) fun k _ => (show sndPay Pv c (hi k) = leaf11 Pv c (backE k).1 (backE k).2 from if_neg (hi_ge k))]
      rw [bigSep_congr (s := (Finset.univ : Finset (Fin 16))) (Φ := fun s : Fin 16 => b11 c s.val fullShare (spread 16 (Tv Pv (xr c s))))
        (Ψ := fun s : Fin 16 => bigSep Finset.univ fun l : Fin 8 => leaf11 Pv c s l) fun s _ => leaves_any c s _]
      refine Eq.trans ?_ (bigSep_univ_prod (fun p : Fin 16 × Fin 8 => leaf11 Pv c p.1 p.2))
      rw [back_univ, bigSep_union back_apart, bigSep_map]; rfl
    iapply (join11 c)
    iapply (monoSep (s := Finset.univ) (Φ := fun s : Fin 16 => b11 c s.val fullShare (spread 16 (Tv Pv (xr c s)))) fun s _ =>
      (show b11 c s.val fullShare (spread 16 (Tv Pv (xr c s))) ⊢ iprop(∃ f, b11 (F := F) c s.val fullShare f) from by iintro H; iexists _; iexact H))
    rw [← e]
    isplitl [Hb]; · iexact Hb
    iexact HL

/-! ## The cells -/

/-- What a core is dealt at launch and keeps until it spends it. -/
def Hold (c : Dev nD) : sProp 𝕄 :=
  iprop(atPos ER (barC c) 0 ∅ 0 ∗ (bigSep Finset.univ fun d : Fin 15 => dutyTok ER (barC (sh c d)) 0 d)
    ∗ (bigSep Finset.univ fun i : Fin 30 => dutyTok ER (sndC c i) 0 0) ∗ (bigSep Finset.univ fun i : Fin 30 => dutyTok ER (rcvC (tgt c i) i) 0 0)
    ∗ (bigSep Finset.univ fun d : Fin 15 => exTok (F := F) c d)
    ∗ cred (tallyAt (barC c) () 15) ∗ cred (tallyAt (exC c) () 15) ∗ bigSep Finset.univ fun i : Fin 30 => cred (tallyAt (rcvC c i) () N))

/-- What a core has once its cells are open. -/
def Xk (c : Dev nD) : sProp 𝕄 :=
  iprop(∃ K, Pers Pv K c ∗ (bigSep Finset.univ fun d : Fin 15 => reached ER (barC (sh c d)) 0) ∗ (bigSep Finset.univ fun i : Fin 30 => reached ER (rcvC c i) 0)
    ∗ reached ER (exC c) 0 ∗ (bigSep Finset.univ fun i : Fin 30 => atPos ER (sndC c i) 0 ∅ 0) ∗ (bigSep Finset.univ fun i : Fin 30 => atPos ER (rcvC c i) 0 ∅ 0)
    ∗ atPos ER (exC c) 0 ∅ 0 ∗ Hold (F := F) c)

theorem oneway : ∀ (c : Dev nD) (i : Fin 30), ∃ d0 : Fin 15, ∀ d : Fin 15, tgt (sh c d) i = c ↔ d = d0 := by decide +kernel

/-- The device's own landing places and the word that its cells are open, handed to the fifteen barrier units. -/
theorem hand (c : Dev nD) :
    iprop((bigSep Finset.univ fun d : Fin 15 => dutyTok ER (barC (sh c d)) 0 d) ∗ (bigSep Finset.univ fun d : Fin 15 => reached ER (barC (sh c d)) 0)
        ∗ (bigSep Finset.univ fun i : Fin 30 => landAny (F := F) c i) ∗ (bigSep Finset.univ fun i : Fin 30 => reached ER (rcvC c i) 0) ∗ reached ER (exC c) 0)
      ⊢ bigSep Finset.univ fun d : Fin 15 => barRes (F := F) c d := by
  have e1 : (bigSep Finset.univ fun i : Fin 30 => iprop(landAny (F := F) c i ∗ reached ER (rcvC c i) 0))
      = bigSep Finset.univ fun d : Fin 15 => bigSep Finset.univ fun i : Fin 30 => if tgt (sh c d) i = c then iprop(landAny (F := F) c i ∗ reached ER (rcvC c i) 0) else iprop(emp) := by
    rw [swapSep]
    refine bigSep_congr fun i _ => ?_
    obtain ⟨d0, h0⟩ := oneway c i
    rw [show (fun d : Fin 15 => if tgt (sh c d) i = c then iprop(landAny (F := F) c i ∗ reached ER (rcvC c i) 0) else iprop(emp))
        = fun d : Fin 15 => if d = d0 then iprop(landAny (F := F) c i ∗ reached ER (rcvC c i) 0) else iprop(emp) from funext fun d => ?_]
    · exact (oneSep d0 _).symm
    · by_cases h : tgt (sh c d) i = c
      · rw [if_pos h, if_pos ((h0 d).mp h)]
      · rw [if_neg h, if_neg fun e => h ((h0 d).mpr e)]
  iintro ⟨H1, H2, H3, H4, #H5⟩
  ihave H34 := (mkSep (Φ := fun i : Fin 30 => landAny (F := F) c i) (Ψ := fun i : Fin 30 => reached ER (rcvC c i) 0)) $$ [H3 H4]
  · isplitl [H3]; · iexact H3
    iexact H4
  ihave H34 := (Entails.of_eq e1) $$ H34
  ihave H := (mkSep (Φ := fun d : Fin 15 => (reached ER (barC (sh c d)) 0 : sProp 𝕄))
    (Ψ := fun d : Fin 15 => bigSep Finset.univ fun i : Fin 30 => if tgt (sh c d) i = c then iprop(landAny (F := F) c i ∗ reached ER (rcvC c i) 0) else iprop(emp))) $$ [H2 H34]
  · isplitl [H2]; · iexact H2
    iexact H34
  ihave H := (mkSep (Φ := fun d : Fin 15 => (dutyTok ER (barC (sh c d)) 0 d : sProp 𝕄))
    (Ψ := fun d : Fin 15 => iprop(reached ER (barC (sh c d)) 0 ∗ bigSep Finset.univ fun i : Fin 30 => if tgt (sh c d) i = c then iprop(landAny (F := F) c i ∗ reached ER (rcvC c i) 0) else iprop(emp)))) $$ [H1 H]
  · isplitl [H1]; · iexact H1
    iexact H
  iapply (bigSep_with_persistent (R := (reached ER (exC c) 0 : sProp 𝕄)) (S := Finset.univ)
    (Φ := fun d : Fin 15 => iprop(dutyTok ER (barC (sh c d)) 0 d ∗ reached ER (barC (sh c d)) 0 ∗ bigSep Finset.univ fun i : Fin 30 => if tgt (sh c d) i = c then iprop(landAny (F := F) c i ∗ reached ER (rcvC c i) 0) else iprop(emp)))
    (Ψ := fun d : Fin 15 => barRes (F := F) c d) fun d _ => ?_)
  rotate_left
  · isplitr; · iexact H5
    iexact H
  · iintro ⟨#HR, Ha, Hb, Hc⟩
    unfold barRes barPay
    rw [hs_sh]
    isplitl [Ha]; · iexact Ha
    isplitl [Hb]; · iexact Hb
    isplitl [Hc]; · iexact Hc
    iexact HR

theorem start_all (c : Dev nD) : iprop(Bufs (F := F) c ∗ Xk Pv c ∗ ∃ W, owes (c : Thread nD τ) (Ob c 0) W) ⊢ iprop(∃ K, T0 Pv K c 0) := by
  unfold Xk Hold
  iintro ⟨HM, ⟨%K, HP, Hrb, Hrr, Hre, Has, Har, Hae, Hab, Hdb, Hds, Hdr, Hde, Hcb, Hce, Hcr⟩, HO⟩
  ihave HM := (open_mem c) $$ HM
  icases HM with ⟨H9, Hl, H0⟩
  iexists K
  unfold T0 Idle
  isplitl [HP]; · iexact HP
  isplitl [Hdb Hrb Hl Hrr Hre]
  · rw [Finset.filter_true_of_mem fun d _ => Nat.zero_le _]
    iapply (hand c)
    isplitl [Hdb]; · iexact Hdb
    isplitl [Hrb]; · iexact Hrb
    isplitl [Hl]; · iexact Hl
    isplitl [Hrr]; · iexact Hrr
    iexact Hre
  isplitl [H9 Hds Hdr]
  · unfold tokS
    iapply (mkSep (Φ := fun i : Fin 30 => (dutyTok ER (sndC c i) 0 0 : sProp 𝕄)) (Ψ := fun i : Fin 30 => iprop(dutyTok ER (rcvC (tgt c i) i) 0 0 ∗ own9 (F := F) c i)))
    isplitl [Hds]; · iexact Hds
    iapply (mkSep (Φ := fun i : Fin 30 => (dutyTok ER (rcvC (tgt c i) i) 0 0 : sProp 𝕄)) (Ψ := fun i : Fin 30 => own9 (F := F) c i))
    isplitl [Hdr]; · iexact Hdr
    iexact H9
  isplitl [Hcr Har]
  · unfold rcvRes
    iapply (mkSep (Φ := fun i : Fin 30 => (cred (tallyAt (rcvC c i) () N) : sProp 𝕄)) (Ψ := fun i : Fin 30 => atPos ER (rcvC c i) 0 ∅ 0))
    isplitl [Hcr]; · iexact Hcr
    iexact Har
  isplitl [H0]; · iexact H0
  isplitl [Has Hae Hce]
  · isplitl [Has]; · iexact Has
    isplitl [Hae]; · iexact Hae
    iexact Hce
  isplitl [Hde]; · iexact Hde
  isplitl [Hab]; · iexact Hab
  isplitl [Hcb]; · iexact Hcb
  iexact HO

/-- A cell's counter, its one round over. -/
theorem close_cell (κ : ℕ) (g : GSem nD τ sig) : iprop(cellInv ER (talkRd Pv) κ g ∗ atPos ER g 1 ∅ 0) ⊢ (iprop(|={Set.univ}=> semVal g 0) : sProp 𝕄) :=
  Rounds.cell_close ER (talkRd Pv) (Set.mem_univ κ) id fun r hr => duties_later Pv g r hr

/-- The counters of a core's transfer cells and exit cell. -/
def Zeros (c : Dev nD) : sProp 𝕄 :=
  iprop((bigSep Finset.univ fun i : Fin 30 => semVal (sndC c i) 0) ∗ (bigSep Finset.univ fun i : Fin 30 => semVal (rcvC c i) 0) ∗ semVal (exC c) 0)

theorem finish (K : GSem nD τ sig → ℕ) (c : Dev nD) :
    T3 Pv K c ⊢ (iprop(|={Set.univ}=> (Bufs (F := F) c ∗ Zeros (F := F) c ∗ semVal (barC c) 0 ∗ ∃ W, owes (c : Thread nD τ) 0 W)) : sProp 𝕄) := by
  unfold T3 Pers rcvEnd
  iintro ⟨⟨#HI, -, -⟩, Hs, Hr, HL, Hb, He, HO⟩
  ihave Hs := (unSep (Φ := fun i : Fin 30 => atPos ER (sndC c i) 1 ∅ 0) (Ψ := fun i : Fin 30 => sndPay Pv c i)) $$ Hs
  ihave Hr := (unSep (Φ := fun i : Fin 30 => atPos ER (rcvC c i) 1 ∅ 0) (Ψ := fun i : Fin 30 => if i.val < 15 then landAt Pv c i else iprop(emp))) $$ Hr
  icases Hs with ⟨Hs, Hsp⟩
  icases Hr with ⟨Hr, Hrp⟩
  imod (close_cell Pv (K (barC c)) (barC c)) $$ [Hb] with Hb
  · isplitr; · iapply (inv_bar Pv K c); iexact HI
    iexact Hb
  imod (close_cell Pv (K (exC c)) (exC c)) $$ [He] with He
  · isplitr; · iapply (inv_ex Pv K c); iexact HI
    iexact He
  ihave Hs := (bigSep_with_persistent (R := invAll Pv K) (S := Finset.univ) (Φ := fun i : Fin 30 => (atPos ER (sndC c i) 1 ∅ 0 : sProp 𝕄))
    (Ψ := fun i : Fin 30 => iprop(|={Set.univ}=> semVal (sndC c i) 0)) fun i _ =>
      (sep_mono (inv_snd Pv K c i) Entails.rfl).trans (close_cell Pv (K (sndC c i)) (sndC c i))) $$ [Hs]
  · isplitr; · iexact HI
    iexact Hs
  ihave Hr := (bigSep_with_persistent (R := invAll Pv K) (S := Finset.univ) (Φ := fun i : Fin 30 => (atPos ER (rcvC c i) 1 ∅ 0 : sProp 𝕄))
    (Ψ := fun i : Fin 30 => iprop(|={Set.univ}=> semVal (rcvC c i) 0)) fun i _ =>
      (sep_mono (inv_rcv Pv K c i) Entails.rfl).trans (close_cell Pv (K (rcvC c i)) (rcvC c i))) $$ [Hr]
  · isplitr; · iexact HI
    iexact Hr
  imod (bigSep_fupd Finset.univ fun i : Fin 30 => (semVal (sndC c i) 0 : sProp 𝕄)) $$ Hs with Hs
  imod (bigSep_fupd Finset.univ fun i : Fin 30 => (semVal (rcvC c i) 0 : sProp 𝕄)) $$ Hr with Hr
  imodintro
  unfold Zeros
  isplitl [Hsp Hrp HL]
  · iapply (close_mem Pv c)
    isplitl [Hsp]; · iexact Hsp
    isplitl [Hrp]; · iexact Hrp
    iexact HL
  isplitl [Hs Hr He]
  · isplitl [Hs]; · iexact Hs
    isplitl [Hr]; · iexact Hr
    iexact He
  isplitl [Hb]; · iexact Hb
  iexact HO

end Cert.KernelIdeal.Talk
-- ==== Proof.Facts.lean ====
/- Which device each printed address, place and condition names. -/
module

public import proofs.«01_k».proof.Proof.Recv

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem dev1 : ∀ c : Dev nD, k0_dev1 c = (sh c 0).val := by decide +kernel
theorem dev2 : ∀ c : Dev nD, k0_dev2 c = (sh c 1).val := by decide +kernel
theorem dev3 : ∀ c : Dev nD, k0_dev3 c = (sh c 2).val := by decide +kernel
theorem dev4 : ∀ c : Dev nD, k0_dev4 c = (sh c 3).val := by decide +kernel
theorem dev5 : ∀ c : Dev nD, k0_dev5 c = (sh c 4).val := by decide +kernel
theorem dev6 : ∀ c : Dev nD, k0_dev6 c = (sh c 5).val := by decide +kernel
theorem dev7 : ∀ c : Dev nD, k0_dev7 c = (sh c 6).val := by decide +kernel
theorem dev8 : ∀ c : Dev nD, k0_dev8 c = (sh c 7).val := by decide +kernel
theorem dev9 : ∀ c : Dev nD, k0_dev9 c = (sh c 8).val := by decide +kernel
theorem dev10 : ∀ c : Dev nD, k0_dev10 c = (sh c 9).val := by decide +kernel
theorem dev11 : ∀ c : Dev nD, k0_dev11 c = (sh c 10).val := by decide +kernel
theorem dev12 : ∀ c : Dev nD, k0_dev12 c = (sh c 11).val := by decide +kernel
theorem dev13 : ∀ c : Dev nD, k0_dev13 c = (sh c 12).val := by decide +kernel
theorem dev14 : ∀ c : Dev nD, k0_dev14 c = (sh c 13).val := by decide +kernel
theorem dev15 : ∀ c : Dev nD, k0_dev15 c = (sh c 14).val := by decide +kernel
theorem dev16 : ∀ c : Dev nD, k0_dev16 c = (tgt c 0).val := by decide +kernel
theorem cnd1 : ∀ c : Dev nD, k0_cond1 c = 1#1 ↔ spos c 0 = 0 := by decide +kernel
theorem off1 : ∀ c : Dev nD, k0_off1 c = ![(tgt c 0).val, 0, 0] := by decide +kernel
theorem dev17 : ∀ c : Dev nD, k0_dev17 c = (tgt c 1).val := by decide +kernel
theorem cnd2 : ∀ c : Dev nD, k0_cond2 c = 1#1 ↔ spos c 1 = 1 := by decide +kernel
theorem off2 : ∀ c : Dev nD, k0_off2 c = ![(tgt c 1).val, 0, 0] := by decide +kernel
theorem dev18 : ∀ c : Dev nD, k0_dev18 c = (tgt c 2).val := by decide +kernel
theorem cnd3 : ∀ c : Dev nD, k0_cond3 c = 1#1 ↔ spos c 2 = 2 := by decide +kernel
theorem off3 : ∀ c : Dev nD, k0_off3 c = ![(tgt c 2).val, 0, 0] := by decide +kernel
theorem dev19 : ∀ c : Dev nD, k0_dev19 c = (tgt c 3).val := by decide +kernel
theorem cnd4 : ∀ c : Dev nD, k0_cond4 c = 1#1 ↔ spos c 3 = 3 := by decide +kernel
theorem off4 : ∀ c : Dev nD, k0_off4 c = ![(tgt c 3).val, 0, 0] := by decide +kernel
theorem dev20 : ∀ c : Dev nD, k0_dev20 c = (tgt c 4).val := by decide +kernel
theorem cnd5 : ∀ c : Dev nD, k0_cond5 c = 1#1 ↔ spos c 4 = 4 := by decide +kernel
theorem off5 : ∀ c : Dev nD, k0_off5 c = ![(tgt c 4).val, 0, 0] := by decide +kernel
theorem dev21 : ∀ c : Dev nD, k0_dev21 c = (tgt c 5).val := by decide +kernel
theorem cnd6 : ∀ c : Dev nD, k0_cond6 c = 1#1 ↔ spos c 5 = 5 := by decide +kernel
theorem off6 : ∀ c : Dev nD, k0_off6 c = ![(tgt c 5).val, 0, 0] := by decide +kernel
theorem dev22 : ∀ c : Dev nD, k0_dev22 c = (tgt c 6).val := by decide +kernel
theorem cnd7 : ∀ c : Dev nD, k0_cond7 c = 1#1 ↔ spos c 6 = 6 := by decide +kernel
theorem off7 : ∀ c : Dev nD, k0_off7 c = ![(tgt c 6).val, 0, 0] := by decide +kernel
theorem dev23 : ∀ c : Dev nD, k0_dev23 c = (tgt c 7).val := by decide +kernel
theorem cnd8 : ∀ c : Dev nD, k0_cond8 c = 1#1 ↔ spos c 7 = 7 := by decide +kernel
theorem off8 : ∀ c : Dev nD, k0_off8 c = ![(tgt c 7).val, 0, 0] := by decide +kernel
theorem dev24 : ∀ c : Dev nD, k0_dev24 c = (tgt c 8).val := by decide +kernel
theorem cnd9 : ∀ c : Dev nD, k0_cond9 c = 1#1 ↔ spos c 8 = 8 := by decide +kernel
theorem off9 : ∀ c : Dev nD, k0_off9 c = ![(tgt c 8).val, 0, 0] := by decide +kernel
theorem dev25 : ∀ c : Dev nD, k0_dev25 c = (tgt c 9).val := by decide +kernel
theorem cnd10 : ∀ c : Dev nD, k0_cond10 c = 1#1 ↔ spos c 9 = 9 := by decide +kernel
theorem off10 : ∀ c : Dev nD, k0_off10 c = ![(tgt c 9).val, 0, 0] := by decide +kernel
theorem dev26 : ∀ c : Dev nD, k0_dev26 c = (tgt c 10).val := by decide +kernel
theorem cnd11 : ∀ c : Dev nD, k0_cond11 c = 1#1 ↔ spos c 10 = 10 := by decide +kernel
theorem off11 : ∀ c : Dev nD, k0_off11 c = ![(tgt c 10).val, 0, 0] := by decide +kernel
theorem dev27 : ∀ c : Dev nD, k0_dev27 c = (tgt c 11).val := by decide +kernel
theorem cnd12 : ∀ c : Dev nD, k0_cond12 c = 1#1 ↔ spos c 11 = 11 := by decide +kernel
theorem off12 : ∀ c : Dev nD, k0_off12 c = ![(tgt c 11).val, 0, 0] := by decide +kernel
theorem dev28 : ∀ c : Dev nD, k0_dev28 c = (tgt c 12).val := by decide +kernel
theorem cnd13 : ∀ c : Dev nD, k0_cond13 c = 1#1 ↔ spos c 12 = 12 := by decide +kernel
theorem off13 : ∀ c : Dev nD, k0_off13 c = ![(tgt c 12).val, 0, 0] := by decide +kernel
theorem dev29 : ∀ c : Dev nD, k0_dev29 c = (tgt c 13).val := by decide +kernel
theorem cnd14 : ∀ c : Dev nD, k0_cond14 c = 1#1 ↔ spos c 13 = 13 := by decide +kernel
theorem off14 : ∀ c : Dev nD, k0_off14 c = ![(tgt c 13).val, 0, 0] := by decide +kernel
theorem dev30 : ∀ c : Dev nD, k0_dev30 c = (tgt c 14).val := by decide +kernel
theorem cnd15 : ∀ c : Dev nD, k0_cond15 c = 1#1 ↔ spos c 14 = 14 := by decide +kernel
theorem off15 : ∀ c : Dev nD, k0_off15 c = ![(tgt c 14).val, 0, 0] := by decide +kernel
theorem dev31 : ∀ c : Dev nD, k0_dev31 c = (tgt c 0).val := by decide +kernel
theorem cnd16 : ∀ c : Dev nD, k0_cond16 c = 1#1 ↔ spos c 0 = 15 := by decide +kernel
theorem off16 : ∀ c : Dev nD, k0_off16 c = ![(tgt c 0).val, 0, 0] := by decide +kernel
theorem dev32 : ∀ c : Dev nD, k0_dev32 c = (tgt c 1).val := by decide +kernel
theorem cnd17 : ∀ c : Dev nD, k0_cond17 c = 1#1 ↔ spos c 1 = 16 := by decide +kernel
theorem off17 : ∀ c : Dev nD, k0_off17 c = ![(tgt c 1).val, 0, 0] := by decide +kernel
theorem dev33 : ∀ c : Dev nD, k0_dev33 c = (tgt c 2).val := by decide +kernel
theorem cnd18 : ∀ c : Dev nD, k0_cond18 c = 1#1 ↔ spos c 2 = 17 := by decide +kernel
theorem off18 : ∀ c : Dev nD, k0_off18 c = ![(tgt c 2).val, 0, 0] := by decide +kernel
theorem dev34 : ∀ c : Dev nD, k0_dev34 c = (tgt c 3).val := by decide +kernel
theorem cnd19 : ∀ c : Dev nD, k0_cond19 c = 1#1 ↔ spos c 3 = 18 := by decide +kernel
theorem off19 : ∀ c : Dev nD, k0_off19 c = ![(tgt c 3).val, 0, 0] := by decide +kernel
theorem dev35 : ∀ c : Dev nD, k0_dev35 c = (tgt c 4).val := by decide +kernel
theorem cnd20 : ∀ c : Dev nD, k0_cond20 c = 1#1 ↔ spos c 4 = 19 := by decide +kernel
theorem off20 : ∀ c : Dev nD, k0_off20 c = ![(tgt c 4).val, 0, 0] := by decide +kernel
theorem dev36 : ∀ c : Dev nD, k0_dev36 c = (tgt c 5).val := by decide +kernel
theorem cnd21 : ∀ c : Dev nD, k0_cond21 c = 1#1 ↔ spos c 5 = 20 := by decide +kernel
theorem off21 : ∀ c : Dev nD, k0_off21 c = ![(tgt c 5).val, 0, 0] := by decide +kernel
theorem dev37 : ∀ c : Dev nD, k0_dev37 c = (tgt c 6).val := by decide +kernel
theorem cnd22 : ∀ c : Dev nD, k0_cond22 c = 1#1 ↔ spos c 6 = 21 := by decide +kernel
theorem off22 : ∀ c : Dev nD, k0_off22 c = ![(tgt c 6).val, 0, 0] := by decide +kernel
theorem dev38 : ∀ c : Dev nD, k0_dev38 c = (tgt c 7).val := by decide +kernel
theorem cnd23 : ∀ c : Dev nD, k0_cond23 c = 1#1 ↔ spos c 7 = 22 := by decide +kernel
theorem off23 : ∀ c : Dev nD, k0_off23 c = ![(tgt c 7).val, 0, 0] := by decide +kernel
theorem dev39 : ∀ c : Dev nD, k0_dev39 c = (tgt c 8).val := by decide +kernel
theorem cnd24 : ∀ c : Dev nD, k0_cond24 c = 1#1 ↔ spos c 8 = 23 := by decide +kernel
theorem off24 : ∀ c : Dev nD, k0_off24 c = ![(tgt c 8).val, 0, 0] := by decide +kernel
theorem dev40 : ∀ c : Dev nD, k0_dev40 c = (tgt c 9).val := by decide +kernel
theorem cnd25 : ∀ c : Dev nD, k0_cond25 c = 1#1 ↔ spos c 9 = 24 := by decide +kernel
theorem off25 : ∀ c : Dev nD, k0_off25 c = ![(tgt c 9).val, 0, 0] := by decide +kernel
theorem dev41 : ∀ c : Dev nD, k0_dev41 c = (tgt c 10).val := by decide +kernel
theorem cnd26 : ∀ c : Dev nD, k0_cond26 c = 1#1 ↔ spos c 10 = 25 := by decide +kernel
theorem off26 : ∀ c : Dev nD, k0_off26 c = ![(tgt c 10).val, 0, 0] := by decide +kernel
theorem dev42 : ∀ c : Dev nD, k0_dev42 c = (tgt c 11).val := by decide +kernel
theorem cnd27 : ∀ c : Dev nD, k0_cond27 c = 1#1 ↔ spos c 11 = 26 := by decide +kernel
theorem off27 : ∀ c : Dev nD, k0_off27 c = ![(tgt c 11).val, 0, 0] := by decide +kernel
theorem dev43 : ∀ c : Dev nD, k0_dev43 c = (tgt c 12).val := by decide +kernel
theorem cnd28 : ∀ c : Dev nD, k0_cond28 c = 1#1 ↔ spos c 12 = 27 := by decide +kernel
theorem off28 : ∀ c : Dev nD, k0_off28 c = ![(tgt c 12).val, 0, 0] := by decide +kernel
theorem dev44 : ∀ c : Dev nD, k0_dev44 c = (tgt c 13).val := by decide +kernel
theorem cnd29 : ∀ c : Dev nD, k0_cond29 c = 1#1 ↔ spos c 13 = 28 := by decide +kernel
theorem off29 : ∀ c : Dev nD, k0_off29 c = ![(tgt c 13).val, 0, 0] := by decide +kernel
theorem dev45 : ∀ c : Dev nD, k0_dev45 c = (tgt c 14).val := by decide +kernel
theorem cnd30 : ∀ c : Dev nD, k0_cond30 c = 1#1 ↔ spos c 14 = 29 := by decide +kernel
theorem off30 : ∀ c : Dev nD, k0_off30 c = ![(tgt c 14).val, 0, 0] := by decide +kernel
theorem dev46 : ∀ c : Dev nD, k0_dev46 c = (tgt c 0).val := by decide +kernel
theorem cnd31 : ∀ c : Dev nD, k0_cond31 c = 1#1 ↔ spos c 0 = 30 := by decide +kernel
theorem off31 : ∀ c : Dev nD, k0_off31 c = ![(tgt c 0).val, 0, 0] := by decide +kernel
theorem dev47 : ∀ c : Dev nD, k0_dev47 c = (tgt c 1).val := by decide +kernel
theorem cnd32 : ∀ c : Dev nD, k0_cond32 c = 1#1 ↔ spos c 1 = 31 := by decide +kernel
theorem off32 : ∀ c : Dev nD, k0_off32 c = ![(tgt c 1).val, 0, 0] := by decide +kernel
theorem dev48 : ∀ c : Dev nD, k0_dev48 c = (tgt c 2).val := by decide +kernel
theorem cnd33 : ∀ c : Dev nD, k0_cond33 c = 1#1 ↔ spos c 2 = 32 := by decide +kernel
theorem off33 : ∀ c : Dev nD, k0_off33 c = ![(tgt c 2).val, 0, 0] := by decide +kernel
theorem dev49 : ∀ c : Dev nD, k0_dev49 c = (tgt c 3).val := by decide +kernel
theorem cnd34 : ∀ c : Dev nD, k0_cond34 c = 1#1 ↔ spos c 3 = 33 := by decide +kernel
theorem off34 : ∀ c : Dev nD, k0_off34 c = ![(tgt c 3).val, 0, 0] := by decide +kernel
theorem dev50 : ∀ c : Dev nD, k0_dev50 c = (tgt c 4).val := by decide +kernel
theorem cnd35 : ∀ c : Dev nD, k0_cond35 c = 1#1 ↔ spos c 4 = 34 := by decide +kernel
theorem off35 : ∀ c : Dev nD, k0_off35 c = ![(tgt c 4).val, 0, 0] := by decide +kernel
theorem dev51 : ∀ c : Dev nD, k0_dev51 c = (tgt c 5).val := by decide +kernel
theorem cnd36 : ∀ c : Dev nD, k0_cond36 c = 1#1 ↔ spos c 5 = 35 := by decide +kernel
theorem off36 : ∀ c : Dev nD, k0_off36 c = ![(tgt c 5).val, 0, 0] := by decide +kernel
theorem dev52 : ∀ c : Dev nD, k0_dev52 c = (tgt c 6).val := by decide +kernel
theorem cnd37 : ∀ c : Dev nD, k0_cond37 c = 1#1 ↔ spos c 6 = 36 := by decide +kernel
theorem off37 : ∀ c : Dev nD, k0_off37 c = ![(tgt c 6).val, 0, 0] := by decide +kernel
theorem dev53 : ∀ c : Dev nD, k0_dev53 c = (tgt c 7).val := by decide +kernel
theorem cnd38 : ∀ c : Dev nD, k0_cond38 c = 1#1 ↔ spos c 7 = 37 := by decide +kernel
theorem off38 : ∀ c : Dev nD, k0_off38 c = ![(tgt c 7).val, 0, 0] := by decide +kernel
theorem dev54 : ∀ c : Dev nD, k0_dev54 c = (tgt c 8).val := by decide +kernel
theorem cnd39 : ∀ c : Dev nD, k0_cond39 c = 1#1 ↔ spos c 8 = 38 := by decide +kernel
theorem off39 : ∀ c : Dev nD, k0_off39 c = ![(tgt c 8).val, 0, 0] := by decide +kernel
theorem dev55 : ∀ c : Dev nD, k0_dev55 c = (tgt c 9).val := by decide +kernel
theorem cnd40 : ∀ c : Dev nD, k0_cond40 c = 1#1 ↔ spos c 9 = 39 := by decide +kernel
theorem off40 : ∀ c : Dev nD, k0_off40 c = ![(tgt c 9).val, 0, 0] := by decide +kernel
theorem dev56 : ∀ c : Dev nD, k0_dev56 c = (tgt c 10).val := by decide +kernel
theorem cnd41 : ∀ c : Dev nD, k0_cond41 c = 1#1 ↔ spos c 10 = 40 := by decide +kernel
theorem off41 : ∀ c : Dev nD, k0_off41 c = ![(tgt c 10).val, 0, 0] := by decide +kernel
theorem dev57 : ∀ c : Dev nD, k0_dev57 c = (tgt c 11).val := by decide +kernel
theorem cnd42 : ∀ c : Dev nD, k0_cond42 c = 1#1 ↔ spos c 11 = 41 := by decide +kernel
theorem off42 : ∀ c : Dev nD, k0_off42 c = ![(tgt c 11).val, 0, 0] := by decide +kernel
theorem dev58 : ∀ c : Dev nD, k0_dev58 c = (tgt c 12).val := by decide +kernel
theorem cnd43 : ∀ c : Dev nD, k0_cond43 c = 1#1 ↔ spos c 12 = 42 := by decide +kernel
theorem off43 : ∀ c : Dev nD, k0_off43 c = ![(tgt c 12).val, 0, 0] := by decide +kernel
theorem dev59 : ∀ c : Dev nD, k0_dev59 c = (tgt c 13).val := by decide +kernel
theorem cnd44 : ∀ c : Dev nD, k0_cond44 c = 1#1 ↔ spos c 13 = 43 := by decide +kernel
theorem off44 : ∀ c : Dev nD, k0_off44 c = ![(tgt c 13).val, 0, 0] := by decide +kernel
theorem dev60 : ∀ c : Dev nD, k0_dev60 c = (tgt c 14).val := by decide +kernel
theorem cnd45 : ∀ c : Dev nD, k0_cond45 c = 1#1 ↔ spos c 14 = 44 := by decide +kernel
theorem off45 : ∀ c : Dev nD, k0_off45 c = ![(tgt c 14).val, 0, 0] := by decide +kernel
theorem dev61 : ∀ c : Dev nD, k0_dev61 c = (tgt c 0).val := by decide +kernel
theorem cnd46 : ∀ c : Dev nD, k0_cond46 c = 1#1 ↔ spos c 0 = 45 := by decide +kernel
theorem off46 : ∀ c : Dev nD, k0_off46 c = ![(tgt c 0).val, 0, 0] := by decide +kernel
theorem dev62 : ∀ c : Dev nD, k0_dev62 c = (tgt c 1).val := by decide +kernel
theorem cnd47 : ∀ c : Dev nD, k0_cond47 c = 1#1 ↔ spos c 1 = 46 := by decide +kernel
theorem off47 : ∀ c : Dev nD, k0_off47 c = ![(tgt c 1).val, 0, 0] := by decide +kernel
theorem dev63 : ∀ c : Dev nD, k0_dev63 c = (tgt c 2).val := by decide +kernel
theorem cnd48 : ∀ c : Dev nD, k0_cond48 c = 1#1 ↔ spos c 2 = 47 := by decide +kernel
theorem off48 : ∀ c : Dev nD, k0_off48 c = ![(tgt c 2).val, 0, 0] := by decide +kernel
theorem dev64 : ∀ c : Dev nD, k0_dev64 c = (tgt c 3).val := by decide +kernel
theorem cnd49 : ∀ c : Dev nD, k0_cond49 c = 1#1 ↔ spos c 3 = 48 := by decide +kernel
theorem off49 : ∀ c : Dev nD, k0_off49 c = ![(tgt c 3).val, 0, 0] := by decide +kernel
theorem dev65 : ∀ c : Dev nD, k0_dev65 c = (tgt c 4).val := by decide +kernel
theorem cnd50 : ∀ c : Dev nD, k0_cond50 c = 1#1 ↔ spos c 4 = 49 := by decide +kernel
theorem off50 : ∀ c : Dev nD, k0_off50 c = ![(tgt c 4).val, 0, 0] := by decide +kernel
theorem dev66 : ∀ c : Dev nD, k0_dev66 c = (tgt c 5).val := by decide +kernel
theorem cnd51 : ∀ c : Dev nD, k0_cond51 c = 1#1 ↔ spos c 5 = 50 := by decide +kernel
theorem off51 : ∀ c : Dev nD, k0_off51 c = ![(tgt c 5).val, 0, 0] := by decide +kernel
theorem dev67 : ∀ c : Dev nD, k0_dev67 c = (tgt c 6).val := by decide +kernel
theorem cnd52 : ∀ c : Dev nD, k0_cond52 c = 1#1 ↔ spos c 6 = 51 := by decide +kernel
theorem off52 : ∀ c : Dev nD, k0_off52 c = ![(tgt c 6).val, 0, 0] := by decide +kernel
theorem dev68 : ∀ c : Dev nD, k0_dev68 c = (tgt c 7).val := by decide +kernel
theorem cnd53 : ∀ c : Dev nD, k0_cond53 c = 1#1 ↔ spos c 7 = 52 := by decide +kernel
theorem off53 : ∀ c : Dev nD, k0_off53 c = ![(tgt c 7).val, 0, 0] := by decide +kernel
theorem dev69 : ∀ c : Dev nD, k0_dev69 c = (tgt c 8).val := by decide +kernel
theorem cnd54 : ∀ c : Dev nD, k0_cond54 c = 1#1 ↔ spos c 8 = 53 := by decide +kernel
theorem off54 : ∀ c : Dev nD, k0_off54 c = ![(tgt c 8).val, 0, 0] := by decide +kernel
theorem dev70 : ∀ c : Dev nD, k0_dev70 c = (tgt c 9).val := by decide +kernel
theorem cnd55 : ∀ c : Dev nD, k0_cond55 c = 1#1 ↔ spos c 9 = 54 := by decide +kernel
theorem off55 : ∀ c : Dev nD, k0_off55 c = ![(tgt c 9).val, 0, 0] := by decide +kernel
theorem dev71 : ∀ c : Dev nD, k0_dev71 c = (tgt c 10).val := by decide +kernel
theorem cnd56 : ∀ c : Dev nD, k0_cond56 c = 1#1 ↔ spos c 10 = 55 := by decide +kernel
theorem off56 : ∀ c : Dev nD, k0_off56 c = ![(tgt c 10).val, 0, 0] := by decide +kernel
theorem dev72 : ∀ c : Dev nD, k0_dev72 c = (tgt c 11).val := by decide +kernel
theorem cnd57 : ∀ c : Dev nD, k0_cond57 c = 1#1 ↔ spos c 11 = 56 := by decide +kernel
theorem off57 : ∀ c : Dev nD, k0_off57 c = ![(tgt c 11).val, 0, 0] := by decide +kernel
theorem dev73 : ∀ c : Dev nD, k0_dev73 c = (tgt c 12).val := by decide +kernel
theorem cnd58 : ∀ c : Dev nD, k0_cond58 c = 1#1 ↔ spos c 12 = 57 := by decide +kernel
theorem off58 : ∀ c : Dev nD, k0_off58 c = ![(tgt c 12).val, 0, 0] := by decide +kernel
theorem dev74 : ∀ c : Dev nD, k0_dev74 c = (tgt c 13).val := by decide +kernel
theorem cnd59 : ∀ c : Dev nD, k0_cond59 c = 1#1 ↔ spos c 13 = 58 := by decide +kernel
theorem off59 : ∀ c : Dev nD, k0_off59 c = ![(tgt c 13).val, 0, 0] := by decide +kernel
theorem dev75 : ∀ c : Dev nD, k0_dev75 c = (tgt c 14).val := by decide +kernel
theorem cnd60 : ∀ c : Dev nD, k0_cond60 c = 1#1 ↔ spos c 14 = 59 := by decide +kernel
theorem off60 : ∀ c : Dev nD, k0_off60 c = ![(tgt c 14).val, 0, 0] := by decide +kernel
theorem dev76 : ∀ c : Dev nD, k0_dev76 c = (tgt c 22).val := by decide +kernel
theorem dev77 : ∀ c : Dev nD, k0_dev77 c = (tgt c 16).val := by decide +kernel
theorem dev78 : ∀ c : Dev nD, k0_dev78 c = (tgt c 24).val := by decide +kernel
theorem dev79 : ∀ c : Dev nD, k0_dev79 c = (tgt c 18).val := by decide +kernel
theorem dev80 : ∀ c : Dev nD, k0_dev80 c = (tgt c 26).val := by decide +kernel
theorem dev81 : ∀ c : Dev nD, k0_dev81 c = (tgt c 20).val := by decide +kernel
theorem dev82 : ∀ c : Dev nD, k0_dev82 c = (tgt c 28).val := by decide +kernel
theorem dev83 : ∀ c : Dev nD, k0_dev83 c = (tgt c 15).val := by decide +kernel
theorem dev84 : ∀ c : Dev nD, k0_dev84 c = (tgt c 23).val := by decide +kernel
theorem dev85 : ∀ c : Dev nD, k0_dev85 c = (tgt c 17).val := by decide +kernel
theorem dev86 : ∀ c : Dev nD, k0_dev86 c = (tgt c 25).val := by decide +kernel
theorem dev87 : ∀ c : Dev nD, k0_dev87 c = (tgt c 19).val := by decide +kernel
theorem dev88 : ∀ c : Dev nD, k0_dev88 c = (tgt c 27).val := by decide +kernel
theorem dev89 : ∀ c : Dev nD, k0_dev89 c = (tgt c 21).val := by decide +kernel
theorem dev90 : ∀ c : Dev nD, k0_dev90 c = (tgt c 29).val := by decide +kernel
theorem dev91 : ∀ c : Dev nD, k0_dev91 c = (sh c 0).val := by decide +kernel
theorem dev92 : ∀ c : Dev nD, k0_dev92 c = (sh c 1).val := by decide +kernel
theorem dev93 : ∀ c : Dev nD, k0_dev93 c = (sh c 2).val := by decide +kernel
theorem dev94 : ∀ c : Dev nD, k0_dev94 c = (sh c 3).val := by decide +kernel
theorem dev95 : ∀ c : Dev nD, k0_dev95 c = (sh c 4).val := by decide +kernel
theorem dev96 : ∀ c : Dev nD, k0_dev96 c = (sh c 5).val := by decide +kernel
theorem dev97 : ∀ c : Dev nD, k0_dev97 c = (sh c 6).val := by decide +kernel
theorem dev98 : ∀ c : Dev nD, k0_dev98 c = (sh c 7).val := by decide +kernel
theorem dev99 : ∀ c : Dev nD, k0_dev99 c = (sh c 8).val := by decide +kernel
theorem dev100 : ∀ c : Dev nD, k0_dev100 c = (sh c 9).val := by decide +kernel
theorem dev101 : ∀ c : Dev nD, k0_dev101 c = (sh c 10).val := by decide +kernel
theorem dev102 : ∀ c : Dev nD, k0_dev102 c = (sh c 11).val := by decide +kernel
theorem dev103 : ∀ c : Dev nD, k0_dev103 c = (sh c 12).val := by decide +kernel
theorem dev104 : ∀ c : Dev nD, k0_dev104 c = (sh c 13).val := by decide +kernel
theorem dev105 : ∀ c : Dev nD, k0_dev105 c = (sh c 14).val := by decide +kernel
theorem off61 : ∀ c : Dev nD, k0_off61 c = ![(xr c 0).val, 0, 0] := by decide +kernel
theorem off62_1 : ∀ c : Dev nD, k0_off62 c 1#32 = ![(xr c 1).val, 0, 0] := by decide +kernel
theorem off62_2 : ∀ c : Dev nD, k0_off62 c 2#32 = ![(xr c 2).val, 0, 0] := by decide +kernel
theorem off62_3 : ∀ c : Dev nD, k0_off62 c 3#32 = ![(xr c 3).val, 0, 0] := by decide +kernel
theorem off62_4 : ∀ c : Dev nD, k0_off62 c 4#32 = ![(xr c 4).val, 0, 0] := by decide +kernel
theorem off62_5 : ∀ c : Dev nD, k0_off62 c 5#32 = ![(xr c 5).val, 0, 0] := by decide +kernel
theorem off62_6 : ∀ c : Dev nD, k0_off62 c 6#32 = ![(xr c 6).val, 0, 0] := by decide +kernel
theorem off62_7 : ∀ c : Dev nD, k0_off62 c 7#32 = ![(xr c 7).val, 0, 0] := by decide +kernel
theorem off62_8 : ∀ c : Dev nD, k0_off62 c 8#32 = ![(xr c 8).val, 0, 0] := by decide +kernel
theorem off62_9 : ∀ c : Dev nD, k0_off62 c 9#32 = ![(xr c 9).val, 0, 0] := by decide +kernel
theorem off62_10 : ∀ c : Dev nD, k0_off62 c 10#32 = ![(xr c 10).val, 0, 0] := by decide +kernel
theorem off62_11 : ∀ c : Dev nD, k0_off62 c 11#32 = ![(xr c 11).val, 0, 0] := by decide +kernel
theorem off62_12 : ∀ c : Dev nD, k0_off62 c 12#32 = ![(xr c 12).val, 0, 0] := by decide +kernel
theorem off62_13 : ∀ c : Dev nD, k0_off62 c 13#32 = ![(xr c 13).val, 0, 0] := by decide +kernel
theorem off62_14 : ∀ c : Dev nD, k0_off62 c 14#32 = ![(xr c 14).val, 0, 0] := by decide +kernel
theorem off62_15 : ∀ c : Dev nD, k0_off62 c 15#32 = ![(xr c 15).val, 0, 0] := by decide +kernel

theorem tgt_lt : ∀ (c : Dev nD) (i : Fin 30) (b : Fin 4), i.val < 15 → spos c i = 15 * b.val + i.val → (tgt c i).val < 4 * b.val + 4 := by decide +kernel
theorem skip_all : ∀ (c : Dev nD) (i : Fin 30) (b : Fin 4), i.val < 15 → spos c i ≠ 15 * b.val + i.val → ∀ j, spos c j ≠ 15 * b.val + i.val := by decide +kernel
theorem lev_lo : ∀ (c : Dev nD) (i : Fin 30), i.val < 15 → ∀ i', 60 ≤ spos c i' → rlev i < rlev i' := by decide +kernel
theorem held_all : ∀ s : Fin 16, (s, (7 : Fin 8)) ∈ held 75 30 := by decide +kernel
theorem mem22 : (sslot 22, lf 22) ∈ held 60 15 := by decide +kernel
theorem ers22 : (held 60 15).erase (sslot 22, lf 22) = held 61 15 := by decide +kernel
theorem lev22 : ∀ (c : Dev nD) (i' : Fin 30), 61 ≤ spos c i' → rlev 22 < rlev i' := by decide +kernel
theorem add22 : ∀ p : Fin 16 × Fin 8, (p ∈ held 61 (15 + 1) ↔ p ∈ held 61 15 ∨ p.1 = dslot 22) ∧ (p.1 = dslot 22 → p ∉ held 61 15) := by decide +kernel
theorem mem16 : (sslot 16, lf 16) ∈ held 61 16 := by decide +kernel
theorem ers16 : (held 61 16).erase (sslot 16, lf 16) = held 62 16 := by decide +kernel
theorem mem24 : (sslot 24, lf 24) ∈ held 62 16 := by decide +kernel
theorem ers24 : (held 62 16).erase (sslot 24, lf 24) = held 63 16 := by decide +kernel
theorem lev16 : ∀ (c : Dev nD) (i' : Fin 30), 63 ≤ spos c i' → rlev 16 < rlev i' := by decide +kernel
theorem add16 : ∀ p : Fin 16 × Fin 8, (p ∈ held 63 (16 + 1) ↔ p ∈ held 63 16 ∨ p.1 = dslot 16) ∧ (p.1 = dslot 16 → p ∉ held 63 16) := by decide +kernel
theorem lev24 : ∀ (c : Dev nD) (i' : Fin 30), 63 ≤ spos c i' → rlev 24 < rlev i' := by decide +kernel
theorem add24 : ∀ p : Fin 16 × Fin 8, (p ∈ held 63 (17 + 1) ↔ p ∈ held 63 17 ∨ p.1 = dslot 24) ∧ (p.1 = dslot 24 → p ∉ held 63 17) := by decide +kernel
theorem mem18 : (sslot 18, lf 18) ∈ held 63 18 := by decide +kernel
theorem ers18 : (held 63 18).erase (sslot 18, lf 18) = held 64 18 := by decide +kernel
theorem mem26 : (sslot 26, lf 26) ∈ held 64 18 := by decide +kernel
theorem ers26 : (held 64 18).erase (sslot 26, lf 26) = held 65 18 := by decide +kernel
theorem mem20 : (sslot 20, lf 20) ∈ held 65 18 := by decide +kernel
theorem ers20 : (held 65 18).erase (sslot 20, lf 20) = held 66 18 := by decide +kernel
theorem mem28 : (sslot 28, lf 28) ∈ held 66 18 := by decide +kernel
theorem ers28 : (held 66 18).erase (sslot 28, lf 28) = held 67 18 := by decide +kernel
theorem lev18 : ∀ (c : Dev nD) (i' : Fin 30), 67 ≤ spos c i' → rlev 18 < rlev i' := by decide +kernel
theorem add18 : ∀ p : Fin 16 × Fin 8, (p ∈ held 67 (18 + 1) ↔ p ∈ held 67 18 ∨ p.1 = dslot 18) ∧ (p.1 = dslot 18 → p ∉ held 67 18) := by decide +kernel
theorem lev26 : ∀ (c : Dev nD) (i' : Fin 30), 67 ≤ spos c i' → rlev 26 < rlev i' := by decide +kernel
theorem add26 : ∀ p : Fin 16 × Fin 8, (p ∈ held 67 (19 + 1) ↔ p ∈ held 67 19 ∨ p.1 = dslot 26) ∧ (p.1 = dslot 26 → p ∉ held 67 19) := by decide +kernel
theorem lev20 : ∀ (c : Dev nD) (i' : Fin 30), 67 ≤ spos c i' → rlev 20 < rlev i' := by decide +kernel
theorem add20 : ∀ p : Fin 16 × Fin 8, (p ∈ held 67 (20 + 1) ↔ p ∈ held 67 20 ∨ p.1 = dslot 20) ∧ (p.1 = dslot 20 → p ∉ held 67 20) := by decide +kernel
theorem lev28 : ∀ (c : Dev nD) (i' : Fin 30), 67 ≤ spos c i' → rlev 28 < rlev i' := by decide +kernel
theorem add28 : ∀ p : Fin 16 × Fin 8, (p ∈ held 67 (21 + 1) ↔ p ∈ held 67 21 ∨ p.1 = dslot 28) ∧ (p.1 = dslot 28 → p ∉ held 67 21) := by decide +kernel
theorem mem15 : (sslot 15, lf 15) ∈ held 67 22 := by decide +kernel
theorem ers15 : (held 67 22).erase (sslot 15, lf 15) = held 68 22 := by decide +kernel
theorem mem23 : (sslot 23, lf 23) ∈ held 68 22 := by decide +kernel
theorem ers23 : (held 68 22).erase (sslot 23, lf 23) = held 69 22 := by decide +kernel
theorem mem17 : (sslot 17, lf 17) ∈ held 69 22 := by decide +kernel
theorem ers17 : (held 69 22).erase (sslot 17, lf 17) = held 70 22 := by decide +kernel
theorem mem25 : (sslot 25, lf 25) ∈ held 70 22 := by decide +kernel
theorem ers25 : (held 70 22).erase (sslot 25, lf 25) = held 71 22 := by decide +kernel
theorem mem19 : (sslot 19, lf 19) ∈ held 71 22 := by decide +kernel
theorem ers19 : (held 71 22).erase (sslot 19, lf 19) = held 72 22 := by decide +kernel
theorem mem27 : (sslot 27, lf 27) ∈ held 72 22 := by decide +kernel
theorem ers27 : (held 72 22).erase (sslot 27, lf 27) = held 73 22 := by decide +kernel
theorem mem21 : (sslot 21, lf 21) ∈ held 73 22 := by decide +kernel
theorem ers21 : (held 73 22).erase (sslot 21, lf 21) = held 74 22 := by decide +kernel
theorem mem29 : (sslot 29, lf 29) ∈ held 74 22 := by decide +kernel
theorem ers29 : (held 74 22).erase (sslot 29, lf 29) = held 75 22 := by decide +kernel
theorem lev15 : ∀ (c : Dev nD) (i' : Fin 30), 75 ≤ spos c i' → rlev 15 < rlev i' := by decide +kernel
theorem add15 : ∀ p : Fin 16 × Fin 8, (p ∈ held 75 (22 + 1) ↔ p ∈ held 75 22 ∨ p.1 = dslot 15) ∧ (p.1 = dslot 15 → p ∉ held 75 22) := by decide +kernel
theorem lev23 : ∀ (c : Dev nD) (i' : Fin 30), 75 ≤ spos c i' → rlev 23 < rlev i' := by decide +kernel
theorem add23 : ∀ p : Fin 16 × Fin 8, (p ∈ held 75 (23 + 1) ↔ p ∈ held 75 23 ∨ p.1 = dslot 23) ∧ (p.1 = dslot 23 → p ∉ held 75 23) := by decide +kernel
theorem lev17 : ∀ (c : Dev nD) (i' : Fin 30), 75 ≤ spos c i' → rlev 17 < rlev i' := by decide +kernel
theorem add17 : ∀ p : Fin 16 × Fin 8, (p ∈ held 75 (24 + 1) ↔ p ∈ held 75 24 ∨ p.1 = dslot 17) ∧ (p.1 = dslot 17 → p ∉ held 75 24) := by decide +kernel
theorem lev25 : ∀ (c : Dev nD) (i' : Fin 30), 75 ≤ spos c i' → rlev 25 < rlev i' := by decide +kernel
theorem add25 : ∀ p : Fin 16 × Fin 8, (p ∈ held 75 (25 + 1) ↔ p ∈ held 75 25 ∨ p.1 = dslot 25) ∧ (p.1 = dslot 25 → p ∉ held 75 25) := by decide +kernel
theorem lev19 : ∀ (c : Dev nD) (i' : Fin 30), 75 ≤ spos c i' → rlev 19 < rlev i' := by decide +kernel
theorem add19 : ∀ p : Fin 16 × Fin 8, (p ∈ held 75 (26 + 1) ↔ p ∈ held 75 26 ∨ p.1 = dslot 19) ∧ (p.1 = dslot 19 → p ∉ held 75 26) := by decide +kernel
theorem lev27 : ∀ (c : Dev nD) (i' : Fin 30), 75 ≤ spos c i' → rlev 27 < rlev i' := by decide +kernel
theorem add27 : ∀ p : Fin 16 × Fin 8, (p ∈ held 75 (27 + 1) ↔ p ∈ held 75 27 ∨ p.1 = dslot 27) ∧ (p.1 = dslot 27 → p ∉ held 75 27) := by decide +kernel
theorem lev21 : ∀ (c : Dev nD) (i' : Fin 30), 75 ≤ spos c i' → rlev 21 < rlev i' := by decide +kernel
theorem add21 : ∀ p : Fin 16 × Fin 8, (p ∈ held 75 (28 + 1) ↔ p ∈ held 75 28 ∨ p.1 = dslot 21) ∧ (p.1 = dslot 21 → p ∉ held 75 28) := by decide +kernel
theorem lev29 : ∀ (c : Dev nD) (i' : Fin 30), 75 ≤ spos c i' → rlev 29 < rlev i' := by decide +kernel
theorem add29 : ∀ p : Fin 16 × Fin 8, (p ∈ held 75 (29 + 1) ↔ p ∈ held 75 29 ∨ p.1 = dslot 29) ∧ (p.1 = dslot 29 → p ∉ held 75 29) := by decide +kernel

end Cert.KernelIdeal.Talk
-- ==== Proof.Step.lean ====
/- The states of the body between its parts, and how parts follow each other. -/
module

public import Idealize.ShloMosaic.Lib.Pipeline.Value
public import proofs.«01_k».proof.Proof.Facts

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem pay_send (v : Vec F S1x32x1024 .f32) : k0_pay18 v = v := by
  unfold k0_pay18
  exact shapeCast_shapeCast v _ _
theorem pay_take (v : Vec F S1x32x1024 .f32) : k0_pay134 v = v := by
  unfold k0_pay134
  exact shapeCast_shapeCast v _ _

/-- Every device's product rows. -/
abbrev PV (A : Dev nD → In F) : Dev nD → Dev nD → Vec F S1x32x1024 .f32 := fun p r => prow (A p) r

abbrev S1 (A : Dev nD → In F) (c : Dev nD) (T : sProp 𝕄) : sProp 𝕄 :=
  St c (Is (A c).x) (Is (A c).wq) (Is (A c).wo) (Is (A c).kk) (Is (A c).vv) Any Any (AttnOK (A c) 0) (AccOK (A c) 0) T
abbrev SA (A : Dev nD → In F) (c : Dev nD) (n7 n8 : ℕ) (T : sProp 𝕄) : sProp 𝕄 :=
  St c (Is (A c).x) (Is (A c).wq) (Is (A c).wo) (Is (A c).kk) (Is (A c).vv) Any (Is (qv (A c))) (AttnOK (A c) n7) (AccOK (A c) n8) T
abbrev SB (A : Dev nD → In F) (c : Dev nD) (j : ℕ) (T : sProp 𝕄) : sProp 𝕄 :=
  St c (Is (A c).x) (Is (A c).wq) (Is (A c).wo) (Is (A c).kk) (Is (A c).vv) Any (Is (qv (A c))) (AttnOK (A c) 32) (AccT (PV A) c j) T
/-- The result: every row of the sum. -/
def outV (A : Dev nD → In F) : S512x1024.Idx → Elt F .f32 := k0_pay150 (allT (PV A))
abbrev SC (A : Dev nD → In F) (c : Dev nD) (T : sProp 𝕄) : sProp 𝕄 :=
  St c (Is (A c).x) (Is (A c).wq) (Is (A c).wo) (Is (A c).kk) (Is (A c).vv) (Is (outV A)) (Is (qv (A c))) (AttnOK (A c) 32) (AccT (PV A) c 16) T

theorem rp0 : rpos 0 = 0 := by decide +kernel
theorem rp1 : rpos 1 = 1 := by decide +kernel
theorem rp2 : rpos 2 = 2 := by decide +kernel
theorem rp3 : rpos 3 = 3 := by decide +kernel
theorem rp4 : rpos 4 = 4 := by decide +kernel
theorem rp5 : rpos 5 = 5 := by decide +kernel
theorem rp6 : rpos 6 = 6 := by decide +kernel
theorem rp7 : rpos 7 = 7 := by decide +kernel
theorem rp8 : rpos 8 = 8 := by decide +kernel
theorem rp9 : rpos 9 = 9 := by decide +kernel
theorem rp10 : rpos 10 = 10 := by decide +kernel
theorem rp11 : rpos 11 = 11 := by decide +kernel
theorem rp12 : rpos 12 = 12 := by decide +kernel
theorem rp13 : rpos 13 = 13 := by decide +kernel
theorem rp14 : rpos 14 = 14 := by decide +kernel
theorem rp15 : rpos 15 = 22 := by decide +kernel
theorem rp16 : rpos 16 = 16 := by decide +kernel
theorem rp17 : rpos 17 = 24 := by decide +kernel
theorem rp18 : rpos 18 = 18 := by decide +kernel
theorem rp19 : rpos 19 = 26 := by decide +kernel
theorem rp20 : rpos 20 = 20 := by decide +kernel
theorem rp21 : rpos 21 = 28 := by decide +kernel
theorem rp22 : rpos 22 = 15 := by decide +kernel
theorem rp23 : rpos 23 = 23 := by decide +kernel
theorem rp24 : rpos 24 = 17 := by decide +kernel
theorem rp25 : rpos 25 = 25 := by decide +kernel
theorem rp26 : rpos 26 = 19 := by decide +kernel
theorem rp27 : rpos 27 = 27 := by decide +kernel
theorem rp28 : rpos 28 = 21 := by decide +kernel
theorem rp29 : rpos 29 = 29 := by decide +kernel

theorem crd9 (k inb) : (rowM M9 k inb).view.dmaCredit = N := rfl
theorem crd10 (k inb) : (rowM M10 k inb).view.dmaCredit = N := rfl
theorem crd11 (k inb) : (rowM M11 k inb).view.dmaCredit = N := rfl

section Steps
variable {α β : Type} {c : Dev nD}
theorem retQ {S : sProp 𝕄} {Q : α → sProp 𝕄} {v : α} (h : S ⊢ Q v) : S ⊢ WP c (pure v) Q := by
  unfold WP
  rw [Prog.pure_eq_ret, wp_ret]
  refine h.trans ?_
  iintro H; imodintro; iexact H
theorem bindQ {S : sProp 𝕄} {Q : β → sProp 𝕄} {p : Prog (TpuEff nD τ sig (Elt F) Λ₀ .tc) α} {k : α → Prog (TpuEff nD τ sig (Elt F) Λ₀ .tc) β}
    (h : S ⊢ WP c p fun r => WP c (k r) Q) : S ⊢ WP c (p >>= k) Q := by
  unfold WP at *
  rw [wp_bind]
  exact h
theorem ldev {S : sProp 𝕄} {Q : α → sProp 𝕄} {k : Dev nD → Prog (TpuEff nD τ sig (Elt F) Λ₀ .tc) α} (h : S ⊢ WP c (k c) Q) : S ⊢ WP c (Prog.lift .deviceId >>= k) Q := by
  rw [Prog.bind_lift]
  unfold WP at *
  rw [wp_deviceId]
  exact h
theorem iteQ {P q : Prop} [Decidable P] (hc : P ↔ q) {S : sProp 𝕄} {Q : α → sProp 𝕄} {t : P → Prog (TpuEff nD τ sig (Elt F) Λ₀ .tc) α} {e : ¬P → Prog (TpuEff nD τ sig (Elt F) Λ₀ .tc) α}
    (h1 : ∀ h : P, q → S ⊢ WP c (t h) Q) (h2 : ∀ h : ¬P, ¬q → S ⊢ WP c (e h) Q) : S ⊢ WP c (dite P t e) Q := by
  by_cases h : P
  · rw [dif_pos h]; exact h1 h (hc.mp h)
  · rw [dif_neg h]; exact h2 h fun hq => h (hc.mpr hq)
end Steps

end Cert.KernelIdeal.Talk
-- ==== Proof.Run1.lean ====
/- The body, parts 1 to 18. -/
module

public import proofs.«01_k».proof.Proof.Step

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

set_option maxRecDepth 65536

variable (A : Dev nD → In F) (K : GSem nD τ sig → ℕ) (c : Dev nD)

theorem run1  {Q : (Σ' (d0 : Dev nD) (v2 : BitVec 32) (v3 : Sems sig S_) (v24 : BitVec 32), BitVec 32) → sProp 𝕄}
    (hh : ∀ (b1 : BitVec 32) (b3 : BitVec 32) (b4 : BitVec 32), S1 A c (T0 (PV A) K c 5) ⊢ Q ⟨c, b1, (SemArray.scalar (sig.barrier 0 rfl)), b3, b4⟩) :
    S1 A c (T0 (PV A) K c 0) ⊢ WP c (k0_part1 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part1_eq_skeleton]; unfold k0_part1_skel; dsimp only
  refine ldev ?_
  refine stepT (sig_bar (PV A) K c 0 (Fin.ext (dev1 c)) rfl) ?_
  refine stepT (sig_bar (PV A) K c 1 (Fin.ext (dev2 c)) rfl) ?_
  refine stepT (sig_bar (PV A) K c 2 (Fin.ext (dev3 c)) rfl) ?_
  refine stepT (sig_bar (PV A) K c 3 (Fin.ext (dev4 c)) rfl) ?_
  refine stepT (sig_bar (PV A) K c 4 (Fin.ext (dev5 c)) rfl) ?_
  exact retQ (hh _ _ _)

theorem run2 (v2 : BitVec 32) (v24 : BitVec 32) (c16_i32_20 : BitVec 32) {Q : (Σ' (v48 : BitVec 32), BitVec 32) → sProp 𝕄}
    (hh : ∀ (b0 : BitVec 32) (b1 : BitVec 32), S1 A c (T0 (PV A) K c 11) ⊢ Q ⟨b0, b1⟩) :
    S1 A c (T0 (PV A) K c 5) ⊢ WP c (k0_part2 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 (SemArray.scalar (sig.barrier 0 rfl)) v24 c16_i32_20) Q := by
  rw [k0_part2_eq_skeleton]; unfold k0_part2_skel; dsimp only
  refine stepT (sig_bar (PV A) K c 5 (Fin.ext (dev6 c)) rfl) ?_
  refine stepT (sig_bar (PV A) K c 6 (Fin.ext (dev7 c)) rfl) ?_
  refine stepT (sig_bar (PV A) K c 7 (Fin.ext (dev8 c)) rfl) ?_
  refine stepT (sig_bar (PV A) K c 8 (Fin.ext (dev9 c)) rfl) ?_
  refine stepT (sig_bar (PV A) K c 9 (Fin.ext (dev10 c)) rfl) ?_
  refine stepT (sig_bar (PV A) K c 10 (Fin.ext (dev11 c)) rfl) ?_
  exact retQ (hh _ _)

theorem run3 (v2 : BitVec 32) (v48 : BitVec 32) (c16_i32_44 : BitVec 32) {Q : (BitVec 32) → sProp 𝕄}
    (hh : ∀ (b0 : BitVec 32), SA A c 0 0 (T1 (PV A) K c 0 0 (slot0 (F := F) c)) ⊢ Q b0) :
    S1 A c (T0 (PV A) K c 11) ⊢ WP c (k0_part3 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 (SemArray.scalar (sig.barrier 0 rfl)) v48 c16_i32_44) Q := by
  rw [k0_part3_eq_skeleton]; unfold k0_part3_skel; dsimp only
  refine stepT (sig_bar (PV A) K c 11 (Fin.ext (dev12 c)) rfl) ?_
  refine stepT (sig_bar (PV A) K c 12 (Fin.ext (dev13 c)) rfl) ?_
  refine stepT (sig_bar (PV A) K c 13 (Fin.ext (dev14 c)) rfl) ?_
  refine stepT (sig_bar (PV A) K c 14 (Fin.ext (dev15 c)) rfl) ?_
  refine stepT (wait_bar (PV A) K c rfl) ?_
  refine ldx (a := A c) ?_
  refine ldwq (a := A c) ?_
  refine any6 fun _ => ?_
  refine stq (a := A c) rfl ?_
  exact retQ (hh _)

theorem run4 (v2 : BitVec 32) {Q : (Σ' (v75 : BitVec 32) (v77 : BitVec 32) (v79 : BitVec 32) (v81 : BitVec 32) (v83 : BitVec 32) (v85 : BitVec 32) (v87 : BitVec 32) (v89 : BitVec 32) (v91 : BitVec 32) (v93 : BitVec 32) (v95 : BitVec 32) (v97 : BitVec 32) (v99 : BitVec 32) (v101 : BitVec 32), Vec F S128x128 .f32) → sProp 𝕄}
    (hh : ∀ (b0 : BitVec 32) (b1 : BitVec 32) (b2 : BitVec 32) (b3 : BitVec 32) (b4 : BitVec 32) (b5 : BitVec 32) (b6 : BitVec 32) (b7 : BitVec 32) (b8 : BitVec 32) (b9 : BitVec 32) (b10 : BitVec 32) (b11 : BitVec 32) (b12 : BitVec 32) (b13 : BitVec 32), SA A c 0 0 (T1 (PV A) K c 0 0 (slot0 (F := F) c)) ⊢ Q ⟨b0, b1, b2, b3, b4, b5, b6, b7, b8, b9, b10, b11, b12, b13, (qt (A c) 0 0)⟩) :
    SA A c 0 0 (T1 (PV A) K c 0 0 (slot0 (F := F) c)) ⊢ WP c (k0_part4 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v2) Q := by
  rw [k0_part4_eq_skeleton]; unfold k0_part4_skel; dsimp only
  refine ldq (a := A c) 0 0 rfl rfl ?_
  exact retQ (hh _ _ _ _ _ _ _ _ _ _ _ _ _ _)

theorem run5  {Q : (Σ' (v133 : FVec F S128x2048 .f32) (v135 : FVec F S128x1 .f32), FVec F S2048x128 .f32) → sProp 𝕄}
    (hh : SA A c 1 0 (T1 (PV A) K c 0 0 (slot0 (F := F) c)) ⊢ Q ⟨(k0_pay3 (qt (A c) 0 1) (kt (A c) 1)), (k0_pay4 (qt (A c) 0 1) (kt (A c) 1)), (k0_pay5 (vt (A c) 1))⟩) :
    SA A c 0 0 (T1 (PV A) K c 0 0 (slot0 (F := F) c)) ⊢ WP c (k0_part5 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (qt (A c) 0 0)) Q := by
  rw [k0_part5_eq_skeleton]; unfold k0_part5_skel; dsimp only
  refine ldk (a := A c) 0 rfl ?_
  refine ldv (a := A c) 0 rfl ?_
  refine any7 fun _ => ?_
  refine stattn (a := A c) 0 0 rfl rfl rfl rfl ?_
  refine ldq (a := A c) 0 1 rfl rfl ?_
  refine ldk (a := A c) 1 rfl ?_
  refine ldv (a := A c) 1 rfl ?_
  exact retQ (hh)

theorem run6  {Q : (FVec F S128x2048 .f32) → sProp 𝕄}
    (hh : SA A c 3 0 (T1 (PV A) K c 0 0 (slot0 (F := F) c)) ⊢ Q (k0_pay8 (qt (A c) 0 3) (kt (A c) 3))) :
    SA A c 1 0 (T1 (PV A) K c 0 0 (slot0 (F := F) c)) ⊢ WP c (k0_part6 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay3 (qt (A c) 0 1) (kt (A c) 1)) (k0_pay4 (qt (A c) 0 1) (kt (A c) 1)) (k0_pay5 (vt (A c) 1))) Q := by
  rw [k0_part6_eq_skeleton]; unfold k0_part6_skel; dsimp only
  refine any7 fun _ => ?_
  refine stattn (a := A c) 0 1 rfl rfl rfl rfl ?_
  refine ldq (a := A c) 0 2 rfl rfl ?_
  refine ldk (a := A c) 2 rfl ?_
  refine ldv (a := A c) 2 rfl ?_
  refine any7 fun _ => ?_
  refine stattn (a := A c) 0 2 rfl rfl rfl rfl ?_
  refine ldq (a := A c) 0 3 rfl rfl ?_
  refine ldk (a := A c) 3 rfl ?_
  exact retQ (hh)

theorem run7  {Q : (FVec F S128x128 .f32) → sProp 𝕄}
    (hh : SA A c 4 0 (T1 (PV A) K c 0 0 (slot0 (F := F) c)) ⊢ Q (k0_pay10 (qt (A c) 0 4) (kt (A c) 4) (vt (A c) 4))) :
    SA A c 3 0 (T1 (PV A) K c 0 0 (slot0 (F := F) c)) ⊢ WP c (k0_part7 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay8 (qt (A c) 0 3) (kt (A c) 3))) Q := by
  rw [k0_part7_eq_skeleton]; unfold k0_part7_skel; dsimp only
  refine ldv (a := A c) 3 rfl ?_
  refine any7 fun _ => ?_
  refine stattn (a := A c) 0 3 rfl rfl rfl rfl ?_
  refine ldq (a := A c) 0 4 rfl rfl ?_
  refine ldk (a := A c) 4 rfl ?_
  refine ldv (a := A c) 4 rfl ?_
  refine any7 fun _ => ?_
  exact retQ (hh)

theorem run8  {Q : (Σ' (v238 : FVec F S128x2048 .f32), FVec F S128x1 .f32) → sProp 𝕄}
    (hh : SA A c 6 0 (T1 (PV A) K c 0 0 (slot0 (F := F) c)) ⊢ Q ⟨(k0_pay12 (qt (A c) 0 6) (kt (A c) 6)), (k0_pay13 (qt (A c) 0 6) (kt (A c) 6))⟩) :
    SA A c 4 0 (T1 (PV A) K c 0 0 (slot0 (F := F) c)) ⊢ WP c (k0_part8 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay10 (qt (A c) 0 4) (kt (A c) 4) (vt (A c) 4))) Q := by
  rw [k0_part8_eq_skeleton]; unfold k0_part8_skel; dsimp only
  refine stattn (a := A c) 0 4 rfl rfl rfl rfl ?_
  refine ldq (a := A c) 0 5 rfl rfl ?_
  refine ldk (a := A c) 5 rfl ?_
  refine ldv (a := A c) 5 rfl ?_
  refine any7 fun _ => ?_
  refine stattn (a := A c) 0 5 rfl rfl rfl rfl ?_
  refine ldq (a := A c) 0 6 rfl rfl ?_
  refine ldk (a := A c) 6 rfl ?_
  exact retQ (hh)

theorem run9  {Q : (Σ' (v270 : Vec F S128x1024 .f32) (v272 : FVec F S1024x1024 .f32), FVec F S128x1024 .f32) → sProp 𝕄}
    (hh : SA A c 8 0 (T1 (PV A) K c 0 0 (slot0 (F := F) c)) ⊢ Q ⟨(at4 (A c) 0), (k0_pay16 (A c).wo), (constant S128x1024 .f32 0x00000000#32)⟩) :
    SA A c 6 0 (T1 (PV A) K c 0 0 (slot0 (F := F) c)) ⊢ WP c (k0_part9 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay12 (qt (A c) 0 6) (kt (A c) 6)) (k0_pay13 (qt (A c) 0 6) (kt (A c) 6))) Q := by
  rw [k0_part9_eq_skeleton]; unfold k0_part9_skel; dsimp only
  refine ldv (a := A c) 6 rfl ?_
  refine any7 fun _ => ?_
  refine stattn (a := A c) 0 6 rfl rfl rfl rfl ?_
  refine ldq (a := A c) 0 7 rfl rfl ?_
  refine ldk (a := A c) 7 rfl ?_
  refine ldv (a := A c) 7 rfl ?_
  refine any7 fun _ => ?_
  refine stattn (a := A c) 0 7 rfl rfl rfl rfl ?_
  refine ldrows (a := A c) 0 _ (by decide) rfl ?_
  refine ldwo (a := A c) ?_
  exact retQ (hh)

theorem run10 (v2 : BitVec 32) (v73 : BitVec 32) {Q : (Σ' (v301 : BitVec 32) (c4_i32_227 : BitVec 32) (v302 : BitVec 32), BitVec 32) → sProp 𝕄}
    (hh : ∀ (b0 : BitVec 32) (b1 : BitVec 32) (b2 : BitVec 32) (b3 : BitVec 32), SA A c 8 4 (T1 (PV A) K c 1 0 (slot0 (F := F) c)) ⊢ Q ⟨b0, b1, b2, b3⟩) :
    SA A c 8 0 (T1 (PV A) K c 0 0 (slot0 (F := F) c)) ⊢ WP c (k0_part10 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v73 (at4 (A c) 0) (k0_pay16 (A c).wo) (constant S128x1024 .f32 0x00000000#32)) Q := by
  rw [k0_part10_eq_skeleton]; unfold k0_part10_skel; dsimp only
  refine any8 fun _ => ?_
  refine stacc (a := A c) 0 rfl rfl rfl ?_
  refine iteQ (cnd1 c) (fun h1 hs => ?_) (fun h1 hs => ?_)
  · refine ldrow (a := A c) (tgt c 0) _ (tgt_lt c 0 0 (by decide) hs) (off1 c) ?_
    refine stepT (scatter (PV A) K c 0 (by decide) hs _ rfl (pay_send _) (Fin.ext (dev16 c)) (sem_snd 0 _) (sem_rcv 0 _)) ?_
    exact retQ (hh _ _ _ _)
  · refine stT (Entails.of_eq (T1_skip (PV A) K c 0 0 _ (skip_all c 0 0 (by decide) hs))) ?_
    exact retQ (hh _ _ _ _)

theorem run11 (v2 : BitVec 32) (v75 : BitVec 32) (v301 : BitVec 32) (c4_i32_227 : BitVec 32) (v302 : BitVec 32) (v307 : BitVec 32) {Q : (Σ' (v323 : BitVec 32), BitVec 32) → sProp 𝕄}
    (hh : ∀ (b0 : BitVec 32) (b1 : BitVec 32), SA A c 8 4 (T1 (PV A) K c 2 0 (slot0 (F := F) c)) ⊢ Q ⟨b0, b1⟩) :
    SA A c 8 4 (T1 (PV A) K c 1 0 (slot0 (F := F) c)) ⊢ WP c (k0_part11 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v75 v301 c4_i32_227 v302 v307) Q := by
  rw [k0_part11_eq_skeleton]; unfold k0_part11_skel; dsimp only
  refine iteQ (cnd2 c) (fun h2 hs => ?_) (fun h2 hs => ?_)
  · refine ldrow (a := A c) (tgt c 1) _ (tgt_lt c 1 0 (by decide) hs) (off2 c) ?_
    refine stepT (scatter (PV A) K c 1 (by decide) hs _ rfl (pay_send _) (Fin.ext (dev17 c)) (sem_snd 1 _) (sem_rcv 1 _)) ?_
    exact retQ (hh _ _)
  · refine stT (Entails.of_eq (T1_skip (PV A) K c 1 0 _ (skip_all c 1 0 (by decide) hs))) ?_
    exact retQ (hh _ _)

theorem run12 (v2 : BitVec 32) (v77 : BitVec 32) (v79 : BitVec 32) (v323 : BitVec 32) (v342 : BitVec 32) {Q : (Σ' (v367 : BitVec 32) (c4_i32_272 : BitVec 32) (v368 : BitVec 32) (v373 : BitVec 32) (v375 : BitVec 32), BitVec 32) → sProp 𝕄}
    (hh : ∀ (b0 : BitVec 32) (b1 : BitVec 32) (b2 : BitVec 32) (b3 : BitVec 32) (b4 : BitVec 32) (b5 : BitVec 32), SA A c 8 4 (T1 (PV A) K c 4 0 (slot0 (F := F) c)) ⊢ Q ⟨b0, b1, b2, b3, b4, b5⟩) :
    SA A c 8 4 (T1 (PV A) K c 2 0 (slot0 (F := F) c)) ⊢ WP c (k0_part12 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v77 v79 v323 v342) Q := by
  rw [k0_part12_eq_skeleton]; unfold k0_part12_skel; dsimp only
  refine iteQ (cnd3 c) (fun h3 hs => ?_) (fun h3 hs => ?_)
  · refine ldrow (a := A c) (tgt c 2) _ (tgt_lt c 2 0 (by decide) hs) (off3 c) ?_
    refine stepT (scatter (PV A) K c 2 (by decide) hs _ rfl (pay_send _) (Fin.ext (dev18 c)) (sem_snd 2 _) (sem_rcv 2 _)) ?_
    refine iteQ (cnd4 c) (fun h4 hs => ?_) (fun h4 hs => ?_)
    · refine ldrow (a := A c) (tgt c 3) _ (tgt_lt c 3 0 (by decide) hs) (off4 c) ?_
      refine stepT (scatter (PV A) K c 3 (by decide) hs _ rfl (pay_send _) (Fin.ext (dev19 c)) (sem_snd 3 _) (sem_rcv 3 _)) ?_
      exact retQ (hh _ _ _ _ _ _)
    · refine stT (Entails.of_eq (T1_skip (PV A) K c 3 0 _ (skip_all c 3 0 (by decide) hs))) ?_
      exact retQ (hh _ _ _ _ _ _)
  · refine stT (Entails.of_eq (T1_skip (PV A) K c 2 0 _ (skip_all c 2 0 (by decide) hs))) ?_
    refine iteQ (cnd4 c) (fun h4 hs => ?_) (fun h4 hs => ?_)
    · refine ldrow (a := A c) (tgt c 3) _ (tgt_lt c 3 0 (by decide) hs) (off4 c) ?_
      refine stepT (scatter (PV A) K c 3 (by decide) hs _ rfl (pay_send _) (Fin.ext (dev19 c)) (sem_snd 3 _) (sem_rcv 3 _)) ?_
      exact retQ (hh _ _ _ _ _ _)
    · refine stT (Entails.of_eq (T1_skip (PV A) K c 3 0 _ (skip_all c 3 0 (by decide) hs))) ?_
      exact retQ (hh _ _ _ _ _ _)

theorem run13 (v2 : BitVec 32) (v81 : BitVec 32) (v83 : BitVec 32) (v367 : BitVec 32) (c4_i32_272 : BitVec 32) (v368 : BitVec 32) (v373 : BitVec 32) (v375 : BitVec 32) (v377 : BitVec 32) {Q : (Σ' (v410 : BitVec 32), BitVec 32) → sProp 𝕄}
    (hh : ∀ (b0 : BitVec 32) (b1 : BitVec 32), SA A c 8 4 (T1 (PV A) K c 6 0 (slot0 (F := F) c)) ⊢ Q ⟨b0, b1⟩) :
    SA A c 8 4 (T1 (PV A) K c 4 0 (slot0 (F := F) c)) ⊢ WP c (k0_part13 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v81 v83 v367 c4_i32_272 v368 v373 v375 v377) Q := by
  rw [k0_part13_eq_skeleton]; unfold k0_part13_skel; dsimp only
  refine iteQ (cnd5 c) (fun h5 hs => ?_) (fun h5 hs => ?_)
  · refine ldrow (a := A c) (tgt c 4) _ (tgt_lt c 4 0 (by decide) hs) (off5 c) ?_
    refine stepT (scatter (PV A) K c 4 (by decide) hs _ rfl (pay_send _) (Fin.ext (dev20 c)) (sem_snd 4 _) (sem_rcv 4 _)) ?_
    refine iteQ (cnd6 c) (fun h6 hs => ?_) (fun h6 hs => ?_)
    · refine ldrow (a := A c) (tgt c 5) _ (tgt_lt c 5 0 (by decide) hs) (off6 c) ?_
      refine stepT (scatter (PV A) K c 5 (by decide) hs _ rfl (pay_send _) (Fin.ext (dev21 c)) (sem_snd 5 _) (sem_rcv 5 _)) ?_
      exact retQ (hh _ _)
    · refine stT (Entails.of_eq (T1_skip (PV A) K c 5 0 _ (skip_all c 5 0 (by decide) hs))) ?_
      exact retQ (hh _ _)
  · refine stT (Entails.of_eq (T1_skip (PV A) K c 4 0 _ (skip_all c 4 0 (by decide) hs))) ?_
    refine iteQ (cnd6 c) (fun h6 hs => ?_) (fun h6 hs => ?_)
    · refine ldrow (a := A c) (tgt c 5) _ (tgt_lt c 5 0 (by decide) hs) (off6 c) ?_
      refine stepT (scatter (PV A) K c 5 (by decide) hs _ rfl (pay_send _) (Fin.ext (dev21 c)) (sem_snd 5 _) (sem_rcv 5 _)) ?_
      exact retQ (hh _ _)
    · refine stT (Entails.of_eq (T1_skip (PV A) K c 5 0 _ (skip_all c 5 0 (by decide) hs))) ?_
      exact retQ (hh _ _)

theorem run14 (v2 : BitVec 32) (v85 : BitVec 32) (v410 : BitVec 32) (c16_i32_301 : BitVec 32) {Q : (Σ' (v433 : BitVec 32) (v434 : BitVec 32), BitVec 1) → sProp 𝕄}
    (hh : ∀ (b0 : BitVec 32) (b1 : BitVec 32) (b2 : BitVec 1), SA A c 8 4 (T1 (PV A) K c 7 0 (slot0 (F := F) c)) ⊢ Q ⟨b0, b1, b2⟩) :
    SA A c 8 4 (T1 (PV A) K c 6 0 (slot0 (F := F) c)) ⊢ WP c (k0_part14 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v85 v410 c16_i32_301) Q := by
  rw [k0_part14_eq_skeleton]; unfold k0_part14_skel; dsimp only
  refine iteQ (cnd7 c) (fun h7 hs => ?_) (fun h7 hs => ?_)
  · refine ldrow (a := A c) (tgt c 6) _ (tgt_lt c 6 0 (by decide) hs) (off7 c) ?_
    refine stepT (scatter (PV A) K c 6 (by decide) hs _ rfl (pay_send _) (Fin.ext (dev22 c)) (sem_snd 6 _) (sem_rcv 6 _)) ?_
    exact retQ (hh _ _ _)
  · refine stT (Entails.of_eq (T1_skip (PV A) K c 6 0 _ (skip_all c 6 0 (by decide) hs))) ?_
    exact retQ (hh _ _ _)

theorem run15 (v2 : BitVec 32) (v87 : BitVec 32) (v89 : BitVec 32) (v433 : BitVec 32) (v434 : BitVec 32) (v448 : BitVec 1) {Q : (Σ' (v477 : BitVec 32) (c4_i32_347 : BitVec 32) (v478 : BitVec 32), BitVec 32) → sProp 𝕄}
    (hh : ∀ (b0 : BitVec 32) (b1 : BitVec 32) (b2 : BitVec 32) (b3 : BitVec 32), SA A c 8 4 (T1 (PV A) K c 9 0 (slot0 (F := F) c)) ⊢ Q ⟨b0, b1, b2, b3⟩) :
    SA A c 8 4 (T1 (PV A) K c 7 0 (slot0 (F := F) c)) ⊢ WP c (k0_part15 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v87 v89 v433 v434 v448) Q := by
  rw [k0_part15_eq_skeleton]; unfold k0_part15_skel; dsimp only
  refine iteQ (cnd8 c) (fun h8 hs => ?_) (fun h8 hs => ?_)
  · refine ldrow (a := A c) (tgt c 7) _ (tgt_lt c 7 0 (by decide) hs) (off8 c) ?_
    refine stepT (scatter (PV A) K c 7 (by decide) hs _ rfl (pay_send _) (Fin.ext (dev23 c)) (sem_snd 7 _) (sem_rcv 7 _)) ?_
    refine iteQ (cnd9 c) (fun h9 hs => ?_) (fun h9 hs => ?_)
    · refine ldrow (a := A c) (tgt c 8) _ (tgt_lt c 8 0 (by decide) hs) (off9 c) ?_
      refine stepT (scatter (PV A) K c 8 (by decide) hs _ rfl (pay_send _) (Fin.ext (dev24 c)) (sem_snd 8 _) (sem_rcv 8 _)) ?_
      exact retQ (hh _ _ _ _)
    · refine stT (Entails.of_eq (T1_skip (PV A) K c 8 0 _ (skip_all c 8 0 (by decide) hs))) ?_
      exact retQ (hh _ _ _ _)
  · refine stT (Entails.of_eq (T1_skip (PV A) K c 7 0 _ (skip_all c 7 0 (by decide) hs))) ?_
    refine iteQ (cnd9 c) (fun h9 hs => ?_) (fun h9 hs => ?_)
    · refine ldrow (a := A c) (tgt c 8) _ (tgt_lt c 8 0 (by decide) hs) (off9 c) ?_
      refine stepT (scatter (PV A) K c 8 (by decide) hs _ rfl (pay_send _) (Fin.ext (dev24 c)) (sem_snd 8 _) (sem_rcv 8 _)) ?_
      exact retQ (hh _ _ _ _)
    · refine stT (Entails.of_eq (T1_skip (PV A) K c 8 0 _ (skip_all c 8 0 (by decide) hs))) ?_
      exact retQ (hh _ _ _ _)

theorem run16 (v2 : BitVec 32) (v91 : BitVec 32) (v477 : BitVec 32) (c4_i32_347 : BitVec 32) (v478 : BitVec 32) (v480 : BitVec 32) {Q : (Σ' (v499 : BitVec 32), BitVec 32) → sProp 𝕄}
    (hh : ∀ (b0 : BitVec 32) (b1 : BitVec 32), SA A c 8 4 (T1 (PV A) K c 10 0 (slot0 (F := F) c)) ⊢ Q ⟨b0, b1⟩) :
    SA A c 8 4 (T1 (PV A) K c 9 0 (slot0 (F := F) c)) ⊢ WP c (k0_part16 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v91 v477 c4_i32_347 v478 v480) Q := by
  rw [k0_part16_eq_skeleton]; unfold k0_part16_skel; dsimp only
  refine iteQ (cnd10 c) (fun h10 hs => ?_) (fun h10 hs => ?_)
  · refine ldrow (a := A c) (tgt c 9) _ (tgt_lt c 9 0 (by decide) hs) (off10 c) ?_
    refine stepT (scatter (PV A) K c 9 (by decide) hs _ rfl (pay_send _) (Fin.ext (dev25 c)) (sem_snd 9 _) (sem_rcv 9 _)) ?_
    exact retQ (hh _ _)
  · refine stT (Entails.of_eq (T1_skip (PV A) K c 9 0 _ (skip_all c 9 0 (by decide) hs))) ?_
    exact retQ (hh _ _)

theorem run17 (v2 : BitVec 32) (v93 : BitVec 32) (v95 : BitVec 32) (v499 : BitVec 32) (v518 : BitVec 32) {Q : (Σ' (v543 : BitVec 32) (c4_i32_392 : BitVec 32) (v544 : BitVec 32) (v549 : BitVec 32), BitVec 1) → sProp 𝕄}
    (hh : ∀ (b0 : BitVec 32) (b1 : BitVec 32) (b2 : BitVec 32) (b3 : BitVec 32) (b4 : BitVec 1), SA A c 8 4 (T1 (PV A) K c 12 0 (slot0 (F := F) c)) ⊢ Q ⟨b0, b1, b2, b3, b4⟩) :
    SA A c 8 4 (T1 (PV A) K c 10 0 (slot0 (F := F) c)) ⊢ WP c (k0_part17 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v93 v95 v499 v518) Q := by
  rw [k0_part17_eq_skeleton]; unfold k0_part17_skel; dsimp only
  refine iteQ (cnd11 c) (fun h11 hs => ?_) (fun h11 hs => ?_)
  · refine ldrow (a := A c) (tgt c 10) _ (tgt_lt c 10 0 (by decide) hs) (off11 c) ?_
    refine stepT (scatter (PV A) K c 10 (by decide) hs _ rfl (pay_send _) (Fin.ext (dev26 c)) (sem_snd 10 _) (sem_rcv 10 _)) ?_
    refine iteQ (cnd12 c) (fun h12 hs => ?_) (fun h12 hs => ?_)
    · refine ldrow (a := A c) (tgt c 11) _ (tgt_lt c 11 0 (by decide) hs) (off12 c) ?_
      refine stepT (scatter (PV A) K c 11 (by decide) hs _ rfl (pay_send _) (Fin.ext (dev27 c)) (sem_snd 11 _) (sem_rcv 11 _)) ?_
      exact retQ (hh _ _ _ _ _)
    · refine stT (Entails.of_eq (T1_skip (PV A) K c 11 0 _ (skip_all c 11 0 (by decide) hs))) ?_
      exact retQ (hh _ _ _ _ _)
  · refine stT (Entails.of_eq (T1_skip (PV A) K c 10 0 _ (skip_all c 10 0 (by decide) hs))) ?_
    refine iteQ (cnd12 c) (fun h12 hs => ?_) (fun h12 hs => ?_)
    · refine ldrow (a := A c) (tgt c 11) _ (tgt_lt c 11 0 (by decide) hs) (off12 c) ?_
      refine stepT (scatter (PV A) K c 11 (by decide) hs _ rfl (pay_send _) (Fin.ext (dev27 c)) (sem_snd 11 _) (sem_rcv 11 _)) ?_
      exact retQ (hh _ _ _ _ _)
    · refine stT (Entails.of_eq (T1_skip (PV A) K c 11 0 _ (skip_all c 11 0 (by decide) hs))) ?_
      exact retQ (hh _ _ _ _ _)

theorem run18 (v2 : BitVec 32) (v97 : BitVec 32) (v543 : BitVec 32) (c4_i32_392 : BitVec 32) (v544 : BitVec 32) (v549 : BitVec 32) (v550 : BitVec 1) {Q : (BitVec 32) → sProp 𝕄}
    (hh : ∀ (b0 : BitVec 32), SA A c 8 4 (T1 (PV A) K c 13 0 (slot0 (F := F) c)) ⊢ Q b0) :
    SA A c 8 4 (T1 (PV A) K c 12 0 (slot0 (F := F) c)) ⊢ WP c (k0_part18 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v97 v543 c4_i32_392 v544 v549 v550) Q := by
  rw [k0_part18_eq_skeleton]; unfold k0_part18_skel; dsimp only
  refine iteQ (cnd13 c) (fun h13 hs => ?_) (fun h13 hs => ?_)
  · refine ldrow (a := A c) (tgt c 12) _ (tgt_lt c 12 0 (by decide) hs) (off13 c) ?_
    refine stepT (scatter (PV A) K c 12 (by decide) hs _ rfl (pay_send _) (Fin.ext (dev28 c)) (sem_snd 12 _) (sem_rcv 12 _)) ?_
    exact retQ (hh _)
  · refine stT (Entails.of_eq (T1_skip (PV A) K c 12 0 _ (skip_all c 12 0 (by decide) hs))) ?_
    exact retQ (hh _)

end Cert.KernelIdeal.Talk
-- ==== Proof.Run2.lean ====
/- The body, parts 19 to 35. -/
module

public import proofs.«01_k».proof.Proof.Step

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

set_option maxRecDepth 65536

variable (A : Dev nD → In F) (K : GSem nD τ sig → ℕ) (c : Dev nD)

theorem run19 (v2 : BitVec 32) (v99 : BitVec 32) (v101 : BitVec 32) (v565 : BitVec 32) {Q : (Σ' (v618 : FVec F S128x2048 .f32), FVec F S128 .f32) → sProp 𝕄}
    (hh : SA A c 8 4 (T1 (PV A) K c 15 0 (slot0 (F := F) c)) ⊢ Q ⟨(k0_pay33 (qt (A c) 1 0) (kt (A c) 0)), (k0_pay34 (qt (A c) 1 0) (kt (A c) 0))⟩) :
    SA A c 8 4 (T1 (PV A) K c 13 0 (slot0 (F := F) c)) ⊢ WP c (k0_part19 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v99 v101 v565) Q := by
  rw [k0_part19_eq_skeleton]; unfold k0_part19_skel; dsimp only
  refine iteQ (cnd14 c) (fun h14 hs => ?_) (fun h14 hs => ?_)
  · refine ldrow (a := A c) (tgt c 13) _ (tgt_lt c 13 0 (by decide) hs) (off14 c) ?_
    refine stepT (scatter (PV A) K c 13 (by decide) hs _ rfl (pay_send _) (Fin.ext (dev29 c)) (sem_snd 13 _) (sem_rcv 13 _)) ?_
    refine iteQ (cnd15 c) (fun h15 hs => ?_) (fun h15 hs => ?_)
    · refine ldrow (a := A c) (tgt c 14) _ (tgt_lt c 14 0 (by decide) hs) (off15 c) ?_
      refine stepT (scatter (PV A) K c 14 (by decide) hs _ rfl (pay_send _) (Fin.ext (dev30 c)) (sem_snd 14 _) (sem_rcv 14 _)) ?_
      refine ldq (a := A c) 1 0 rfl rfl ?_
      refine ldk (a := A c) 0 rfl ?_
      exact retQ (hh)
    · refine stT (Entails.of_eq (T1_skip (PV A) K c 14 0 _ (skip_all c 14 0 (by decide) hs))) ?_
      refine ldq (a := A c) 1 0 rfl rfl ?_
      refine ldk (a := A c) 0 rfl ?_
      exact retQ (hh)
  · refine stT (Entails.of_eq (T1_skip (PV A) K c 13 0 _ (skip_all c 13 0 (by decide) hs))) ?_
    refine iteQ (cnd15 c) (fun h15 hs => ?_) (fun h15 hs => ?_)
    · refine ldrow (a := A c) (tgt c 14) _ (tgt_lt c 14 0 (by decide) hs) (off15 c) ?_
      refine stepT (scatter (PV A) K c 14 (by decide) hs _ rfl (pay_send _) (Fin.ext (dev30 c)) (sem_snd 14 _) (sem_rcv 14 _)) ?_
      refine ldq (a := A c) 1 0 rfl rfl ?_
      refine ldk (a := A c) 0 rfl ?_
      exact retQ (hh)
    · refine stT (Entails.of_eq (T1_skip (PV A) K c 14 0 _ (skip_all c 14 0 (by decide) hs))) ?_
      refine ldq (a := A c) 1 0 rfl rfl ?_
      refine ldk (a := A c) 0 rfl ?_
      exact retQ (hh)

theorem run20  {Q : (Σ' (v650 : Vec F S128x128 .f32), Vec F S1x2048x128 .f32) → sProp 𝕄}
    (hh : SA A c 10 4 (T1 (PV A) K c 15 0 (slot0 (F := F) c)) ⊢ Q ⟨(qt (A c) 1 2), (kt (A c) 2)⟩) :
    SA A c 8 4 (T1 (PV A) K c 15 0 (slot0 (F := F) c)) ⊢ WP c (k0_part20 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay33 (qt (A c) 1 0) (kt (A c) 0)) (k0_pay34 (qt (A c) 1 0) (kt (A c) 0))) Q := by
  rw [k0_part20_eq_skeleton]; unfold k0_part20_skel; dsimp only
  refine ldv (a := A c) 0 rfl ?_
  refine any7 fun _ => ?_
  refine stattn (a := A c) 1 0 rfl rfl rfl rfl ?_
  refine ldq (a := A c) 1 1 rfl rfl ?_
  refine ldk (a := A c) 1 rfl ?_
  refine ldv (a := A c) 1 rfl ?_
  refine any7 fun _ => ?_
  refine stattn (a := A c) 1 1 rfl rfl rfl rfl ?_
  refine ldq (a := A c) 1 2 rfl rfl ?_
  refine ldk (a := A c) 2 rfl ?_
  exact retQ (hh)

theorem run21  {Q : (Σ' (v686 : FVec F S128x128 .f32), FVec F S128x128 .f32) → sProp 𝕄}
    (hh : SA A c 11 4 (T1 (PV A) K c 15 0 (slot0 (F := F) c)) ⊢ Q ⟨(k0_pay39 (qt (A c) 1 3) (kt (A c) 3) (vt (A c) 3)), (k0_pay40 (qt (A c) 1 3) (kt (A c) 3))⟩) :
    SA A c 10 4 (T1 (PV A) K c 15 0 (slot0 (F := F) c)) ⊢ WP c (k0_part21 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (qt (A c) 1 2) (kt (A c) 2)) Q := by
  rw [k0_part21_eq_skeleton]; unfold k0_part21_skel; dsimp only
  refine ldv (a := A c) 2 rfl ?_
  refine any7 fun _ => ?_
  refine stattn (a := A c) 1 2 rfl rfl rfl rfl ?_
  refine ldq (a := A c) 1 3 rfl rfl ?_
  refine ldk (a := A c) 3 rfl ?_
  refine ldv (a := A c) 3 rfl ?_
  exact retQ (hh)

theorem run22  {Q : (Σ' (v718 : FVec F S128x2048 .f32), FVec F S128x1 .f32) → sProp 𝕄}
    (hh : SA A c 13 4 (T1 (PV A) K c 15 0 (slot0 (F := F) c)) ⊢ Q ⟨(k0_pay43 (qt (A c) 1 5) (kt (A c) 5)), (k0_pay44 (qt (A c) 1 5) (kt (A c) 5))⟩) :
    SA A c 11 4 (T1 (PV A) K c 15 0 (slot0 (F := F) c)) ⊢ WP c (k0_part22 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay39 (qt (A c) 1 3) (kt (A c) 3) (vt (A c) 3)) (k0_pay40 (qt (A c) 1 3) (kt (A c) 3))) Q := by
  rw [k0_part22_eq_skeleton]; unfold k0_part22_skel; dsimp only
  refine any7 fun _ => ?_
  refine stattn (a := A c) 1 3 rfl rfl rfl rfl ?_
  refine ldq (a := A c) 1 4 rfl rfl ?_
  refine ldk (a := A c) 4 rfl ?_
  refine ldv (a := A c) 4 rfl ?_
  refine any7 fun _ => ?_
  refine stattn (a := A c) 1 4 rfl rfl rfl rfl ?_
  refine ldq (a := A c) 1 5 rfl rfl ?_
  refine ldk (a := A c) 5 rfl ?_
  exact retQ (hh)

theorem run23  {Q : (PUnit) → sProp 𝕄}
    (hh : SA A c 15 4 (T1 (PV A) K c 15 0 (slot0 (F := F) c)) ⊢ Q ⟨⟩) :
    SA A c 13 4 (T1 (PV A) K c 15 0 (slot0 (F := F) c)) ⊢ WP c (k0_part23 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay43 (qt (A c) 1 5) (kt (A c) 5)) (k0_pay44 (qt (A c) 1 5) (kt (A c) 5))) Q := by
  rw [k0_part23_eq_skeleton]; unfold k0_part23_skel; dsimp only
  refine ldv (a := A c) 5 rfl ?_
  refine any7 fun _ => ?_
  refine stattn (a := A c) 1 5 rfl rfl rfl rfl ?_
  refine ldq (a := A c) 1 6 rfl rfl ?_
  refine ldk (a := A c) 6 rfl ?_
  refine ldv (a := A c) 6 rfl ?_
  refine any7 fun _ => ?_
  refine stattn (a := A c) 1 6 rfl rfl rfl rfl ?_
  exact retQ (hh)

theorem run24 (v2 : BitVec 32) {Q : (Σ' (v785 : BitVec 32) (c4_i32_565 : BitVec 32) (v786 : BitVec 32), BitVec 1) → sProp 𝕄}
    (hh : ∀ (b0 : BitVec 32) (b1 : BitVec 32) (b2 : BitVec 32) (b3 : BitVec 1), SA A c 16 8 (T1 (PV A) K c 15 0 (slot0 (F := F) c)) ⊢ Q ⟨b0, b1, b2, b3⟩) :
    SA A c 15 4 (T1 (PV A) K c 15 0 (slot0 (F := F) c)) ⊢ WP c (k0_part24 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v2) Q := by
  rw [k0_part24_eq_skeleton]; unfold k0_part24_skel; dsimp only
  refine ldq (a := A c) 1 7 rfl rfl ?_
  refine ldk (a := A c) 7 rfl ?_
  refine ldv (a := A c) 7 rfl ?_
  refine any7 fun _ => ?_
  refine stattn (a := A c) 1 7 rfl rfl rfl rfl ?_
  refine ldrows (a := A c) 1 _ (by decide) rfl ?_
  refine ldwo (a := A c) ?_
  refine any8 fun _ => ?_
  refine stacc (a := A c) 1 rfl rfl rfl ?_
  exact retQ (hh _ _ _ _)

theorem run25 (v2 : BitVec 32) (v73 : BitVec 32) (v785 : BitVec 32) (c4_i32_565 : BitVec 32) (v786 : BitVec 32) (v787 : BitVec 1) {Q : (Σ' (v807 : BitVec 32), BitVec 1) → sProp 𝕄}
    (hh : ∀ (b0 : BitVec 32) (b1 : BitVec 1), SA A c 16 8 (T1 (PV A) K c 16 0 (slot0 (F := F) c)) ⊢ Q ⟨b0, b1⟩) :
    SA A c 16 8 (T1 (PV A) K c 15 0 (slot0 (F := F) c)) ⊢ WP c (k0_part25 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v73 v785 c4_i32_565 v786 v787) Q := by
  rw [k0_part25_eq_skeleton]; unfold k0_part25_skel; dsimp only
  refine iteQ (cnd16 c) (fun h16 hs => ?_) (fun h16 hs => ?_)
  · refine ldrow (a := A c) (tgt c 0) _ (tgt_lt c 0 1 (by decide) hs) (off16 c) ?_
    refine stepT (scatter (PV A) K c 0 (by decide) hs _ rfl (pay_send _) (Fin.ext (dev31 c)) (sem_snd 0 _) (sem_rcv 0 _)) ?_
    exact retQ (hh _ _)
  · refine stT (Entails.of_eq (T1_skip (PV A) K c 15 0 _ (skip_all c 0 1 (by decide) hs))) ?_
    exact retQ (hh _ _)

theorem run26 (v2 : BitVec 32) (v75 : BitVec 32) (v77 : BitVec 32) (v807 : BitVec 32) (v825 : BitVec 1) {Q : (Σ' (v851 : BitVec 32) (c4_i32_610 : BitVec 32) (v852 : BitVec 32) (v857 : BitVec 32), BitVec 32) → sProp 𝕄}
    (hh : ∀ (b0 : BitVec 32) (b1 : BitVec 32) (b2 : BitVec 32) (b3 : BitVec 32) (b4 : BitVec 32), SA A c 16 8 (T1 (PV A) K c 18 0 (slot0 (F := F) c)) ⊢ Q ⟨b0, b1, b2, b3, b4⟩) :
    SA A c 16 8 (T1 (PV A) K c 16 0 (slot0 (F := F) c)) ⊢ WP c (k0_part26 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v75 v77 v807 v825) Q := by
  rw [k0_part26_eq_skeleton]; unfold k0_part26_skel; dsimp only
  refine iteQ (cnd17 c) (fun h17 hs => ?_) (fun h17 hs => ?_)
  · refine ldrow (a := A c) (tgt c 1) _ (tgt_lt c 1 1 (by decide) hs) (off17 c) ?_
    refine stepT (scatter (PV A) K c 1 (by decide) hs _ rfl (pay_send _) (Fin.ext (dev32 c)) (sem_snd 1 _) (sem_rcv 1 _)) ?_
    refine iteQ (cnd18 c) (fun h18 hs => ?_) (fun h18 hs => ?_)
    · refine ldrow (a := A c) (tgt c 2) _ (tgt_lt c 2 1 (by decide) hs) (off18 c) ?_
      refine stepT (scatter (PV A) K c 2 (by decide) hs _ rfl (pay_send _) (Fin.ext (dev33 c)) (sem_snd 2 _) (sem_rcv 2 _)) ?_
      exact retQ (hh _ _ _ _ _)
    · refine stT (Entails.of_eq (T1_skip (PV A) K c 17 0 _ (skip_all c 2 1 (by decide) hs))) ?_
      exact retQ (hh _ _ _ _ _)
  · refine stT (Entails.of_eq (T1_skip (PV A) K c 16 0 _ (skip_all c 1 1 (by decide) hs))) ?_
    refine iteQ (cnd18 c) (fun h18 hs => ?_) (fun h18 hs => ?_)
    · refine ldrow (a := A c) (tgt c 2) _ (tgt_lt c 2 1 (by decide) hs) (off18 c) ?_
      refine stepT (scatter (PV A) K c 2 (by decide) hs _ rfl (pay_send _) (Fin.ext (dev33 c)) (sem_snd 2 _) (sem_rcv 2 _)) ?_
      exact retQ (hh _ _ _ _ _)
    · refine stT (Entails.of_eq (T1_skip (PV A) K c 17 0 _ (skip_all c 2 1 (by decide) hs))) ?_
      exact retQ (hh _ _ _ _ _)

theorem run27 (v2 : BitVec 32) (v79 : BitVec 32) (v851 : BitVec 32) (c4_i32_610 : BitVec 32) (v852 : BitVec 32) (v857 : BitVec 32) (c0_i32_613 : BitVec 32) {Q : (Σ' (v873 : BitVec 32) (v892 : BitVec 32), BitVec 32) → sProp 𝕄}
    (hh : ∀ (b0 : BitVec 32) (b1 : BitVec 32) (b2 : BitVec 32), SA A c 16 8 (T1 (PV A) K c 19 0 (slot0 (F := F) c)) ⊢ Q ⟨b0, b1, b2⟩) :
    SA A c 16 8 (T1 (PV A) K c 18 0 (slot0 (F := F) c)) ⊢ WP c (k0_part27 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v79 v851 c4_i32_610 v852 v857 c0_i32_613) Q := by
  rw [k0_part27_eq_skeleton]; unfold k0_part27_skel; dsimp only
  refine iteQ (cnd19 c) (fun h19 hs => ?_) (fun h19 hs => ?_)
  · refine ldrow (a := A c) (tgt c 3) _ (tgt_lt c 3 1 (by decide) hs) (off19 c) ?_
    refine stepT (scatter (PV A) K c 3 (by decide) hs _ rfl (pay_send _) (Fin.ext (dev34 c)) (sem_snd 3 _) (sem_rcv 3 _)) ?_
    exact retQ (hh _ _ _)
  · refine stT (Entails.of_eq (T1_skip (PV A) K c 18 0 _ (skip_all c 3 1 (by decide) hs))) ?_
    exact retQ (hh _ _ _)

theorem run28 (v2 : BitVec 32) (v81 : BitVec 32) (v83 : BitVec 32) (v873 : BitVec 32) (v892 : BitVec 32) (c0_i32_637 : BitVec 32) {Q : (Σ' (v917 : BitVec 32) (c4_i32_655 : BitVec 32) (v918 : BitVec 32) (v923 : BitVec 32), BitVec 32) → sProp 𝕄}
    (hh : ∀ (b0 : BitVec 32) (b1 : BitVec 32) (b2 : BitVec 32) (b3 : BitVec 32) (b4 : BitVec 32), SA A c 16 8 (T1 (PV A) K c 21 0 (slot0 (F := F) c)) ⊢ Q ⟨b0, b1, b2, b3, b4⟩) :
    SA A c 16 8 (T1 (PV A) K c 19 0 (slot0 (F := F) c)) ⊢ WP c (k0_part28 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v81 v83 v873 v892 c0_i32_637) Q := by
  rw [k0_part28_eq_skeleton]; unfold k0_part28_skel; dsimp only
  refine iteQ (cnd20 c) (fun h20 hs => ?_) (fun h20 hs => ?_)
  · refine ldrow (a := A c) (tgt c 4) _ (tgt_lt c 4 1 (by decide) hs) (off20 c) ?_
    refine stepT (scatter (PV A) K c 4 (by decide) hs _ rfl (pay_send _) (Fin.ext (dev35 c)) (sem_snd 4 _) (sem_rcv 4 _)) ?_
    refine iteQ (cnd21 c) (fun h21 hs => ?_) (fun h21 hs => ?_)
    · refine ldrow (a := A c) (tgt c 5) _ (tgt_lt c 5 1 (by decide) hs) (off21 c) ?_
      refine stepT (scatter (PV A) K c 5 (by decide) hs _ rfl (pay_send _) (Fin.ext (dev36 c)) (sem_snd 5 _) (sem_rcv 5 _)) ?_
      exact retQ (hh _ _ _ _ _)
    · refine stT (Entails.of_eq (T1_skip (PV A) K c 20 0 _ (skip_all c 5 1 (by decide) hs))) ?_
      exact retQ (hh _ _ _ _ _)
  · refine stT (Entails.of_eq (T1_skip (PV A) K c 19 0 _ (skip_all c 4 1 (by decide) hs))) ?_
    refine iteQ (cnd21 c) (fun h21 hs => ?_) (fun h21 hs => ?_)
    · refine ldrow (a := A c) (tgt c 5) _ (tgt_lt c 5 1 (by decide) hs) (off21 c) ?_
      refine stepT (scatter (PV A) K c 5 (by decide) hs _ rfl (pay_send _) (Fin.ext (dev36 c)) (sem_snd 5 _) (sem_rcv 5 _)) ?_
      exact retQ (hh _ _ _ _ _)
    · refine stT (Entails.of_eq (T1_skip (PV A) K c 20 0 _ (skip_all c 5 1 (by decide) hs))) ?_
      exact retQ (hh _ _ _ _ _)

theorem run29 (v2 : BitVec 32) (v85 : BitVec 32) (v87 : BitVec 32) (v917 : BitVec 32) (c4_i32_655 : BitVec 32) (v918 : BitVec 32) (v923 : BitVec 32) (v928 : BitVec 32) {Q : (BitVec 32) → sProp 𝕄}
    (hh : ∀ (b0 : BitVec 32), SA A c 16 8 (T1 (PV A) K c 23 0 (slot0 (F := F) c)) ⊢ Q b0) :
    SA A c 16 8 (T1 (PV A) K c 21 0 (slot0 (F := F) c)) ⊢ WP c (k0_part29 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v85 v87 v917 c4_i32_655 v918 v923 v928) Q := by
  rw [k0_part29_eq_skeleton]; unfold k0_part29_skel; dsimp only
  refine iteQ (cnd22 c) (fun h22 hs => ?_) (fun h22 hs => ?_)
  · refine ldrow (a := A c) (tgt c 6) _ (tgt_lt c 6 1 (by decide) hs) (off22 c) ?_
    refine stepT (scatter (PV A) K c 6 (by decide) hs _ rfl (pay_send _) (Fin.ext (dev37 c)) (sem_snd 6 _) (sem_rcv 6 _)) ?_
    refine iteQ (cnd23 c) (fun h23 hs => ?_) (fun h23 hs => ?_)
    · refine ldrow (a := A c) (tgt c 7) _ (tgt_lt c 7 1 (by decide) hs) (off23 c) ?_
      refine stepT (scatter (PV A) K c 7 (by decide) hs _ rfl (pay_send _) (Fin.ext (dev38 c)) (sem_snd 7 _) (sem_rcv 7 _)) ?_
      exact retQ (hh _)
    · refine stT (Entails.of_eq (T1_skip (PV A) K c 22 0 _ (skip_all c 7 1 (by decide) hs))) ?_
      exact retQ (hh _)
  · refine stT (Entails.of_eq (T1_skip (PV A) K c 21 0 _ (skip_all c 6 1 (by decide) hs))) ?_
    refine iteQ (cnd23 c) (fun h23 hs => ?_) (fun h23 hs => ?_)
    · refine ldrow (a := A c) (tgt c 7) _ (tgt_lt c 7 1 (by decide) hs) (off23 c) ?_
      refine stepT (scatter (PV A) K c 7 (by decide) hs _ rfl (pay_send _) (Fin.ext (dev38 c)) (sem_snd 7 _) (sem_rcv 7 _)) ?_
      exact retQ (hh _)
    · refine stT (Entails.of_eq (T1_skip (PV A) K c 22 0 _ (skip_all c 7 1 (by decide) hs))) ?_
      exact retQ (hh _)

theorem run30 (v2 : BitVec 32) (v89 : BitVec 32) (v961 : BitVec 32) {Q : (Σ' (v983 : BitVec 32) (v984 : BitVec 32) (v998 : BitVec 1), BitVec 32) → sProp 𝕄}
    (hh : ∀ (b0 : BitVec 32) (b1 : BitVec 32) (b2 : BitVec 1) (b3 : BitVec 32), SA A c 16 8 (T1 (PV A) K c 24 0 (slot0 (F := F) c)) ⊢ Q ⟨b0, b1, b2, b3⟩) :
    SA A c 16 8 (T1 (PV A) K c 23 0 (slot0 (F := F) c)) ⊢ WP c (k0_part30 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v89 v961) Q := by
  rw [k0_part30_eq_skeleton]; unfold k0_part30_skel; dsimp only
  refine iteQ (cnd24 c) (fun h24 hs => ?_) (fun h24 hs => ?_)
  · refine ldrow (a := A c) (tgt c 8) _ (tgt_lt c 8 1 (by decide) hs) (off24 c) ?_
    refine stepT (scatter (PV A) K c 8 (by decide) hs _ rfl (pay_send _) (Fin.ext (dev39 c)) (sem_snd 8 _) (sem_rcv 8 _)) ?_
    exact retQ (hh _ _ _ _)
  · refine stT (Entails.of_eq (T1_skip (PV A) K c 23 0 _ (skip_all c 8 1 (by decide) hs))) ?_
    exact retQ (hh _ _ _ _)

theorem run31 (v2 : BitVec 32) (v91 : BitVec 32) (v93 : BitVec 32) (v983 : BitVec 32) (v984 : BitVec 32) (v998 : BitVec 1) (c1_i32_706 : BitVec 32) {Q : (Σ' (v1027 : BitVec 32) (c4_i32_730 : BitVec 32) (v1028 : BitVec 32) (v1030 : BitVec 32), BitVec 32) → sProp 𝕄}
    (hh : ∀ (b0 : BitVec 32) (b1 : BitVec 32) (b2 : BitVec 32) (b3 : BitVec 32) (b4 : BitVec 32), SA A c 16 8 (T1 (PV A) K c 26 0 (slot0 (F := F) c)) ⊢ Q ⟨b0, b1, b2, b3, b4⟩) :
    SA A c 16 8 (T1 (PV A) K c 24 0 (slot0 (F := F) c)) ⊢ WP c (k0_part31 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v91 v93 v983 v984 v998 c1_i32_706) Q := by
  rw [k0_part31_eq_skeleton]; unfold k0_part31_skel; dsimp only
  refine iteQ (cnd25 c) (fun h25 hs => ?_) (fun h25 hs => ?_)
  · refine ldrow (a := A c) (tgt c 9) _ (tgt_lt c 9 1 (by decide) hs) (off25 c) ?_
    refine stepT (scatter (PV A) K c 9 (by decide) hs _ rfl (pay_send _) (Fin.ext (dev40 c)) (sem_snd 9 _) (sem_rcv 9 _)) ?_
    refine iteQ (cnd26 c) (fun h26 hs => ?_) (fun h26 hs => ?_)
    · refine ldrow (a := A c) (tgt c 10) _ (tgt_lt c 10 1 (by decide) hs) (off26 c) ?_
      refine stepT (scatter (PV A) K c 10 (by decide) hs _ rfl (pay_send _) (Fin.ext (dev41 c)) (sem_snd 10 _) (sem_rcv 10 _)) ?_
      exact retQ (hh _ _ _ _ _)
    · refine stT (Entails.of_eq (T1_skip (PV A) K c 25 0 _ (skip_all c 10 1 (by decide) hs))) ?_
      exact retQ (hh _ _ _ _ _)
  · refine stT (Entails.of_eq (T1_skip (PV A) K c 24 0 _ (skip_all c 9 1 (by decide) hs))) ?_
    refine iteQ (cnd26 c) (fun h26 hs => ?_) (fun h26 hs => ?_)
    · refine ldrow (a := A c) (tgt c 10) _ (tgt_lt c 10 1 (by decide) hs) (off26 c) ?_
      refine stepT (scatter (PV A) K c 10 (by decide) hs _ rfl (pay_send _) (Fin.ext (dev41 c)) (sem_snd 10 _) (sem_rcv 10 _)) ?_
      exact retQ (hh _ _ _ _ _)
    · refine stT (Entails.of_eq (T1_skip (PV A) K c 25 0 _ (skip_all c 10 1 (by decide) hs))) ?_
      exact retQ (hh _ _ _ _ _)

theorem run32 (v2 : BitVec 32) (v95 : BitVec 32) (v1027 : BitVec 32) (c4_i32_730 : BitVec 32) (v1028 : BitVec 32) (v1030 : BitVec 32) (c0_i32_732 : BitVec 32) {Q : (Σ' (v1049 : BitVec 32), BitVec 32) → sProp 𝕄}
    (hh : ∀ (b0 : BitVec 32) (b1 : BitVec 32), SA A c 16 8 (T1 (PV A) K c 27 0 (slot0 (F := F) c)) ⊢ Q ⟨b0, b1⟩) :
    SA A c 16 8 (T1 (PV A) K c 26 0 (slot0 (F := F) c)) ⊢ WP c (k0_part32 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v95 v1027 c4_i32_730 v1028 v1030 c0_i32_732) Q := by
  rw [k0_part32_eq_skeleton]; unfold k0_part32_skel; dsimp only
  refine iteQ (cnd27 c) (fun h27 hs => ?_) (fun h27 hs => ?_)
  · refine ldrow (a := A c) (tgt c 11) _ (tgt_lt c 11 1 (by decide) hs) (off27 c) ?_
    refine stepT (scatter (PV A) K c 11 (by decide) hs _ rfl (pay_send _) (Fin.ext (dev42 c)) (sem_snd 11 _) (sem_rcv 11 _)) ?_
    exact retQ (hh _ _)
  · refine stT (Entails.of_eq (T1_skip (PV A) K c 26 0 _ (skip_all c 11 1 (by decide) hs))) ?_
    exact retQ (hh _ _)

theorem run33 (v2 : BitVec 32) (v97 : BitVec 32) (v99 : BitVec 32) (v1049 : BitVec 32) (v1068 : BitVec 32) {Q : (Σ' (v1093 : BitVec 32) (c4_i32_775 : BitVec 32) (v1094 : BitVec 32) (v1099 : BitVec 32), BitVec 32) → sProp 𝕄}
    (hh : ∀ (b0 : BitVec 32) (b1 : BitVec 32) (b2 : BitVec 32) (b3 : BitVec 32) (b4 : BitVec 32), SA A c 16 8 (T1 (PV A) K c 29 0 (slot0 (F := F) c)) ⊢ Q ⟨b0, b1, b2, b3, b4⟩) :
    SA A c 16 8 (T1 (PV A) K c 27 0 (slot0 (F := F) c)) ⊢ WP c (k0_part33 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v97 v99 v1049 v1068) Q := by
  rw [k0_part33_eq_skeleton]; unfold k0_part33_skel; dsimp only
  refine iteQ (cnd28 c) (fun h28 hs => ?_) (fun h28 hs => ?_)
  · refine ldrow (a := A c) (tgt c 12) _ (tgt_lt c 12 1 (by decide) hs) (off28 c) ?_
    refine stepT (scatter (PV A) K c 12 (by decide) hs _ rfl (pay_send _) (Fin.ext (dev43 c)) (sem_snd 12 _) (sem_rcv 12 _)) ?_
    refine iteQ (cnd29 c) (fun h29 hs => ?_) (fun h29 hs => ?_)
    · refine ldrow (a := A c) (tgt c 13) _ (tgt_lt c 13 1 (by decide) hs) (off29 c) ?_
      refine stepT (scatter (PV A) K c 13 (by decide) hs _ rfl (pay_send _) (Fin.ext (dev44 c)) (sem_snd 13 _) (sem_rcv 13 _)) ?_
      exact retQ (hh _ _ _ _ _)
    · refine stT (Entails.of_eq (T1_skip (PV A) K c 28 0 _ (skip_all c 13 1 (by decide) hs))) ?_
      exact retQ (hh _ _ _ _ _)
  · refine stT (Entails.of_eq (T1_skip (PV A) K c 27 0 _ (skip_all c 12 1 (by decide) hs))) ?_
    refine iteQ (cnd29 c) (fun h29 hs => ?_) (fun h29 hs => ?_)
    · refine ldrow (a := A c) (tgt c 13) _ (tgt_lt c 13 1 (by decide) hs) (off29 c) ?_
      refine stepT (scatter (PV A) K c 13 (by decide) hs _ rfl (pay_send _) (Fin.ext (dev44 c)) (sem_snd 13 _) (sem_rcv 13 _)) ?_
      exact retQ (hh _ _ _ _ _)
    · refine stT (Entails.of_eq (T1_skip (PV A) K c 28 0 _ (skip_all c 13 1 (by decide) hs))) ?_
      exact retQ (hh _ _ _ _ _)

theorem run34 (v101 : BitVec 32) (v1093 : BitVec 32) (c4_i32_775 : BitVec 32) (v1094 : BitVec 32) (v1099 : BitVec 32) (v1101 : BitVec 32) {Q : (PUnit) → sProp 𝕄}
    (hh : SA A c 17 8 (T1 (PV A) K c 30 0 (slot0 (F := F) c)) ⊢ Q ⟨⟩) :
    SA A c 16 8 (T1 (PV A) K c 29 0 (slot0 (F := F) c)) ⊢ WP c (k0_part34 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v101 v1093 c4_i32_775 v1094 v1099 v1101) Q := by
  rw [k0_part34_eq_skeleton]; unfold k0_part34_skel; dsimp only
  refine iteQ (cnd30 c) (fun h30 hs => ?_) (fun h30 hs => ?_)
  · refine ldrow (a := A c) (tgt c 14) _ (tgt_lt c 14 1 (by decide) hs) (off30 c) ?_
    refine stepT (scatter (PV A) K c 14 (by decide) hs _ rfl (pay_send _) (Fin.ext (dev45 c)) (sem_snd 14 _) (sem_rcv 14 _)) ?_
    refine ldq (a := A c) 2 0 rfl rfl ?_
    refine ldk (a := A c) 0 rfl ?_
    refine ldv (a := A c) 0 rfl ?_
    refine any7 fun _ => ?_
    refine stattn (a := A c) 2 0 rfl rfl rfl rfl ?_
    exact retQ (hh)
  · refine stT (Entails.of_eq (T1_skip (PV A) K c 29 0 _ (skip_all c 14 1 (by decide) hs))) ?_
    refine ldq (a := A c) 2 0 rfl rfl ?_
    refine ldk (a := A c) 0 rfl ?_
    refine ldv (a := A c) 0 rfl ?_
    refine any7 fun _ => ?_
    refine stattn (a := A c) 2 0 rfl rfl rfl rfl ?_
    exact retQ (hh)

theorem run35  {Q : (Σ' (v1166 : FVec F S128x2048 .f32), FVec F S128x1 .f32) → sProp 𝕄}
    (hh : SA A c 18 8 (T1 (PV A) K c 30 0 (slot0 (F := F) c)) ⊢ Q ⟨(k0_pay66 (qt (A c) 2 2) (kt (A c) 2)), (k0_pay67 (qt (A c) 2 2) (kt (A c) 2))⟩) :
    SA A c 17 8 (T1 (PV A) K c 30 0 (slot0 (F := F) c)) ⊢ WP c (k0_part35 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part35_eq_skeleton]; unfold k0_part35_skel; dsimp only
  refine ldq (a := A c) 2 1 rfl rfl ?_
  refine ldk (a := A c) 1 rfl ?_
  refine ldv (a := A c) 1 rfl ?_
  refine any7 fun _ => ?_
  refine stattn (a := A c) 2 1 rfl rfl rfl rfl ?_
  refine ldq (a := A c) 2 2 rfl rfl ?_
  refine ldk (a := A c) 2 rfl ?_
  exact retQ (hh)

end Cert.KernelIdeal.Talk
-- ==== Proof.Run3.lean ====
/- The body, parts 36 to 51. -/
module

public import proofs.«01_k».proof.Proof.Step

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

set_option maxRecDepth 65536

variable (A : Dev nD → In F) (K : GSem nD τ sig → ℕ) (c : Dev nD)

theorem run36  {Q : (FVec F S128x2048 .f32) → sProp 𝕄}
    (hh : SA A c 20 8 (T1 (PV A) K c 30 0 (slot0 (F := F) c)) ⊢ Q (k0_pay70 (qt (A c) 2 4) (kt (A c) 4))) :
    SA A c 18 8 (T1 (PV A) K c 30 0 (slot0 (F := F) c)) ⊢ WP c (k0_part36 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay66 (qt (A c) 2 2) (kt (A c) 2)) (k0_pay67 (qt (A c) 2 2) (kt (A c) 2))) Q := by
  rw [k0_part36_eq_skeleton]; unfold k0_part36_skel; dsimp only
  refine ldv (a := A c) 2 rfl ?_
  refine any7 fun _ => ?_
  refine stattn (a := A c) 2 2 rfl rfl rfl rfl ?_
  refine ldq (a := A c) 2 3 rfl rfl ?_
  refine ldk (a := A c) 3 rfl ?_
  refine ldv (a := A c) 3 rfl ?_
  refine any7 fun _ => ?_
  refine stattn (a := A c) 2 3 rfl rfl rfl rfl ?_
  refine ldq (a := A c) 2 4 rfl rfl ?_
  refine ldk (a := A c) 4 rfl ?_
  exact retQ (hh)

theorem run37  {Q : (FVec F S128x128 .f32) → sProp 𝕄}
    (hh : SA A c 21 8 (T1 (PV A) K c 30 0 (slot0 (F := F) c)) ⊢ Q (k0_pay72 (qt (A c) 2 5) (kt (A c) 5) (vt (A c) 5))) :
    SA A c 20 8 (T1 (PV A) K c 30 0 (slot0 (F := F) c)) ⊢ WP c (k0_part37 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay70 (qt (A c) 2 4) (kt (A c) 4))) Q := by
  rw [k0_part37_eq_skeleton]; unfold k0_part37_skel; dsimp only
  refine ldv (a := A c) 4 rfl ?_
  refine any7 fun _ => ?_
  refine stattn (a := A c) 2 4 rfl rfl rfl rfl ?_
  refine ldq (a := A c) 2 5 rfl rfl ?_
  refine ldk (a := A c) 5 rfl ?_
  refine ldv (a := A c) 5 rfl ?_
  exact retQ (hh)

theorem run38  {Q : (FVec F S128x2048 .f32) → sProp 𝕄}
    (hh : SA A c 23 8 (T1 (PV A) K c 30 0 (slot0 (F := F) c)) ⊢ Q (k0_pay75 (qt (A c) 2 7) (kt (A c) 7))) :
    SA A c 21 8 (T1 (PV A) K c 30 0 (slot0 (F := F) c)) ⊢ WP c (k0_part38 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay72 (qt (A c) 2 5) (kt (A c) 5) (vt (A c) 5))) Q := by
  rw [k0_part38_eq_skeleton]; unfold k0_part38_skel; dsimp only
  refine any7 fun _ => ?_
  refine stattn (a := A c) 2 5 rfl rfl rfl rfl ?_
  refine ldq (a := A c) 2 6 rfl rfl ?_
  refine ldk (a := A c) 6 rfl ?_
  refine ldv (a := A c) 6 rfl ?_
  refine any7 fun _ => ?_
  refine stattn (a := A c) 2 6 rfl rfl rfl rfl ?_
  refine ldq (a := A c) 2 7 rfl rfl ?_
  refine ldk (a := A c) 7 rfl ?_
  exact retQ (hh)

theorem run39 (v2 : BitVec 32) {Q : (Σ' (v1291 : BitVec 32) (v1292 : BitVec 32), BitVec 1) → sProp 𝕄}
    (hh : ∀ (b0 : BitVec 32) (b1 : BitVec 32) (b2 : BitVec 1), SA A c 24 12 (T1 (PV A) K c 30 0 (slot0 (F := F) c)) ⊢ Q ⟨b0, b1, b2⟩) :
    SA A c 23 8 (T1 (PV A) K c 30 0 (slot0 (F := F) c)) ⊢ WP c (k0_part39 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v2 (k0_pay75 (qt (A c) 2 7) (kt (A c) 7))) Q := by
  rw [k0_part39_eq_skeleton]; unfold k0_part39_skel; dsimp only
  refine ldv (a := A c) 7 rfl ?_
  refine any7 fun _ => ?_
  refine stattn (a := A c) 2 7 rfl rfl rfl rfl ?_
  refine ldrows (a := A c) 2 _ (by decide) rfl ?_
  refine ldwo (a := A c) ?_
  refine any8 fun _ => ?_
  refine stacc (a := A c) 2 rfl rfl rfl ?_
  exact retQ (hh _ _ _)

theorem run40 (v2 : BitVec 32) (v73 : BitVec 32) (v75 : BitVec 32) (v1291 : BitVec 32) (v1292 : BitVec 32) (v1306 : BitVec 1) {Q : (Σ' (v1335 : BitVec 32) (c4_i32_947 : BitVec 32) (v1336 : BitVec 32), BitVec 32) → sProp 𝕄}
    (hh : ∀ (b0 : BitVec 32) (b1 : BitVec 32) (b2 : BitVec 32) (b3 : BitVec 32), SA A c 24 12 (T1 (PV A) K c 32 0 (slot0 (F := F) c)) ⊢ Q ⟨b0, b1, b2, b3⟩) :
    SA A c 24 12 (T1 (PV A) K c 30 0 (slot0 (F := F) c)) ⊢ WP c (k0_part40 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v73 v75 v1291 v1292 v1306) Q := by
  rw [k0_part40_eq_skeleton]; unfold k0_part40_skel; dsimp only
  refine iteQ (cnd31 c) (fun h31 hs => ?_) (fun h31 hs => ?_)
  · refine ldrow (a := A c) (tgt c 0) _ (tgt_lt c 0 2 (by decide) hs) (off31 c) ?_
    refine stepT (scatter (PV A) K c 0 (by decide) hs _ rfl (pay_send _) (Fin.ext (dev46 c)) (sem_snd 0 _) (sem_rcv 0 _)) ?_
    refine iteQ (cnd32 c) (fun h32 hs => ?_) (fun h32 hs => ?_)
    · refine ldrow (a := A c) (tgt c 1) _ (tgt_lt c 1 2 (by decide) hs) (off32 c) ?_
      refine stepT (scatter (PV A) K c 1 (by decide) hs _ rfl (pay_send _) (Fin.ext (dev47 c)) (sem_snd 1 _) (sem_rcv 1 _)) ?_
      exact retQ (hh _ _ _ _)
    · refine stT (Entails.of_eq (T1_skip (PV A) K c 31 0 _ (skip_all c 1 2 (by decide) hs))) ?_
      exact retQ (hh _ _ _ _)
  · refine stT (Entails.of_eq (T1_skip (PV A) K c 30 0 _ (skip_all c 0 2 (by decide) hs))) ?_
    refine iteQ (cnd32 c) (fun h32 hs => ?_) (fun h32 hs => ?_)
    · refine ldrow (a := A c) (tgt c 1) _ (tgt_lt c 1 2 (by decide) hs) (off32 c) ?_
      refine stepT (scatter (PV A) K c 1 (by decide) hs _ rfl (pay_send _) (Fin.ext (dev47 c)) (sem_snd 1 _) (sem_rcv 1 _)) ?_
      exact retQ (hh _ _ _ _)
    · refine stT (Entails.of_eq (T1_skip (PV A) K c 31 0 _ (skip_all c 1 2 (by decide) hs))) ?_
      exact retQ (hh _ _ _ _)

theorem run41 (v2 : BitVec 32) (v77 : BitVec 32) (v1335 : BitVec 32) (c4_i32_947 : BitVec 32) (v1336 : BitVec 32) (v1338 : BitVec 32) {Q : (Σ' (v1357 : BitVec 32), BitVec 32) → sProp 𝕄}
    (hh : ∀ (b0 : BitVec 32) (b1 : BitVec 32), SA A c 24 12 (T1 (PV A) K c 33 0 (slot0 (F := F) c)) ⊢ Q ⟨b0, b1⟩) :
    SA A c 24 12 (T1 (PV A) K c 32 0 (slot0 (F := F) c)) ⊢ WP c (k0_part41 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v77 v1335 c4_i32_947 v1336 v1338) Q := by
  rw [k0_part41_eq_skeleton]; unfold k0_part41_skel; dsimp only
  refine iteQ (cnd33 c) (fun h33 hs => ?_) (fun h33 hs => ?_)
  · refine ldrow (a := A c) (tgt c 2) _ (tgt_lt c 2 2 (by decide) hs) (off33 c) ?_
    refine stepT (scatter (PV A) K c 2 (by decide) hs _ rfl (pay_send _) (Fin.ext (dev48 c)) (sem_snd 2 _) (sem_rcv 2 _)) ?_
    exact retQ (hh _ _)
  · refine stT (Entails.of_eq (T1_skip (PV A) K c 32 0 _ (skip_all c 2 2 (by decide) hs))) ?_
    exact retQ (hh _ _)

theorem run42 (v2 : BitVec 32) (v79 : BitVec 32) (v81 : BitVec 32) (v1357 : BitVec 32) (v1376 : BitVec 32) {Q : (Σ' (v1401 : BitVec 32) (c4_i32_992 : BitVec 32) (v1402 : BitVec 32) (v1407 : BitVec 32), BitVec 1) → sProp 𝕄}
    (hh : ∀ (b0 : BitVec 32) (b1 : BitVec 32) (b2 : BitVec 32) (b3 : BitVec 32) (b4 : BitVec 1), SA A c 24 12 (T1 (PV A) K c 35 0 (slot0 (F := F) c)) ⊢ Q ⟨b0, b1, b2, b3, b4⟩) :
    SA A c 24 12 (T1 (PV A) K c 33 0 (slot0 (F := F) c)) ⊢ WP c (k0_part42 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v79 v81 v1357 v1376) Q := by
  rw [k0_part42_eq_skeleton]; unfold k0_part42_skel; dsimp only
  refine iteQ (cnd34 c) (fun h34 hs => ?_) (fun h34 hs => ?_)
  · refine ldrow (a := A c) (tgt c 3) _ (tgt_lt c 3 2 (by decide) hs) (off34 c) ?_
    refine stepT (scatter (PV A) K c 3 (by decide) hs _ rfl (pay_send _) (Fin.ext (dev49 c)) (sem_snd 3 _) (sem_rcv 3 _)) ?_
    refine iteQ (cnd35 c) (fun h35 hs => ?_) (fun h35 hs => ?_)
    · refine ldrow (a := A c) (tgt c 4) _ (tgt_lt c 4 2 (by decide) hs) (off35 c) ?_
      refine stepT (scatter (PV A) K c 4 (by decide) hs _ rfl (pay_send _) (Fin.ext (dev50 c)) (sem_snd 4 _) (sem_rcv 4 _)) ?_
      exact retQ (hh _ _ _ _ _)
    · refine stT (Entails.of_eq (T1_skip (PV A) K c 34 0 _ (skip_all c 4 2 (by decide) hs))) ?_
      exact retQ (hh _ _ _ _ _)
  · refine stT (Entails.of_eq (T1_skip (PV A) K c 33 0 _ (skip_all c 3 2 (by decide) hs))) ?_
    refine iteQ (cnd35 c) (fun h35 hs => ?_) (fun h35 hs => ?_)
    · refine ldrow (a := A c) (tgt c 4) _ (tgt_lt c 4 2 (by decide) hs) (off35 c) ?_
      refine stepT (scatter (PV A) K c 4 (by decide) hs _ rfl (pay_send _) (Fin.ext (dev50 c)) (sem_snd 4 _) (sem_rcv 4 _)) ?_
      exact retQ (hh _ _ _ _ _)
    · refine stT (Entails.of_eq (T1_skip (PV A) K c 34 0 _ (skip_all c 4 2 (by decide) hs))) ?_
      exact retQ (hh _ _ _ _ _)

theorem run43 (v2 : BitVec 32) (v83 : BitVec 32) (v1401 : BitVec 32) (c4_i32_992 : BitVec 32) (v1402 : BitVec 32) (v1407 : BitVec 32) (v1408 : BitVec 1) {Q : (BitVec 32) → sProp 𝕄}
    (hh : ∀ (b0 : BitVec 32), SA A c 24 12 (T1 (PV A) K c 36 0 (slot0 (F := F) c)) ⊢ Q b0) :
    SA A c 24 12 (T1 (PV A) K c 35 0 (slot0 (F := F) c)) ⊢ WP c (k0_part43 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v83 v1401 c4_i32_992 v1402 v1407 v1408) Q := by
  rw [k0_part43_eq_skeleton]; unfold k0_part43_skel; dsimp only
  refine iteQ (cnd36 c) (fun h36 hs => ?_) (fun h36 hs => ?_)
  · refine ldrow (a := A c) (tgt c 5) _ (tgt_lt c 5 2 (by decide) hs) (off36 c) ?_
    refine stepT (scatter (PV A) K c 5 (by decide) hs _ rfl (pay_send _) (Fin.ext (dev51 c)) (sem_snd 5 _) (sem_rcv 5 _)) ?_
    exact retQ (hh _)
  · refine stT (Entails.of_eq (T1_skip (PV A) K c 35 0 _ (skip_all c 5 2 (by decide) hs))) ?_
    exact retQ (hh _)

theorem run44 (v2 : BitVec 32) (v85 : BitVec 32) (v87 : BitVec 32) (v1423 : BitVec 32) {Q : (Σ' (v1467 : BitVec 32) (c4_i32_1037 : BitVec 32) (v1468 : BitVec 32), BitVec 1) → sProp 𝕄}
    (hh : ∀ (b0 : BitVec 32) (b1 : BitVec 32) (b2 : BitVec 32) (b3 : BitVec 1), SA A c 24 12 (T1 (PV A) K c 38 0 (slot0 (F := F) c)) ⊢ Q ⟨b0, b1, b2, b3⟩) :
    SA A c 24 12 (T1 (PV A) K c 36 0 (slot0 (F := F) c)) ⊢ WP c (k0_part44 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v85 v87 v1423) Q := by
  rw [k0_part44_eq_skeleton]; unfold k0_part44_skel; dsimp only
  refine iteQ (cnd37 c) (fun h37 hs => ?_) (fun h37 hs => ?_)
  · refine ldrow (a := A c) (tgt c 6) _ (tgt_lt c 6 2 (by decide) hs) (off37 c) ?_
    refine stepT (scatter (PV A) K c 6 (by decide) hs _ rfl (pay_send _) (Fin.ext (dev52 c)) (sem_snd 6 _) (sem_rcv 6 _)) ?_
    refine iteQ (cnd38 c) (fun h38 hs => ?_) (fun h38 hs => ?_)
    · refine ldrow (a := A c) (tgt c 7) _ (tgt_lt c 7 2 (by decide) hs) (off38 c) ?_
      refine stepT (scatter (PV A) K c 7 (by decide) hs _ rfl (pay_send _) (Fin.ext (dev53 c)) (sem_snd 7 _) (sem_rcv 7 _)) ?_
      exact retQ (hh _ _ _ _)
    · refine stT (Entails.of_eq (T1_skip (PV A) K c 37 0 _ (skip_all c 7 2 (by decide) hs))) ?_
      exact retQ (hh _ _ _ _)
  · refine stT (Entails.of_eq (T1_skip (PV A) K c 36 0 _ (skip_all c 6 2 (by decide) hs))) ?_
    refine iteQ (cnd38 c) (fun h38 hs => ?_) (fun h38 hs => ?_)
    · refine ldrow (a := A c) (tgt c 7) _ (tgt_lt c 7 2 (by decide) hs) (off38 c) ?_
      refine stepT (scatter (PV A) K c 7 (by decide) hs _ rfl (pay_send _) (Fin.ext (dev53 c)) (sem_snd 7 _) (sem_rcv 7 _)) ?_
      exact retQ (hh _ _ _ _)
    · refine stT (Entails.of_eq (T1_skip (PV A) K c 37 0 _ (skip_all c 7 2 (by decide) hs))) ?_
      exact retQ (hh _ _ _ _)

theorem run45 (v2 : BitVec 32) (v89 : BitVec 32) (v91 : BitVec 32) (v1467 : BitVec 32) (c4_i32_1037 : BitVec 32) (v1468 : BitVec 32) (v1479 : BitVec 1) {Q : (Σ' (v1511 : BitVec 32), BitVec 32) → sProp 𝕄}
    (hh : ∀ (b0 : BitVec 32) (b1 : BitVec 32), SA A c 24 12 (T1 (PV A) K c 40 0 (slot0 (F := F) c)) ⊢ Q ⟨b0, b1⟩) :
    SA A c 24 12 (T1 (PV A) K c 38 0 (slot0 (F := F) c)) ⊢ WP c (k0_part45 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v89 v91 v1467 c4_i32_1037 v1468 v1479) Q := by
  rw [k0_part45_eq_skeleton]; unfold k0_part45_skel; dsimp only
  refine iteQ (cnd39 c) (fun h39 hs => ?_) (fun h39 hs => ?_)
  · refine ldrow (a := A c) (tgt c 8) _ (tgt_lt c 8 2 (by decide) hs) (off39 c) ?_
    refine stepT (scatter (PV A) K c 8 (by decide) hs _ rfl (pay_send _) (Fin.ext (dev54 c)) (sem_snd 8 _) (sem_rcv 8 _)) ?_
    refine iteQ (cnd40 c) (fun h40 hs => ?_) (fun h40 hs => ?_)
    · refine ldrow (a := A c) (tgt c 9) _ (tgt_lt c 9 2 (by decide) hs) (off40 c) ?_
      refine stepT (scatter (PV A) K c 9 (by decide) hs _ rfl (pay_send _) (Fin.ext (dev55 c)) (sem_snd 9 _) (sem_rcv 9 _)) ?_
      exact retQ (hh _ _)
    · refine stT (Entails.of_eq (T1_skip (PV A) K c 39 0 _ (skip_all c 9 2 (by decide) hs))) ?_
      exact retQ (hh _ _)
  · refine stT (Entails.of_eq (T1_skip (PV A) K c 38 0 _ (skip_all c 8 2 (by decide) hs))) ?_
    refine iteQ (cnd40 c) (fun h40 hs => ?_) (fun h40 hs => ?_)
    · refine ldrow (a := A c) (tgt c 9) _ (tgt_lt c 9 2 (by decide) hs) (off40 c) ?_
      refine stepT (scatter (PV A) K c 9 (by decide) hs _ rfl (pay_send _) (Fin.ext (dev55 c)) (sem_snd 9 _) (sem_rcv 9 _)) ?_
      exact retQ (hh _ _)
    · refine stT (Entails.of_eq (T1_skip (PV A) K c 39 0 _ (skip_all c 9 2 (by decide) hs))) ?_
      exact retQ (hh _ _)

theorem run46 (v2 : BitVec 32) (v93 : BitVec 32) (v1511 : BitVec 32) (c4_i32_1067 : BitVec 32) {Q : (Σ' (v1533 : BitVec 32) (v1534 : BitVec 32) (v1548 : BitVec 1), BitVec 32) → sProp 𝕄}
    (hh : ∀ (b0 : BitVec 32) (b1 : BitVec 32) (b2 : BitVec 1) (b3 : BitVec 32), SA A c 24 12 (T1 (PV A) K c 41 0 (slot0 (F := F) c)) ⊢ Q ⟨b0, b1, b2, b3⟩) :
    SA A c 24 12 (T1 (PV A) K c 40 0 (slot0 (F := F) c)) ⊢ WP c (k0_part46 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v93 v1511 c4_i32_1067) Q := by
  rw [k0_part46_eq_skeleton]; unfold k0_part46_skel; dsimp only
  refine iteQ (cnd41 c) (fun h41 hs => ?_) (fun h41 hs => ?_)
  · refine ldrow (a := A c) (tgt c 10) _ (tgt_lt c 10 2 (by decide) hs) (off41 c) ?_
    refine stepT (scatter (PV A) K c 10 (by decide) hs _ rfl (pay_send _) (Fin.ext (dev56 c)) (sem_snd 10 _) (sem_rcv 10 _)) ?_
    exact retQ (hh _ _ _ _)
  · refine stT (Entails.of_eq (T1_skip (PV A) K c 40 0 _ (skip_all c 10 2 (by decide) hs))) ?_
    exact retQ (hh _ _ _ _)

theorem run47 (v2 : BitVec 32) (v95 : BitVec 32) (v97 : BitVec 32) (v1533 : BitVec 32) (v1534 : BitVec 32) (v1548 : BitVec 1) (v1549 : BitVec 32) {Q : (Σ' (v1577 : BitVec 32) (c4_i32_1112 : BitVec 32) (v1578 : BitVec 32) (v1580 : BitVec 32), BitVec 1) → sProp 𝕄}
    (hh : ∀ (b0 : BitVec 32) (b1 : BitVec 32) (b2 : BitVec 32) (b3 : BitVec 32) (b4 : BitVec 1), SA A c 24 12 (T1 (PV A) K c 43 0 (slot0 (F := F) c)) ⊢ Q ⟨b0, b1, b2, b3, b4⟩) :
    SA A c 24 12 (T1 (PV A) K c 41 0 (slot0 (F := F) c)) ⊢ WP c (k0_part47 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v95 v97 v1533 v1534 v1548 v1549) Q := by
  rw [k0_part47_eq_skeleton]; unfold k0_part47_skel; dsimp only
  refine iteQ (cnd42 c) (fun h42 hs => ?_) (fun h42 hs => ?_)
  · refine ldrow (a := A c) (tgt c 11) _ (tgt_lt c 11 2 (by decide) hs) (off42 c) ?_
    refine stepT (scatter (PV A) K c 11 (by decide) hs _ rfl (pay_send _) (Fin.ext (dev57 c)) (sem_snd 11 _) (sem_rcv 11 _)) ?_
    refine iteQ (cnd43 c) (fun h43 hs => ?_) (fun h43 hs => ?_)
    · refine ldrow (a := A c) (tgt c 12) _ (tgt_lt c 12 2 (by decide) hs) (off43 c) ?_
      refine stepT (scatter (PV A) K c 12 (by decide) hs _ rfl (pay_send _) (Fin.ext (dev58 c)) (sem_snd 12 _) (sem_rcv 12 _)) ?_
      exact retQ (hh _ _ _ _ _)
    · refine stT (Entails.of_eq (T1_skip (PV A) K c 42 0 _ (skip_all c 12 2 (by decide) hs))) ?_
      exact retQ (hh _ _ _ _ _)
  · refine stT (Entails.of_eq (T1_skip (PV A) K c 41 0 _ (skip_all c 11 2 (by decide) hs))) ?_
    refine iteQ (cnd43 c) (fun h43 hs => ?_) (fun h43 hs => ?_)
    · refine ldrow (a := A c) (tgt c 12) _ (tgt_lt c 12 2 (by decide) hs) (off43 c) ?_
      refine stepT (scatter (PV A) K c 12 (by decide) hs _ rfl (pay_send _) (Fin.ext (dev58 c)) (sem_snd 12 _) (sem_rcv 12 _)) ?_
      exact retQ (hh _ _ _ _ _)
    · refine stT (Entails.of_eq (T1_skip (PV A) K c 42 0 _ (skip_all c 12 2 (by decide) hs))) ?_
      exact retQ (hh _ _ _ _ _)

theorem run48 (v2 : BitVec 32) (v99 : BitVec 32) (v1577 : BitVec 32) (c4_i32_1112 : BitVec 32) (v1578 : BitVec 32) (v1580 : BitVec 32) (v1581 : BitVec 1) {Q : (Σ' (v1599 : BitVec 32), BitVec 32) → sProp 𝕄}
    (hh : ∀ (b0 : BitVec 32) (b1 : BitVec 32), SA A c 24 12 (T1 (PV A) K c 44 0 (slot0 (F := F) c)) ⊢ Q ⟨b0, b1⟩) :
    SA A c 24 12 (T1 (PV A) K c 43 0 (slot0 (F := F) c)) ⊢ WP c (k0_part48 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v99 v1577 c4_i32_1112 v1578 v1580 v1581) Q := by
  rw [k0_part48_eq_skeleton]; unfold k0_part48_skel; dsimp only
  refine iteQ (cnd44 c) (fun h44 hs => ?_) (fun h44 hs => ?_)
  · refine ldrow (a := A c) (tgt c 13) _ (tgt_lt c 13 2 (by decide) hs) (off44 c) ?_
    refine stepT (scatter (PV A) K c 13 (by decide) hs _ rfl (pay_send _) (Fin.ext (dev59 c)) (sem_snd 13 _) (sem_rcv 13 _)) ?_
    exact retQ (hh _ _)
  · refine stT (Entails.of_eq (T1_skip (PV A) K c 43 0 _ (skip_all c 13 2 (by decide) hs))) ?_
    exact retQ (hh _ _)

theorem run49 (v101 : BitVec 32) (v1599 : BitVec 32) (v1618 : BitVec 32) {Q : (FVec F S128x2048 .f32) → sProp 𝕄}
    (hh : SA A c 25 12 (T1 (PV A) K c 45 0 (slot0 (F := F) c)) ⊢ Q (k0_pay94 (qt (A c) 3 1) (kt (A c) 1))) :
    SA A c 24 12 (T1 (PV A) K c 44 0 (slot0 (F := F) c)) ⊢ WP c (k0_part49 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v101 v1599 v1618) Q := by
  rw [k0_part49_eq_skeleton]; unfold k0_part49_skel; dsimp only
  refine iteQ (cnd45 c) (fun h45 hs => ?_) (fun h45 hs => ?_)
  · refine ldrow (a := A c) (tgt c 14) _ (tgt_lt c 14 2 (by decide) hs) (off45 c) ?_
    refine stepT (scatter (PV A) K c 14 (by decide) hs _ rfl (pay_send _) (Fin.ext (dev60 c)) (sem_snd 14 _) (sem_rcv 14 _)) ?_
    refine ldq (a := A c) 3 0 rfl rfl ?_
    refine ldk (a := A c) 0 rfl ?_
    refine ldv (a := A c) 0 rfl ?_
    refine any7 fun _ => ?_
    refine stattn (a := A c) 3 0 rfl rfl rfl rfl ?_
    refine ldq (a := A c) 3 1 rfl rfl ?_
    refine ldk (a := A c) 1 rfl ?_
    exact retQ (hh)
  · refine stT (Entails.of_eq (T1_skip (PV A) K c 44 0 _ (skip_all c 14 2 (by decide) hs))) ?_
    refine ldq (a := A c) 3 0 rfl rfl ?_
    refine ldk (a := A c) 0 rfl ?_
    refine ldv (a := A c) 0 rfl ?_
    refine any7 fun _ => ?_
    refine stattn (a := A c) 3 0 rfl rfl rfl rfl ?_
    refine ldq (a := A c) 3 1 rfl rfl ?_
    refine ldk (a := A c) 1 rfl ?_
    exact retQ (hh)

theorem run50  {Q : (Vec F S128x128 .f32) → sProp 𝕄}
    (hh : SA A c 27 12 (T1 (PV A) K c 45 0 (slot0 (F := F) c)) ⊢ Q (qt (A c) 3 3)) :
    SA A c 25 12 (T1 (PV A) K c 45 0 (slot0 (F := F) c)) ⊢ WP c (k0_part50 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay94 (qt (A c) 3 1) (kt (A c) 1))) Q := by
  rw [k0_part50_eq_skeleton]; unfold k0_part50_skel; dsimp only
  refine ldv (a := A c) 1 rfl ?_
  refine any7 fun _ => ?_
  refine stattn (a := A c) 3 1 rfl rfl rfl rfl ?_
  refine ldq (a := A c) 3 2 rfl rfl ?_
  refine ldk (a := A c) 2 rfl ?_
  refine ldv (a := A c) 2 rfl ?_
  refine any7 fun _ => ?_
  refine stattn (a := A c) 3 2 rfl rfl rfl rfl ?_
  refine ldq (a := A c) 3 3 rfl rfl ?_
  exact retQ (hh)

theorem run51  {Q : (Σ' (v1714 : FVec F S128x2048 .f32) (v1716 : FVec F S128x1 .f32), FVec F S2048x128 .f32) → sProp 𝕄}
    (hh : SA A c 28 12 (T1 (PV A) K c 45 0 (slot0 (F := F) c)) ⊢ Q ⟨(k0_pay98 (qt (A c) 3 4) (kt (A c) 4)), (k0_pay99 (qt (A c) 3 4) (kt (A c) 4)), (k0_pay100 (vt (A c) 4))⟩) :
    SA A c 27 12 (T1 (PV A) K c 45 0 (slot0 (F := F) c)) ⊢ WP c (k0_part51 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (qt (A c) 3 3)) Q := by
  rw [k0_part51_eq_skeleton]; unfold k0_part51_skel; dsimp only
  refine ldk (a := A c) 3 rfl ?_
  refine ldv (a := A c) 3 rfl ?_
  refine any7 fun _ => ?_
  refine stattn (a := A c) 3 3 rfl rfl rfl rfl ?_
  refine ldq (a := A c) 3 4 rfl rfl ?_
  refine ldk (a := A c) 4 rfl ?_
  refine ldv (a := A c) 4 rfl ?_
  exact retQ (hh)

end Cert.KernelIdeal.Talk
-- ==== Proof.Run4.lean ====
/- The body, parts 52 to 63. -/
module

public import proofs.«01_k».proof.Proof.Step

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

set_option maxRecDepth 65536

variable (A : Dev nD → In F) (K : GSem nD τ sig → ℕ) (c : Dev nD)

theorem run52  {Q : (FVec F S128x2048 .f32) → sProp 𝕄}
    (hh : SA A c 30 12 (T1 (PV A) K c 45 0 (slot0 (F := F) c)) ⊢ Q (k0_pay103 (qt (A c) 3 6) (kt (A c) 6))) :
    SA A c 28 12 (T1 (PV A) K c 45 0 (slot0 (F := F) c)) ⊢ WP c (k0_part52 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay98 (qt (A c) 3 4) (kt (A c) 4)) (k0_pay99 (qt (A c) 3 4) (kt (A c) 4)) (k0_pay100 (vt (A c) 4))) Q := by
  rw [k0_part52_eq_skeleton]; unfold k0_part52_skel; dsimp only
  refine any7 fun _ => ?_
  refine stattn (a := A c) 3 4 rfl rfl rfl rfl ?_
  refine ldq (a := A c) 3 5 rfl rfl ?_
  refine ldk (a := A c) 5 rfl ?_
  refine ldv (a := A c) 5 rfl ?_
  refine any7 fun _ => ?_
  refine stattn (a := A c) 3 5 rfl rfl rfl rfl ?_
  refine ldq (a := A c) 3 6 rfl rfl ?_
  refine ldk (a := A c) 6 rfl ?_
  exact retQ (hh)

theorem run53  {Q : (FVec F S128x128 .f32) → sProp 𝕄}
    (hh : SA A c 31 12 (T1 (PV A) K c 45 0 (slot0 (F := F) c)) ⊢ Q (k0_pay105 (qt (A c) 3 7) (kt (A c) 7) (vt (A c) 7))) :
    SA A c 30 12 (T1 (PV A) K c 45 0 (slot0 (F := F) c)) ⊢ WP c (k0_part53 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 (k0_pay103 (qt (A c) 3 6) (kt (A c) 6))) Q := by
  rw [k0_part53_eq_skeleton]; unfold k0_part53_skel; dsimp only
  refine ldv (a := A c) 6 rfl ?_
  refine any7 fun _ => ?_
  refine stattn (a := A c) 3 6 rfl rfl rfl rfl ?_
  refine ldq (a := A c) 3 7 rfl rfl ?_
  refine ldk (a := A c) 7 rfl ?_
  refine ldv (a := A c) 7 rfl ?_
  refine any7 fun _ => ?_
  exact retQ (hh)

theorem run54 (v2 : BitVec 32) (v73 : BitVec 32) {Q : (BitVec 32) → sProp 𝕄}
    (hh : ∀ (b0 : BitVec 32), SA A c 32 16 (T1 (PV A) K c 46 0 (slot0 (F := F) c)) ⊢ Q b0) :
    SA A c 31 12 (T1 (PV A) K c 45 0 (slot0 (F := F) c)) ⊢ WP c (k0_part54 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v73 (k0_pay105 (qt (A c) 3 7) (kt (A c) 7) (vt (A c) 7))) Q := by
  rw [k0_part54_eq_skeleton]; unfold k0_part54_skel; dsimp only
  refine stattn (a := A c) 3 7 rfl rfl rfl rfl ?_
  refine ldrows (a := A c) 3 _ (by decide) rfl ?_
  refine ldwo (a := A c) ?_
  refine any8 fun _ => ?_
  refine stacc (a := A c) 3 rfl rfl rfl ?_
  refine iteQ (cnd46 c) (fun h46 hs => ?_) (fun h46 hs => ?_)
  · refine ldrow (a := A c) (tgt c 0) _ (tgt_lt c 0 3 (by decide) hs) (off46 c) ?_
    refine stepT (scatter (PV A) K c 0 (by decide) hs _ rfl (pay_send _) (Fin.ext (dev61 c)) (sem_snd 0 _) (sem_rcv 0 _)) ?_
    exact retQ (hh _)
  · refine stT (Entails.of_eq (T1_skip (PV A) K c 45 0 _ (skip_all c 0 3 (by decide) hs))) ?_
    exact retQ (hh _)

theorem run55 (v2 : BitVec 32) (v75 : BitVec 32) (v1819 : BitVec 32) {Q : (Σ' (v1841 : BitVec 32) (v1842 : BitVec 32) (v1856 : BitVec 1), BitVec 32) → sProp 𝕄}
    (hh : ∀ (b0 : BitVec 32) (b1 : BitVec 32) (b2 : BitVec 1) (b3 : BitVec 32), SA A c 32 16 (T1 (PV A) K c 47 0 (slot0 (F := F) c)) ⊢ Q ⟨b0, b1, b2, b3⟩) :
    SA A c 32 16 (T1 (PV A) K c 46 0 (slot0 (F := F) c)) ⊢ WP c (k0_part55 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v75 v1819) Q := by
  rw [k0_part55_eq_skeleton]; unfold k0_part55_skel; dsimp only
  refine iteQ (cnd47 c) (fun h47 hs => ?_) (fun h47 hs => ?_)
  · refine ldrow (a := A c) (tgt c 1) _ (tgt_lt c 1 3 (by decide) hs) (off47 c) ?_
    refine stepT (scatter (PV A) K c 1 (by decide) hs _ rfl (pay_send _) (Fin.ext (dev62 c)) (sem_snd 1 _) (sem_rcv 1 _)) ?_
    exact retQ (hh _ _ _ _)
  · refine stT (Entails.of_eq (T1_skip (PV A) K c 46 0 _ (skip_all c 1 3 (by decide) hs))) ?_
    exact retQ (hh _ _ _ _)

theorem run56 (v2 : BitVec 32) (v77 : BitVec 32) (v79 : BitVec 32) (v1841 : BitVec 32) (v1842 : BitVec 32) (v1856 : BitVec 1) (c1_i32_1305 : BitVec 32) {Q : (Σ' (v1885 : BitVec 32) (c4_i32_1329 : BitVec 32) (v1886 : BitVec 32) (v1888 : BitVec 32), BitVec 32) → sProp 𝕄}
    (hh : ∀ (b0 : BitVec 32) (b1 : BitVec 32) (b2 : BitVec 32) (b3 : BitVec 32) (b4 : BitVec 32), SA A c 32 16 (T1 (PV A) K c 49 0 (slot0 (F := F) c)) ⊢ Q ⟨b0, b1, b2, b3, b4⟩) :
    SA A c 32 16 (T1 (PV A) K c 47 0 (slot0 (F := F) c)) ⊢ WP c (k0_part56 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v77 v79 v1841 v1842 v1856 c1_i32_1305) Q := by
  rw [k0_part56_eq_skeleton]; unfold k0_part56_skel; dsimp only
  refine iteQ (cnd48 c) (fun h48 hs => ?_) (fun h48 hs => ?_)
  · refine ldrow (a := A c) (tgt c 2) _ (tgt_lt c 2 3 (by decide) hs) (off48 c) ?_
    refine stepT (scatter (PV A) K c 2 (by decide) hs _ rfl (pay_send _) (Fin.ext (dev63 c)) (sem_snd 2 _) (sem_rcv 2 _)) ?_
    refine iteQ (cnd49 c) (fun h49 hs => ?_) (fun h49 hs => ?_)
    · refine ldrow (a := A c) (tgt c 3) _ (tgt_lt c 3 3 (by decide) hs) (off49 c) ?_
      refine stepT (scatter (PV A) K c 3 (by decide) hs _ rfl (pay_send _) (Fin.ext (dev64 c)) (sem_snd 3 _) (sem_rcv 3 _)) ?_
      exact retQ (hh _ _ _ _ _)
    · refine stT (Entails.of_eq (T1_skip (PV A) K c 48 0 _ (skip_all c 3 3 (by decide) hs))) ?_
      exact retQ (hh _ _ _ _ _)
  · refine stT (Entails.of_eq (T1_skip (PV A) K c 47 0 _ (skip_all c 2 3 (by decide) hs))) ?_
    refine iteQ (cnd49 c) (fun h49 hs => ?_) (fun h49 hs => ?_)
    · refine ldrow (a := A c) (tgt c 3) _ (tgt_lt c 3 3 (by decide) hs) (off49 c) ?_
      refine stepT (scatter (PV A) K c 3 (by decide) hs _ rfl (pay_send _) (Fin.ext (dev64 c)) (sem_snd 3 _) (sem_rcv 3 _)) ?_
      exact retQ (hh _ _ _ _ _)
    · refine stT (Entails.of_eq (T1_skip (PV A) K c 48 0 _ (skip_all c 3 3 (by decide) hs))) ?_
      exact retQ (hh _ _ _ _ _)

theorem run57 (v2 : BitVec 32) (v81 : BitVec 32) (v1885 : BitVec 32) (c4_i32_1329 : BitVec 32) (v1886 : BitVec 32) (v1888 : BitVec 32) (c0_i32_1331 : BitVec 32) {Q : (Σ' (v1907 : BitVec 32), BitVec 32) → sProp 𝕄}
    (hh : ∀ (b0 : BitVec 32) (b1 : BitVec 32), SA A c 32 16 (T1 (PV A) K c 50 0 (slot0 (F := F) c)) ⊢ Q ⟨b0, b1⟩) :
    SA A c 32 16 (T1 (PV A) K c 49 0 (slot0 (F := F) c)) ⊢ WP c (k0_part57 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v81 v1885 c4_i32_1329 v1886 v1888 c0_i32_1331) Q := by
  rw [k0_part57_eq_skeleton]; unfold k0_part57_skel; dsimp only
  refine iteQ (cnd50 c) (fun h50 hs => ?_) (fun h50 hs => ?_)
  · refine ldrow (a := A c) (tgt c 4) _ (tgt_lt c 4 3 (by decide) hs) (off50 c) ?_
    refine stepT (scatter (PV A) K c 4 (by decide) hs _ rfl (pay_send _) (Fin.ext (dev65 c)) (sem_snd 4 _) (sem_rcv 4 _)) ?_
    exact retQ (hh _ _)
  · refine stT (Entails.of_eq (T1_skip (PV A) K c 49 0 _ (skip_all c 4 3 (by decide) hs))) ?_
    exact retQ (hh _ _)

theorem run58 (v2 : BitVec 32) (v83 : BitVec 32) (v85 : BitVec 32) (v1907 : BitVec 32) (v1926 : BitVec 32) {Q : (Σ' (v1951 : BitVec 32) (c4_i32_1374 : BitVec 32) (v1952 : BitVec 32) (v1957 : BitVec 32), BitVec 32) → sProp 𝕄}
    (hh : ∀ (b0 : BitVec 32) (b1 : BitVec 32) (b2 : BitVec 32) (b3 : BitVec 32) (b4 : BitVec 32), SA A c 32 16 (T1 (PV A) K c 52 0 (slot0 (F := F) c)) ⊢ Q ⟨b0, b1, b2, b3, b4⟩) :
    SA A c 32 16 (T1 (PV A) K c 50 0 (slot0 (F := F) c)) ⊢ WP c (k0_part58 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v83 v85 v1907 v1926) Q := by
  rw [k0_part58_eq_skeleton]; unfold k0_part58_skel; dsimp only
  refine iteQ (cnd51 c) (fun h51 hs => ?_) (fun h51 hs => ?_)
  · refine ldrow (a := A c) (tgt c 5) _ (tgt_lt c 5 3 (by decide) hs) (off51 c) ?_
    refine stepT (scatter (PV A) K c 5 (by decide) hs _ rfl (pay_send _) (Fin.ext (dev66 c)) (sem_snd 5 _) (sem_rcv 5 _)) ?_
    refine iteQ (cnd52 c) (fun h52 hs => ?_) (fun h52 hs => ?_)
    · refine ldrow (a := A c) (tgt c 6) _ (tgt_lt c 6 3 (by decide) hs) (off52 c) ?_
      refine stepT (scatter (PV A) K c 6 (by decide) hs _ rfl (pay_send _) (Fin.ext (dev67 c)) (sem_snd 6 _) (sem_rcv 6 _)) ?_
      exact retQ (hh _ _ _ _ _)
    · refine stT (Entails.of_eq (T1_skip (PV A) K c 51 0 _ (skip_all c 6 3 (by decide) hs))) ?_
      exact retQ (hh _ _ _ _ _)
  · refine stT (Entails.of_eq (T1_skip (PV A) K c 50 0 _ (skip_all c 5 3 (by decide) hs))) ?_
    refine iteQ (cnd52 c) (fun h52 hs => ?_) (fun h52 hs => ?_)
    · refine ldrow (a := A c) (tgt c 6) _ (tgt_lt c 6 3 (by decide) hs) (off52 c) ?_
      refine stepT (scatter (PV A) K c 6 (by decide) hs _ rfl (pay_send _) (Fin.ext (dev67 c)) (sem_snd 6 _) (sem_rcv 6 _)) ?_
      exact retQ (hh _ _ _ _ _)
    · refine stT (Entails.of_eq (T1_skip (PV A) K c 51 0 _ (skip_all c 6 3 (by decide) hs))) ?_
      exact retQ (hh _ _ _ _ _)

theorem run59 (v2 : BitVec 32) (v87 : BitVec 32) (v89 : BitVec 32) (v1951 : BitVec 32) (c4_i32_1374 : BitVec 32) (v1952 : BitVec 32) (v1957 : BitVec 32) (v1959 : BitVec 32) {Q : (PUnit) → sProp 𝕄}
    (hh : SA A c 32 16 (T1 (PV A) K c 54 0 (slot0 (F := F) c)) ⊢ Q ⟨⟩) :
    SA A c 32 16 (T1 (PV A) K c 52 0 (slot0 (F := F) c)) ⊢ WP c (k0_part59 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v87 v89 v1951 c4_i32_1374 v1952 v1957 v1959) Q := by
  rw [k0_part59_eq_skeleton]; unfold k0_part59_skel; dsimp only
  refine iteQ (cnd53 c) (fun h53 hs => ?_) (fun h53 hs => ?_)
  · refine ldrow (a := A c) (tgt c 7) _ (tgt_lt c 7 3 (by decide) hs) (off53 c) ?_
    refine stepT (scatter (PV A) K c 7 (by decide) hs _ rfl (pay_send _) (Fin.ext (dev68 c)) (sem_snd 7 _) (sem_rcv 7 _)) ?_
    refine iteQ (cnd54 c) (fun h54 hs => ?_) (fun h54 hs => ?_)
    · refine ldrow (a := A c) (tgt c 8) _ (tgt_lt c 8 3 (by decide) hs) (off54 c) ?_
      refine stepT (scatter (PV A) K c 8 (by decide) hs _ rfl (pay_send _) (Fin.ext (dev69 c)) (sem_snd 8 _) (sem_rcv 8 _)) ?_
      exact retQ (hh)
    · refine stT (Entails.of_eq (T1_skip (PV A) K c 53 0 _ (skip_all c 8 3 (by decide) hs))) ?_
      exact retQ (hh)
  · refine stT (Entails.of_eq (T1_skip (PV A) K c 52 0 _ (skip_all c 7 3 (by decide) hs))) ?_
    refine iteQ (cnd54 c) (fun h54 hs => ?_) (fun h54 hs => ?_)
    · refine ldrow (a := A c) (tgt c 8) _ (tgt_lt c 8 3 (by decide) hs) (off54 c) ?_
      refine stepT (scatter (PV A) K c 8 (by decide) hs _ rfl (pay_send _) (Fin.ext (dev69 c)) (sem_snd 8 _) (sem_rcv 8 _)) ?_
      exact retQ (hh)
    · refine stT (Entails.of_eq (T1_skip (PV A) K c 53 0 _ (skip_all c 8 3 (by decide) hs))) ?_
      exact retQ (hh)

theorem run60 (v2 : BitVec 32) (v91 : BitVec 32) {Q : (Σ' (v2017 : BitVec 32) (v2018 : BitVec 32) (v2029 : BitVec 1), BitVec 32) → sProp 𝕄}
    (hh : ∀ (b0 : BitVec 32) (b1 : BitVec 32) (b2 : BitVec 1) (b3 : BitVec 32), SA A c 32 16 (T1 (PV A) K c 55 0 (slot0 (F := F) c)) ⊢ Q ⟨b0, b1, b2, b3⟩) :
    SA A c 32 16 (T1 (PV A) K c 54 0 (slot0 (F := F) c)) ⊢ WP c (k0_part60 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v91) Q := by
  rw [k0_part60_eq_skeleton]; unfold k0_part60_skel; dsimp only
  refine iteQ (cnd55 c) (fun h55 hs => ?_) (fun h55 hs => ?_)
  · refine ldrow (a := A c) (tgt c 9) _ (tgt_lt c 9 3 (by decide) hs) (off55 c) ?_
    refine stepT (scatter (PV A) K c 9 (by decide) hs _ rfl (pay_send _) (Fin.ext (dev70 c)) (sem_snd 9 _) (sem_rcv 9 _)) ?_
    exact retQ (hh _ _ _ _)
  · refine stT (Entails.of_eq (T1_skip (PV A) K c 54 0 _ (skip_all c 9 3 (by decide) hs))) ?_
    exact retQ (hh _ _ _ _)

theorem run61 (v2 : BitVec 32) (v93 : BitVec 32) (v95 : BitVec 32) (v2017 : BitVec 32) (v2018 : BitVec 32) (v2029 : BitVec 1) (v2030 : BitVec 32) {Q : (Σ' (v2061 : BitVec 32) (c4_i32_1449 : BitVec 32), BitVec 32) → sProp 𝕄}
    (hh : ∀ (b0 : BitVec 32) (b1 : BitVec 32) (b2 : BitVec 32), SA A c 32 16 (T1 (PV A) K c 57 0 (slot0 (F := F) c)) ⊢ Q ⟨b0, b1, b2⟩) :
    SA A c 32 16 (T1 (PV A) K c 55 0 (slot0 (F := F) c)) ⊢ WP c (k0_part61 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v93 v95 v2017 v2018 v2029 v2030) Q := by
  rw [k0_part61_eq_skeleton]; unfold k0_part61_skel; dsimp only
  refine iteQ (cnd56 c) (fun h56 hs => ?_) (fun h56 hs => ?_)
  · refine ldrow (a := A c) (tgt c 10) _ (tgt_lt c 10 3 (by decide) hs) (off56 c) ?_
    refine stepT (scatter (PV A) K c 10 (by decide) hs _ rfl (pay_send _) (Fin.ext (dev71 c)) (sem_snd 10 _) (sem_rcv 10 _)) ?_
    refine iteQ (cnd57 c) (fun h57 hs => ?_) (fun h57 hs => ?_)
    · refine ldrow (a := A c) (tgt c 11) _ (tgt_lt c 11 3 (by decide) hs) (off57 c) ?_
      refine stepT (scatter (PV A) K c 11 (by decide) hs _ rfl (pay_send _) (Fin.ext (dev72 c)) (sem_snd 11 _) (sem_rcv 11 _)) ?_
      exact retQ (hh _ _ _)
    · refine stT (Entails.of_eq (T1_skip (PV A) K c 56 0 _ (skip_all c 11 3 (by decide) hs))) ?_
      exact retQ (hh _ _ _)
  · refine stT (Entails.of_eq (T1_skip (PV A) K c 55 0 _ (skip_all c 10 3 (by decide) hs))) ?_
    refine iteQ (cnd57 c) (fun h57 hs => ?_) (fun h57 hs => ?_)
    · refine ldrow (a := A c) (tgt c 11) _ (tgt_lt c 11 3 (by decide) hs) (off57 c) ?_
      refine stepT (scatter (PV A) K c 11 (by decide) hs _ rfl (pay_send _) (Fin.ext (dev72 c)) (sem_snd 11 _) (sem_rcv 11 _)) ?_
      exact retQ (hh _ _ _)
    · refine stT (Entails.of_eq (T1_skip (PV A) K c 56 0 _ (skip_all c 11 3 (by decide) hs))) ?_
      exact retQ (hh _ _ _)

theorem run62 (v2 : BitVec 32) (v97 : BitVec 32) (v2061 : BitVec 32) (c4_i32_1449 : BitVec 32) (v2062 : BitVec 32) {Q : (Σ' (v2083 : BitVec 32), BitVec 32) → sProp 𝕄}
    (hh : ∀ (b0 : BitVec 32) (b1 : BitVec 32), SA A c 32 16 (T1 (PV A) K c 58 0 (slot0 (F := F) c)) ⊢ Q ⟨b0, b1⟩) :
    SA A c 32 16 (T1 (PV A) K c 57 0 (slot0 (F := F) c)) ⊢ WP c (k0_part62 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v97 v2061 c4_i32_1449 v2062) Q := by
  rw [k0_part62_eq_skeleton]; unfold k0_part62_skel; dsimp only
  refine iteQ (cnd58 c) (fun h58 hs => ?_) (fun h58 hs => ?_)
  · refine ldrow (a := A c) (tgt c 12) _ (tgt_lt c 12 3 (by decide) hs) (off58 c) ?_
    refine stepT (scatter (PV A) K c 12 (by decide) hs _ rfl (pay_send _) (Fin.ext (dev73 c)) (sem_snd 12 _) (sem_rcv 12 _)) ?_
    exact retQ (hh _ _)
  · refine stT (Entails.of_eq (T1_skip (PV A) K c 57 0 _ (skip_all c 12 3 (by decide) hs))) ?_
    exact retQ (hh _ _)

theorem run63 (v2 : BitVec 32) (v73 : BitVec 32) (v99 : BitVec 32) (v101 : BitVec 32) (v2083 : BitVec 32) (v2100 : BitVec 32) {Q : (Σ' (v2128 : FVec F S32x1024 .f32) (v2129 : BitVec 32), BitVec 32) → sProp 𝕄}
    (hh : ∀ (b1 : BitVec 32) (b2 : BitVec 32), SA A c 32 16 (T1 (PV A) K c 60 0 (slot0 (F := F) c)) ⊢ Q ⟨(k0_pay122 (prow (A c) c)), b1, b2⟩) :
    SA A c 32 16 (T1 (PV A) K c 58 0 (slot0 (F := F) c)) ⊢ WP c (k0_part63 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v73 v99 v101 v2083 v2100) Q := by
  rw [k0_part63_eq_skeleton]; unfold k0_part63_skel; dsimp only
  refine iteQ (cnd59 c) (fun h59 hs => ?_) (fun h59 hs => ?_)
  · refine ldrow (a := A c) (tgt c 13) _ (tgt_lt c 13 3 (by decide) hs) (off59 c) ?_
    refine stepT (scatter (PV A) K c 13 (by decide) hs _ rfl (pay_send _) (Fin.ext (dev74 c)) (sem_snd 13 _) (sem_rcv 13 _)) ?_
    refine iteQ (cnd60 c) (fun h60 hs => ?_) (fun h60 hs => ?_)
    · refine ldrow (a := A c) (tgt c 14) _ (tgt_lt c 14 3 (by decide) hs) (off60 c) ?_
      refine stepT (scatter (PV A) K c 14 (by decide) hs _ rfl (pay_send _) (Fin.ext (dev75 c)) (sem_snd 14 _) (sem_rcv 14 _)) ?_
      refine ldrow (a := A c) c _ (by have := c.isLt; omega) ((off61 c).trans (by rw [xr_zero])) ?_
      exact retQ (hh _ _)
    · refine stT (Entails.of_eq (T1_skip (PV A) K c 59 0 _ (skip_all c 14 3 (by decide) hs))) ?_
      refine ldrow (a := A c) c _ (by have := c.isLt; omega) ((off61 c).trans (by rw [xr_zero])) ?_
      exact retQ (hh _ _)
  · refine stT (Entails.of_eq (T1_skip (PV A) K c 58 0 _ (skip_all c 13 3 (by decide) hs))) ?_
    refine iteQ (cnd60 c) (fun h60 hs => ?_) (fun h60 hs => ?_)
    · refine ldrow (a := A c) (tgt c 14) _ (tgt_lt c 14 3 (by decide) hs) (off60 c) ?_
      refine stepT (scatter (PV A) K c 14 (by decide) hs _ rfl (pay_send _) (Fin.ext (dev75 c)) (sem_snd 14 _) (sem_rcv 14 _)) ?_
      refine ldrow (a := A c) c _ (by have := c.isLt; omega) ((off61 c).trans (by rw [xr_zero])) ?_
      exact retQ (hh _ _)
    · refine stT (Entails.of_eq (T1_skip (PV A) K c 59 0 _ (skip_all c 14 3 (by decide) hs))) ?_
      refine ldrow (a := A c) c _ (by have := c.isLt; omega) ((off61 c).trans (by rw [xr_zero])) ?_
      exact retQ (hh _ _)

end Cert.KernelIdeal.Talk
-- ==== Proof.Run5.lean ====
/- The body, parts 64 to 81. -/
module

public import proofs.«01_k».proof.Proof.Step

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

set_option maxRecDepth 65536

variable (A : Dev nD → In F) (K : GSem nD τ sig → ℕ) (c : Dev nD)

theorem run64 (v75 : BitVec 32) (v77 : BitVec 32) (v2129 : BitVec 32) (c0_i32_1499 : BitVec 32) {Q : (FVec F S32x1024 .f32) → sProp 𝕄}
    (hh : SA A c 32 16 (T1 (PV A) K c 60 2 (slot0 (F := F) c)) ⊢ Q (k0_pay123 (k0_pay122 (prow (A c) c)) (Vs (PV A) c 0) (Vs (PV A) c 1))) :
    SA A c 32 16 (T1 (PV A) K c 60 0 (slot0 (F := F) c)) ⊢ WP c (k0_part64 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v75 v77 (k0_pay122 (prow (A c) c)) v2129 c0_i32_1499) Q := by
  rw [k0_part64_eq_skeleton]; unfold k0_part64_skel; dsimp only
  refine stepT (waitR (PV A) K c 0 (r := 0) rp0 (lev_lo c 0 (by decide)) (keepX (PV A) c 0 (by decide) _) (sem_rcv 0 _) (crd10 _ _)) ?_
  refine stepT (ld10T (PV A) K c 0 (by decide) (by decide) rfl) ?_
  refine stepT (waitR (PV A) K c 1 (r := 1) rp1 (lev_lo c 1 (by decide)) (keepX (PV A) c 1 (by decide) _) (sem_rcv 1 _) (crd10 _ _)) ?_
  refine stepT (ld10T (PV A) K c 1 (by decide) (by decide) rfl) ?_
  exact retQ (hh)

theorem run65 (v79 : BitVec 32) (v81 : BitVec 32) {Q : (FVec F S32x1024 .f32) → sProp 𝕄}
    (hh : SA A c 32 16 (T1 (PV A) K c 60 5 (slot0 (F := F) c)) ⊢ Q (k0_pay124 (k0_pay123 (k0_pay122 (prow (A c) c)) (Vs (PV A) c 0) (Vs (PV A) c 1)) (Vs (PV A) c 2) (Vs (PV A) c 3) (Vs (PV A) c 4))) :
    SA A c 32 16 (T1 (PV A) K c 60 2 (slot0 (F := F) c)) ⊢ WP c (k0_part65 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v79 v81 (k0_pay123 (k0_pay122 (prow (A c) c)) (Vs (PV A) c 0) (Vs (PV A) c 1))) Q := by
  rw [k0_part65_eq_skeleton]; unfold k0_part65_skel; dsimp only
  refine stepT (waitR (PV A) K c 2 (r := 2) rp2 (lev_lo c 2 (by decide)) (keepX (PV A) c 2 (by decide) _) (sem_rcv 2 _) (crd10 _ _)) ?_
  refine stepT (ld10T (PV A) K c 2 (by decide) (by decide) rfl) ?_
  refine stepT (waitR (PV A) K c 3 (r := 3) rp3 (lev_lo c 3 (by decide)) (keepX (PV A) c 3 (by decide) _) (sem_rcv 3 _) (crd10 _ _)) ?_
  refine stepT (ld10T (PV A) K c 3 (by decide) (by decide) rfl) ?_
  refine stepT (waitR (PV A) K c 4 (r := 4) rp4 (lev_lo c 4 (by decide)) (keepX (PV A) c 4 (by decide) _) (sem_rcv 4 _) (crd10 _ _)) ?_
  refine stepT (ld10T (PV A) K c 4 (by decide) (by decide) rfl) ?_
  exact retQ (hh)

theorem run66 (v83 : BitVec 32) (v85 : BitVec 32) (v87 : BitVec 32) {Q : (FVec F S32x1024 .f32) → sProp 𝕄}
    (hh : SA A c 32 16 (T1 (PV A) K c 60 7 (slot0 (F := F) c)) ⊢ Q (k0_pay125 (k0_pay124 (k0_pay123 (k0_pay122 (prow (A c) c)) (Vs (PV A) c 0) (Vs (PV A) c 1)) (Vs (PV A) c 2) (Vs (PV A) c 3) (Vs (PV A) c 4)) (Vs (PV A) c 5) (Vs (PV A) c 6))) :
    SA A c 32 16 (T1 (PV A) K c 60 5 (slot0 (F := F) c)) ⊢ WP c (k0_part66 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v83 v85 v87 (k0_pay124 (k0_pay123 (k0_pay122 (prow (A c) c)) (Vs (PV A) c 0) (Vs (PV A) c 1)) (Vs (PV A) c 2) (Vs (PV A) c 3) (Vs (PV A) c 4))) Q := by
  rw [k0_part66_eq_skeleton]; unfold k0_part66_skel; dsimp only
  refine stepT (waitR (PV A) K c 5 (r := 5) rp5 (lev_lo c 5 (by decide)) (keepX (PV A) c 5 (by decide) _) (sem_rcv 5 _) (crd10 _ _)) ?_
  refine stepT (ld10T (PV A) K c 5 (by decide) (by decide) rfl) ?_
  refine stepT (waitR (PV A) K c 6 (r := 6) rp6 (lev_lo c 6 (by decide)) (keepX (PV A) c 6 (by decide) _) (sem_rcv 6 _) (crd10 _ _)) ?_
  refine stepT (ld10T (PV A) K c 6 (by decide) (by decide) rfl) ?_
  exact retQ (hh)

theorem run67 (v89 : BitVec 32) (v91 : BitVec 32) {Q : (FVec F S32x1024 .f32) → sProp 𝕄}
    (hh : SA A c 32 16 (T1 (PV A) K c 60 10 (slot0 (F := F) c)) ⊢ Q (k0_pay126 (k0_pay125 (k0_pay124 (k0_pay123 (k0_pay122 (prow (A c) c)) (Vs (PV A) c 0) (Vs (PV A) c 1)) (Vs (PV A) c 2) (Vs (PV A) c 3) (Vs (PV A) c 4)) (Vs (PV A) c 5) (Vs (PV A) c 6)) (Vs (PV A) c 7) (Vs (PV A) c 8))) :
    SA A c 32 16 (T1 (PV A) K c 60 7 (slot0 (F := F) c)) ⊢ WP c (k0_part67 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v89 v91 (k0_pay125 (k0_pay124 (k0_pay123 (k0_pay122 (prow (A c) c)) (Vs (PV A) c 0) (Vs (PV A) c 1)) (Vs (PV A) c 2) (Vs (PV A) c 3) (Vs (PV A) c 4)) (Vs (PV A) c 5) (Vs (PV A) c 6))) Q := by
  rw [k0_part67_eq_skeleton]; unfold k0_part67_skel; dsimp only
  refine stepT (waitR (PV A) K c 7 (r := 7) rp7 (lev_lo c 7 (by decide)) (keepX (PV A) c 7 (by decide) _) (sem_rcv 7 _) (crd10 _ _)) ?_
  refine stepT (ld10T (PV A) K c 7 (by decide) (by decide) rfl) ?_
  refine stepT (waitR (PV A) K c 8 (r := 8) rp8 (lev_lo c 8 (by decide)) (keepX (PV A) c 8 (by decide) _) (sem_rcv 8 _) (crd10 _ _)) ?_
  refine stepT (ld10T (PV A) K c 8 (by decide) (by decide) rfl) ?_
  refine stepT (waitR (PV A) K c 9 (r := 9) rp9 (lev_lo c 9 (by decide)) (keepX (PV A) c 9 (by decide) _) (sem_rcv 9 _) (crd10 _ _)) ?_
  exact retQ (hh)

theorem run68 (v93 : BitVec 32) (v95 : BitVec 32) (v97 : BitVec 32) {Q : (Σ' (v2260 : FVec F S32x1024 .f32) (v2261 : BitVec 32), BitVec 32) → sProp 𝕄}
    (hh : ∀ (b1 : BitVec 32) (b2 : BitVec 32), SA A c 32 16 (T1 (PV A) K c 60 12 (slot0 (F := F) c)) ⊢ Q ⟨(k0_pay127 (k0_pay126 (k0_pay125 (k0_pay124 (k0_pay123 (k0_pay122 (prow (A c) c)) (Vs (PV A) c 0) (Vs (PV A) c 1)) (Vs (PV A) c 2) (Vs (PV A) c 3) (Vs (PV A) c 4)) (Vs (PV A) c 5) (Vs (PV A) c 6)) (Vs (PV A) c 7) (Vs (PV A) c 8)) (Vs (PV A) c 9) (Vs (PV A) c 10) (Vs (PV A) c 11)), b1, b2⟩) :
    SA A c 32 16 (T1 (PV A) K c 60 10 (slot0 (F := F) c)) ⊢ WP c (k0_part68 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v93 v95 v97 (k0_pay126 (k0_pay125 (k0_pay124 (k0_pay123 (k0_pay122 (prow (A c) c)) (Vs (PV A) c 0) (Vs (PV A) c 1)) (Vs (PV A) c 2) (Vs (PV A) c 3) (Vs (PV A) c 4)) (Vs (PV A) c 5) (Vs (PV A) c 6)) (Vs (PV A) c 7) (Vs (PV A) c 8))) Q := by
  rw [k0_part68_eq_skeleton]; unfold k0_part68_skel; dsimp only
  refine stepT (ld10T (PV A) K c 9 (by decide) (by decide) rfl) ?_
  refine stepT (waitR (PV A) K c 10 (r := 10) rp10 (lev_lo c 10 (by decide)) (keepX (PV A) c 10 (by decide) _) (sem_rcv 10 _) (crd10 _ _)) ?_
  refine stepT (ld10T (PV A) K c 10 (by decide) (by decide) rfl) ?_
  refine stepT (waitR (PV A) K c 11 (r := 11) rp11 (lev_lo c 11 (by decide)) (keepX (PV A) c 11 (by decide) _) (sem_rcv 11 _) (crd10 _ _)) ?_
  refine stepT (ld10T (PV A) K c 11 (by decide) (by decide) rfl) ?_
  exact retQ (hh _ _)

theorem run69 (v99 : BitVec 32) (v101 : BitVec 32) (v2261 : BitVec 32) (c0_i32_1652 : BitVec 32) {Q : (FVec F S32x1024 .f32) → sProp 𝕄}
    (hh : SA A c 32 16 (T1 (PV A) K c 60 14 (slot0 (F := F) c)) ⊢ Q (k0_pay128 (k0_pay127 (k0_pay126 (k0_pay125 (k0_pay124 (k0_pay123 (k0_pay122 (prow (A c) c)) (Vs (PV A) c 0) (Vs (PV A) c 1)) (Vs (PV A) c 2) (Vs (PV A) c 3) (Vs (PV A) c 4)) (Vs (PV A) c 5) (Vs (PV A) c 6)) (Vs (PV A) c 7) (Vs (PV A) c 8)) (Vs (PV A) c 9) (Vs (PV A) c 10) (Vs (PV A) c 11)) (Vs (PV A) c 12) (Vs (PV A) c 13))) :
    SA A c 32 16 (T1 (PV A) K c 60 12 (slot0 (F := F) c)) ⊢ WP c (k0_part69 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v99 v101 (k0_pay127 (k0_pay126 (k0_pay125 (k0_pay124 (k0_pay123 (k0_pay122 (prow (A c) c)) (Vs (PV A) c 0) (Vs (PV A) c 1)) (Vs (PV A) c 2) (Vs (PV A) c 3) (Vs (PV A) c 4)) (Vs (PV A) c 5) (Vs (PV A) c 6)) (Vs (PV A) c 7) (Vs (PV A) c 8)) (Vs (PV A) c 9) (Vs (PV A) c 10) (Vs (PV A) c 11)) v2261 c0_i32_1652) Q := by
  rw [k0_part69_eq_skeleton]; unfold k0_part69_skel; dsimp only
  refine stepT (waitR (PV A) K c 12 (r := 12) rp12 (lev_lo c 12 (by decide)) (keepX (PV A) c 12 (by decide) _) (sem_rcv 12 _) (crd10 _ _)) ?_
  refine stepT (ld10T (PV A) K c 12 (by decide) (by decide) rfl) ?_
  refine stepT (waitR (PV A) K c 13 (r := 13) rp13 (lev_lo c 13 (by decide)) (keepX (PV A) c 13 (by decide) _) (sem_rcv 13 _) (crd10 _ _)) ?_
  refine stepT (ld10T (PV A) K c 13 (by decide) (by decide) rfl) ?_
  exact retQ (hh)

theorem run70 (v2 : BitVec 32) {Q : (PUnit) → sProp 𝕄}
    (hh : SB A c 1 (T1 (PV A) K c 61 15 (Lv (PV A) c 61 15)) ⊢ Q ⟨⟩) :
    SA A c 32 16 (T1 (PV A) K c 60 14 (slot0 (F := F) c)) ⊢ WP c (k0_part70 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 (k0_pay128 (k0_pay127 (k0_pay126 (k0_pay125 (k0_pay124 (k0_pay123 (k0_pay122 (prow (A c) c)) (Vs (PV A) c 0) (Vs (PV A) c 1)) (Vs (PV A) c 2) (Vs (PV A) c 3) (Vs (PV A) c 4)) (Vs (PV A) c 5) (Vs (PV A) c 6)) (Vs (PV A) c 7) (Vs (PV A) c 8)) (Vs (PV A) c 9) (Vs (PV A) c 10) (Vs (PV A) c 11)) (Vs (PV A) c 12) (Vs (PV A) c 13))) Q := by
  rw [k0_part70_eq_skeleton]; unfold k0_part70_skel; dsimp only
  refine stepT (waitR (PV A) K c 14 (r := 14) rp14 (lev_lo c 14 (by decide)) (keepX (PV A) c 14 (by decide) _) (sem_rcv 14 _) (crd10 _ _)) ?_
  refine stepT (ld10T (PV A) K c 14 (by decide) (by decide) rfl) ?_
  refine any8 fun _ => ?_
  refine sttot (PV A) 0 (fun _ _ _ h => absurd h (Nat.not_lt_zero _)) (off61 c) (by rw [xr_zero]; rfl) ?_
  refine stepT (st11T (PV A) K c rfl) ?_
  refine stepT (gather (PV A) K c 22 (by decide) (n := 60) (r := 15) rfl mem22 ers22 rfl rfl (Fin.ext (dev76 c)) (sem_snd 22 _) (sem_rcv 22 _)) ?_
  exact retQ (hh)

theorem run71 (v2 : BitVec 32) {Q : (BitVec 32) → sProp 𝕄}
    (hh : ∀ (b0 : BitVec 32), SB A c 1 (T1 (PV A) K c 63 16 (Lv (PV A) c 63 16)) ⊢ Q b0) :
    SB A c 1 (T1 (PV A) K c 61 15 (Lv (PV A) c 61 15)) ⊢ WP c (k0_part71 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2) Q := by
  rw [k0_part71_eq_skeleton]; unfold k0_part71_skel; dsimp only
  refine stepT (waitR (PV A) K c 22 (r := 15) rp22 (lev22 c) (addX (PV A) c 22 (by decide) add22) (sem_rcv 22 _) (crd11 _ _)) ?_
  refine stepT (gather (PV A) K c 16 (by decide) (n := 61) (r := 16) rfl mem16 ers16 rfl rfl (Fin.ext (dev77 c)) (sem_snd 16 _) (sem_rcv 16 _)) ?_
  refine stepT (gather (PV A) K c 24 (by decide) (n := 62) (r := 16) rfl mem24 ers24 rfl rfl (Fin.ext (dev78 c)) (sem_snd 24 _) (sem_rcv 24 _)) ?_
  exact retQ (hh _)

theorem run72 (v2 : BitVec 32) (v2331 : BitVec 32) {Q : (Σ' (v2358 : BitVec 32) (v2369 : BitVec 32) (v2370 : BitVec 32), BitVec 32) → sProp 𝕄}
    (hh : ∀ (b0 : BitVec 32) (b1 : BitVec 32) (b2 : BitVec 32) (b3 : BitVec 32), SB A c 1 (T1 (PV A) K c 64 18 (Lv (PV A) c 64 18)) ⊢ Q ⟨b0, b1, b2, b3⟩) :
    SB A c 1 (T1 (PV A) K c 63 16 (Lv (PV A) c 63 16)) ⊢ WP c (k0_part72 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v2331) Q := by
  rw [k0_part72_eq_skeleton]; unfold k0_part72_skel; dsimp only
  refine stepT (waitR (PV A) K c 16 (r := 16) rp16 (lev16 c) (addX (PV A) c 16 (by decide) add16) (sem_rcv 16 _) (crd11 _ _)) ?_
  refine stepT (waitR (PV A) K c 24 (r := 17) rp24 (lev24 c) (addX (PV A) c 24 (by decide) add24) (sem_rcv 24 _) (crd11 _ _)) ?_
  refine stepT (gather (PV A) K c 18 (by decide) (n := 63) (r := 18) rfl mem18 ers18 rfl rfl (Fin.ext (dev79 c)) (sem_snd 18 _) (sem_rcv 18 _)) ?_
  exact retQ (hh _ _ _ _)

theorem run73 (v2 : BitVec 32) (v2370 : BitVec 32) (c0_i32_1765 : BitVec 32) {Q : (Σ' (v2380 : BitVec 32), BitVec 32) → sProp 𝕄}
    (hh : ∀ (b0 : BitVec 32) (b1 : BitVec 32), SB A c 1 (T1 (PV A) K c 67 18 (Lv (PV A) c 67 18)) ⊢ Q ⟨b0, b1⟩) :
    SB A c 1 (T1 (PV A) K c 64 18 (Lv (PV A) c 64 18)) ⊢ WP c (k0_part73 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v2370 c0_i32_1765) Q := by
  rw [k0_part73_eq_skeleton]; unfold k0_part73_skel; dsimp only
  refine stepT (gather (PV A) K c 26 (by decide) (n := 64) (r := 18) rfl mem26 ers26 rfl rfl (Fin.ext (dev80 c)) (sem_snd 26 _) (sem_rcv 26 _)) ?_
  refine stepT (gather (PV A) K c 20 (by decide) (n := 65) (r := 18) rfl mem20 ers20 rfl rfl (Fin.ext (dev81 c)) (sem_snd 20 _) (sem_rcv 20 _)) ?_
  refine stepT (gather (PV A) K c 28 (by decide) (n := 66) (r := 18) rfl mem28 ers28 rfl rfl (Fin.ext (dev82 c)) (sem_snd 28 _) (sem_rcv 28 _)) ?_
  exact retQ (hh _ _)

theorem run74 (v2358 : BitVec 32) (v2369 : BitVec 32) (v2380 : BitVec 32) {Q : (PUnit) → sProp 𝕄}
    (hh : SB A c 1 (T1 (PV A) K c 67 21 (Lv (PV A) c 67 21)) ⊢ Q ⟨⟩) :
    SB A c 1 (T1 (PV A) K c 67 18 (Lv (PV A) c 67 18)) ⊢ WP c (k0_part74 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v2358 v2369 v2380) Q := by
  rw [k0_part74_eq_skeleton]; unfold k0_part74_skel; dsimp only
  refine stepT (waitR (PV A) K c 18 (r := 18) rp18 (lev18 c) (addX (PV A) c 18 (by decide) add18) (sem_rcv 18 _) (crd11 _ _)) ?_
  refine stepT (waitR (PV A) K c 26 (r := 19) rp26 (lev26 c) (addX (PV A) c 26 (by decide) add26) (sem_rcv 26 _) (crd11 _ _)) ?_
  refine stepT (waitR (PV A) K c 20 (r := 20) rp20 (lev20 c) (addX (PV A) c 20 (by decide) add20) (sem_rcv 20 _) (crd11 _ _)) ?_
  exact retQ (hh)

theorem run75 (v2 : BitVec 32) (v2391 : BitVec 32) {Q : (Σ' (v2434 : BitVec 32), BitVec 32) → sProp 𝕄}
    (hh : ∀ (b0 : BitVec 32) (b1 : BitVec 32), SB A c 1 (T1 (PV A) K c 68 22 (Lv (PV A) c 68 22)) ⊢ Q ⟨b0, b1⟩) :
    SB A c 1 (T1 (PV A) K c 67 21 (Lv (PV A) c 67 21)) ⊢ WP c (k0_part75 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 v2391) Q := by
  rw [k0_part75_eq_skeleton]; unfold k0_part75_skel; dsimp only
  refine stepT (waitR (PV A) K c 28 (r := 21) rp28 (lev28 c) (addX (PV A) c 28 (by decide) add28) (sem_rcv 28 _) (crd11 _ _)) ?_
  refine stepT (gather (PV A) K c 15 (by decide) (n := 67) (r := 22) rfl mem15 ers15 rfl rfl (Fin.ext (dev83 c)) (sem_snd 15 _) (sem_rcv 15 _)) ?_
  exact retQ (hh _ _)

theorem run76 (v2 : BitVec 32) {Q : (Σ' (v2456 : BitVec 32) (v2467 : BitVec 32), BitVec 32) → sProp 𝕄}
    (hh : ∀ (b0 : BitVec 32) (b1 : BitVec 32) (b2 : BitVec 32), SB A c 1 (T1 (PV A) K c 71 22 (Lv (PV A) c 71 22)) ⊢ Q ⟨b0, b1, b2⟩) :
    SB A c 1 (T1 (PV A) K c 68 22 (Lv (PV A) c 68 22)) ⊢ WP c (k0_part76 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2) Q := by
  rw [k0_part76_eq_skeleton]; unfold k0_part76_skel; dsimp only
  refine stepT (gather (PV A) K c 23 (by decide) (n := 68) (r := 22) rfl mem23 ers23 rfl rfl (Fin.ext (dev84 c)) (sem_snd 23 _) (sem_rcv 23 _)) ?_
  refine stepT (gather (PV A) K c 17 (by decide) (n := 69) (r := 22) rfl mem17 ers17 rfl rfl (Fin.ext (dev85 c)) (sem_snd 17 _) (sem_rcv 17 _)) ?_
  refine stepT (gather (PV A) K c 25 (by decide) (n := 70) (r := 22) rfl mem25 ers25 rfl rfl (Fin.ext (dev86 c)) (sem_snd 25 _) (sem_rcv 25 _)) ?_
  exact retQ (hh _ _ _)

theorem run77 (v2 : BitVec 32) {Q : (Σ' (v2489 : BitVec 32) (v2500 : BitVec 32), BitVec 32) → sProp 𝕄}
    (hh : ∀ (b0 : BitVec 32) (b1 : BitVec 32) (b2 : BitVec 32), SB A c 1 (T1 (PV A) K c 74 22 (Lv (PV A) c 74 22)) ⊢ Q ⟨b0, b1, b2⟩) :
    SB A c 1 (T1 (PV A) K c 71 22 (Lv (PV A) c 71 22)) ⊢ WP c (k0_part77 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2) Q := by
  rw [k0_part77_eq_skeleton]; unfold k0_part77_skel; dsimp only
  refine stepT (gather (PV A) K c 19 (by decide) (n := 71) (r := 22) rfl mem19 ers19 rfl rfl (Fin.ext (dev87 c)) (sem_snd 19 _) (sem_rcv 19 _)) ?_
  refine stepT (gather (PV A) K c 27 (by decide) (n := 72) (r := 22) rfl mem27 ers27 rfl rfl (Fin.ext (dev88 c)) (sem_snd 27 _) (sem_rcv 27 _)) ?_
  refine stepT (gather (PV A) K c 21 (by decide) (n := 73) (r := 22) rfl mem21 ers21 rfl rfl (Fin.ext (dev89 c)) (sem_snd 21 _) (sem_rcv 21 _)) ?_
  exact retQ (hh _ _ _)

theorem run78 (v2434 : BitVec 32) (v2445 : BitVec 32) (v2511 : BitVec 32) {Q : (PUnit) → sProp 𝕄}
    (hh : SB A c 1 (T1 (PV A) K c 75 24 (Lv (PV A) c 75 24)) ⊢ Q ⟨⟩) :
    SB A c 1 (T1 (PV A) K c 74 22 (Lv (PV A) c 74 22)) ⊢ WP c (k0_part78 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2434 v2445 v2511) Q := by
  rw [k0_part78_eq_skeleton]; unfold k0_part78_skel; dsimp only
  refine stepT (gather (PV A) K c 29 (by decide) (n := 74) (r := 22) rfl mem29 ers29 rfl rfl (Fin.ext (dev90 c)) (sem_snd 29 _) (sem_rcv 29 _)) ?_
  refine stepT (waitR (PV A) K c 15 (r := 22) rp15 (lev15 c) (addX (PV A) c 15 (by decide) add15) (sem_rcv 15 _) (crd11 _ _)) ?_
  refine stepT (waitR (PV A) K c 23 (r := 23) rp23 (lev23 c) (addX (PV A) c 23 (by decide) add23) (sem_rcv 23 _) (crd11 _ _)) ?_
  exact retQ (hh)

theorem run79 (v2456 : BitVec 32) (v2467 : BitVec 32) (v2478 : BitVec 32) {Q : (BitVec 32) → sProp 𝕄}
    (hh : ∀ (b0 : BitVec 32), SB A c 1 (T1 (PV A) K c 75 27 (Lv (PV A) c 75 27)) ⊢ Q b0) :
    SB A c 1 (T1 (PV A) K c 75 24 (Lv (PV A) c 75 24)) ⊢ WP c (k0_part79 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v2456 v2467 v2478) Q := by
  rw [k0_part79_eq_skeleton]; unfold k0_part79_skel; dsimp only
  refine stepT (waitR (PV A) K c 17 (r := 24) rp17 (lev17 c) (addX (PV A) c 17 (by decide) add17) (sem_rcv 17 _) (crd11 _ _)) ?_
  refine stepT (waitR (PV A) K c 25 (r := 25) rp25 (lev25 c) (addX (PV A) c 25 (by decide) add25) (sem_rcv 25 _) (crd11 _ _)) ?_
  refine stepT (waitR (PV A) K c 19 (r := 26) rp19 (lev19 c) (addX (PV A) c 19 (by decide) add19) (sem_rcv 19 _) (crd11 _ _)) ?_
  exact retQ (hh _)

theorem run80 (v2 : BitVec 32) (v2489 : BitVec 32) (v2500 : BitVec 32) (v2511 : BitVec 32) (c1_i32_1965 : BitVec 32) {Q : (FVec F S32x1024 .f32) → sProp 𝕄}
    (hh : SB A c 1 (T1 (PV A) K c 75 30 (Lv (PV A) c 75 30)) ⊢ Q (k0_pay132 (Tv (PV A) (xr c 1)))) :
    SB A c 1 (T1 (PV A) K c 75 27 (Lv (PV A) c 75 27)) ⊢ WP c (k0_part80 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 v2 v2489 v2500 v2511 c1_i32_1965) Q := by
  rw [k0_part80_eq_skeleton]; unfold k0_part80_skel; dsimp only
  refine stepT (waitR (PV A) K c 27 (r := 27) rp27 (lev27 c) (addX (PV A) c 27 (by decide) add27) (sem_rcv 27 _) (crd11 _ _)) ?_
  refine stepT (waitR (PV A) K c 21 (r := 28) rp21 (lev21 c) (addX (PV A) c 21 (by decide) add21) (sem_rcv 21 _) (crd11 _ _)) ?_
  refine stepT (waitR (PV A) K c 29 (r := 29) rp29 (lev29 c) (addX (PV A) c 29 (by decide) add29) (sem_rcv 29 _) (crd11 _ _)) ?_
  refine stepT (ld11T (PV A) K c 1 (held_all _) rfl) ?_
  exact retQ (hh)

theorem run81 (v2 : BitVec 32) {Q : (FVec F S32x1024 .f32) → sProp 𝕄}
    (hh : SB A c 5 (T1 (PV A) K c 75 30 (Lv (PV A) c 75 30)) ⊢ Q (k0_pay137 (Tv (PV A) (xr c 5)))) :
    SB A c 1 (T1 (PV A) K c 75 30 (Lv (PV A) c 75 30)) ⊢ WP c (k0_part81 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 (k0_pay132 (Tv (PV A) (xr c 1)))) Q := by
  rw [k0_part81_eq_skeleton]; unfold k0_part81_skel; dsimp only
  refine any8 fun _ => ?_
  refine sttot (PV A) 1 (fun _ h => h) (off62_1 c) (pay_take _) ?_
  refine stepT (ld11T (PV A) K c 2 (held_all _) rfl) ?_
  refine any8 fun _ => ?_
  refine sttot (PV A) 2 (fun _ h => h) (off62_2 c) (pay_take _) ?_
  refine stepT (ld11T (PV A) K c 3 (held_all _) rfl) ?_
  refine any8 fun _ => ?_
  refine sttot (PV A) 3 (fun _ h => h) (off62_3 c) (pay_take _) ?_
  refine stepT (ld11T (PV A) K c 4 (held_all _) rfl) ?_
  refine any8 fun _ => ?_
  refine sttot (PV A) 4 (fun _ h => h) (off62_4 c) (pay_take _) ?_
  refine stepT (ld11T (PV A) K c 5 (held_all _) rfl) ?_
  refine any8 fun _ => ?_
  exact retQ (hh)

end Cert.KernelIdeal.Talk
-- ==== Proof.Run6.lean ====
/- The body, parts 82 to 94. -/
module

public import proofs.«01_k».proof.Proof.Step

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

set_option maxRecDepth 65536

variable (A : Dev nD → In F) (K : GSem nD τ sig → ℕ) (c : Dev nD)

theorem run82 (v2 : BitVec 32) {Q : (PUnit) → sProp 𝕄}
    (hh : SB A c 10 (T1 (PV A) K c 75 30 (Lv (PV A) c 75 30)) ⊢ Q ⟨⟩) :
    SB A c 5 (T1 (PV A) K c 75 30 (Lv (PV A) c 75 30)) ⊢ WP c (k0_part82 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 (k0_pay137 (Tv (PV A) (xr c 5)))) Q := by
  rw [k0_part82_eq_skeleton]; unfold k0_part82_skel; dsimp only
  refine sttot (PV A) 5 (fun _ h => h) (off62_5 c) (pay_take _) ?_
  refine stepT (ld11T (PV A) K c 6 (held_all _) rfl) ?_
  refine any8 fun _ => ?_
  refine sttot (PV A) 6 (fun _ h => h) (off62_6 c) (pay_take _) ?_
  refine stepT (ld11T (PV A) K c 7 (held_all _) rfl) ?_
  refine any8 fun _ => ?_
  refine sttot (PV A) 7 (fun _ h => h) (off62_7 c) (pay_take _) ?_
  refine stepT (ld11T (PV A) K c 8 (held_all _) rfl) ?_
  refine any8 fun _ => ?_
  refine sttot (PV A) 8 (fun _ h => h) (off62_8 c) (pay_take _) ?_
  refine stepT (ld11T (PV A) K c 9 (held_all _) rfl) ?_
  refine any8 fun _ => ?_
  refine sttot (PV A) 9 (fun _ h => h) (off62_9 c) (pay_take _) ?_
  exact retQ (hh)

theorem run83 (v2 : BitVec 32) {Q : (Σ' (v2678 : FVec F S32x1024 .f32), BitVec 32) → sProp 𝕄}
    (hh : ∀ (b1 : BitVec 32), SB A c 14 (T1 (PV A) K c 75 30 (Lv (PV A) c 75 30)) ⊢ Q ⟨(k0_pay147 (Tv (PV A) (xr c 14))), b1⟩) :
    SB A c 10 (T1 (PV A) K c 75 30 (Lv (PV A) c 75 30)) ⊢ WP c (k0_part83 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2) Q := by
  rw [k0_part83_eq_skeleton]; unfold k0_part83_skel; dsimp only
  refine stepT (ld11T (PV A) K c 10 (held_all _) rfl) ?_
  refine any8 fun _ => ?_
  refine sttot (PV A) 10 (fun _ h => h) (off62_10 c) (pay_take _) ?_
  refine stepT (ld11T (PV A) K c 11 (held_all _) rfl) ?_
  refine any8 fun _ => ?_
  refine sttot (PV A) 11 (fun _ h => h) (off62_11 c) (pay_take _) ?_
  refine stepT (ld11T (PV A) K c 12 (held_all _) rfl) ?_
  refine any8 fun _ => ?_
  refine sttot (PV A) 12 (fun _ h => h) (off62_12 c) (pay_take _) ?_
  refine stepT (ld11T (PV A) K c 13 (held_all _) rfl) ?_
  refine any8 fun _ => ?_
  refine sttot (PV A) 13 (fun _ h => h) (off62_13 c) (pay_take _) ?_
  refine stepT (ld11T (PV A) K c 14 (held_all _) rfl) ?_
  exact retQ (hh _)

theorem run84 (v2 : BitVec 32) (c14_i32_2072 : BitVec 32) {Q : (PUnit) → sProp 𝕄}
    (hh : SB A c 16 (T2 (PV A) K c 2 0) ⊢ Q ⟨⟩) :
    SB A c 14 (T1 (PV A) K c 75 30 (Lv (PV A) c 75 30)) ⊢ WP c (k0_part84 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2 (k0_pay147 (Tv (PV A) (xr c 14))) c14_i32_2072) Q := by
  rw [k0_part84_eq_skeleton]; unfold k0_part84_skel; dsimp only
  refine any8 fun _ => ?_
  refine sttot (PV A) 14 (fun _ h => h) (off62_14 c) (pay_take _) ?_
  refine stepT (ld11T (PV A) K c 15 (held_all _) rfl) ?_
  refine any8 fun _ => ?_
  refine sttot (PV A) 15 (fun _ h => h) (off62_15 c) (pay_take _) ?_
  refine stT (T1_T2 (PV A) K c) ?_
  refine stepT (waitS (PV A) K c 0 (w := 0) rp0 (sem_snd 0 _) (crd9 _ _)) ?_
  refine stepT (waitS (PV A) K c 1 (w := 1) rp1 (sem_snd 1 _) (crd9 _ _)) ?_
  exact retQ (hh)

theorem run85  {Q : (PUnit) → sProp 𝕄}
    (hh : SB A c 16 (T2 (PV A) K c 6 0) ⊢ Q ⟨⟩) :
    SB A c 16 (T2 (PV A) K c 2 0) ⊢ WP c (k0_part85 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part85_eq_skeleton]; unfold k0_part85_skel; dsimp only
  refine stepT (waitS (PV A) K c 2 (w := 2) rp2 (sem_snd 2 _) (crd9 _ _)) ?_
  refine stepT (waitS (PV A) K c 3 (w := 3) rp3 (sem_snd 3 _) (crd9 _ _)) ?_
  refine stepT (waitS (PV A) K c 4 (w := 4) rp4 (sem_snd 4 _) (crd9 _ _)) ?_
  refine stepT (waitS (PV A) K c 5 (w := 5) rp5 (sem_snd 5 _) (crd9 _ _)) ?_
  exact retQ (hh)

theorem run86  {Q : (PUnit) → sProp 𝕄}
    (hh : SB A c 16 (T2 (PV A) K c 9 0) ⊢ Q ⟨⟩) :
    SB A c 16 (T2 (PV A) K c 6 0) ⊢ WP c (k0_part86 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part86_eq_skeleton]; unfold k0_part86_skel; dsimp only
  refine stepT (waitS (PV A) K c 6 (w := 6) rp6 (sem_snd 6 _) (crd9 _ _)) ?_
  refine stepT (waitS (PV A) K c 7 (w := 7) rp7 (sem_snd 7 _) (crd9 _ _)) ?_
  refine stepT (waitS (PV A) K c 8 (w := 8) rp8 (sem_snd 8 _) (crd9 _ _)) ?_
  exact retQ (hh)

theorem run87  {Q : (PUnit) → sProp 𝕄}
    (hh : SB A c 16 (T2 (PV A) K c 13 0) ⊢ Q ⟨⟩) :
    SB A c 16 (T2 (PV A) K c 9 0) ⊢ WP c (k0_part87 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part87_eq_skeleton]; unfold k0_part87_skel; dsimp only
  refine stepT (waitS (PV A) K c 9 (w := 9) rp9 (sem_snd 9 _) (crd9 _ _)) ?_
  refine stepT (waitS (PV A) K c 10 (w := 10) rp10 (sem_snd 10 _) (crd9 _ _)) ?_
  refine stepT (waitS (PV A) K c 11 (w := 11) rp11 (sem_snd 11 _) (crd9 _ _)) ?_
  refine stepT (waitS (PV A) K c 12 (w := 12) rp12 (sem_snd 12 _) (crd9 _ _)) ?_
  exact retQ (hh)

theorem run88  {Q : (PUnit) → sProp 𝕄}
    (hh : SB A c 16 (T2 (PV A) K c 17 0) ⊢ Q ⟨⟩) :
    SB A c 16 (T2 (PV A) K c 13 0) ⊢ WP c (k0_part88 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part88_eq_skeleton]; unfold k0_part88_skel; dsimp only
  refine stepT (waitS (PV A) K c 13 (w := 13) rp13 (sem_snd 13 _) (crd9 _ _)) ?_
  refine stepT (waitS (PV A) K c 14 (w := 14) rp14 (sem_snd 14 _) (crd9 _ _)) ?_
  refine stepT (waitS (PV A) K c 22 (w := 15) rp22 (sem_snd 22 _) (crd11 _ _)) ?_
  refine stepT (waitS (PV A) K c 16 (w := 16) rp16 (sem_snd 16 _) (crd11 _ _)) ?_
  exact retQ (hh)

theorem run89  {Q : (PUnit) → sProp 𝕄}
    (hh : SB A c 16 (T2 (PV A) K c 21 0) ⊢ Q ⟨⟩) :
    SB A c 16 (T2 (PV A) K c 17 0) ⊢ WP c (k0_part89 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part89_eq_skeleton]; unfold k0_part89_skel; dsimp only
  refine stepT (waitS (PV A) K c 24 (w := 17) rp24 (sem_snd 24 _) (crd11 _ _)) ?_
  refine stepT (waitS (PV A) K c 18 (w := 18) rp18 (sem_snd 18 _) (crd11 _ _)) ?_
  refine stepT (waitS (PV A) K c 26 (w := 19) rp26 (sem_snd 26 _) (crd11 _ _)) ?_
  refine stepT (waitS (PV A) K c 20 (w := 20) rp20 (sem_snd 20 _) (crd11 _ _)) ?_
  exact retQ (hh)

theorem run90  {Q : (PUnit) → sProp 𝕄}
    (hh : SB A c 16 (T2 (PV A) K c 24 0) ⊢ Q ⟨⟩) :
    SB A c 16 (T2 (PV A) K c 21 0) ⊢ WP c (k0_part90 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part90_eq_skeleton]; unfold k0_part90_skel; dsimp only
  refine stepT (waitS (PV A) K c 28 (w := 21) rp28 (sem_snd 28 _) (crd11 _ _)) ?_
  refine stepT (waitS (PV A) K c 15 (w := 22) rp15 (sem_snd 15 _) (crd11 _ _)) ?_
  refine stepT (waitS (PV A) K c 23 (w := 23) rp23 (sem_snd 23 _) (crd11 _ _)) ?_
  exact retQ (hh)

theorem run91  {Q : (PUnit) → sProp 𝕄}
    (hh : SB A c 16 (T2 (PV A) K c 28 0) ⊢ Q ⟨⟩) :
    SB A c 16 (T2 (PV A) K c 24 0) ⊢ WP c (k0_part91 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part91_eq_skeleton]; unfold k0_part91_skel; dsimp only
  refine stepT (waitS (PV A) K c 17 (w := 24) rp17 (sem_snd 17 _) (crd11 _ _)) ?_
  refine stepT (waitS (PV A) K c 25 (w := 25) rp25 (sem_snd 25 _) (crd11 _ _)) ?_
  refine stepT (waitS (PV A) K c 19 (w := 26) rp19 (sem_snd 19 _) (crd11 _ _)) ?_
  refine stepT (waitS (PV A) K c 27 (w := 27) rp27 (sem_snd 27 _) (crd11 _ _)) ?_
  exact retQ (hh)

theorem run92 (v2 : BitVec 32) {Q : (PUnit) → sProp 𝕄}
    (hh : SC A c (T2 (PV A) K c 30 2) ⊢ Q ⟨⟩) :
    SB A c 16 (T2 (PV A) K c 28 0) ⊢ WP c (k0_part92 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2) Q := by
  rw [k0_part92_eq_skeleton]; unfold k0_part92_skel; dsimp only
  refine stepT (waitS (PV A) K c 21 (w := 28) rp21 (sem_snd 21 _) (crd11 _ _)) ?_
  refine stepT (waitS (PV A) K c 29 (w := 29) rp29 (sem_snd 29 _) (crd11 _ _)) ?_
  refine ldall (PV A) ?_
  refine any5 fun _ => ?_
  refine stout (w := outV A) ?_
  refine stepT (sig_ex (PV A) K c 0 (Fin.ext (dev91 c)) sem_ex) ?_
  refine stepT (sig_ex (PV A) K c 1 (Fin.ext (dev92 c)) sem_ex) ?_
  exact retQ (hh)

theorem run93 (v2 : BitVec 32) {Q : (PUnit) → sProp 𝕄}
    (hh : SC A c (T2 (PV A) K c 30 8) ⊢ Q ⟨⟩) :
    SC A c (T2 (PV A) K c 30 2) ⊢ WP c (k0_part93 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2) Q := by
  rw [k0_part93_eq_skeleton]; unfold k0_part93_skel
  refine stepT (sig_ex (PV A) K c 2 (Fin.ext (dev93 c)) sem_ex) ?_
  refine stepT (sig_ex (PV A) K c 3 (Fin.ext (dev94 c)) sem_ex) ?_
  refine stepT (sig_ex (PV A) K c 4 (Fin.ext (dev95 c)) sem_ex) ?_
  refine stepT (sig_ex (PV A) K c 5 (Fin.ext (dev96 c)) sem_ex) ?_
  refine stepT (sig_ex (PV A) K c 6 (Fin.ext (dev97 c)) sem_ex) ?_
  refine stepT (sig_ex (PV A) K c 7 (Fin.ext (dev98 c)) sem_ex) ?_
  exact retQ (hh)

theorem run94 (v2 : BitVec 32) {Q : (PUnit) → sProp 𝕄}
    (hh : SC A c (T2 (PV A) K c 30 14) ⊢ Q ⟨⟩) :
    SC A c (T2 (PV A) K c 30 8) ⊢ WP c (k0_part94 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 c v2) Q := by
  rw [k0_part94_eq_skeleton]; unfold k0_part94_skel
  refine stepT (sig_ex (PV A) K c 8 (Fin.ext (dev99 c)) sem_ex) ?_
  refine stepT (sig_ex (PV A) K c 9 (Fin.ext (dev100 c)) sem_ex) ?_
  refine stepT (sig_ex (PV A) K c 10 (Fin.ext (dev101 c)) sem_ex) ?_
  refine stepT (sig_ex (PV A) K c 11 (Fin.ext (dev102 c)) sem_ex) ?_
  refine stepT (sig_ex (PV A) K c 12 (Fin.ext (dev103 c)) sem_ex) ?_
  refine stepT (sig_ex (PV A) K c 13 (Fin.ext (dev104 c)) sem_ex) ?_
  exact retQ (hh)

end Cert.KernelIdeal.Talk
-- ==== Proof.Body.lean ====
/- The body, whole. -/
module

public import proofs.«01_k».proof.Proof.Run1
public import proofs.«01_k».proof.Proof.Run2
public import proofs.«01_k».proof.Proof.Run3
public import proofs.«01_k».proof.Proof.Run4
public import proofs.«01_k».proof.Proof.Run5
public import proofs.«01_k».proof.Proof.Run6

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

set_option maxRecDepth 65536

variable (A : Dev nD → In F) (K : GSem nD τ sig → ℕ) (c : Dev nD)

theorem run95 {Q : (Σ' (d0 : Dev nD) (v2 : BitVec 32) (v73 : BitVec 32) (v75 : BitVec 32) (v77 : BitVec 32) (v79 : BitVec 32) (v81 : BitVec 32) (v83 : BitVec 32) (v85 : BitVec 32) (v87 : BitVec 32) (v89 : BitVec 32) (v91 : BitVec 32) (v93 : BitVec 32) (v95 : BitVec 32) (v97 : BitVec 32) (v99 : BitVec 32) (v101 : BitVec 32) (v2017 : BitVec 32) (v2018 : BitVec 32) (v2029 : BitVec 1), BitVec 32) → sProp 𝕄}
    (hh : ∀ (b1 : BitVec 32) (b2 : BitVec 32) (b3 : BitVec 32) (b4 : BitVec 32) (b5 : BitVec 32) (b6 : BitVec 32) (b7 : BitVec 32) (b8 : BitVec 32) (b9 : BitVec 32) (b10 : BitVec 32) (b11 : BitVec 32) (b12 : BitVec 32) (b13 : BitVec 32) (b14 : BitVec 32) (b15 : BitVec 32) (b16 : BitVec 32) (b17 : BitVec 32) (b18 : BitVec 32) (b19 : BitVec 1) (b20 : BitVec 32), SA A c 32 16 (T1 (PV A) K c 55 0 (slot0 (F := F) c)) ⊢ Q ⟨c, b1, b2, b3, b4, b5, b6, b7, b8, b9, b10, b11, b12, b13, b14, b15, b16, b17, b18, b19, b20⟩) :
    S1 A c (T0 (PV A) K c 0) ⊢ WP c (k0_part95 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) Q := by
  rw [k0_part95_eq_skeleton]; unfold k0_part95_skel; dsimp only
  refine bindQ (run1 A K c (fun _ _ _ => ?_))
  try dsimp only
  refine bindQ (run2 A K c _ _ _ (fun _ _ => ?_))
  try dsimp only
  refine bindQ (run3 A K c _ _ _ (fun _ => ?_))
  try dsimp only
  refine bindQ (run4 A K c _ (fun _ _ _ _ _ _ _ _ _ _ _ _ _ _ => ?_))
  try dsimp only
  refine bindQ (run5 A K c ?_)
  try dsimp only
  refine bindQ (run6 A K c ?_)
  try dsimp only
  refine bindQ (run7 A K c ?_)
  try dsimp only
  refine bindQ (run8 A K c ?_)
  try dsimp only
  refine bindQ (run9 A K c ?_)
  try dsimp only
  refine bindQ (run10 A K c _ _ (fun _ _ _ _ => ?_))
  try dsimp only
  refine bindQ (run11 A K c _ _ _ _ _ _ (fun _ _ => ?_))
  try dsimp only
  refine bindQ (run12 A K c _ _ _ _ _ (fun _ _ _ _ _ _ => ?_))
  try dsimp only
  refine bindQ (run13 A K c _ _ _ _ _ _ _ _ _ (fun _ _ => ?_))
  try dsimp only
  refine bindQ (run14 A K c _ _ _ _ (fun _ _ _ => ?_))
  try dsimp only
  refine bindQ (run15 A K c _ _ _ _ _ _ (fun _ _ _ _ => ?_))
  try dsimp only
  refine bindQ (run16 A K c _ _ _ _ _ _ (fun _ _ => ?_))
  try dsimp only
  refine bindQ (run17 A K c _ _ _ _ _ (fun _ _ _ _ _ => ?_))
  try dsimp only
  refine bindQ (run18 A K c _ _ _ _ _ _ _ (fun _ => ?_))
  try dsimp only
  refine bindQ (run19 A K c _ _ _ _ ?_)
  try dsimp only
  refine bindQ (run20 A K c ?_)
  try dsimp only
  refine bindQ (run21 A K c ?_)
  try dsimp only
  refine bindQ (run22 A K c ?_)
  try dsimp only
  refine bindQ (run23 A K c ?_)
  try dsimp only
  refine bindQ (run24 A K c _ (fun _ _ _ _ => ?_))
  try dsimp only
  refine bindQ (run25 A K c _ _ _ _ _ _ (fun _ _ => ?_))
  try dsimp only
  refine bindQ (run26 A K c _ _ _ _ _ (fun _ _ _ _ _ => ?_))
  try dsimp only
  refine bindQ (run27 A K c _ _ _ _ _ _ _ (fun _ _ _ => ?_))
  try dsimp only
  refine bindQ (run28 A K c _ _ _ _ _ _ (fun _ _ _ _ _ => ?_))
  try dsimp only
  refine bindQ (run29 A K c _ _ _ _ _ _ _ _ (fun _ => ?_))
  try dsimp only
  refine bindQ (run30 A K c _ _ _ (fun _ _ _ _ => ?_))
  try dsimp only
  refine bindQ (run31 A K c _ _ _ _ _ _ _ (fun _ _ _ _ _ => ?_))
  try dsimp only
  refine bindQ (run32 A K c _ _ _ _ _ _ _ (fun _ _ => ?_))
  try dsimp only
  refine bindQ (run33 A K c _ _ _ _ _ (fun _ _ _ _ _ => ?_))
  try dsimp only
  refine bindQ (run34 A K c _ _ _ _ _ _ ?_)
  try dsimp only
  refine bindQ (run35 A K c ?_)
  try dsimp only
  refine bindQ (run36 A K c ?_)
  try dsimp only
  refine bindQ (run37 A K c ?_)
  try dsimp only
  refine bindQ (run38 A K c ?_)
  try dsimp only
  refine bindQ (run39 A K c _ (fun _ _ _ => ?_))
  try dsimp only
  refine bindQ (run40 A K c _ _ _ _ _ _ (fun _ _ _ _ => ?_))
  try dsimp only
  refine bindQ (run41 A K c _ _ _ _ _ _ (fun _ _ => ?_))
  try dsimp only
  refine bindQ (run42 A K c _ _ _ _ _ (fun _ _ _ _ _ => ?_))
  try dsimp only
  refine bindQ (run43 A K c _ _ _ _ _ _ _ (fun _ => ?_))
  try dsimp only
  refine bindQ (run44 A K c _ _ _ _ (fun _ _ _ _ => ?_))
  try dsimp only
  refine bindQ (run45 A K c _ _ _ _ _ _ _ (fun _ _ => ?_))
  try dsimp only
  refine bindQ (run46 A K c _ _ _ _ (fun _ _ _ _ => ?_))
  try dsimp only
  refine bindQ (run47 A K c _ _ _ _ _ _ _ (fun _ _ _ _ _ => ?_))
  try dsimp only
  refine bindQ (run48 A K c _ _ _ _ _ _ _ (fun _ _ => ?_))
  try dsimp only
  refine bindQ (run49 A K c _ _ _ ?_)
  try dsimp only
  refine bindQ (run50 A K c ?_)
  try dsimp only
  refine bindQ (run51 A K c ?_)
  try dsimp only
  refine bindQ (run52 A K c ?_)
  try dsimp only
  refine bindQ (run53 A K c ?_)
  try dsimp only
  refine bindQ (run54 A K c _ _ (fun _ => ?_))
  try dsimp only
  refine bindQ (run55 A K c _ _ _ (fun _ _ _ _ => ?_))
  try dsimp only
  refine bindQ (run56 A K c _ _ _ _ _ _ _ (fun _ _ _ _ _ => ?_))
  try dsimp only
  refine bindQ (run57 A K c _ _ _ _ _ _ _ (fun _ _ => ?_))
  try dsimp only
  refine bindQ (run58 A K c _ _ _ _ _ (fun _ _ _ _ _ => ?_))
  try dsimp only
  refine bindQ (run59 A K c _ _ _ _ _ _ _ _ ?_)
  try dsimp only
  refine bindQ (run60 A K c _ _ (fun _ _ _ _ => ?_))
  try dsimp only
  exact retQ (hh _ _ _ _ _ _ _ _ _ _ _ _ _ _ _ _ _ _ _ _)

theorem body_run : S1 A c (T0 (PV A) K c 0) ⊢ WP c (cc0__body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) (fun _ => SC A c (T3 (PV A) K c)) := by
  rw [cc0__body_eq_skeleton]; unfold cc0__body_skel; dsimp only
  refine bindQ (run95 A K c (fun _ _ _ _ _ _ _ _ _ _ _ _ _ _ _ _ _ _ _ _ => ?_))
  dsimp only
  refine bindQ (run61 A K c _ _ _ _ _ _ _ (fun _ _ _ => ?_))
  try dsimp only
  refine bindQ (run62 A K c _ _ _ _ _ (fun _ _ => ?_))
  try dsimp only
  refine bindQ (run63 A K c _ _ _ _ _ _ (fun _ _ => ?_))
  try dsimp only
  refine bindQ (run64 A K c _ _ _ _ ?_)
  try dsimp only
  refine bindQ (run65 A K c _ _ ?_)
  try dsimp only
  refine bindQ (run66 A K c _ _ _ ?_)
  try dsimp only
  refine bindQ (run67 A K c _ _ ?_)
  try dsimp only
  refine bindQ (run68 A K c _ _ _ (fun _ _ => ?_))
  try dsimp only
  refine bindQ (run69 A K c _ _ _ _ ?_)
  try dsimp only
  refine bindQ (run70 A K c _ ?_)
  try dsimp only
  refine bindQ (run71 A K c _ (fun _ => ?_))
  try dsimp only
  refine bindQ (run72 A K c _ _ (fun _ _ _ _ => ?_))
  try dsimp only
  refine bindQ (run73 A K c _ _ _ (fun _ _ => ?_))
  try dsimp only
  refine bindQ (run74 A K c _ _ _ ?_)
  try dsimp only
  refine bindQ (run75 A K c _ _ (fun _ _ => ?_))
  try dsimp only
  refine bindQ (run76 A K c _ (fun _ _ _ => ?_))
  try dsimp only
  refine bindQ (run77 A K c _ (fun _ _ _ => ?_))
  try dsimp only
  refine bindQ (run78 A K c _ _ _ ?_)
  try dsimp only
  refine bindQ (run79 A K c _ _ _ (fun _ => ?_))
  try dsimp only
  refine bindQ (run80 A K c _ _ _ _ _ ?_)
  try dsimp only
  refine bindQ (run81 A K c _ ?_)
  try dsimp only
  refine bindQ (run82 A K c _ ?_)
  try dsimp only
  refine bindQ (run83 A K c _ (fun _ => ?_))
  try dsimp only
  refine bindQ (run84 A K c _ _ ?_)
  try dsimp only
  refine bindQ (run85 A K c ?_)
  try dsimp only
  refine bindQ (run86 A K c ?_)
  try dsimp only
  refine bindQ (run87 A K c ?_)
  try dsimp only
  refine bindQ (run88 A K c ?_)
  try dsimp only
  refine bindQ (run89 A K c ?_)
  try dsimp only
  refine bindQ (run90 A K c ?_)
  try dsimp only
  refine bindQ (run91 A K c ?_)
  try dsimp only
  refine bindQ (run92 A K c _ ?_)
  try dsimp only
  refine bindQ (run93 A K c _ ?_)
  try dsimp only
  refine bindQ (run94 A K c _ ?_)
  try dsimp only
  refine stepT (sig_ex (PV A) K c 14 (Fin.ext (dev105 c)) sem_ex) ?_
  refine stepT (wait_ex (PV A) K c sem_ex) ?_
  exact retQ Entails.rfl

end Cert.KernelIdeal.Talk
-- ==== Proof.Region.lean ====
/- The kernel as one region of the program: its windows, the invariant around its one point, and what it takes and leaves. -/
module

public import proofs.«01_k».proof.Proof.Start
public import proofs.«01_k».proof.Proof.Body

public import proofs.«01_k».proof.Proof.Gen.KernelIdeal.Regions
public import proofs.«01_k».proof.Proof.Gen.KernelIdeal.Points
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

/-! ## The body with everything it takes and leaves -/

/-- The six windows' buffers, the inputs at device `c`'s and the result's holding what `P` says. -/
def Wins (a : In F) (P : M5.view.ty.Contents (Elt F) → Prop) (c : Dev nD) : sProp 𝕄 :=
  iprop(own c M0 (Is a.x) ∗ own c M1 (Is a.wq) ∗ own c M2 (Is a.wo) ∗ own c M3 (Is a.kk) ∗ own c M4 (Is a.vv) ∗ own c M5 P)
/-- The buffers only the device itself works in. -/
def Work (c : Dev nD) : sProp 𝕄 :=
  iprop((∃ f, (c : Thread nD τ).loc cc0_scratch0 ↦{fullShare} f) ∗ (∃ f, (c : Thread nD τ).loc cc0_scratch1 ↦{fullShare} f) ∗ ∃ f, (c : Thread nD τ).loc cc0_scratch2 ↦{fullShare} f)

theorem body_core (A : Dev nD → In F) (c : Dev nD) :
    iprop(Wins (A c) Any c ∗ Work (F := F) c ∗ Bufs (F := F) c ∗ Xk (PV A) c ∗ ∃ W, owes (c : Thread nD τ) (Ob c 0) W)
      ⊢ WP c (cc0__body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8) fun _ =>
        iprop(Wins (A c) (Is (outV A)) c ∗ Work (F := F) c ∗ Bufs (F := F) c ∗ Zeros (F := F) c ∗ semVal (barC c) 0 ∗ ∃ W, owes (c : Thread nD τ) 0 W) := by
  unfold Wins Work
  iintro ⟨⟨H0, H1, H2, H3, H4, H5⟩, ⟨⟨%f6, H6⟩, ⟨%f7, H7⟩, ⟨%f8, H8⟩⟩, HB, HX, HO⟩
  ihave HT := (start_all (PV A) c) $$ [HB HX HO]
  · isplitl [HB]; · iexact HB
    isplitl [HX]; · iexact HX
    iexact HO
  icases HT with ⟨%K, HT⟩
  ihave Hw := (body_run A K c) $$ [H0 H1 H2 H3 H4 H5 H6 H7 H8 HT]
  · unfold S1 St
    isplitl [H0]; · iexact H0
    isplitl [H1]; · iexact H1
    isplitl [H2]; · iexact H2
    isplitl [H3]; · iexact H3
    isplitl [H4]; · iexact H4
    isplitl [H5]; · iexact H5
    isplitl [H6]
    · unfold own; iexists f6; isplitr; · ipureintro; trivial
      iexact H6
    isplitl [H7]
    · unfold own; iexists f7; isplitr; · ipureintro; exact attnOK_zero _ f7
      iexact H7
    isplitl [H8]
    · unfold own; iexists f8; isplitr; · ipureintro; exact accOK_zero _ f8
      iexact H8
    iexact HT
  unfold WP
  iapply (wp_fupd frame (wpE (defs₀ (F := F)) 𝒱₀ (c : Thread nD τ) none) Set.univ)
  iapply (wp_wand_r frame (wpE (defs₀ (F := F)) 𝒱₀ (c : Thread nD τ) none) Set.univ)
  isplitl [Hw]; · iexact Hw
  iintro %_ H
  unfold SC St
  icases H with ⟨H0, H1, H2, H3, H4, H5, H6, H7, H8, HT⟩
  imod (finish (PV A) K c) $$ HT with ⟨HB, HZ, Hb, HO⟩
  imodintro
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6 H7 H8]
  · unfold own
    icases H6 with ⟨%g6, -, H6⟩
    icases H7 with ⟨%g7, -, H7⟩
    icases H8 with ⟨%g8, -, H8⟩
    isplitl [H6]; · iexists g6; iexact H6
    isplitl [H7]; · iexists g7; iexact H7
    iexists g8; iexact H8
  isplitl [HB]; · iexact HB
  isplitl [HZ]; · iexact HZ
  isplitl [Hb]; · iexact Hb
  iexact HO

/-! ## The region's data -/

variable (m : (ℓ : Loc nD τ sig) → Buf (Elt F) ℓ)

/-- A device's operands as the kernel reads them. -/
def inV (c : Dev nD) : In F where
  x := ((cfg0.win 0).blk t0_0).view.read (Elt F) (V1 m c main_v19)
  wq := ((cfg0.win 1).blk t0_0).view.read (Elt F) (V1 m c main_arg1)
  wo := ((cfg0.win 2).blk t0_0).view.read (Elt F) (V1 m c main_arg4)
  kk := ((cfg0.win 3).blk t0_0).view.read (Elt F) (V1 m c main_v11)
  vv := ((cfg0.win 4).blk t0_0).view.read (Elt F) (V1 m c main_v18)

/-- The kernel's own semaphores: the two kinds of transfer semaphores, and the exit one. -/
def osem : (Fin 30 ⊕ Fin 30) ⊕ Unit → SemLoc sig := Sum.elim (Sum.elim (fun i => .dma (sndS i)) (fun i => .dma (rcvS i))) (fun _ => .reg exS)
theorem osem_facts : Pipeline.OwnSemFacts spec0 osem := by decide +kernel

theorem assocSep (P Q R : sProp 𝕄) : iprop((P ∗ Q) ∗ R) = iprop(P ∗ Q ∗ R) := by
  refine equiv_iff.mp ⟨?_, ?_⟩
  · show iprop((P ∗ Q) ∗ R) ⊢ iprop(P ∗ Q ∗ R)
    iintro ⟨⟨HP, HQ⟩, HR⟩
    isplitl [HP]; · iexact HP
    isplitl [HQ]; · iexact HQ
    iexact HR
  · show iprop(P ∗ Q ∗ R) ⊢ iprop((P ∗ Q) ∗ R)
    iintro ⟨HP, HQ, HR⟩
    isplitl [HP HQ]
    · isplitl [HP]; · iexact HP
      iexact HQ
    iexact HR
theorem ownSems_eq (c : Dev nD) : (Pipeline.ownSems0 osem c : sProp 𝕄) = Zeros (F := F) c := by
  unfold Pipeline.ownSems0 Zeros
  rw [bigSep_univ_sum, bigSep_univ_sum, Finset.univ_unique (α := Unit), bigSep_singleton]
  exact assocSep _ _ _

/-- Around the kernel's one point: everything it takes, then everything it gives back. -/
def phi (c : Dev nD) (t : ℕ) : sProp 𝕄 :=
  if t = 0 then iprop(Pipeline.scopedRest (Ix := Unit) (Val := Elt F) (Name := ℕ) (U := UU) (Lvl := ℕ) spec0 c ∗ (∃ r, prngReg c r) ∗ Xk (PV (inV m)) c)
  else iprop(Pipeline.scopedRest (Ix := Unit) (Val := Elt F) (Name := ℕ) (U := UU) (Lvl := ℕ) spec0 c ∗ (∃ r, prngReg c r) ∗ Zeros (F := F) c ∗ semVal (barC c) 0)

def dat (c : Dev nD) : Dat τ (Elt F) Unit ℕ UU ℕ cfg0 c where
  A w := V1 m c (Pipeline.arrRef spec0 w)
  after w _ := match w with
    | ⟨0, _⟩ => (inV m c).x
    | ⟨1, _⟩ => (inV m c).wq
    | ⟨2, _⟩ => (inV m c).wo
    | ⟨3, _⟩ => (inV m c).kk
    | ⟨4, _⟩ => (inV m c).vv
    | ⟨5, _⟩ => outV (inV m)
  Φ t := phi m c t.val
  q _ := fullShare
  owed t := if t.val = 0 then Ob c 0 else 0

def pdats : (p : Fin 1) → (c : Dev nD) → Dat τ (Elt F) Unit ℕ UU ℕ (cfgs p) c := fun _ c => dat m c

theorem before0 (c : Dev nD) (d : (cfg0.win 0).block.Idx → Elt F (cfg0.win 0).elt) : (dat m c).before 0 t0_0 d = (inV m c).x := by
  unfold Dat.before; rw [if_pos (by decide +kernel)]; rfl
theorem before1 (c : Dev nD) (d : (cfg0.win 1).block.Idx → Elt F (cfg0.win 1).elt) : (dat m c).before 1 t0_0 d = (inV m c).wq := by
  unfold Dat.before; rw [if_pos (by decide +kernel)]; rfl
theorem before2 (c : Dev nD) (d : (cfg0.win 2).block.Idx → Elt F (cfg0.win 2).elt) : (dat m c).before 2 t0_0 d = (inV m c).wo := by
  unfold Dat.before; rw [if_pos (by decide +kernel)]; rfl
theorem before3 (c : Dev nD) (d : (cfg0.win 3).block.Idx → Elt F (cfg0.win 3).elt) : (dat m c).before 3 t0_0 d = (inV m c).kk := by
  unfold Dat.before; rw [if_pos (by decide +kernel)]; rfl
theorem before4 (c : Dev nD) (d : (cfg0.win 4).block.Idx → Elt F (cfg0.win 4).elt) : (dat m c).before 4 t0_0 d = (inV m c).vv := by
  unfold Dat.before; rw [if_pos (by decide +kernel)]; rfl

theorem owes_in {c : Dev nD} (D : Dat τ (Elt F) Unit ℕ UU ℕ cfg0 c) (t : Fin (cfg0.N + 1)) (O : CellTallies nD τ sig Unit) (h0 : D.owed t = O) (hr : D.recorded t = Set.univ) :
    (iprop(∃ W, owes (c : Thread nD τ) O W) : sProp 𝕄) ⊢ D.owesAt () t := by
  unfold Dat.owesAt Pipeline.owesWithin Dat.bound; rw [h0, hr]
  iintro ⟨%W, HO⟩; iexists W; isplitr; · ipureintro; exact fun _ _ => Or.inl trivial
  iexact HO
theorem owes_out {c : Dev nD} (D : Dat τ (Elt F) Unit ℕ UU ℕ cfg0 c) (t : Fin (cfg0.N + 1)) (O : CellTallies nD τ sig Unit) (h0 : D.owed t = O) :
    D.owesAt () t ⊢ (iprop(∃ W, owes (c : Thread nD τ) O W) : sProp 𝕄) := by
  unfold Dat.owesAt Pipeline.owesWithin; rw [h0]
  iintro ⟨%W, -, HO⟩; iexists W; iexact HO

theorem owed_first (c : Dev nD) : (dat m c).owed t0_0.castSucc = Ob c 0 := by
  show (if t0_0.castSucc.val = 0 then Ob c 0 else 0) = _; exact if_pos rfl
theorem owed_last (c : Dev nD) : (dat m c).owed t0_0.succ = 0 := by
  show (if t0_0.succ.val = 0 then Ob c 0 else 0) = _; exact if_neg (by decide)
theorem phi_first (c : Dev nD) : (dat m c).Φ t0_0.castSucc
    = iprop(Pipeline.scopedRest (Ix := Unit) (Val := Elt F) (Name := ℕ) (U := UU) (Lvl := ℕ) spec0 c ∗ (∃ r, prngReg c r) ∗ Xk (PV (inV m)) c) := by
  show phi m c t0_0.castSucc.val = _; unfold phi; exact if_pos rfl
theorem phi_last (c : Dev nD) : (dat m c).Φ t0_0.succ
    = iprop(Pipeline.scopedRest (Ix := Unit) (Val := Elt F) (Name := ℕ) (U := UU) (Lvl := ℕ) spec0 c ∗ (∃ r, prngReg c r) ∗ Zeros (F := F) c ∗ semVal (barC c) 0) := by
  show phi m c t0_0.succ.val = _; unfold phi; exact if_neg (by decide)

theorem body_point (c : Dev nD) : BodyObligation (dat m c) (defs₀ (F := F)) 𝒱₀ () Set.univ := fun t => by
  obtain rfl := fin_N0 t
  rw [bigSep_W0, bigSep_W0]
  simp only [owns_whole_eq]
  rw [phi_first, phi_last, scopedRest0_eq]
  iintro ⟨⟨⟨Hs0, Hs1, Hs2, Hs3, Hs4, Hs5⟩, Hp, HX⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [before0] at h0; rw [before1] at h1; rw [before2] at h2; rw [before3] at h3; rw [before4] at h4
  ihave HO := (owes_out (dat m c) _ (Ob c 0) (owed_first m c)) $$ HO
  ihave Hw := (body_core (inV m) c) $$ [Hs0 Hs1 Hs2 Hs3 Hs4 Hs5 HX HO H0 H1 H2 H3 H4 H5]
  · unfold Wins Work Bufs
    isplitl [H0 H1 H2 H3 H4 H5]
    · unfold own
      isplitl [H0]
      · iexists f0; isplitr; · ipureintro; exact h0
        iexact H0
      isplitl [H1]
      · iexists f1; isplitr; · ipureintro; exact h1
        iexact H1
      isplitl [H2]
      · iexists f2; isplitr; · ipureintro; exact h2
        iexact H2
      isplitl [H3]
      · iexists f3; isplitr; · ipureintro; exact h3
        iexact H3
      isplitl [H4]
      · iexists f4; isplitr; · ipureintro; exact h4
        iexact H4
      iexists f5; isplitr; · ipureintro; trivial
      iexact H5
    isplitl [Hs0 Hs1 Hs2]
    · isplitl [Hs0]; · iexact Hs0
      isplitl [Hs1]; · iexact Hs1
      iexact Hs2
    isplitl [Hs3 Hs4 Hs5]
    · isplitl [Hs3]; · iexact Hs3
      isplitl [Hs4]; · iexact Hs4
      iexact Hs5
    isplitl [HX]; · iexact HX
    iexact HO
  unfold WP
  iapply (wp_wand_r frame (wpE (defs₀ (F := F)) 𝒱₀ (c : Thread nD τ) none) Set.univ)
  isplitl [Hw]; · iexact Hw
  iintro %_ H
  unfold Wins Work Bufs own
  icases H with ⟨⟨H0, H1, H2, H3, H4, H5⟩, ⟨Hs0, Hs1, Hs2⟩, ⟨Hs3, Hs4, Hs5⟩, HZ, Hb, HO⟩
  isplitl [Hs0 Hs1 Hs2 Hs3 Hs4 Hs5 Hp HZ Hb]
  · isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hp]; · iexact Hp
    isplitl [HZ]; · iexact HZ
    iexact Hb
  isplitl [HO]
  · iapply (owes_in (dat m c) t0_0.succ 0 (owed_last m c) rfl); iexact HO
  isplitl [H0]; · iexact H0
  isplitl [H1]; · iexact H1
  isplitl [H2]; · iexact H2
  isplitl [H3]; · iexact H3
  isplitl [H4]; · iexact H4
  iexact H5

end Cert.KernelIdeal.Talk
-- ==== Proof.Seg.lean ====
/- The region as a segment of the program: the cells opened on the way in, the counters at zero on the way out. -/
module

public import proofs.«01_k».proof.Proof.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat)

theorem owe_level (c : Dev nD) (g : GSem nD τ sig) (u : Unit) (h : 0 < Ob c 0 g u) : u ∈ L g ∧ 0 < lv g u := by
  have h' : 0 < Ow c 0 0 g u + (∑ d ∈ Finset.univ.filter fun d : Fin 15 => 0 ≤ d.val, tallyAt (barC (sh c d)) () 1) g u := h
  rcases Nat.eq_zero_or_pos (Ow c 0 0 g u) with h0 | h0
  · rw [h0, zero_add] at h'
    obtain ⟨d, -, hd⟩ := sum_pos _ _ g u h'
    obtain rfl := tally_pos hd
    exact ⟨by rw [show barC (sh c d) = ((sh c d : Thread nD τ), SemLoc.reg barS) from rfl, L_tc]; exact Finset.mem_singleton_self _, by rw [lv_bar]; decide⟩
  · rcases Ow_pos c 0 0 g u h0 with ⟨i, -, rfl⟩ | ⟨d, rfl⟩
    · exact ⟨by rw [show rcvC (tgt c i) i = ((tgt c i : Thread nD τ), SemLoc.dma (rcvS i)) from rfl, L_tc]; exact Finset.mem_singleton_self _,
        by rw [lv_rcv]; exact lt_trans Nat.zero_lt_one (rlev_gt i)⟩
    · exact ⟨by rw [show exC (sh c d) = ((sh c d : Thread nD τ), SemLoc.reg exS) from rfl, L_tc]; exact Finset.mem_singleton_self _, by rw [lv_ex]; decide⟩

/-! ## Opening the cells -/

/-- What the launch keeps for device `c`'s talk. -/
def Tk (Pv : Dev nD → Dev nD → Vec F S1x32x1024 .f32) (c : Dev nD) : sProp 𝕄 :=
  iprop(∃ K, invAll Pv K ∗ (bigSep Finset.univ fun d : Fin 15 => reached ER (barC (sh c d)) 0)
    ∗ (bigSep Finset.univ fun i : Fin 30 => openTok ER (sndC c i)) ∗ (bigSep Finset.univ fun i : Fin 30 => openTok ER (rcvC c i)) ∗ openTok ER (exC c)
    ∗ Hold (F := F) c)

theorem open_one (Pv : Dev nD → Dev nD → Vec F S1x32x1024 .f32) (κ : ℕ) (g : GSem nD τ sig) :
    iprop(cellInv ER (talkRd Pv) κ g ∗ openTok ER g ∗ semVal g 0) ⊢ (iprop(|={Set.univ}=> (atPos ER g 0 ∅ 0 ∗ reached ER g 0)) : sProp 𝕄) :=
  Rounds.cell_open ER (talkRd Pv) (g := g) (Set.mem_univ κ)

theorem open_many (Pv : Dev nD → Dev nD → Vec F S1x32x1024 .f32) (K : GSem nD τ sig → ℕ) (g : Fin 30 → GSem nD τ sig)
    (hg : ∀ i, invAll Pv K ⊢ cellInv ER (talkRd Pv) (K (g i)) (g i)) :
    iprop(invAll Pv K ∗ (bigSep Finset.univ fun i : Fin 30 => openTok ER (g i)) ∗ bigSep Finset.univ fun i : Fin 30 => semVal (g i) 0)
      ⊢ (iprop(|={Set.univ}=> ((bigSep Finset.univ fun i : Fin 30 => atPos ER (g i) 0 ∅ 0) ∗ bigSep Finset.univ fun i : Fin 30 => reached ER (g i) 0)) : sProp 𝕄) := by
  iintro ⟨HI, Ho, Hs⟩
  ihave H := (mkSep (F := F) (Φ := fun i : Fin 30 => openTok ER (g i)) (Ψ := fun i : Fin 30 => semVal (g i) 0)) $$ [Ho Hs]
  · isplitl [Ho]; · iexact Ho
    iexact Hs
  ihave H := (bigSep_with_persistent (S := Finset.univ) (R := invAll Pv K) (Φ := fun i : Fin 30 => (iprop(openTok ER (g i) ∗ semVal (g i) 0) : sProp 𝕄))
    (Ψ := fun i : Fin 30 => (iprop(|={Set.univ}=> (atPos ER (g i) 0 ∅ 0 ∗ reached ER (g i) 0)) : sProp 𝕄)) fun i _ => by
      iintro ⟨HI, Ho, Hs⟩
      iapply (open_one Pv (K (g i)) (g i))
      isplitl [HI]; · iapply (hg i); iexact HI
      isplitl [Ho]; · iexact Ho
      iexact Hs) $$ [HI H]
  · isplitl [HI]; · iexact HI
    iexact H
  imod (bigSep_fupd Finset.univ fun i : Fin 30 => (iprop(atPos ER (g i) 0 ∅ 0 ∗ reached ER (g i) 0) : sProp 𝕄)) $$ H with H
  ihave H := (unSep (F := F) (Φ := fun i : Fin 30 => atPos ER (g i) 0 ∅ 0) (Ψ := fun i : Fin 30 => reached ER (g i) 0)) $$ H
  imodintro
  iexact H

theorem open_cells (Pv : Dev nD → Dev nD → Vec F S1x32x1024 .f32) (c : Dev nD) : iprop(Tk Pv c ∗ Pipeline.ownSems0 osem c ∗ levAts L lv) ⊢ (iprop(|={Set.univ}=> Xk Pv c) : sProp 𝕄) := by
  rw [ownSems_eq]
  unfold Tk Zeros Xk Pers
  iintro ⟨⟨%K, #HI, Hb, Hos, Hor, Hoe, HH⟩, ⟨Hs, Hr, He⟩, #HL⟩
  imod (open_many Pv K (fun i => sndC c i) (inv_snd Pv K c)) $$ [Hos Hs] with ⟨Has, #Hrs⟩
  · isplitr; · iexact HI
    isplitl [Hos]; · iexact Hos
    iexact Hs
  imod (open_many Pv K (fun i => rcvC c i) (inv_rcv Pv K c)) $$ [Hor Hr] with ⟨Har, #Hrr⟩
  · isplitr; · iexact HI
    isplitl [Hor]; · iexact Hor
    iexact Hr
  imod (open_one Pv (K (exC c)) (exC c)) $$ [Hoe He] with ⟨Hae, #Hre⟩
  · isplitr; · iapply (inv_ex Pv K c); iexact HI
    isplitl [Hoe]; · iexact Hoe
    iexact He
  imodintro
  iexists K
  isplitr
  · isplitr; · iexact HI
    isplitr; · iexact HL
    iexact Hrs
  isplitl [Hb]; · iexact Hb
  isplitr; · iexact Hrr
  isplitr; · iexact Hre
  isplitl [Has]; · iexact Has
  isplitl [Har]; · iexact Har
  isplitl [Hae]; · iexact Hae
  iexact HH

/-! ## The record -/

variable (m : (ℓ : Loc nD τ sig) → Buf (Elt F) ℓ)

/-- What the region leaves in the result's buffer. -/
def outs : Outs (F := F) := fun _ r c => Function.update (V1 m c) (Proc.devRef .tc main_v20) ((dat m c).arrAt 5 cfg0.N) (Proc.devRef .tc r)
theorem V2_out (c : Dev nD) : V2 m (outs m) c main_v20 = (dat m c).arrAt 5 cfg0.N := by
  unfold V2; rw [Function.update_self]; unfold outs; rw [Function.update_self]

def kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem arr_sub : Pipeline.arrRefs (τ := τ) (pcfgs (F := F) 0).spec ⊆ Pipeline.ucRefs τ sig :=
  Pipeline.arrRefs_sub_ucRefs _ (by decide : ∀ w : Fin 6, (Pipeline.arrRef spec0 w).isScoped = false)
/-- The buffers no window is over. -/
def others : Finset (DevRef τ sig) := Pipeline.ucRefs τ sig \ Pipeline.arrRefs (τ := τ) (pcfgs (F := F) 0).spec

theorem others_same (c : Dev nD) (b : DevRef τ sig) (hb : b ∈ others (F := F) \ ∅) : V2 m (outs m) c b = V1 m c b := by
  refine Function.update_of_ne (fun e => ?_) _ _
  subst e
  have h := (Finset.mem_sdiff.mp (Finset.mem_sdiff.mp hb).1).2
  exact h (Finset.mem_map.mpr ⟨main_v20, Finset.mem_image.mpr ⟨(5 : Fin 6), Finset.mem_univ _, rfl⟩, rfl⟩)

theorem heldNone (c : Dev nD) (W : Valuation τ sig (Elt F)) : (StableHlo.held (c : Thread nD τ) ∅ W : sProp 𝕄) = iprop(emp) := by
  unfold StableHlo.held; exact bigSep_empty

theorem first_in (c : Dev nD) : iprop(Pipeline.scopedRest (Pipeline.pin (pcfgs (F := F)) adm 0).spec c ∗ (∃ r, prngReg c r) ∗ StableHlo.held (c : Thread nD τ) ∅ (V1 m c) ∗ Xk (PV (inV m)) c)
    ⊢ (pdats m 0 c).Φ 0 := by
  rw [heldNone, show (pdats m 0 c).Φ 0 = _ from phi_first m c]
  iintro ⟨Hs, Hp, -, HX⟩
  isplitl [Hs]; · iexact Hs
  isplitl [Hp]; · iexact Hp
  iexact HX
theorem last_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c : Thread nD τ) ∅ (V2 m (outs m) c) ∗ Pipeline.ownSems0 osem c ∗ semVal (barC c) 0) := by
  rw [heldNone, ownSems_eq, show (pdats m 0 c).Φ (Fin.last (Pipeline.pin (pcfgs (F := F)) adm 0).N) = _ from phi_last m c]
  iintro ⟨Hs, Hp, HZ, Hb⟩
  isplitl [Hs]; · iexact Hs
  isplitl [Hp]; · iexact Hp
  isplitr; · iempintro
  isplitl [HZ]; · iexact HZ
  iexact Hb

theorem owed_cut (c : Dev nD) (t : Fin ((Pipeline.pin (pcfgs (F := F)) adm 0).N + 1)) (g : GSem nD τ sig) (u : Unit) (h : 0 < (pdats m 0 c).owed t g u) :
    u ∈ L g ∧ 0 < lv g u := by
  have e : (pdats m 0 c).owed t = if t.val = 0 then Ob c 0 else 0 := rfl
  rw [e] at h
  split at h
  · exact owe_level c g u h
  · exact absurd h (Nat.lt_irrefl 0)

theorem arr_first (c : Dev nD) (w : Fin 6) : (dat m c).arrAt w 0 = V1 m c (Proc.devRef .tc (Pipeline.arrRef spec0 w)) := rfl
theorem arr_last (c : Dev nD) : ∀ w : Fin 6, (dat m c).arrAt w cfg0.N = V2 m (outs m) c (Proc.devRef .tc (Pipeline.arrRef spec0 w))
  | ⟨0, _⟩ => ((dat m c).arrAt_in 0 rfl _).trans (V2_of m (outs m) c main_v19 (by decide)).symm
  | ⟨1, _⟩ => ((dat m c).arrAt_in 1 rfl _).trans (V2_of m (outs m) c main_arg1 (by decide)).symm
  | ⟨2, _⟩ => ((dat m c).arrAt_in 2 rfl _).trans (V2_of m (outs m) c main_arg4 (by decide)).symm
  | ⟨3, _⟩ => ((dat m c).arrAt_in 3 rfl _).trans (V2_of m (outs m) c main_v11 (by decide)).symm
  | ⟨4, _⟩ => ((dat m c).arrAt_in 4 rfl _).trans (V2_of m (outs m) c main_v18 (by decide)).symm
  | ⟨5, _⟩ => (V2_out m c).symm

theorem lv_low (c : Dev nD) (n : DmaSem sig) (h : n.val < 36) : lv ((c : Thread nD τ), SemLoc.dma n) () = 0 := by
  show (if h : 36 ≤ n.val ∧ n.val < 66 then rlev ⟨n.val - 36, _⟩ else 0) = 0
  exact dif_neg (by omega)
theorem stage_val : ∀ (w : Fin 6) (s : Fin (spec0 w).nbuf), ((spec0 w).sem s).val < 36 := by decide

theorem share_all (c : Dev nD) (w : Fin 6) : (dat m c).share w = fullShare := (dat m c).share_full (fun _ => rfl) w

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ (others (F := F)) (Finset.empty_subset _) kitP rfl (fun c => (body_point m c).loose)
    (fun _ => 0) (fun c => Ob c 0) (fun c => (owed_first m c).trans (zero_add _).symm) (fun c => owed_last m c) (fun _ => rfl) (share_all m)
    (V1 m) (V2 m (outs m)) (others_same m)
    (Tk (PV (inV m))) (fun c => semVal (barC c) 0) (Xk (PV (inV m))) (fun c => semVal (barC c) 0)
    (open_cells (PV (inV m))) (first_in m) (last_out m)
    (fun c => by iintro H; imodintro; iexact H)
    (fun _ => 0)
    ⟨fun c w s => by rw [L_tc]; exact Finset.mem_singleton_self _, fun c w s => le_of_eq (lv_low c _ (stage_val w s)), fun c t g u h => owed_cut m c t g u h⟩
    (fun _ => iprop(emp))
    (arr_first m) (arr_last m)

/-- What rides along with the buffers before the region, and after it. -/
def rest (j : Fin 2) (c : Dev nD) : sProp 𝕄 :=
  if j.val = 0 then iprop(Tk (PV (inV m)) c ∗ (∃ r, prngReg c r) ∗ ∃ W, owes (c : Thread nD τ) (Ob c 0) W)
  else iprop(semVal (barC c) 0 ∗ (∃ r, prngReg c r) ∗ ∃ W, owes (c : Thread nD τ) (0 : CellTallies nD τ sig Unit) W)
theorem rest_zero (c : Dev nD) : rest m 0 c = iprop(Tk (PV (inV m)) c ∗ (∃ r, prngReg c r) ∗ ∃ W, owes (c : Thread nD τ) (Ob c 0) W) := if_pos rfl
theorem rest_one (c : Dev nD) : rest m 1 c = iprop(semVal (barC c) 0 ∗ (∃ r, prngReg c r) ∗ ∃ W, owes (c : Thread nD τ) (0 : CellTallies nD τ sig Unit) W) := if_neg (by decide)

theorem reg_pre (c : Dev nD) : iprop(StableHlo.held (c : Thread nD τ) (Pipeline.ucRefs τ sig) (V1 m c) ∗ rest m 0 c) ⊢ (reg m).pre c := by
  show _ ⊢ iprop(StableHlo.held (c : Thread nD τ) (Pipeline.arrRefs (τ := τ) (pcfgs (F := F) 0).spec) (V1 m c) ∗ (∃ r, prngReg c r)
    ∗ (StableHlo.held (c : Thread nD τ) (others (F := F)) (V1 m c) ∗ emp) ∗ Tk (PV (inV m)) c ∗ ∃ Wd, owes (c : Thread nD τ) (0 + Ob c 0) Wd)
  rw [rest_zero, zero_add, StableHlo.held_sub_split (c : Thread nD τ) (arr_sub (F := F)) (V1 m c)]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO
theorem reg_post (c : Dev nD) : (reg m).post c ⊢ iprop(StableHlo.held (c : Thread nD τ) (Pipeline.ucRefs τ sig) (V2 m (outs m) c) ∗ rest m 1 c) := by
  show iprop(StableHlo.held (c : Thread nD τ) (Pipeline.arrRefs (τ := τ) (pcfgs (F := F) 0).spec) (V2 m (outs m) c) ∗ (∃ r, prngReg c r)
    ∗ (StableHlo.held (c : Thread nD τ) (others (F := F)) (V2 m (outs m) c) ∗ emp) ∗ semVal (barC c) 0 ∗ ∃ Wd, owes (c : Thread nD τ) (0 : CellTallies nD τ sig Unit) Wd) ⊢ _
  rw [rest_one, StableHlo.held_sub_split (c : Thread nD τ) (arr_sub (F := F)) (V2 m (outs m) c)]
  iintro ⟨Ha, Hp, ⟨Hr, -⟩, HT, HO⟩
  isplitl [Ha Hr]
  · isplitl [Ha]; · iexact Ha
    iexact Hr
  isplitl [HT]; · iexact HT
  isplitl [Hp]; · iexact Hp
  iexact HO

end Cert.KernelIdeal.Talk
-- ==== Proof.Credit.lean ====
/- What the devices owe each other, counted cell by cell, and the credit a device starts with. -/
module

public import proofs.«01_k».proof.Proof.Seg

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Cells told apart -/

theorem bar_same {p q : Dev nD} : barC p = barC q ↔ p = q := ⟨fun h => congrArg (fun g : GSem nD τ sig => g.1.1) h, fun h => h ▸ rfl⟩
theorem ex_same {p q : Dev nD} : exC p = exC q ↔ p = q := ⟨fun h => congrArg (fun g : GSem nD τ sig => g.1.1) h, fun h => h ▸ rfl⟩
theorem rcvS_inj : ∀ i j : Fin 30, rcvS i = rcvS j → i = j := by decide +kernel
theorem rcv_same {p q : Dev nD} {i j : Fin 30} : rcvC p i = rcvC q j ↔ j = i ∧ p = q :=
  ⟨fun h => ⟨(rcvS_inj i j (SemLoc.dma.inj (congrArg Prod.snd h))).symm, congrArg (fun g : GSem nD τ sig => g.1.1) h⟩, fun h => by obtain ⟨rfl, rfl⟩ := h; rfl⟩
theorem rcv_bar {p q : Dev nD} {i : Fin 30} : rcvC p i ≠ barC q := fun h => by cases congrArg Prod.snd h
theorem rcv_ex {p q : Dev nD} {i : Fin 30} : rcvC p i ≠ exC q := fun h => by cases congrArg Prod.snd h
theorem exS_bar : (SemLoc.reg exS : SemLoc sig) ≠ .reg barS := by decide
theorem ex_bar {p q : Dev nD} : exC p ≠ barC q := fun h => exS_bar (congrArg Prod.snd h)

theorem tally_sum {I : Type} [DecidableEq I] (s : Finset I) (g : I → GSem nD τ sig) (n : ℕ) (g0 : GSem nD τ sig) :
    (∑ k ∈ s, tallyAt (g k) () n : CellTallies nD τ sig Unit) g0 () = ∑ k ∈ s, if g k = g0 then n else 0 := by
  induction s using Finset.induction_on with
  | empty => rfl
  | insert a s ha ih =>
    rw [Finset.sum_insert ha, Finset.sum_insert ha, ← ih]
    show (tallyAt (g a) () n : CellTallies nD τ sig Unit) g0 () + (∑ k ∈ s, tallyAt (g k) () n : CellTallies nD τ sig Unit) g0 () = _
    congr 1
    rw [tallyAt_apply]
    by_cases h : g a = g0
    · rw [if_pos h, if_pos ⟨h.symm, rfl⟩]
    · rw [if_neg h, if_neg fun e => h e.1.symm]

theorem owe_at (d : Dev nD) (g : GSem nD τ sig) :
    Ob d 0 g () = ((∑ i : Fin 30, if rcvC (tgt d i) i = g then N else 0) + ∑ k : Fin 15, if exC (sh d k) = g then 1 else 0) + ∑ k : Fin 15, if barC (sh d k) = g then 1 else 0 := by
  unfold Ob Ow
  show ((∑ i ∈ Finset.univ.filter fun i : Fin 30 => 0 ≤ spos d i, tallyAt (rcvC (tgt d i) i) () N : CellTallies nD τ sig Unit) g ()
    + (∑ k ∈ Finset.univ.filter fun k : Fin 15 => 0 ≤ k.val, tallyAt (exC (sh d k)) () 1 : CellTallies nD τ sig Unit) g ())
    + (∑ k ∈ Finset.univ.filter fun k : Fin 15 => 0 ≤ k.val, tallyAt (barC (sh d k)) () 1 : CellTallies nD τ sig Unit) g () = _
  rw [tally_sum, tally_sum, tally_sum, Finset.filter_true_of_mem (fun i _ => Nat.zero_le _), Finset.filter_true_of_mem (fun i _ => Nat.zero_le _)]

theorem meet_count : ∀ c : Dev nD, (∑ d : Dev nD, ∑ k : Fin 15, if sh d k = c then 1 else 0) = 15 := by decide +kernel

theorem total_bar (c : Dev nD) : (∑ d : Dev nD, Ob d 0 (barC c) ()) = 15 := by
  refine Eq.trans (Finset.sum_congr rfl fun d _ => ?_) (meet_count c)
  rw [owe_at, Finset.sum_eq_zero (fun i _ => if_neg rcv_bar), Finset.sum_eq_zero (fun k _ => if_neg ex_bar), zero_add, zero_add]
  exact Finset.sum_congr rfl fun k _ => if_congr bar_same rfl rfl
theorem total_ex (c : Dev nD) : (∑ d : Dev nD, Ob d 0 (exC c) ()) = 15 := by
  refine Eq.trans (Finset.sum_congr rfl fun d _ => ?_) (meet_count c)
  rw [owe_at, Finset.sum_eq_zero (fun i _ => if_neg rcv_ex), Finset.sum_eq_zero (s := Finset.univ) (f := fun k : Fin 15 => if barC (sh d k) = exC c then 1 else 0)
    (fun k _ => if_neg fun h => ex_bar h.symm), zero_add, add_zero]
  exact Finset.sum_congr rfl fun k _ => if_congr ex_same rfl rfl
theorem total_rcv (c : Dev nD) (i : Fin 30) : (∑ d : Dev nD, Ob d 0 (rcvC c i) ()) = N := by
  refine Eq.trans (Finset.sum_congr rfl fun d _ => ?_) ((Finset.sum_ite_eq' Finset.univ (src c i) fun _ => N).trans (if_pos (Finset.mem_univ _)))
  rw [owe_at, Finset.sum_eq_zero (s := Finset.univ) (f := fun k : Fin 15 => if exC (sh d k) = rcvC c i then 1 else 0) (fun k _ => if_neg fun h => rcv_ex h.symm),
    Finset.sum_eq_zero (s := Finset.univ) (f := fun k : Fin 15 => if barC (sh d k) = rcvC c i then 1 else 0) (fun k _ => if_neg fun h => rcv_bar h.symm), add_zero, add_zero]
  rw [Finset.sum_eq_single i (fun j _ hj => if_neg fun h => hj (rcv_same.mp h).1.symm) (fun h => absurd (Finset.mem_univ i) h)]
  exact if_congr ⟨fun h => by rw [← (rcv_same.mp h).2, src_tgt], fun h => rcv_same.mpr ⟨rfl, by rw [h, tgt_src]⟩⟩ rfl rfl

theorem credit_of {g : GSem nD τ sig} (ht : g.1.2 = .tc) {n : ℕ} (h : (∑ d : Dev nD, Ob d 0 g ()) = n) :
    tallyOn g (launchCredit (Pipeline.owing fun d => Ob d 0) 0 g) = (tallyAt g () n : CellTallies nD τ sig Unit) := by
  unfold tallyAt
  refine congrArg _ (Finsupp.ext fun u => ?_)
  cases u
  rw [Pipeline.launchCredit_owing, Finsupp.single_eq_same]
  exact h

/-! ## The credit a device starts with -/

def rcvLoc : Fin 30 ↪ SemLoc sig := ⟨fun i => .dma (rcvS i), fun i j h => rcvS_inj i j (SemLoc.dma.inj h)⟩
theorem reg_notin (s : Sem sig) : SemLoc.reg s ∉ Finset.univ.map rcvLoc := fun h => by
  obtain ⟨i, -, hi⟩ := Finset.mem_map.mp h
  cases hi

theorem creds (c : Dev nD) : Pipeline.launchCred (fun d => Ob d 0) c
    ⊢ (iprop(cred (tallyAt (barC c) () 15) ∗ cred (tallyAt (exC c) () 15) ∗ bigSep Finset.univ fun i : Fin 30 => cred (tallyAt (rcvC c i) () N)) : sProp 𝕄) := by
  unfold Pipeline.launchCred
  refine (bigSep_subset (t := insert (SemLoc.reg barS) (insert (SemLoc.reg exS) (Finset.univ.map rcvLoc))) (Finset.subset_univ _)).trans ?_
  rw [bigSep_insert (fun h => (Finset.mem_insert.mp h).elim (fun e => exS_bar e.symm) (reg_notin barS)), bigSep_insert (reg_notin exS), bigSep_map,
    credit_of (g := barC c) rfl (total_bar c), credit_of (g := exC c) rfl (total_ex c)]
  refine sep_mono_right (sep_mono_right (monoSep (F := F) fun i _ => ?_))
  exact Entails.of_eq (congrArg cred (credit_of (g := rcvC c i) rfl (total_rcv c i)))

end Cert.KernelIdeal.Talk
-- ==== Proof.Launch.lean ====
/- The whole run on the sixteen devices: the launch deals the cells and the rights, every device runs, and the end is read off. -/
module

public import proofs.«01_k».proof.Proof.Credit

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Seg HostSeg RegionSeg)

variable {F : FTy → Type} [FloatOps F]

local notation "𝕄" => MT nD τ sig Unit (Elt F) ℕ UU ℕ

/-! ## The cells, and the rights to pay into them -/

abbrev KK : Type := (Fin 30 ⊕ Fin 30) ⊕ Unit
theorem osem_inj : Function.Injective osem := by decide +kernel
theorem osem_ne_bar : ∀ k : KK, osem k ≠ .reg barS := by decide +kernel

def barEmb : Dev nD ↪ GSem nD τ sig := ⟨fun c => barC c, fun _ _ h => bar_same.mp h⟩
def ownEmb : Dev nD × KK ↪ GSem nD τ sig :=
  ⟨fun ck => ((ck.1 : Thread nD τ), osem ck.2), fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

abbrev TI : Type := (Fin 15 ⊕ Fin 15) ⊕ (Fin 30 ⊕ Fin 30)
def tsem : TI → SemLoc sig := Sum.elim (Sum.elim (fun _ => .reg barS) (fun _ => .reg exS)) (Sum.elim (fun i => .dma (sndS i)) (fun i => .dma (rcvS i)))
def tduty : TI → Fin 15 := Sum.elim (Sum.elim id id) (fun _ => 0)
theorem tok_inj : Function.Injective fun t : TI => (tsem t, tduty t) := by decide +kernel
def tokEmb : Dev nD × TI ↪ GSem nD τ sig × ℕ × Fin 15 :=
  ⟨fun ct => (((ct.1 : Thread nD τ), tsem ct.2), 0, tduty ct.2), fun _ _ h =>
    Prod.ext (congrArg (fun t : GSem nD τ sig × ℕ × Fin 15 => t.1.1.1) h)
      (tok_inj (Prod.ext (congrArg (fun t : GSem nD τ sig × ℕ × Fin 15 => t.1.2) h) (congrArg (fun t : GSem nD τ sig × ℕ × Fin 15 => t.2.2) h)))⟩
def allToks : Finset (GSem nD τ sig × ℕ × Fin 15) := Finset.univ.map tokEmb

theorem cells_apart : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem bar_in (c : Dev nD) : barC c ∈ (barCells ∪ ownCells : Finset (GSem nD τ sig)) :=
  Finset.mem_union_left _ (Finset.mem_map_of_mem barEmb (Finset.mem_univ c))
theorem own_in (c : Dev nD) (k : KK) : ((c : Thread nD τ), osem k) ∈ (barCells ∪ ownCells : Finset (GSem nD τ sig)) :=
  Finset.mem_union_right _ (Finset.mem_map_of_mem ownEmb (Finset.mem_univ (c, k)))

/-- The ghost state the run starts from. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource handed to one device for the start. -/
def onDev (c₀ : Dev nD) (X : sProp 𝕄) (c : Dev nD) : sProp 𝕄 := if c = c₀ then X else iprop(emp)
theorem onDev_all (c₀ : Dev nD) (X : sProp 𝕄) : bigSep Finset.univ (onDev c₀ X) = X := oneSep c₀ X
def G : Dev nD → sProp 𝕄 := onDev 0 (BI.own (ER (launchOf barCells ownCells allToks)))

/-! ## Dealing -/

variable (Pv : Dev nD → Dev nD → Vec F S1x32x1024 .f32)

/-- What every device may consult: all the invariants, and every barrier at its first round. -/
def records (κ : GSem nD τ sig → ℕ) : sProp 𝕄 := iprop(invAll Pv κ ∗ bigSep Finset.univ fun c : Dev nD => reached ER (barC c) 0)
instance records_persistent (κ : GSem nD τ sig → ℕ) : BI.Persistent (records Pv κ) := by unfold records; infer_instance

theorem inv_in (κ : GSem nD τ sig → ℕ) {g : GSem nD τ sig} (hg : g ∈ (barCells ∪ ownCells : Finset (GSem nD τ sig))) :
    (bigSep (barCells ∪ ownCells) fun g => (cellInv ER (talkRd Pv) (κ g) g : sProp 𝕄)) ⊢ cellInv ER (talkRd Pv) (κ g) g := bigSep_elim hg
theorem each {I : Type} [Fintype I] [DecidableEq I] (R : sProp 𝕄) [BI.Persistent R] (Ψ : I → sProp 𝕄) (h : ∀ i, R ⊢ Ψ i) : R ⊢ bigSep Finset.univ Ψ :=
  (bigSep_of_persistent Finset.univ R).trans (monoSep fun i _ => h i)
theorem inv_all (κ : GSem nD τ sig → ℕ) : (bigSep (barCells ∪ ownCells) fun g => (cellInv ER (talkRd Pv) (κ g) g : sProp 𝕄)) ⊢ invAll Pv κ := by
  unfold invAll
  refine each _ _ fun p => ?_
  iintro #H
  isplitr; · iapply (inv_in Pv κ (bar_in p)); iexact H
  isplitr; · iapply (inv_in Pv κ (own_in p (.inr ()))); iexact H
  iapply (each (F := F) (bigSep (barCells ∪ ownCells) fun g => (cellInv ER (talkRd Pv) (κ g) g : sProp 𝕄)) _ fun i => by
    iintro #H
    isplitr; · iapply (inv_in Pv κ (own_in p (.inl (.inl i)))); iexact H
    iapply (inv_in Pv κ (own_in p (.inl (.inr i)))); iexact H)
  iexact H

/-- What a device has of the cells' rights. -/
def opens (c : Dev nD) : sProp 𝕄 :=
  iprop((bigSep Finset.univ fun i : Fin 30 => openTok ER (sndC c i)) ∗ (bigSep Finset.univ fun i : Fin 30 => openTok ER (rcvC c i)) ∗ openTok ER (exC c))
def toks (c : Dev nD) : sProp 𝕄 :=
  iprop((bigSep Finset.univ fun d : Fin 15 => dutyTok ER (barC (sh c d)) 0 d) ∗ (bigSep Finset.univ fun d : Fin 15 => exTok (F := F) c d)
    ∗ (bigSep Finset.univ fun i : Fin 30 => dutyTok ER (sndC c i) 0 0) ∗ bigSep Finset.univ fun i : Fin 30 => dutyTok ER (rcvC (tgt c i) i) 0 0)

theorem opens_all : bigSep ownCells (fun g => (openTok ER g : sProp 𝕄)) ⊢ bigSep Finset.univ fun c : Dev nD => opens (F := F) c := by
  rw [bigSep_map, bigSep_univ_prod]
  refine monoSep fun c _ => ?_
  rw [bigSep_univ_sum, bigSep_univ_sum, Finset.univ_unique (α := Unit), bigSep_singleton]
  exact Entails.of_eq (assocSep _ _ _)

theorem deal {J : Type} [Fintype J] [DecidableEq J] (e : J → Dev nD ≃ Dev nD) (Φ : Dev nD → J → sProp 𝕄) :
    (bigSep Finset.univ fun c : Dev nD => bigSep Finset.univ fun j : J => Φ c j) = bigSep Finset.univ fun c : Dev nD => bigSep Finset.univ fun j : J => Φ (e j c) j := by
  rw [swapSep, bigSep_congr (Ψ := fun j : J => bigSep Finset.univ fun c : Dev nD => Φ (e j c) j) fun j _ => bigSep_univ_equiv (e j) (fun c => Φ c j), swapSep]
def meet (d : Fin 15) : Dev nD ≃ Dev nD := ⟨fun c => sh c d, fun c => hs c d, fun c => hs_sh c d, fun c => sh_hs c d⟩
def aim (i : Fin 30) : Dev nD ≃ Dev nD := ⟨fun c => tgt c i, fun c => src c i, fun c => src_tgt c i, fun c => tgt_src c i⟩

theorem toks_all : bigSep allToks (fun x => (dutyTok ER x.1 x.2.1 x.2.2 : sProp 𝕄)) ⊢ bigSep Finset.univ fun c : Dev nD => toks (F := F) c := by
  have h1 : bigSep allToks (fun x => (dutyTok ER x.1 x.2.1 x.2.2 : sProp 𝕄))
      ⊢ bigSep Finset.univ fun c : Dev nD => iprop((bigSep Finset.univ fun d : Fin 15 => dutyTok ER (barC c) 0 d) ∗ (bigSep Finset.univ fun d : Fin 15 => dutyTok ER (exC c) 0 d)
        ∗ (bigSep Finset.univ fun i : Fin 30 => dutyTok ER (sndC c i) 0 0) ∗ bigSep Finset.univ fun i : Fin 30 => dutyTok ER (rcvC c i) 0 0) := by
    unfold allToks
    rw [bigSep_map, bigSep_univ_prod]
    refine monoSep fun c _ => ?_
    rw [bigSep_univ_sum, bigSep_univ_sum, bigSep_univ_sum]
    exact Entails.of_eq (assocSep _ _ _)
  unfold toks exTok
  iintro H
  ihave H := h1 $$ H
  ihave H := (unSep (F := F)) $$ H; icases H with ⟨Hb, H⟩
  ihave H := (unSep (F := F)) $$ H; icases H with ⟨He, H⟩
  ihave H := (unSep (F := F)) $$ H; icases H with ⟨Hs, Hr⟩
  ihave Hb := (Entails.of_eq (deal (F := F) meet fun c d => dutyTok ER (barC c) 0 d)) $$ Hb
  ihave He := (Entails.of_eq (deal (F := F) meet fun c d => dutyTok ER (exC c) 0 d)) $$ He
  ihave Hr := (Entails.of_eq (deal (F := F) aim fun c i => dutyTok ER (rcvC c i) 0 0)) $$ Hr
  iapply (mkSep (F := F)); isplitl [Hb]; · iexact Hb
  iapply (mkSep (F := F)); isplitl [He]; · iexact He
  iapply (mkSep (F := F)); isplitl [Hs]; · iexact Hs
  iexact Hr

/-! ## The start -/

variable (m : (ℓ : Loc nD τ sig) → Buf (Elt F) ℓ) (ρ : Dev nD → PrngReg)

def tFirst (c : Dev nD) : sProp 𝕄 := iprop(StableHlo.held (c : Thread nD τ) (Pipeline.ucRefs τ sig) (V0 m c) ∗ rest m 0 c)
def tLast (c : Dev nD) : sProp 𝕄 := iprop(StableHlo.held (c : Thread nD τ) (Pipeline.ucRefs τ sig) (V3 m (outs m) c) ∗ semVal (barC c) 0)

def bundle (c : Dev nD) : sProp 𝕄 :=
  iprop(StableHlo.held (c : Thread nD τ) (Pipeline.ucRefs τ sig) (V0 m c)
    ∗ (cred (tallyAt (barC c) () 15) ∗ cred (tallyAt (exC c) () 15) ∗ bigSep Finset.univ fun i : Fin 30 => cred (tallyAt (rcvC c i) () N))
    ∗ owes (c : Thread nD τ) (Ob c 0) ∅ ∗ ∃ r, prngReg c r)
def linear (c : Dev nD) : sProp 𝕄 := iprop(atPos ER (barC c) 0 ∅ 0 ∗ opens (F := F) c ∗ toks (F := F) c)

theorem bar_reached (c : Dev nD) : (bigSep Finset.univ fun c : Dev nD => (reached ER (barC c) 0 : sProp 𝕄)) ⊢ bigSep Finset.univ fun d : Fin 15 => reached ER (barC (sh c d)) 0 :=
  each _ _ fun d => elimSep (Finset.mem_univ (sh c d)) (fun c : Dev nD => (reached ER (barC c) 0 : sProp 𝕄))

theorem first_intro (κ : GSem nD τ sig → ℕ) (c : Dev nD) : iprop(records (PV (inV m)) κ ∗ (linear (F := F) c ∗ bundle m c)) ⊢ tFirst m c := by
  unfold tFirst
  rw [rest_zero]
  unfold records linear bundle opens toks Tk Hold
  iintro ⟨⟨#HI, #HR⟩, ⟨Ha, ⟨Hos, Hor, Hoe⟩, Htb, Hte, Hts, Htr⟩, Hh, ⟨Hcb, Hce, Hcr⟩, HO, Hp⟩
  isplitl [Hh]; · iexact Hh
  isplitr [Hp HO]
  · iexists κ
    isplitr; · iexact HI
    isplitr; · iapply (bar_reached (F := F) c); iexact HR
    isplitl [Hos]; · iexact Hos
    isplitl [Hor]; · iexact Hor
    isplitl [Hoe]; · iexact Hoe
    isplitl [Ha]; · iexact Ha
    isplitl [Htb]; · iexact Htb
    isplitl [Hts]; · iexact Hts
    isplitl [Htr]; · iexact Htr
    isplitl [Hte]; · iexact Hte
    isplitl [Hcb]; · iexact Hcb
    isplitl [Hce]; · iexact Hce
    iexact Hcr
  isplitl [Hp]; · iexact Hp
  iexists ∅; iexact HO

theorem only_bar : (Finset.univ.filter fun sm : SemLoc sig => ¬ sm.isScoped .tc) = {SemLoc.reg barS} := by decide +kernel
theorem free_sems (c : Dev nD) : (unscopedSems0 c : sProp 𝕄) = semVal (barC c) 0 := by
  unfold unscopedSems0
  rw [only_bar, bigSep_singleton]

theorem core_split (c : Dev nD) : iprop(unscopedBufs c (fun b => m ((c : Thread nD τ).loc b)) ∗ unscopedSems0 c
      ∗ owes (c : Thread nD τ) (Ob c 0) ∅ ∗ Pipeline.launchCred (fun d => Ob d 0) c ∗ prngReg c (ρ c) ∗ G (F := F) c)
    ⊢ (iprop(bundle m c ∗ (semVal (barC c) 0 ∗ G (F := F) c)) : sProp 𝕄) := by
  rw [show unscopedBufs c (fun b => m ((c : Thread nD τ).loc b)) = StableHlo.held (c : Thread nD τ) (Pipeline.ucRefs τ sig) (V0 m c) from Pipeline.unscopedBufs_held c (V0 m c), free_sems]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem init :
    iprop((bigSep Finset.univ fun c : Dev nD => iprop(unscopedBufs c (fun b => m ((c : Thread nD τ).loc b)) ∗ unscopedSems0 c
          ∗ owes (c : Thread nD τ) (Ob c 0) ∅ ∗ Pipeline.launchCred (fun d => Ob d 0) c ∗ prngReg c (ρ c) ∗ G (F := F) c)) ∗ levAts L lv)
      ⊢ (|={Set.univ}=> bigSep Finset.univ (tFirst m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barC c) 0 : sProp 𝕄)) :=
    Entails.of_eq (bigSep_map (s := Finset.univ) barEmb (Φ := fun g : GSem nD τ sig => (reached ER g 0 : sProp 𝕄)))
  have hG : bigSep Finset.univ (G (F := F)) ⊢ BI.own (ER (launchOf barCells ownCells allToks)) := Entails.of_eq (onDev_all (F := F) 0 _)
  iintro ⟨H, -⟩
  ihave H := (monoSep (F := F) fun c _ => core_split m ρ c) $$ H
  ihave H := (unSep (F := F)) $$ H; icases H with ⟨HB, H⟩
  ihave H := (unSep (F := F)) $$ H; icases H with ⟨Hv, HG⟩
  ihave Hu := hG $$ HG
  imod (Rounds.fund_launch ER (talkRd (PV (inV m))) cells_apart (fun g _ h => h) allToks) $$ [Hv Hu] with ⟨%κ, -, #Hinv, #Hr, Hat, Hopen, Htok⟩
  · isplitl [Hv]
    · iapply hv $$ Hv
    · iexact Hu
  imodintro
  iapply (bigSep_with_persistent (R := records (PV (inV m)) κ) (Φ := fun c => iprop(linear (F := F) c ∗ bundle m c)) fun c _ => first_intro m κ c)
  isplitr
  · unfold records
    isplitr; · iapply (inv_all (PV (inV m)) κ); iexact Hinv
    iapply hre; iexact Hr
  iapply (mkSep (F := F))
  isplitr [HB]
  · unfold linear
    iapply (mkSep (F := F)); isplitl [Hat]; · iapply hat $$ Hat
    iapply (mkSep (F := F)); isplitl [Hopen]; · iapply (opens_all (F := F)) $$ Hopen
    iapply (toks_all (F := F)) $$ Htok
  · iexact HB

/-! ## The run -/

theorem unscoped_eq : ∀ sm : SemLoc sig, sm.isScoped .tc = false → sm = .reg barS := by decide +kernel

theorem last_bar (c : Dev nD) : iprop(StableHlo.held (c : Thread nD τ) (Pipeline.ucRefs τ sig) (V3 m (outs m) c) ∗ rest m 1 c)
    ⊢ iprop(tLast m c ∗ ∃ W, owes (c : Thread nD τ) (0 : CellTallies nD τ sig Unit) W) := by
  rw [rest_one]; unfold tLast
  iintro ⟨Hh, Hb, -, HO⟩
  isplitl [Hh Hb]
  · isplitl [Hh]; · iexact Hh
    iexact Hb
  iexact HO

/-- What is read at the end: every buffer as the last stretch leaves it, and the barrier's counter. -/
def Ends (c : Dev nD) (s : MemSt nD τ sig (Elt F)) : Prop :=
  (∀ b ∈ Pipeline.ucRefs τ sig, s.mem ((c : Thread nD τ).1, b) = V3 m (outs m) c b) ∧ s.sem (barC c) = 0

theorem last_read (c : Dev nD) (s' : Phys nD τ sig (Elt F)) : iprop(tLast m c ∗ SI s') ⊢ (iprop(|={Set.univ}=> (⌜Ends m c s'.mem⌝ ∗ SI s')) : sProp 𝕄) := by
  unfold tLast StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro; exact ⟨h, by simpa using hb⟩
  iexact HSI

set_option backward.isDefEq.respectTransparency.types false in
/-- From any memory with the counters at zero every run ends, the unscoped buffers as the last stretch leaves them and every counter at zero. -/
theorem run_all : θ_run (defs (F := F)) (onTc (τ := τ) (main (F := F))) ⟨m, fun _ => 0, ρ⟩
    (fun r => (∀ c : Dev nD, ∀ b ∈ Pipeline.ucRefs τ sig, r.2.mem ((c : Thread nD τ).1, b) = V3 m (outs m) c b) ∧ r.2.sem = fun _ => 0) :=
  Pipeline.θ_run_regions_kit_dev_sems (pcfgs (F := F)) adm (pdats m) () cellOf_inj EP defs₀ 𝒱₀ L lv m ρ main
    (segs m (outs m) 𝒱₀ L lv (rest m) () (pdats m) (reg m))
    (fun c Q => by
      rewrite [main_chain c, Seg.run_eq_chain,
        show (segs m (outs m) 𝒱₀ L lv (rest m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide)
    (O₀ := fun d => Ob d 0) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onDev_all]; iexact HX)
    (T₀ := tFirst m) (Tₙ := tLast m)
    (hch := fun c => ⟨.rfl, reg_pre m c, reg_post m c, last_bar m c⟩)
    (hinit := init m ρ)
    (QY := Ends m)
    (hfin := last_read m)
    (hQ := fun s h hs => ⟨fun c => (h c).1, sem_eq_zero hs fun c sm hsm => by
        obtain rfl := unscoped_eq sm hsm
        exact (h c).2⟩)

end Cert.KernelIdeal.Talk
-- ==== Proof.Frames.lean ====
/- What a run leaves alone: the arguments, and every counter. -/
module

public import proofs.«01_k».proof.Proof.Same
public import proofs.«01_k».proof.Proof.Launch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem
open Cert.KernelIdeal Cert.KernelIdeal.Gen Cert.KernelIdeal.Talk

variable {F : FTy → Type} [FloatOps F]

theorem arg_in (r : Ref sig .tc) (h : ¬(Proc.devRef (τ := τ) .tc r).isScoped = true) : Proc.devRef (τ := τ) .tc r ∈ Pipeline.ucRefs τ sig :=
  Finset.mem_filter.mpr ⟨StableHlo.devRef_mem_tcRefs r, h⟩

/-- The kernel ends, its arguments as launched, every counter at zero. -/
theorem quiet : Quiet F := fun m g _ =>
  (θ_run (defs (F := F)) _ _).mono (fun r h => ⟨fun c =>
    ⟨(h.1 c _ (arg_in main_arg0 (by decide))).trans (V3_main_arg0 m (outs m) c),
      (h.1 c _ (arg_in main_arg1 (by decide))).trans (V3_main_arg1 m (outs m) c),
      (h.1 c _ (arg_in main_arg2 (by decide))).trans (V3_main_arg2 m (outs m) c),
      (h.1 c _ (arg_in main_arg3 (by decide))).trans (V3_main_arg3 m (outs m) c),
      (h.1 c _ (arg_in main_arg4 (by decide))).trans (V3_main_arg4 m (outs m) c)⟩, h.2⟩) (run_all m g)

theorem frame_kernel : @Cert.quiescent_Kernel Cert.Kernel.Gen.facts := quiet_same.mpr (quiet (F := Bits))
theorem frame_ideal : @Cert.quiescent_KernelIdeal Cert.KernelIdeal.Gen.facts := quiet (F := Ideal)

theorem frame_reference : @Cert.quiescent_ReferenceIdeal Cert.ReferenceIdeal.Gen.facts := fun m g _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m g)

end Cert.Proof
-- ==== Proof.HostValue.lean ====
/- What the operations before the kernel put into its five inputs, and what the one after it makes of its output. -/
module

public import proofs.«01_k».proof.Proof.Launch
public import Idealize.ShloMosaic.Lib.Pointwise
public import Idealize.ShloMosaic.Lib.Pipeline.ValueKit

@[expose] public section

set_option maxRecDepth 16384

noncomputable section

namespace Cert.KernelIdeal.Talk

open Idealize.ShloMosaic Idealize.ShloMosaic.TcCoe Idealize.ShloMosaic.StableHlo
open Cert.KernelIdeal Cert.KernelIdeal.Gen

variable {F : FTy → Type} [FloatOps F] (m : (ℓ : Loc nD τ sig) → Buf (Elt F) ℓ)

/-! ## The slice of the heads -/

/-- Eight times a device's number, as the operations compute it. -/
def eightWord (c : Dev nD) : S_.Idx → BitVec 32 :=
  muli (id (Host.remui (Host.divui (constantI S_ 32 (Dev.word c)) (constantI S_ 32 1#32)) (constantI S_ 32 16#32)))
    (constantI S_ 32 8#32)

/-- The number of a device's first head: `eightWord`, or 128 more where that is negative. -/
def headWord (c : Dev nD) : S_.Idx → BitVec 32 :=
  select (cmpi .slt (eightWord c) (constantI S_ 32 0#32)) (addi (eightWord c) (constantI S_ 32 128#32)) (eightWord c)

/-- Where the slice of a device starts. -/
def offs (c : Dev nD) : Fin 3 → ℤ := ![0, (headWord c (Shape.Idx.first h_S_)).toInt, 0]

theorem headWord_eq : ∀ c : Dev nD, (headWord c (Shape.Idx.first h_S_)).toInt = 8 * (c.val : ℤ) := by
  decide +kernel

theorem offs_eq (c : Dev nD) : offs c = ![0, 8 * (c.val : ℤ), 0] := by
  rw [offs, headWord_eq]

/-- The eight heads of a device, heads first. -/
def heads (o : Fin 3 → ℤ) (K : FVec F S1x2048x128x128 .f32) : FVec F S8x2048x128 .f32 :=
  transpose S8x2048x128 [1, 0, 2]
    (Host.dynamicSlice S2048x8x128 (shapeCast S2048x128x128 K shapeCasts_S1x2048x128x128_S2048x128x128) o
      sliceFits_S2048x128x128_S2048x8x128)
    transposes_S2048x8x128_S8x2048x128_1_0_2

theorem heads_at (c : Dev nD) (K : FVec F S1x2048x128x128 .f32) (h : Fin 8) (j : Fin 2048) (e : Fin 128) :
    heads (offs c) K (ix3 h j e) = K (ix4 0 j ⟨8 * c.val + h.val, by have : c.val < 16 := c.isLt; omega⟩ e) := by
  have hc : c.val < 16 := c.isLt
  rw [offs_eq]
  have e0 : Host.clampedStart S2048x128x128 S2048x8x128 rfl ![0, 8 * (c.val : ℤ), 0] 0 = 0 := rfl
  have e1 : Host.clampedStart S2048x128x128 S2048x8x128 rfl ![0, 8 * (c.val : ℤ), 0] 1 = 8 * c.val := by
    show (min (max (8 * (c.val : ℤ)) 0) ((128 - 8 : ℕ) : ℤ)).toNat = 8 * c.val
    omega
  have e2 : Host.clampedStart S2048x128x128 S2048x8x128 rfl ![0, 8 * (c.val : ℤ), 0] 2 = 0 := rfl
  unfold heads
  pointwise
  simp only [e0, e1, e2, Nat.zero_add]

/-! ## The inputs -/

theorem V1_k (c : Dev nD) : V1 m c main_v11 = heads (offs c) (m ((c : Thread nD τ).loc main_arg2)) := by
  show StableHlo.after (hostOps0 c) (V0 m c) main_v11 = _
  after_results_simp
  refine congrArg (fun o => heads o (m ((c : Thread nD τ).loc main_arg2))) (funext fun k => ?_)
  fin_cases k
  · simp only [Fin.zero_eta, Matrix.cons_val_zero, cast_eq]
    after_results_simp
    rfl
  · simp only [Fin.mk_one, Matrix.cons_val_one, Matrix.cons_val_zero, cast_eq]
    after_results_simp
    rfl
  · simp only [Fin.reduceFinMk, Matrix.cons_val, cast_eq]
    after_results_simp
    rfl

theorem V1_v (c : Dev nD) : V1 m c main_v18 = heads (offs c) (m ((c : Thread nD τ).loc main_arg3)) := by
  show StableHlo.after (hostOps0 c) (V0 m c) main_v18 = _
  after_results_simp
  refine congrArg (fun o => heads o (m ((c : Thread nD τ).loc main_arg3))) (funext fun k => ?_)
  fin_cases k
  · simp only [Fin.zero_eta, Matrix.cons_val_zero, cast_eq]
    after_results_simp
    rfl
  · simp only [Fin.mk_one, Matrix.cons_val_one, Matrix.cons_val_zero, cast_eq]
    after_results_simp
    rfl
  · simp only [Fin.reduceFinMk, Matrix.cons_val, cast_eq]
    after_results_simp
    rfl

theorem V1_x (c : Dev nD) :
    V1 m c main_v19 = shapeCast S512x1024 (m ((c : Thread nD τ).loc main_arg0)) shapeCasts_S1x512x1024_S512x1024 := by
  show StableHlo.after (hostOps0 c) (V0 m c) main_v19 = _
  after_results_simp <;> rfl

theorem at_0 (a : Fin 2) : win0_0.index t0_0 a = 0 := by fin_cases a <;> rfl
theorem at_1 (a : Fin 2) : win0_1.index t0_0 a = 0 := by fin_cases a <;> rfl
theorem at_2 (a : Fin 2) : win0_2.index t0_0 a = 0 := by fin_cases a <;> rfl
theorem at_3 (a : Fin 3) : win0_3.index t0_0 a = 0 := by fin_cases a <;> rfl
theorem at_4 (a : Fin 3) : win0_4.index t0_0 a = 0 := by fin_cases a <;> rfl

theorem flat_at (X : FVec F S1x512x1024 .f32) (i : Fin 512) (k : Fin 1024) :
    shapeCast S512x1024 X shapeCasts_S1x512x1024_S512x1024 (ix2 i k) = X (ix3 0 i k) := by
  pointwise

theorem in_x (c : Dev nD) (i : Fin 512) (k : Fin 1024) :
    (inV m c).x (ix2 i k) = m ((c : Thread nD τ).loc main_arg0) (ix3 0 i k) := by
  have h : (inV m c).x = V1 m c main_v19 := by
    show ((cfg0.win 0).blk t0_0).view.read (Elt F) (V1 m c main_v19) = _
    generalize V1 m c main_v19 = W
    blk_ext! [at_0]
  rw [h, V1_x]
  exact flat_at _ i k

theorem in_wq (c : Dev nD) : (inV m c).wq = m ((c : Thread nD τ).loc main_arg1) := by
  have h : (inV m c).wq = V1 m c main_arg1 := by
    show ((cfg0.win 1).blk t0_0).view.read (Elt F) (V1 m c main_arg1) = _
    generalize V1 m c main_arg1 = W
    blk_ext! [at_1]
  rw [h]
  exact V1_of m c main_arg1 (by decide)

theorem in_wo (c : Dev nD) : (inV m c).wo = m ((c : Thread nD τ).loc main_arg4) := by
  have h : (inV m c).wo = V1 m c main_arg4 := by
    show ((cfg0.win 2).blk t0_0).view.read (Elt F) (V1 m c main_arg4) = _
    generalize V1 m c main_arg4 = W
    blk_ext! [at_2]
  rw [h]
  exact V1_of m c main_arg4 (by decide)

theorem in_kk (c : Dev nD) : (inV m c).kk = heads (offs c) (m ((c : Thread nD τ).loc main_arg2)) := by
  rw [← V1_k]
  show ((cfg0.win 3).blk t0_0).view.read (Elt F) (V1 m c main_v11) = _
  generalize V1 m c main_v11 = W
  blk_ext! [at_3]

theorem in_vv (c : Dev nD) : (inV m c).vv = heads (offs c) (m ((c : Thread nD τ).loc main_arg3)) := by
  rw [← V1_v]
  show ((cfg0.win 4).blk t0_0).view.read (Elt F) (V1 m c main_v18) = _
  generalize V1 m c main_v18 = W
  blk_ext! [at_4]

/-! ## The output -/

theorem arr_out (c : Dev nD) : (dat m c).arrAt 5 cfg0.N = outV (inV m) := by
  refine (dat m c).arrAt_eq_of_after_last 5 t0_0 (by decide +kernel) _ fun j => ?_
  rfl

theorem V3_out (c : Dev nD) :
    V3 m (outs m) c main_v21
      = broadcastInDim S1x512x1024 ![1, 2] bcast_S512x1024_S1x512x1024_1_2 (outV (inV m)) := by
  have h : V3 m (outs m) c main_v21
      = broadcastInDim S1x512x1024 ![1, 2] bcast_S512x1024_S1x512x1024_1_2 (V2 m (outs m) c main_v20) := by
    show StableHlo.after hostOps1 (V2 m (outs m) c) main_v21 = _
    generalize V2 m (outs m) c = W
    after_results_simp <;> rfl
  rw [h, V2_out, arr_out]

theorem V3_out_at (c : Dev nD) (i : Fin 512) (e : Fin 1024) :
    (V3 m (outs m) c main_v21 : FVec F S1x512x1024 .f32) (ix3 0 i e) = (outV (inV m) : FVec F S512x1024 .f32) (ix2 i e) := by
  rw [V3_out]
  pointwise

end Cert.KernelIdeal.Talk

end
-- ==== Proof.Online.lean ====
/- A softmax taken in two pieces, the second correcting the first by the moved maximum, is the softmax taken whole:
   on the extended reals, whatever the scores and the values are. -/
module

public import Idealize.ShloMosaic.PureOps.Ideal

@[expose] public section

noncomputable section

namespace Cert.Softmax

open Idealize.ShloMosaic

theorem bot_sub (x : EReal) : ⊥ - x = ⊥ := by rw [sub_eq_add_neg, EReal.bot_add]
theorem sub_top (x : EReal) : x - ⊤ = ⊥ := by rw [sub_eq_add_neg, EReal.neg_top, EReal.add_bot]

/-- The factor from one maximum to a larger one. -/
theorem exp_mul (s a b : EReal) (hs : s ≤ a) (hab : a ≤ b) : Ideal.exp (s - a) * Ideal.exp (a - b) = Ideal.exp (s - b) := by
  induction b with
  | top => rw [sub_top, sub_top, Ideal.exp_bot, mul_zero]
  | bot =>
    obtain rfl := le_bot_iff.mp hab
    obtain rfl := le_bot_iff.mp hs
    rw [bot_sub, Ideal.exp_bot, mul_zero]
  | coe b =>
    induction a with
    | top => exact absurd hab (not_le.mpr (EReal.coe_lt_top b))
    | bot =>
      obtain rfl := le_bot_iff.mp hs
      rw [bot_sub, bot_sub, Ideal.exp_bot, mul_zero]
    | coe a =>
      induction s with
      | top => exact absurd hs (not_le.mpr (EReal.coe_lt_top a))
      | bot => rw [bot_sub, bot_sub, Ideal.exp_bot, zero_mul]
      | coe s =>
        rw [← EReal.coe_sub, ← EReal.coe_sub, ← EReal.coe_sub, Ideal.exp_coe, Ideal.exp_coe, Ideal.exp_coe, ← EReal.coe_mul, ← Real.exp_add]
        congr 2
        ring

theorem exp_nonneg (a : EReal) : 0 ≤ Ideal.exp a := by
  induction a with
  | top => rw [Ideal.exp_top]; exact le_top
  | bot => rw [Ideal.exp_bot]
  | coe a => rw [Ideal.exp_coe]; exact EReal.coe_nonneg.mpr (Real.exp_pos a).le

theorem exp_ne_top (a b : EReal) (hab : a ≤ b) : Ideal.exp (a - b) ≠ ⊤ := by
  induction b with
  | top => rw [sub_top, Ideal.exp_bot]; exact EReal.zero_ne_top
  | bot =>
    obtain rfl := le_bot_iff.mp hab
    rw [bot_sub, Ideal.exp_bot]; exact EReal.zero_ne_top
  | coe b =>
    induction a with
    | top => exact absurd hab (not_le.mpr (EReal.coe_lt_top b))
    | bot => rw [bot_sub, Ideal.exp_bot]; exact EReal.zero_ne_top
    | coe a => rw [← EReal.coe_sub, Ideal.exp_coe]; exact EReal.coe_ne_top _

/-- A factor of the kind above goes into a sum, whatever is summed. -/
theorem sum_mul_of {ι : Type} (S : Finset ι) (f : ι → EReal) (x : EReal) (h0 : 0 ≤ x) (h1 : x ≠ ⊤) : (∑ i ∈ S, f i) * x = ∑ i ∈ S, f i * x := by
  classical
  induction S using Finset.induction_on with
  | empty => rw [Finset.sum_empty, Finset.sum_empty, zero_mul]
  | insert i S hi ih => rw [Finset.sum_insert hi, Finset.sum_insert hi, EReal.right_distrib_of_nonneg_of_ne_top h0 h1, ih]

/-- The larger of two numbers. -/
def larger (x y : EReal) : EReal := max x y
/-- The largest of `n` numbers and `w`. -/
def peakFrom {n : ℕ} (w : EReal) (s : Fin n → EReal) : EReal := Finset.univ.fold max w s
/-- The largest of `n` scores. -/
def peak {n : ℕ} (s : Fin n → EReal) : EReal := peakFrom ⊥ s
/-- The weights' sum. -/
def mass {n : ℕ} (s : Fin n → EReal) (m : EReal) : EReal := ∑ j, Ideal.exp (s j - m)
/-- The values under the weights. -/
def blend {n : ℕ} (s v : Fin n → EReal) (m : EReal) : EReal := ∑ j, Ideal.exp (s j - m) * v j
/-- The softmax of the scores applied to the values. -/
def attend {n : ℕ} (s v : Fin n → EReal) : EReal := Ideal.div (blend s v (peak s)) (mass s (peak s))

theorem le_peak {n : ℕ} (s : Fin n → EReal) (j : Fin n) : s j ≤ peak s :=
  (Finset.le_fold_max (s j)).mpr (Or.inr ⟨j, Finset.mem_univ j, le_rfl⟩)

theorem peak_le {n : ℕ} (s : Fin n → EReal) (c : EReal) (h : ∀ j, s j ≤ c) : peak s ≤ c :=
  (Finset.fold_max_le (f := s) (b := ⊥) (s := Finset.univ) c).mpr ⟨bot_le, fun j _ => h j⟩

section Halves

variable {a b n : ℕ} (h : a + b = n) (s v : Fin n → EReal)

/-- The first `a` and the last `b` entries. -/
def fst (f : Fin n → EReal) : Fin a → EReal := fun j => f ⟨j.val, by have := j.isLt; omega⟩
def snd (f : Fin n → EReal) : Fin b → EReal := fun j => f ⟨a + j.val, by have := j.isLt; omega⟩

theorem sum_halves (f : Fin n → EReal) : ∑ j, f j = ∑ j, fst h f j + ∑ j, snd h f j := by
  subst h
  exact Fin.sum_univ_add f

theorem peak_halves : peak s = max (peak (fst h s)) (peak (snd h s)) := by
  apply le_antisymm
  · refine peak_le _ _ fun j => ?_
    by_cases hj : j.val < a
    · exact le_max_of_le_left (le_peak (fst h s) ⟨j.val, hj⟩)
    · refine le_max_of_le_right (le_trans (le_of_eq ?_) (le_peak (snd h s) ⟨j.val - a, by have := j.isLt; omega⟩))
      exact congrArg s (Fin.ext (by show j.val = a + (j.val - a); omega))
  · exact max_le (peak_le _ _ fun j => le_peak s _) (peak_le _ _ fun j => le_peak s _)

/-- What the two-piece computation does to the sum of the weights. -/
theorem mass_step (t t' : EReal) (ht : ∀ j, fst h s j ≤ t) (htt : t ≤ t') :
    mass (fst h s) t * Ideal.exp (t - t') + mass (snd h s) t' = mass s t' := by
  unfold mass
  rw [sum_mul_of _ _ _ (exp_nonneg _) (exp_ne_top _ _ htt), sum_halves h fun j => Ideal.exp (s j - t')]
  exact congrArg (· + _) (Finset.sum_congr rfl fun j _ => exp_mul _ _ _ (ht j) htt)

/-- And to the weighted values. -/
theorem blend_step (t t' : EReal) (ht : ∀ j, fst h s j ≤ t) (htt : t ≤ t') :
    blend (fst h s) (fst h v) t * Ideal.exp (t - t') + blend (snd h s) (snd h v) t' = blend s v t' := by
  unfold blend
  rw [sum_mul_of _ _ _ (exp_nonneg _) (exp_ne_top _ _ htt), sum_halves h fun j => Ideal.exp (s j - t') * v j]
  refine congrArg (· + _) (Finset.sum_congr rfl fun j _ => ?_)
  rw [mul_right_comm, exp_mul _ _ _ (ht j) htt]
  rfl

/-- The whole of it: two pieces, begun from nothing, are the softmax. -/
theorem two_pieces (c : EReal) :
    Ideal.div ((0 * c + blend (fst h s) (fst h v) (peak (fst h s))) * Ideal.exp (peak (fst h s) - max (peak (fst h s)) (peak (snd h s)))
        + blend (snd h s) (snd h v) (max (peak (fst h s)) (peak (snd h s))))
      ((0 * c + mass (fst h s) (peak (fst h s))) * Ideal.exp (peak (fst h s) - max (peak (fst h s)) (peak (snd h s)))
        + mass (snd h s) (max (peak (fst h s)) (peak (snd h s)))) = attend s v := by
  rw [zero_mul, zero_add, zero_add, blend_step h s v _ _ (le_peak _) (le_max_left _ _), mass_step h s _ _ (le_peak _) (le_max_left _ _), ← peak_halves]
  rfl

end Halves

end Cert.Softmax

end
-- ==== Proof.KerValue.lean ====
/- The kernel's result read at an index, from every device's five inputs. -/
module

public import proofs.«01_k».proof.Proof.Step
public import proofs.«01_k».proof.Proof.Online
public import Idealize.ShloMosaic.Lib.Pointwise

@[expose] public section

set_option maxRecDepth 16384

noncomputable section

namespace Cert.KernelIdeal.Talk

open Idealize.ShloMosaic Idealize.ShloMosaic.TcCoe
open Cert.KernelIdeal Cert.KernelIdeal.Gen

/-! ## One head of one block of rows -/

def kScore (q : FVec Ideal S128x128 .f32) (k : FVec Ideal S1x2048x128 .f32) : FVec Ideal S128x2048 .f32 :=
  mulf (matmul dot_S128x128_S2048x128_S128x2048_1_1_0_0_n_n none q (shapeCast S2048x128 k shapeCasts_S1x2048x128_S2048x128 : FVec Ideal S2048x128 .f32) (constant S128x2048 .f32 0x00000000#32))
    (broadcast S128x2048 (Scalar.ofBits .f32 0x3DB504F3#32 : Ideal .f32))
def kTop (s : FVec Ideal S128x2048 .f32) : FVec Ideal S128 .f32 := multiReduction .maximumf [1] S128 s 0xFF800000#32 reduces_S128x2048_S128 (.inl rfl) rfl
def kWeight (s : FVec Ideal S128x2048 .f32) (t : FVec Ideal S128 .f32) : FVec Ideal S128x2048 .f32 :=
  exp (subf s (broadcastTo S128x2048 (shapeCast S128x1 t shapeCasts_S128_S128x1 : FVec Ideal S128x1 .f32) broadcasts_S128x1_S128x2048))
def kMass (p : FVec Ideal S128x2048 .f32) : FVec Ideal S128 .f32 := multiReduction .add [1] S128 p 0x00000000#32 reduces_S128x2048_S128 (.inl rfl) rfl
def kBlend (p : FVec Ideal S128x2048 .f32) (v : FVec Ideal S1x2048x128 .f32) : FVec Ideal S128x128 .f32 :=
  matmul dot_S128x2048_S2048x128_S128x128_1_0_0_1_n_n none p (shapeCast S2048x128 v shapeCasts_S1x2048x128_S2048x128 : FVec Ideal S2048x128 .f32) (constant S128x128 .f32 0x00000000#32)
def kShare (o : FVec Ideal S128x128 .f32) (l : FVec Ideal S128 .f32) : FVec Ideal S128x128 .f32 :=
  divf o (broadcastTo S128x128 (shapeCast S128x1 l shapeCasts_S128_S128x1 : FVec Ideal S128x1 .f32) broadcasts_S128x1_S128x128)

theorem pay2_eq (q : FVec Ideal S128x128 .f32) (k v : FVec Ideal S1x2048x128 .f32) :
    k0_pay2 (F := Ideal) q k v = shapeCast S128x128 (kShare (kBlend (kWeight (kScore q k) (kTop (kScore q k))) v) (kMass (kWeight (kScore q k) (kTop (kScore q k))))) shapeCasts_S128x128_S128x128 := rfl

theorem kScore_at (q : FVec Ideal S128x128 .f32) (k : FVec Ideal S1x2048x128 .f32) (r : Fin 128) (j : Fin 2048) :
    kScore q k (ix2 r j) = (∑ e : Fin 128, q (ix2 r e) * k (ix3 0 j e)) * Ideal.ofBits .f32 0x3DB504F3#32 := by
  pointwise [kScore]
theorem topRow_at {n0 n1 : ℕ} (s : FVec Ideal ⟨2, ![n0, n1]⟩ .f32) (hr : (⟨2, ![n0, n1]⟩ : Shape).Reduces [1] ⟨1, ![n0]⟩) (h1 h2) (r : Fin n0) :
    multiReduction .maximumf [1] ⟨1, ![n0]⟩ s 0xFF800000#32 hr h1 h2 (ix1 r) = Softmax.peakFrom (Ideal.ofBits .f32 0xFF800000#32) fun j : Fin n1 => s (ix2 r j) := by
  unfold Softmax.peakFrom
  pointwise
theorem kTop_at (s : FVec Ideal S128x2048 .f32) (r : Fin 128) : kTop s (ix1 r) = Softmax.peakFrom (Ideal.ofBits .f32 0xFF800000#32) fun j : Fin 2048 => s (ix2 r j) := by
  unfold kTop
  exact topRow_at s reduces_S128x2048_S128 _ _ r
theorem kWeight_at (s : FVec Ideal S128x2048 .f32) (t : FVec Ideal S128 .f32) (r : Fin 128) (j : Fin 2048) : kWeight s t (ix2 r j) = Ideal.exp (s (ix2 r j) - t (ix1 r)) := by
  pointwise [kWeight]
theorem kMass_at (p : FVec Ideal S128x2048 .f32) (r : Fin 128) : kMass p (ix1 r) = ∑ j : Fin 2048, p (ix2 r j) := by
  pointwise [kMass]
theorem kBlend_at (p : FVec Ideal S128x2048 .f32) (v : FVec Ideal S1x2048x128 .f32) (r d : Fin 128) : kBlend p v (ix2 r d) = ∑ j : Fin 2048, p (ix2 r j) * v (ix3 0 j d) := by
  pointwise [kBlend]
theorem kShare_at (o : FVec Ideal S128x128 .f32) (l : FVec Ideal S128 .f32) (r d : Fin 128) : kShare o l (ix2 r d) = Ideal.div (o (ix2 r d)) (l (ix1 r)) := by
  pointwise [kShare]
theorem kSame_at (o : FVec Ideal S128x128 .f32) (r d : Fin 128) : (shapeCast S128x128 o shapeCasts_S128x128_S128x128 : FVec Ideal S128x128 .f32) (ix2 r d) = o (ix2 r d) := by
  pointwise

theorem low_word : Ideal.ofBits .f32 0xFF800000#32 = ⊥ := by simp [Ideal.ofBits, Ideal.ieee]

theorem pay2_at (q : FVec Ideal S128x128 .f32) (k v : FVec Ideal S1x2048x128 .f32) (r d : Fin 128) :
    (k0_pay2 (F := Ideal) q k v (ix2 r d) : EReal) = Softmax.attend (fun j : Fin 2048 => (∑ e : Fin 128, q (ix2 r e) * k (ix3 0 j e)) * Ideal.ofBits .f32 0x3DB504F3#32) (fun j => v (ix3 0 j d)) := by
  rw [pay2_eq, kSame_at, kShare_at, kBlend_at, kMass_at]
  simp only [kWeight_at, kTop_at, kScore_at, low_word]
  rfl

section Device

variable (a : In Ideal)

theorem qv_at (i : Fin 512) (n : Fin 1024) : qv a (ix2 i n) = ∑ k : Fin 1024, a.x (ix2 i k) * a.wq (ix2 k n) := by
  unfold qv
  generalize a.x = x
  generalize a.wq = w
  revert x w
  intro (x : FVec Ideal S512x1024 .f32) (w : FVec Ideal S1024x1024 .f32)
  pointwise [k0_pay1]

theorem qt_at (b : Fin 4) (h : Fin 8) (r e : Fin 128) : qt a b h (ix2 r e) = qv a (ix2 ⟨128 * b.val + r.val, by omega⟩ ⟨128 * h.val + e.val, by omega⟩) :=
  congrArg (qv a) (emb_tile b h (ix2 r e))
theorem emb_head (h : Fin 8) (j : Fin 2048) (e : Fin 128) : (head h).emb (ix3 0 j e) = ix3 h j e := by
  refine Shape.idx3_ext ?_ ?_ ?_
  · rw [Rect.emb_apply]; show h.val + 1 * 0 = h.val; omega
  · rw [Rect.emb_apply]; show 0 + 1 * j.val = j.val; omega
  · rw [Rect.emb_apply]; show 0 + 1 * e.val = e.val; omega
theorem kt_at (h : Fin 8) (j : Fin 2048) (e : Fin 128) : kt a h (ix3 0 j e) = a.kk (ix3 h j e) := congrArg a.kk (emb_head h j e)
theorem vt_at (h : Fin 8) (j : Fin 2048) (e : Fin 128) : vt a h (ix3 0 j e) = a.vv (ix3 h j e) := congrArg a.vv (emb_head h j e)

/-- A row's scores against one of the device's heads. -/
def dScores (i : Fin 512) (h : Fin 8) (j : Fin 2048) : EReal :=
  (∑ e : Fin 128, (∑ k : Fin 1024, (a.x (ix2 i k) : EReal) * a.wq (ix2 k ⟨128 * h.val + e.val, by omega⟩)) * a.kk (ix3 h j e)) * Ideal.ofBits .f32 0x3DB504F3#32
def dValues (h : Fin 8) (d : Fin 128) (j : Fin 2048) : EReal := a.vv (ix3 h j d)

theorem hd_at (b : Fin 4) (h : Fin 8) (r d : Fin 128) : hd a b h (ix2 r d) = Softmax.attend (dScores a ⟨128 * b.val + r.val, by omega⟩ h) (dValues a h d) := by
  unfold hd
  rw [pay2_at]
  simp only [qt_at, kt_at, vt_at, qv_at]
  rfl

theorem attn_at (i : Fin 512) (n : Fin 1024) : attnF a (ix2 i n) = Softmax.attend (dScores a i ⟨n.val / 128, by omega⟩) (dValues a ⟨n.val / 128, by omega⟩ ⟨n.val % 128, by omega⟩) := by
  refine (hd_at a ⟨i.val / 128, by omega⟩ ⟨n.val / 128, by omega⟩ ⟨i.val % 128, by omega⟩ ⟨n.val % 128, by omega⟩).trans ?_
  have e : (⟨128 * (i.val / 128) + i.val % 128, by omega⟩ : Fin 512) = i := Fin.ext (by show 128 * (i.val / 128) + i.val % 128 = i.val; omega)
  exact congrArg (fun t => Softmax.attend (dScores a t _) _) e

theorem emb_rows (b : Fin 4) (r : Fin 128) (n : Fin 1024) : (rows b).emb (ix2 r n) = ix2 ⟨128 * b.val + r.val, by omega⟩ n := by
  refine idx2_ext ?_ ?_
  · rw [Rect.emb_apply]; show 128 * b.val + 1 * r.val = 128 * b.val + r.val; omega
  · rw [Rect.emb_apply]; show 0 + 1 * n.val = n.val; omega
theorem at4_at (b : Fin 4) (r : Fin 128) (n : Fin 1024) : at4 a b (ix2 r n) = attnF a (ix2 ⟨128 * b.val + r.val, by omega⟩ n) :=
  congrArg (attnF a) (emb_rows b r n)

theorem pay17_at (v : FVec Ideal S128x1024 .f32) (w : FVec Ideal S1024x1024 .f32) (g : Fin 4) (s : Fin 32) (e : Fin 1024) :
    k0_pay17 (F := Ideal) v (k0_pay16 (F := Ideal) w) (constant S128x1024 .f32 0x00000000#32) (ix3 g s e) = ∑ n : Fin 1024, v (ix2 ⟨g.val * 32 + s.val, by omega⟩ n) * w (ix2 n e) := by
  pointwise [k0_pay17, k0_pay16]

theorem accB_at (b : Fin 4) (g : Fin 4) (s : Fin 32) (e : Fin 1024) :
    accB a b (ix3 g s e) = ∑ n : Fin 1024, (attnF a (ix2 ⟨128 * b.val + (g.val * 32 + s.val), by omega⟩ n) : EReal) * a.wo (ix2 n e) := by
  unfold accB
  refine (pay17_at (at4 a b) a.wo g s e).trans ?_
  simp only [at4_at]

theorem accF_at (r : Fin 16) (s : Fin 32) (e : Fin 1024) :
    accF a (ix3 r s e) = ∑ n : Fin 1024, (attnF a (ix2 ⟨32 * r.val + s.val, by omega⟩ n) : EReal) * a.wo (ix2 n e) := by
  refine (accB_at a ⟨r.val / 4, by omega⟩ ⟨r.val % 4, by omega⟩ s e).trans ?_
  have h : (⟨128 * (r.val / 4) + (r.val % 4 * 32 + s.val), by omega⟩ : Fin 512) = ⟨32 * r.val + s.val, by omega⟩ :=
    Fin.ext (by show 128 * (r.val / 4) + (r.val % 4 * 32 + s.val) = 32 * r.val + s.val; omega)
  exact congrArg (fun t : Fin 512 => ∑ n : Fin 1024, (attnF a (ix2 t n) : EReal) * a.wo (ix2 n e)) h

end Device

/-! ## The sum over the devices -/

theorem plus_at (t : FVec Ideal S32x1024 .f32) (v : FVec Ideal S1x32x1024 .f32) (s : Fin 32) (e : Fin 1024) :
    (addf t (shapeCast S32x1024 v shapeCasts_S1x32x1024_S32x1024 : FVec Ideal S32x1024 .f32)) (ix2 s e) = t (ix2 s e) + v (ix3 0 s e) := by
  pointwise

section Total

variable (Pv : Dev nD → Dev nD → Vec Ideal S1x32x1024 .f32) (c : Dev nD) (s : Fin 32) (e : Fin 1024)

theorem part0_at : (part0 Pv c (ix2 s e) : EReal) = Pv c c (ix3 0 s e) := by unfold part0; pointwise [k0_pay122]
theorem part2_at : (part2 Pv c (ix2 s e) : EReal) = part0 Pv c (ix2 s e) + Vs (F := Ideal) Pv c 0 (ix3 0 s e) + Vs (F := Ideal) Pv c 1 (ix3 0 s e) := by
  unfold part2 k0_pay123; simp only [plus_at]
theorem part5_at : (part5 Pv c (ix2 s e) : EReal) = part2 Pv c (ix2 s e) + Vs (F := Ideal) Pv c 2 (ix3 0 s e) + Vs (F := Ideal) Pv c 3 (ix3 0 s e) + Vs (F := Ideal) Pv c 4 (ix3 0 s e) := by
  unfold part5 k0_pay124; simp only [plus_at]
theorem part7_at : (part7 Pv c (ix2 s e) : EReal) = part5 Pv c (ix2 s e) + Vs (F := Ideal) Pv c 5 (ix3 0 s e) + Vs (F := Ideal) Pv c 6 (ix3 0 s e) := by
  unfold part7 k0_pay125; simp only [plus_at]
theorem part9_at : (part9 Pv c (ix2 s e) : EReal) = part7 Pv c (ix2 s e) + Vs (F := Ideal) Pv c 7 (ix3 0 s e) + Vs (F := Ideal) Pv c 8 (ix3 0 s e) := by
  unfold part9 k0_pay126; simp only [plus_at]
theorem part12_at : (part12 Pv c (ix2 s e) : EReal) = part9 Pv c (ix2 s e) + Vs (F := Ideal) Pv c 9 (ix3 0 s e) + Vs (F := Ideal) Pv c 10 (ix3 0 s e) + Vs (F := Ideal) Pv c 11 (ix3 0 s e) := by
  unfold part12 k0_pay127; simp only [plus_at]
theorem part14_at : (part14 Pv c (ix2 s e) : EReal) = part12 Pv c (ix2 s e) + Vs (F := Ideal) Pv c 12 (ix3 0 s e) + Vs (F := Ideal) Pv c 13 (ix3 0 s e) := by
  unfold part14 k0_pay128; simp only [plus_at]
theorem Tv_at : (Tv Pv c (ix3 0 s e) : EReal) = part14 Pv c (ix2 s e) + Vs (F := Ideal) Pv c 14 (ix3 0 s e) := by
  unfold Tv; pointwise [k0_pay130, k0_pay129]

/-- The device itself, and those it receives from. -/
def from_ (c : Dev nD) (p : Fin 16) : Dev nD := if h : p.val = 0 then c else src c ⟨p.val - 1, by omega⟩
theorem from_bij : ∀ c : Dev nD, Function.Bijective (from_ c) := by decide +kernel

theorem total_at : (Tv Pv c (ix3 0 s e) : EReal) = ∑ p : Dev nD, (Pv p c (ix3 0 s e) : EReal) := by
  rw [← (from_bij c).sum_comp fun p : Dev nD => (Pv p c (ix3 0 s e) : EReal)]
  rw [Tv_at, part14_at, part12_at, part9_at, part7_at, part5_at, part2_at, part0_at]
  simp only [Fin.sum_univ_succ, Fin.sum_univ_zero, add_zero, ← add_assoc]
  rfl

end Total

/-- The result at an index: over all devices and their columns. -/
theorem outV_at (A : Dev nD → In Ideal) (i : Fin 512) (e : Fin 1024) :
    outV A (ix2 i e) = ∑ p : Dev nD, ∑ n : Fin 1024, Softmax.attend (dScores (A p) i ⟨n.val / 128, by omega⟩) (dValues (A p) ⟨n.val / 128, by omega⟩ ⟨n.val % 128, by omega⟩) * ((A p).wo (ix2 n e) : EReal) := by
  have h1 : outV A (ix2 i e) = allT (PV A) (ix3 ⟨i.val / 32, by show i.val / 32 < 16; omega⟩ ⟨i.val % 32, by omega⟩ e) := by
    unfold outV
    generalize allT (PV A) = v
    revert v
    intro (v : FVec Ideal S16x32x1024 .f32)
    pointwise [k0_pay150]
  rw [h1]
  refine (total_at (PV A) ⟨i.val / 32, by show i.val / 32 < 16; omega⟩ ⟨i.val % 32, by omega⟩ e).trans (Finset.sum_congr rfl fun p _ => ?_)
  refine (accF_at (A p) ⟨i.val / 32, by show i.val / 32 < 16; omega⟩ ⟨i.val % 32, by omega⟩ e).trans (Finset.sum_congr rfl fun n _ => ?_)
  have h : (⟨32 * (i.val / 32) + i.val % 32, by omega⟩ : Fin 512) = i := Fin.ext (by show 32 * (i.val / 32) + i.val % 32 = i.val; omega)
  exact congrArg (· * ((A p).wo (ix2 n e) : EReal)) ((congrArg (fun t : Fin 512 => attnF (A p) (ix2 t n)) h).trans (attn_at (A p) i n))

end Cert.KernelIdeal.Talk

end
-- ==== Proof.RefValue.lean ====
/- The reference's result, named step by step and read at an index. -/
module

public import proofs.«01_k».proof.Proof.Gen.ReferenceIdeal.Run
public import proofs.«01_k».proof.Proof.Online
public import Idealize.ShloMosaic.Lib.Pointwise

@[expose] public section

set_option maxRecDepth 16384

noncomputable section

namespace Cert.ReferenceIdeal.Read

open Idealize.ShloMosaic Idealize.ShloMosaic.TcCoe
open Cert.ReferenceIdeal Cert.ReferenceIdeal.Gen

/-- The queries, cut into heads. -/
def query (X : FVec Ideal S1x512x1024 .f32) (W : FVec Ideal S1024x16384 .f32) : FVec Ideal S1x512x128x128 .f32 :=
  shapeCast _ (Host.dotGeneral dot_S1x512x1024_S1024x16384_S1x512x16384_2_0_01_1_n_n none X W) shapeCasts_S1x512x16384_S1x512x128x128
/-- The first and the second half of the keys (or the values). -/
def low (K : FVec Ideal S1x2048x128x128 .f32) : FVec Ideal S1x1024x128x128 .f32 := extractStridedSlice S1x1024x128x128 ![0, 0, 0, 0] K slices_S1x2048x128x128_S1x1024x128x128_0_0_0_0
def high (K : FVec Ideal S1x2048x128x128 .f32) : FVec Ideal S1x1024x128x128 .f32 := extractStridedSlice S1x1024x128x128 ![0, 1024, 0, 0] K slices_S1x2048x128x128_S1x1024x128x128_0_1024_0_0
/-- The scaled scores of a half. -/
def score (q : FVec Ideal S1x512x128x128 .f32) (k : FVec Ideal S1x1024x128x128 .f32) : FVec Ideal S1x128x512x1024 .f32 :=
  mulf (Host.dotGeneral dot_S1x512x128x128_S1x1024x128x128_S1x128x512x1024_3_3_1_1_02_02 none q k) (broadcastInDim S1x128x512x1024 ![] bcast_S_S1x128x512x1024 (constant S_ .f32 0x3DB504F3#32))
def bottom : FVec Ideal S1x128x512x1 .f32 := broadcastInDim S1x128x512x1 ![] bcast_S_S1x128x512x1 (constant S_ .f32 0xFF800000#32)
def nought : FVec Ideal S1x128x512x1 .f32 := broadcastInDim S1x128x512x1 ![] bcast_S_S1x128x512x1 (constant S_ .f32 0x00000000#32)
def blank : FVec Ideal S1x512x128x128 .f32 := broadcastInDim S1x512x128x128 ![] bcast_S_S1x512x128x128 (constant S_ .f32 0x00000000#32)
/-- The largest score of a row. -/
def rowTop (s : FVec Ideal S1x128x512x1024 .f32) : FVec Ideal S1x128x512 .f32 :=
  Host.reduce FloatOps.maximumf s (constant S_ .f32 0xFF800000#32) reducesTo_S1x128x512x1024_S1x128x512_d3 h_S_
/-- The maximum so far. -/
def top (b : FVec Ideal S1x128x512x1 .f32) (s : FVec Ideal S1x128x512x1024 .f32) : FVec Ideal S1x128x512x1 .f32 :=
  maximumf b (broadcastInDim S1x128x512x1 ![0, 1, 2] bcast_S1x128x512_S1x128x512x1_0_1_2 (rowTop s))
/-- What an earlier sum is multiplied by when the maximum moves. -/
def fade (b t : FVec Ideal S1x128x512x1 .f32) : FVec Ideal S1x128x512x1 .f32 := Host.exp (subf b t)
def weight (s : FVec Ideal S1x128x512x1024 .f32) (t : FVec Ideal S1x128x512x1 .f32) : FVec Ideal S1x128x512x1024 .f32 :=
  Host.exp (subf s (broadcastInDim S1x128x512x1024 ![0, 1, 2, 3] bcast_S1x128x512x1_S1x128x512x1024_0_1_2_3 t))
def norm (l a : FVec Ideal S1x128x512x1 .f32) (p : FVec Ideal S1x128x512x1024 .f32) : FVec Ideal S1x128x512x1 .f32 :=
  addf (mulf l a) (broadcastInDim S1x128x512x1 ![0, 1, 2] bcast_S1x128x512_S1x128x512x1_0_1_2 (Host.reduceAdd p (constant S_ .f32 0x00000000#32) reducesTo_S1x128x512x1024_S1x128x512_d3 h_S_))
/-- A per-row number along the columns of its head. -/
def along (a : FVec Ideal S1x128x512x1 .f32) : FVec Ideal S1x512x128x128 .f32 :=
  broadcastInDim S1x512x128x128 ![0, 1, 2, 3] bcast_S1x512x128x1_S1x512x128x128_0_1_2_3 (transpose S1x512x128x1 [0, 2, 1, 3] a transposes_S1x128x512x1_S1x512x128x1_0_2_1_3)
def mix (o : FVec Ideal S1x512x128x128 .f32) (a : FVec Ideal S1x128x512x1 .f32) (v : FVec Ideal S1x1024x128x128 .f32) (p : FVec Ideal S1x128x512x1024 .f32) : FVec Ideal S1x512x128x128 .f32 :=
  addf (mulf o (along a)) (transpose S1x512x128x128 [0, 3, 1, 2] (Host.dotGeneral dot_S1x1024x128x128_S1x128x512x1024_S1x128x128x512_1_3_3_2_02_01 none v p) transposes_S1x128x128x512_S1x512x128x128_0_3_1_2)
def share (o : FVec Ideal S1x512x128x128 .f32) (l : FVec Ideal S1x128x512x1 .f32) : FVec Ideal S1x512x128x128 .f32 := Host.divf o (along l)
def project (a : FVec Ideal S1x512x128x128 .f32) (W : FVec Ideal S16384x1024 .f32) : FVec Ideal S1x512x1024 .f32 :=
  Host.dotGeneral dot_S1x512x16384_S16384x1024_S1x512x1024_2_0_01_1_n_n none (shapeCast _ a shapeCasts_S1x512x128x128_S1x512x16384) W

theorem query_at (X : FVec Ideal S1x512x1024 .f32) (W : FVec Ideal S1024x16384 .f32) (i : Fin 512) (h d : Fin 128) :
    query X W (ix4 0 i h d) = ∑ k : Fin 1024, X (ix3 0 i k) * W (ix2 k ⟨h.val * 128 + d.val, by omega⟩) := by
  pointwise [query]
theorem low_at (K : FVec Ideal S1x2048x128x128 .f32) (j : Fin 1024) (h d : Fin 128) : low K (ix4 0 j h d) = K (ix4 0 ⟨j.val, by omega⟩ h d) := by
  pointwise [low]
theorem high_at (K : FVec Ideal S1x2048x128x128 .f32) (j : Fin 1024) (h d : Fin 128) : high K (ix4 0 j h d) = K (ix4 0 ⟨1024 + j.val, by omega⟩ h d) := by
  pointwise [high]
theorem score_at (q : FVec Ideal S1x512x128x128 .f32) (k : FVec Ideal S1x1024x128x128 .f32) (h : Fin 128) (i : Fin 512) (j : Fin 1024) :
    score q k (ix4 0 h i j) = (∑ d : Fin 128, q (ix4 0 i h d) * k (ix4 0 j h d)) * Ideal.ofBits .f32 0x3DB504F3#32 := by
  pointwise [score]
theorem bottom_at (h : Fin 128) (i : Fin 512) : bottom (ix4 0 h i 0) = Ideal.ofBits .f32 0xFF800000#32 := by
  pointwise [bottom]
theorem nought_at (h : Fin 128) (i : Fin 512) : nought (ix4 0 h i 0) = 0 := by
  pointwise [nought]
theorem blank_at (i : Fin 512) (h d : Fin 128) : blank (ix4 0 i h d) = 0 := by
  pointwise [blank]
theorem reduce_at {n0 n1 n2 n3 : ℕ} (s : FVec Ideal ⟨4, ![n0, n1, n2, n3]⟩ .f32) (c : FVec Ideal S_ .f32) (hr : (⟨4, ![n0, n1, n2, n3]⟩ : Shape).ReducesTo [3] ⟨3, ![n0, n1, n2]⟩) (hu : 0 < S_.numel)
    (a : Fin n0) (h : Fin n1) (i : Fin n2) (w : EReal) (hw : c (Shape.Idx.first hu) = w) :
    Host.reduce FloatOps.maximumf s c hr hu (ix3 a h i) = Softmax.peakFrom w fun j : Fin n3 => s (ix4 a h i j) := by
  subst hw
  unfold Softmax.peakFrom
  pointwise
theorem word_at (b : BitVec 32) (hu : 0 < S_.numel) : (constant S_ .f32 b : FVec Ideal S_ .f32) (Shape.Idx.first hu) = Ideal.ofBits .f32 b := rfl
theorem rowTop_at (s : FVec Ideal S1x128x512x1024 .f32) (h : Fin 128) (i : Fin 512) :
    rowTop s (ix3 0 h i) = Softmax.peakFrom (Ideal.ofBits .f32 0xFF800000#32) fun j : Fin 1024 => s (ix4 0 h i j) := by
  unfold rowTop
  exact reduce_at s _ reducesTo_S1x128x512x1024_S1x128x512_d3 h_S_ 0 h i _ (word_at _ _)
theorem spread_at (r : FVec Ideal S1x128x512 .f32) (h : Fin 128) (i : Fin 512) :
    broadcastInDim S1x128x512x1 ![0, 1, 2] bcast_S1x128x512_S1x128x512x1_0_1_2 r (ix4 0 h i 0) = r (ix3 0 h i) := by
  pointwise
theorem max_at (b r : FVec Ideal S1x128x512x1 .f32) (x : S1x128x512x1.Idx) : maximumf b r x = Softmax.larger (b x) (r x) := rfl
theorem top_at (b : FVec Ideal S1x128x512x1 .f32) (s : FVec Ideal S1x128x512x1024 .f32) (h : Fin 128) (i : Fin 512) :
    top b s (ix4 0 h i 0) = Softmax.larger (b (ix4 0 h i 0)) (Softmax.peakFrom (Ideal.ofBits .f32 0xFF800000#32) fun j : Fin 1024 => s (ix4 0 h i j)) := by
  unfold top
  rw [max_at, spread_at, rowTop_at]
theorem fade_at (b t : FVec Ideal S1x128x512x1 .f32) (h : Fin 128) (i : Fin 512) : fade b t (ix4 0 h i 0) = Ideal.exp (b (ix4 0 h i 0) - t (ix4 0 h i 0)) := by
  pointwise [fade]
theorem weight_at (s : FVec Ideal S1x128x512x1024 .f32) (t : FVec Ideal S1x128x512x1 .f32) (h : Fin 128) (i : Fin 512) (j : Fin 1024) :
    weight s t (ix4 0 h i j) = Ideal.exp (s (ix4 0 h i j) - t (ix4 0 h i 0)) := by
  pointwise [weight]
theorem norm_at (l a : FVec Ideal S1x128x512x1 .f32) (p : FVec Ideal S1x128x512x1024 .f32) (h : Fin 128) (i : Fin 512) :
    norm l a p (ix4 0 h i 0) = l (ix4 0 h i 0) * a (ix4 0 h i 0) + ∑ j : Fin 1024, p (ix4 0 h i j) := by
  pointwise [norm]
theorem along_at (a : FVec Ideal S1x128x512x1 .f32) (i : Fin 512) (h d : Fin 128) : along a (ix4 0 i h d) = a (ix4 0 h i 0) := by
  pointwise [along]
theorem mix_at (o : FVec Ideal S1x512x128x128 .f32) (a : FVec Ideal S1x128x512x1 .f32) (v : FVec Ideal S1x1024x128x128 .f32) (p : FVec Ideal S1x128x512x1024 .f32) (i : Fin 512) (h d : Fin 128) :
    mix o a v p (ix4 0 i h d) = o (ix4 0 i h d) * a (ix4 0 h i 0) + ∑ j : Fin 1024, v (ix4 0 j h d) * p (ix4 0 h i j) := by
  pointwise [mix, along]
theorem share_at (o : FVec Ideal S1x512x128x128 .f32) (l : FVec Ideal S1x128x512x1 .f32) (i : Fin 512) (h d : Fin 128) :
    share o l (ix4 0 i h d) = Ideal.div (o (ix4 0 i h d)) (l (ix4 0 h i 0)) := by
  pointwise [share, along]
theorem project_at (a : FVec Ideal S1x512x128x128 .f32) (W : FVec Ideal S16384x1024 .f32) (i : Fin 512) (e : Fin 1024) :
    project a W (ix3 0 i e) = ∑ n : Fin 16384, a (ix4 0 i ⟨n.val / 128, by omega⟩ ⟨n.val % 128, by omega⟩) * W (ix2 n e) := by
  pointwise [project]

/-- The whole result. -/
def result (X : FVec Ideal S1x512x1024 .f32) (WQ : FVec Ideal S1024x16384 .f32) (K V : FVec Ideal S1x2048x128x128 .f32) (WO : FVec Ideal S16384x1024 .f32) : FVec Ideal S1x512x1024 .f32 :=
  have q := query X WQ
  have s1 := score q (low K)
  have s2 := score q (high K)
  have t1 := top bottom s1
  have t2 := top t1 s2
  have l1 := norm nought (fade bottom t1) (weight s1 t1)
  have l2 := norm l1 (fade t1 t2) (weight s2 t2)
  have o1 := mix blank (fade bottom t1) (low V) (weight s1 t1)
  have o2 := mix o1 (fade t1 t2) (high V) (weight s2 t2)
  project (share o2 l2) WO

theorem result_eq (m : (ℓ : Loc nD τ sig) → Buf (Elt Ideal) ℓ) (c : Dev nD) :
    Value.res_main_v55 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v55
  rfl

/-! ## The result at an index -/

theorem mix_at' (o : FVec Ideal S1x512x128x128 .f32) (a : FVec Ideal S1x128x512x1 .f32) (v : FVec Ideal S1x1024x128x128 .f32) (p : FVec Ideal S1x128x512x1024 .f32) (i : Fin 512) (h d : Fin 128) :
    mix o a v p (ix4 0 i h d) = o (ix4 0 i h d) * a (ix4 0 h i 0) + ∑ j : Fin 1024, p (ix4 0 h i j) * v (ix4 0 j h d) :=
  (mix_at o a v p i h d).trans (congrArg _ (Finset.sum_congr rfl fun j _ => mul_comm _ _))

theorem ninf : Ideal.ofBits .f32 0xFF800000#32 = ⊥ := by simp [Ideal.ofBits, Ideal.ieee]

theorem halves : 1024 + 1024 = 2048 := by decide

section Row

variable (h d : Fin 128) (i : Fin 512) (s1 s2 : FVec Ideal S1x128x512x1024 .f32) (v1 v2 : FVec Ideal S1x1024x128x128 .f32) (S V : Fin 2048 → EReal)
  (hs1 : ∀ j, s1 (ix4 0 h i j) = Softmax.fst halves S j) (hs2 : ∀ j, s2 (ix4 0 h i j) = Softmax.snd halves S j)
  (hv1 : ∀ j, v1 (ix4 0 j h d) = Softmax.fst halves V j) (hv2 : ∀ j, v2 (ix4 0 j h d) = Softmax.snd halves V j)

include hs1 in
theorem top1_at : top bottom s1 (ix4 0 h i 0) = Softmax.peak (Softmax.fst halves S) := by
  rw [top_at, bottom_at, ninf, funext hs1]
  exact max_eq_right bot_le
include hs1 hs2 in
theorem top2_at : top (top bottom s1) s2 (ix4 0 h i 0) = max (Softmax.peak (Softmax.fst halves S)) (Softmax.peak (Softmax.snd halves S)) := by
  rw [top_at, top1_at h i s1 S hs1, ninf, funext hs2]
  rfl
include hs1 hs2 hv1 hv2 in
theorem row_at : share (mix (mix blank (fade bottom (top bottom s1)) v1 (weight s1 (top bottom s1))) (fade (top bottom s1) (top (top bottom s1) s2)) v2 (weight s2 (top (top bottom s1) s2)))
      (norm (norm nought (fade bottom (top bottom s1)) (weight s1 (top bottom s1))) (fade (top bottom s1) (top (top bottom s1) s2)) (weight s2 (top (top bottom s1) s2))) (ix4 0 i h d)
    = Softmax.attend S V := by
  rw [share_at, mix_at', mix_at', norm_at, norm_at, fade_at (top bottom s1), top1_at h i s1 S hs1, top2_at h i s1 s2 S hs1 hs2, blank_at, nought_at]
  simp only [weight_at, hs1, hs2, hv1, hv2, top1_at h i s1 S hs1, top2_at h i s1 s2 S hs1 hs2]
  exact Softmax.two_pieces halves S V _

end Row

/-- A row's scores against one head's keys. -/
def scores (X : FVec Ideal S1x512x1024 .f32) (WQ : FVec Ideal S1024x16384 .f32) (K : FVec Ideal S1x2048x128x128 .f32) (i : Fin 512) (h : Fin 128) (j : Fin 2048) : EReal :=
  (∑ d : Fin 128, (∑ k : Fin 1024, X (ix3 0 i k) * WQ (ix2 k ⟨h.val * 128 + d.val, by omega⟩)) * K (ix4 0 j h d)) * Ideal.ofBits .f32 0x3DB504F3#32
/-- One column of a head's values. -/
def values (V : FVec Ideal S1x2048x128x128 .f32) (h d : Fin 128) (j : Fin 2048) : EReal := V (ix4 0 j h d)

theorem scores_low (X : FVec Ideal S1x512x1024 .f32) (WQ : FVec Ideal S1024x16384 .f32) (K : FVec Ideal S1x2048x128x128 .f32) (i : Fin 512) (h : Fin 128) (j : Fin 1024) :
    score (query X WQ) (low K) (ix4 0 h i j) = Softmax.fst halves (scores X WQ K i h) j := by
  rw [score_at]
  simp only [query_at, low_at]
  rfl
theorem scores_high (X : FVec Ideal S1x512x1024 .f32) (WQ : FVec Ideal S1024x16384 .f32) (K : FVec Ideal S1x2048x128x128 .f32) (i : Fin 512) (h : Fin 128) (j : Fin 1024) :
    score (query X WQ) (high K) (ix4 0 h i j) = Softmax.snd halves (scores X WQ K i h) j := by
  rw [score_at]
  simp only [query_at, high_at]
  rfl

/-- Each result is a sum over the heads' columns of the softmax under the output weight. -/
theorem result_at (X : FVec Ideal S1x512x1024 .f32) (WQ : FVec Ideal S1024x16384 .f32) (K V : FVec Ideal S1x2048x128x128 .f32) (WO : FVec Ideal S16384x1024 .f32) (i : Fin 512) (e : Fin 1024) :
    result X WQ K V WO (ix3 0 i e) = ∑ n : Fin 16384, Softmax.attend (scores X WQ K i ⟨n.val / 128, by omega⟩) (values V ⟨n.val / 128, by omega⟩ ⟨n.val % 128, by omega⟩) * WO (ix2 n e) := by
  unfold result
  rw [project_at]
  refine Finset.sum_congr rfl fun n _ => congrArg (· * WO (ix2 n e)) ?_
  exact row_at _ _ i _ _ _ _ _ _ (scores_low X WQ K i _) (scores_high X WQ K i _) (low_at V · _ _) (high_at V · _ _)

end Cert.ReferenceIdeal.Read

end
-- ==== Proof.Meet.lean ====
/- The kernel's result and the reference's are one and the same sum, and the claim that says so. -/
module

public import proofs.«01_k».proof.Defs
public import proofs.«01_k».proof.Proof.Frames
public import proofs.«01_k».proof.Proof.HostValue
public import proofs.«01_k».proof.Proof.KerValue
public import proofs.«01_k».proof.Proof.RefValue
public import Idealize.ShloMosaic.Lib.Layout

@[expose] public section

set_option maxRecDepth 16384

noncomputable section

namespace Cert.KernelIdeal.Talk

open Idealize.ShloMosaic Idealize.ShloMosaic.TcCoe Idealize.SL.Sem
open Cert.KernelIdeal Cert.KernelIdeal.Gen
open Cert.ReferenceIdeal.Read (result scores values result_at)

/-! ## The pieces a device holds, against the whole arrays -/

theorem cols_at (h : Layout.Tiles ⟨2, ![1024, 1024]⟩ ⟨2, ![1024, 16384]⟩ 1 16) (c : Fin 16) (W : FVec Ideal ⟨2, ![1024, 16384]⟩ .f32) (k n : Fin 1024) :
    W (h.idx c (ix2 k n)) = W (ix2 k ⟨1024 * c.val + n.val, by omega⟩) := by
  refine congrArg W (idx2_ext rfl ?_)
  show c.val * 1024 + n.val = 1024 * c.val + n.val
  omega

theorem rows_at (h : Layout.Tiles ⟨2, ![1024, 1024]⟩ ⟨2, ![16384, 1024]⟩ 0 16) (c : Fin 16) (W : FVec Ideal ⟨2, ![16384, 1024]⟩ .f32) (n e : Fin 1024) :
    W (h.idx c (ix2 n e)) = W (ix2 ⟨c.val * 1024 + n.val, by omega⟩ e) :=
  congrArg W (idx2_ext rfl rfl)

section Meet

variable (X : FVec Ideal ⟨3, ![1, 512, 1024]⟩ .f32) (WQ : FVec Ideal ⟨2, ![1024, 16384]⟩ .f32)
  (K V : FVec Ideal ⟨4, ![1, 2048, 128, 128]⟩ .f32) (WO : FVec Ideal ⟨2, ![16384, 1024]⟩ .f32)

/-- A device's inputs are its share of the whole arrays. -/
structure Share (c : Dev nD) (a : In Ideal) : Prop where
  x : ∀ (i : Fin 512) (k : Fin 1024), a.x (ix2 i k) = X (ix3 0 i k)
  wq : ∀ k n : Fin 1024, a.wq (ix2 k n) = WQ (ix2 k ⟨1024 * c.val + n.val, by have : c.val < 16 := c.isLt; omega⟩)
  kk : ∀ (h : Fin 8) (j : Fin 2048) (e : Fin 128), a.kk (ix3 h j e) = K (ix4 0 j ⟨8 * c.val + h.val, by have : c.val < 16 := c.isLt; omega⟩ e)
  vv : ∀ (h : Fin 8) (j : Fin 2048) (e : Fin 128), a.vv (ix3 h j e) = V (ix4 0 j ⟨8 * c.val + h.val, by have : c.val < 16 := c.isLt; omega⟩ e)
  wo : ∀ n e : Fin 1024, a.wo (ix2 n e) = WO (ix2 ⟨c.val * 1024 + n.val, by have : c.val < 16 := c.isLt; omega⟩ e)

variable {X WQ K V WO}

theorem scores_meet {c : Dev nD} {a : In Ideal} (s : Share X WQ K V WO c a) (i : Fin 512) (h : Fin 8) (g : Fin 128) (hg : g.val = 8 * c.val + h.val) :
    dScores a i h = scores X WQ K i g := by
  have hc : c.val < 16 := c.isLt
  have hb : 8 * c.val + h.val < 128 := by clear hg; omega
  obtain rfl : g = ⟨8 * c.val + h.val, hb⟩ := Fin.ext hg
  funext j
  unfold dScores scores
  refine congrArg (· * Ideal.ofBits .f32 0x3DB504F3#32) (Finset.sum_congr rfl fun e _ => ?_)
  refine congrArg₂ (· * ·) (Finset.sum_congr rfl fun k _ => ?_) (s.kk h j e)
  refine congrArg₂ (· * ·) (s.x i k) ((s.wq k _).trans (congrArg WQ (congrArg (ix2 k) (Fin.ext ?_))))
  show 1024 * c.val + (128 * h.val + e.val) = (8 * c.val + h.val) * 128 + e.val
  omega

theorem values_meet {c : Dev nD} {a : In Ideal} (s : Share X WQ K V WO c a) (h : Fin 8) (d : Fin 128) (g d' : Fin 128) (hg : g.val = 8 * c.val + h.val) (hd : d'.val = d.val) :
    dValues a h d = values V g d' := by
  have hc : c.val < 16 := c.isLt
  have hb : 8 * c.val + h.val < 128 := by clear hg; omega
  obtain rfl : g = ⟨8 * c.val + h.val, hb⟩ := Fin.ext hg
  obtain rfl : d' = d := Fin.ext hd
  exact funext fun j => s.vv h j d'

/-- The devices' sums of 1024 products each are the reference's sum of 16384. -/
theorem sums_meet (A : Dev nD → In Ideal) (s : ∀ c, Share X WQ K V WO c (A c)) (i : Fin 512) (e : Fin 1024) :
    (outV A (ix2 i e) : EReal) = result X WQ K V WO (ix3 0 i e) := by
  rw [outV_at, result_at]
  refine Eq.trans ?_ (Fin.sum_mul_add_fin 16 1024 _ rfl)
  refine Finset.sum_congr rfl fun p _ => Finset.sum_congr rfl fun n _ => ?_
  have hp : p.val < 16 := p.isLt
  refine congrArg₂ (· * ·) (congrArg₂ Softmax.attend (scores_meet (s p) i _ _ ?_) (values_meet (s p) _ _ _ _ ?_ ?_)) ((s p).wo n e)
  · show (p.val * 1024 + n.val) / 128 = 8 * p.val + n.val / 128
    omega
  · show (p.val * 1024 + n.val) / 128 = 8 * p.val + n.val / 128
    omega
  · show (p.val * 1024 + n.val) % 128 = n.val % 128
    omega

end Meet

end Cert.KernelIdeal.Talk

namespace Cert.Proof

open Idealize.ShloMosaic Idealize.ShloMosaic.TcCoe Idealize.SL.Sem
open Cert.KernelIdeal Cert.KernelIdeal.Gen Cert.KernelIdeal.Talk

/-- Over the extended reals every device ends with the reference's result. -/
theorem algebraic_proof : @Cert.algebraic_KernelIdeal_ReferenceIdeal Cert.KernelIdeal.Gen.facts Cert.ReferenceIdeal.Gen.facts := by
  intro m g m' g' _ hin
  have hs : ∀ c : Dev nD, Share
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      c (inV m c) := fun c => by
    obtain ⟨h0, h1, h2, h3, h4⟩ := hin c
    exact
      { x := fun i k => (in_x m c i k).trans (congrFun h0 _)
        wq := fun k n => (congrFun ((in_wq m c).trans h1) _).trans (by
          rw [Layout.block_apply]
          exact cols_at _ c _ k n)
        kk := fun h j e => (congrFun (in_kk m c) _).trans ((heads_at c _ h j e).trans (congrFun h2 _))
        vv := fun h j e => (congrFun (in_vv m c) _).trans ((heads_at c _ h j e).trans (congrFun h3 _))
        wo := fun n e => (congrFun ((in_wo m c).trans h4) _).trans (by
          rw [Layout.block_apply]
          exact rows_at _ c _ n e) }
  refine ⟨Cert.ReferenceIdeal.Value.res_main_v55 m' 0, ?_, ?_⟩
  · refine (θ_run (defs (F := Ideal)) _ _).mono (fun r h c => ⟨?_,
      (h.1 c _ (arg_in main_arg0 (by decide))).trans (V3_main_arg0 m (outs m) c),
      (h.1 c _ (arg_in main_arg1 (by decide))).trans (V3_main_arg1 m (outs m) c),
      (h.1 c _ (arg_in main_arg2 (by decide))).trans (V3_main_arg2 m (outs m) c),
      (h.1 c _ (arg_in main_arg3 (by decide))).trans (V3_main_arg3 m (outs m) c),
      (h.1 c _ (arg_in main_arg4 (by decide))).trans (V3_main_arg4 m (outs m) c)⟩) (run_all m g)
    refine (h.1 c _ (arg_in main_v21 (by decide))).trans ?_
    rw [Cert.ReferenceIdeal.Read.result_eq]
    refine funext fun x => ?_
    revert x
    intro (x : Cert.KernelIdeal.S1x512x1024.Idx)
    obtain ⟨i, e, rfl⟩ : ∃ (i : Fin 512) (e : Fin 1024), x = ix3 0 i e :=
      ⟨x 1, x 2, (eq_ix3 x).trans (congrArg (fun z : Fin 1 => ix3 z (x 1) (x 2)) (Subsingleton.elim _ _))⟩
    exact (V3_out_at m c i e).trans (sums_meet (inV m) hs i e)
  · exact (θ_run (Cert.ReferenceIdeal.defs (F := Ideal)) _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Meet
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic_proof⟩

end Cert.Proof

end
